-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_InP (m : (ℓ : Loc Cert.InP.nD Cert.InP.τ Cert.InP.sig) → Buf (Elt Bits) ℓ) : Prop :=
  True

def Pre_InPIdeal (m : (ℓ : Loc Cert.InPIdeal.nD Cert.InPIdeal.τ Cert.InPIdeal.sig) → Buf (Elt Ideal) ℓ) : Prop :=
  True

def Pre_InPRefIdeal (m : (ℓ : Loc Cert.InPRefIdeal.nD Cert.InPRefIdeal.τ Cert.InPRefIdeal.sig) → Buf (Elt Ideal) ℓ) : Prop :=
  True

def Pre_InS (m : (ℓ : Loc Cert.InS.nD Cert.InS.τ Cert.InS.sig) → Buf (Elt Bits) ℓ) : Prop :=
  True

def Pre_InSIdeal (m : (ℓ : Loc Cert.InSIdeal.nD Cert.InSIdeal.τ Cert.InSIdeal.sig) → Buf (Elt Ideal) ℓ) : Prop :=
  True

def Pre_InSRefIdeal (m : (ℓ : Loc Cert.InSRefIdeal.nD Cert.InSRefIdeal.τ Cert.InSRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_arguments [hPre_finite_arguments : Cert.Pre_finite_arguments.Facts] (m : (ℓ : Loc Cert.MixIdeal.nD Cert.MixIdeal.τ Cert.MixIdeal.sig) → Buf (Elt Ideal) ℓ) : Prop :=
  ∀ c : Dev Cert.MixIdeal.nD,
    (Cert.Pre_finite_arguments.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_arguments [hPre_finite_arguments : Cert.Pre_finite_arguments.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_arguments.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14))) = (fun _ => 1#1)

def Pre_Rec (m : (ℓ : Loc Cert.Rec.nD Cert.Rec.τ Cert.Rec.sig) → Buf (Elt Bits) ℓ) : Prop :=
  True

def Pre_RecIdeal (m : (ℓ : Loc Cert.RecIdeal.nD Cert.RecIdeal.τ Cert.RecIdeal.sig) → Buf (Elt Ideal) ℓ) : Prop :=
  True

def Pre_RecIdeal_finite_recurrence [hPre_finite_recurrence : Cert.Pre_finite_recurrence.Facts] (m : (ℓ : Loc Cert.RecIdeal.nD Cert.RecIdeal.τ Cert.RecIdeal.sig) → Buf (Elt Ideal) ℓ) : Prop :=
  ∀ c : Dev Cert.RecIdeal.nD,
    (Cert.Pre_finite_recurrence.fn (F := Ideal) (m ((c.tc : Thread Cert.RecIdeal.nD Cert.RecIdeal.τ).loc Cert.RecIdeal.main_arg0)) (m ((c.tc : Thread Cert.RecIdeal.nD Cert.RecIdeal.τ).loc Cert.RecIdeal.main_arg1)) (m ((c.tc : Thread Cert.RecIdeal.nD Cert.RecIdeal.τ).loc Cert.RecIdeal.main_arg2)) (m ((c.tc : Thread Cert.RecIdeal.nD Cert.RecIdeal.τ).loc Cert.RecIdeal.main_arg3)) (m ((c.tc : Thread Cert.RecIdeal.nD Cert.RecIdeal.τ).loc Cert.RecIdeal.main_arg4)) (m ((c.tc : Thread Cert.RecIdeal.nD Cert.RecIdeal.τ).loc Cert.RecIdeal.main_arg5)) (m ((c.tc : Thread Cert.RecIdeal.nD Cert.RecIdeal.τ).loc Cert.RecIdeal.main_arg6)) (m ((c.tc : Thread Cert.RecIdeal.nD Cert.RecIdeal.τ).loc Cert.RecIdeal.main_arg7)) (m ((c.tc : Thread Cert.RecIdeal.nD Cert.RecIdeal.τ).loc Cert.RecIdeal.main_arg8)) (m ((c.tc : Thread Cert.RecIdeal.nD Cert.RecIdeal.τ).loc Cert.RecIdeal.main_arg9)) (m ((c.tc : Thread Cert.RecIdeal.nD Cert.RecIdeal.τ).loc Cert.RecIdeal.main_arg10)) (m ((c.tc : Thread Cert.RecIdeal.nD Cert.RecIdeal.τ).loc Cert.RecIdeal.main_arg11)) (m ((c.tc : Thread Cert.RecIdeal.nD Cert.RecIdeal.τ).loc Cert.RecIdeal.main_arg12))) = (fun _ => 1#1)

def Pre_RecRefIdeal (m : (ℓ : Loc Cert.RecRefIdeal.nD Cert.RecRefIdeal.τ Cert.RecRefIdeal.sig) → Buf (Elt Ideal) ℓ) : Prop :=
  True

def Pre_RecRefIdeal_finite_recurrence [hPre_finite_recurrence : Cert.Pre_finite_recurrence.Facts] (m : (ℓ : Loc Cert.RecRefIdeal.nD Cert.RecRefIdeal.τ Cert.RecRefIdeal.sig) → Buf (Elt Ideal) ℓ) : Prop :=
  ∀ c : Dev Cert.RecRefIdeal.nD,
    (Cert.Pre_finite_recurrence.fn (F := Ideal) (m ((c.tc : Thread Cert.RecRefIdeal.nD Cert.RecRefIdeal.τ).loc Cert.RecRefIdeal.main_arg0)) (m ((c.tc : Thread Cert.RecRefIdeal.nD Cert.RecRefIdeal.τ).loc Cert.RecRefIdeal.main_arg1)) (m ((c.tc : Thread Cert.RecRefIdeal.nD Cert.RecRefIdeal.τ).loc Cert.RecRefIdeal.main_arg2)) (m ((c.tc : Thread Cert.RecRefIdeal.nD Cert.RecRefIdeal.τ).loc Cert.RecRefIdeal.main_arg3)) (m ((c.tc : Thread Cert.RecRefIdeal.nD Cert.RecRefIdeal.τ).loc Cert.RecRefIdeal.main_arg4)) (m ((c.tc : Thread Cert.RecRefIdeal.nD Cert.RecRefIdeal.τ).loc Cert.RecRefIdeal.main_arg5)) (m ((c.tc : Thread Cert.RecRefIdeal.nD Cert.RecRefIdeal.τ).loc Cert.RecRefIdeal.main_arg6)) (m ((c.tc : Thread Cert.RecRefIdeal.nD Cert.RecRefIdeal.τ).loc Cert.RecRefIdeal.main_arg7)) (m ((c.tc : Thread Cert.RecRefIdeal.nD Cert.RecRefIdeal.τ).loc Cert.RecRefIdeal.main_arg8)) (m ((c.tc : Thread Cert.RecRefIdeal.nD Cert.RecRefIdeal.τ).loc Cert.RecRefIdeal.main_arg9)) (m ((c.tc : Thread Cert.RecRefIdeal.nD Cert.RecRefIdeal.τ).loc Cert.RecRefIdeal.main_arg10)) (m ((c.tc : Thread Cert.RecRefIdeal.nD Cert.RecRefIdeal.τ).loc Cert.RecRefIdeal.main_arg11)) (m ((c.tc : Thread Cert.RecRefIdeal.nD Cert.RecRefIdeal.τ).loc Cert.RecRefIdeal.main_arg12))) = (fun _ => 1#1)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_InP [hInP : Cert.InP.Facts] : Prop :=
  ∀ (m : (ℓ : Loc Cert.InP.nD Cert.InP.τ Cert.InP.sig) → Buf (Elt Bits) ℓ) (g : Dev Cert.InP.nD → PrngReg), Pre_InP m →
    θ_run (Cert.InP.defs (F := Bits)) (onTc (τ := Cert.InP.τ) (Cert.InP.main (F := Bits))) ⟨m, fun _ => 0, g⟩ (fun r => (∀ c : Dev Cert.InP.nD,
      r.2.mem ((c.tc : Thread Cert.InP.nD Cert.InP.τ).loc Cert.InP.main_arg0) = m ((c.tc : Thread Cert.InP.nD Cert.InP.τ).loc Cert.InP.main_arg0)
      ∧ r.2.mem ((c.tc : Thread Cert.InP.nD Cert.InP.τ).loc Cert.InP.main_arg1) = m ((c.tc : Thread Cert.InP.nD Cert.InP.τ).loc Cert.InP.main_arg1)
      ∧ r.2.mem ((c.tc : Thread Cert.InP.nD Cert.InP.τ).loc Cert.InP.main_arg2) = m ((c.tc : Thread Cert.InP.nD Cert.InP.τ).loc Cert.InP.main_arg2))
      ∧ r.2.sem = fun _ => 0)

def quiescent_InPIdeal [hInPIdeal : Cert.InPIdeal.Facts] : Prop :=
  ∀ (m : (ℓ : Loc Cert.InPIdeal.nD Cert.InPIdeal.τ Cert.InPIdeal.sig) → Buf (Elt Ideal) ℓ) (g : Dev Cert.InPIdeal.nD → PrngReg), Pre_InPIdeal m →
    θ_run (Cert.InPIdeal.defs (F := Ideal)) (onTc (τ := Cert.InPIdeal.τ) (Cert.InPIdeal.main (F := Ideal))) ⟨m, fun _ => 0, g⟩ (fun r => (∀ c : Dev Cert.InPIdeal.nD,
      r.2.mem ((c.tc : Thread Cert.InPIdeal.nD Cert.InPIdeal.τ).loc Cert.InPIdeal.main_arg0) = m ((c.tc : Thread Cert.InPIdeal.nD Cert.InPIdeal.τ).loc Cert.InPIdeal.main_arg0)
      ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
      ∧ r.2.mem ((c.tc : Thread Cert.InPIdeal.nD Cert.InPIdeal.τ).loc Cert.InPIdeal.main_arg2) = m ((c.tc : Thread Cert.InPIdeal.nD Cert.InPIdeal.τ).loc Cert.InPIdeal.main_arg2))
      ∧ r.2.sem = fun _ => 0)

def quiescent_InPRefIdeal [hInPRefIdeal : Cert.InPRefIdeal.Facts] : Prop :=
  ∀ (m : (ℓ : Loc Cert.InPRefIdeal.nD Cert.InPRefIdeal.τ Cert.InPRefIdeal.sig) → Buf (Elt Ideal) ℓ) (g : Dev Cert.InPRefIdeal.nD → PrngReg), Pre_InPRefIdeal m →
    θ_run (Cert.InPRefIdeal.defs (F := Ideal)) (onTc (τ := Cert.InPRefIdeal.τ) (Cert.InPRefIdeal.main (F := Ideal))) ⟨m, fun _ => 0, g⟩ (fun r => (∀ c : Dev Cert.InPRefIdeal.nD,
      r.2.mem ((c.tc : Thread Cert.InPRefIdeal.nD Cert.InPRefIdeal.τ).loc Cert.InPRefIdeal.main_arg0) = m ((c.tc : Thread Cert.InPRefIdeal.nD Cert.InPRefIdeal.τ).loc Cert.InPRefIdeal.main_arg0)
      ∧ r.2.mem ((c.tc : Thread Cert.InPRefIdeal.nD Cert.InPRefIdeal.τ).loc Cert.InPRefIdeal.main_arg1) = m ((c.tc : Thread Cert.InPRefIdeal.nD Cert.InPRefIdeal.τ).loc Cert.InPRefIdeal.main_arg1)
      ∧ r.2.mem ((c.tc : Thread Cert.InPRefIdeal.nD Cert.InPRefIdeal.τ).loc Cert.InPRefIdeal.main_arg2) = m ((c.tc : Thread Cert.InPRefIdeal.nD Cert.InPRefIdeal.τ).loc Cert.InPRefIdeal.main_arg2))
      ∧ r.2.sem = fun _ => 0)

def quiescent_InS [hInS : Cert.InS.Facts] : Prop :=
  ∀ (m : (ℓ : Loc Cert.InS.nD Cert.InS.τ Cert.InS.sig) → Buf (Elt Bits) ℓ) (g : Dev Cert.InS.nD → PrngReg), Pre_InS m →
    θ_run (Cert.InS.defs (F := Bits)) (onTc (τ := Cert.InS.τ) (Cert.InS.main (F := Bits))) ⟨m, fun _ => 0, g⟩ (fun r => (∀ c : Dev Cert.InS.nD,
      r.2.mem ((c.tc : Thread Cert.InS.nD Cert.InS.τ).loc Cert.InS.main_arg0) = m ((c.tc : Thread Cert.InS.nD Cert.InS.τ).loc Cert.InS.main_arg0)
      ∧ r.2.mem ((c.tc : Thread Cert.InS.nD Cert.InS.τ).loc Cert.InS.main_arg1) = m ((c.tc : Thread Cert.InS.nD Cert.InS.τ).loc Cert.InS.main_arg1))
      ∧ r.2.sem = fun _ => 0)

def quiescent_InSIdeal [hInSIdeal : Cert.InSIdeal.Facts] : Prop :=
  ∀ (m : (ℓ : Loc Cert.InSIdeal.nD Cert.InSIdeal.τ Cert.InSIdeal.sig) → Buf (Elt Ideal) ℓ) (g : Dev Cert.InSIdeal.nD → PrngReg), Pre_InSIdeal m →
    θ_run (Cert.InSIdeal.defs (F := Ideal)) (onTc (τ := Cert.InSIdeal.τ) (Cert.InSIdeal.main (F := Ideal))) ⟨m, fun _ => 0, g⟩ (fun r => (∀ c : Dev Cert.InSIdeal.nD,
      r.2.mem ((c.tc : Thread Cert.InSIdeal.nD Cert.InSIdeal.τ).loc Cert.InSIdeal.main_arg0) = m ((c.tc : Thread Cert.InSIdeal.nD Cert.InSIdeal.τ).loc Cert.InSIdeal.main_arg0)
      ∧ r.2.mem ((c.tc : Thread Cert.InSIdeal.nD Cert.InSIdeal.τ).loc Cert.InSIdeal.main_arg1) = m ((c.tc : Thread Cert.InSIdeal.nD Cert.InSIdeal.τ).loc Cert.InSIdeal.main_arg1))
      ∧ r.2.sem = fun _ => 0)

def quiescent_InSRefIdeal [hInSRefIdeal : Cert.InSRefIdeal.Facts] : Prop :=
  ∀ (m : (ℓ : Loc Cert.InSRefIdeal.nD Cert.InSRefIdeal.τ Cert.InSRefIdeal.sig) → Buf (Elt Ideal) ℓ) (g : Dev Cert.InSRefIdeal.nD → PrngReg), Pre_InSRefIdeal m →
    θ_run (Cert.InSRefIdeal.defs (F := Ideal)) (onTc (τ := Cert.InSRefIdeal.τ) (Cert.InSRefIdeal.main (F := Ideal))) ⟨m, fun _ => 0, g⟩ (fun r => (∀ c : Dev Cert.InSRefIdeal.nD,
      r.2.mem ((c.tc : Thread Cert.InSRefIdeal.nD Cert.InSRefIdeal.τ).loc Cert.InSRefIdeal.main_arg0) = m ((c.tc : Thread Cert.InSRefIdeal.nD Cert.InSRefIdeal.τ).loc Cert.InSRefIdeal.main_arg0)
      ∧ r.2.mem ((c.tc : Thread Cert.InSRefIdeal.nD Cert.InSRefIdeal.τ).loc Cert.InSRefIdeal.main_arg1) = m ((c.tc : Thread Cert.InSRefIdeal.nD Cert.InSRefIdeal.τ).loc Cert.InSRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ r.2.sem = fun _ => 0)

def quiescent_MixIdeal_pre_finite_arguments [hMixIdeal : Cert.MixIdeal.Facts] [hPre_finite_arguments : Cert.Pre_finite_arguments.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_arguments m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14))
      ∧ r.2.sem = fun _ => 0)

def quiescent_MixRefIdeal_pre_finite_arguments [hMixRefIdeal : Cert.MixRefIdeal.Facts] [hPre_finite_arguments : Cert.Pre_finite_arguments.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_arguments m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14))
      ∧ r.2.sem = fun _ => 0)

def quiescent_Rec [hRec : Cert.Rec.Facts] : Prop :=
  ∀ (m : (ℓ : Loc Cert.Rec.nD Cert.Rec.τ Cert.Rec.sig) → Buf (Elt Bits) ℓ) (g : Dev Cert.Rec.nD → PrngReg), Pre_Rec m →
    θ_run (Cert.Rec.defs (F := Bits)) (onTc (τ := Cert.Rec.τ) (Cert.Rec.main (F := Bits))) ⟨m, fun _ => 0, g⟩ (fun r => (∀ c : Dev Cert.Rec.nD,
      r.2.mem ((c.tc : Thread Cert.Rec.nD Cert.Rec.τ).loc Cert.Rec.main_arg0) = m ((c.tc : Thread Cert.Rec.nD Cert.Rec.τ).loc Cert.Rec.main_arg0)
      ∧ r.2.mem ((c.tc : Thread Cert.Rec.nD Cert.Rec.τ).loc Cert.Rec.main_arg1) = m ((c.tc : Thread Cert.Rec.nD Cert.Rec.τ).loc Cert.Rec.main_arg1)
      ∧ r.2.mem ((c.tc : Thread Cert.Rec.nD Cert.Rec.τ).loc Cert.Rec.main_arg2) = m ((c.tc : Thread Cert.Rec.nD Cert.Rec.τ).loc Cert.Rec.main_arg2)
      ∧ r.2.mem ((c.tc : Thread Cert.Rec.nD Cert.Rec.τ).loc Cert.Rec.main_arg3) = m ((c.tc : Thread Cert.Rec.nD Cert.Rec.τ).loc Cert.Rec.main_arg3)
      ∧ r.2.mem ((c.tc : Thread Cert.Rec.nD Cert.Rec.τ).loc Cert.Rec.main_arg4) = m ((c.tc : Thread Cert.Rec.nD Cert.Rec.τ).loc Cert.Rec.main_arg4)
      ∧ r.2.mem ((c.tc : Thread Cert.Rec.nD Cert.Rec.τ).loc Cert.Rec.main_arg5) = m ((c.tc : Thread Cert.Rec.nD Cert.Rec.τ).loc Cert.Rec.main_arg5)
      ∧ r.2.mem ((c.tc : Thread Cert.Rec.nD Cert.Rec.τ).loc Cert.Rec.main_arg6) = m ((c.tc : Thread Cert.Rec.nD Cert.Rec.τ).loc Cert.Rec.main_arg6)
      ∧ r.2.mem ((c.tc : Thread Cert.Rec.nD Cert.Rec.τ).loc Cert.Rec.main_arg7) = m ((c.tc : Thread Cert.Rec.nD Cert.Rec.τ).loc Cert.Rec.main_arg7)
      ∧ r.2.mem ((c.tc : Thread Cert.Rec.nD Cert.Rec.τ).loc Cert.Rec.main_arg8) = m ((c.tc : Thread Cert.Rec.nD Cert.Rec.τ).loc Cert.Rec.main_arg8)
      ∧ r.2.mem ((c.tc : Thread Cert.Rec.nD Cert.Rec.τ).loc Cert.Rec.main_arg9) = m ((c.tc : Thread Cert.Rec.nD Cert.Rec.τ).loc Cert.Rec.main_arg9)
      ∧ r.2.mem ((c.tc : Thread Cert.Rec.nD Cert.Rec.τ).loc Cert.Rec.main_arg10) = m ((c.tc : Thread Cert.Rec.nD Cert.Rec.τ).loc Cert.Rec.main_arg10)
      ∧ r.2.mem ((c.tc : Thread Cert.Rec.nD Cert.Rec.τ).loc Cert.Rec.main_arg11) = m ((c.tc : Thread Cert.Rec.nD Cert.Rec.τ).loc Cert.Rec.main_arg11)
      ∧ r.2.mem ((c.tc : Thread Cert.Rec.nD Cert.Rec.τ).loc Cert.Rec.main_arg12) = m ((c.tc : Thread Cert.Rec.nD Cert.Rec.τ).loc Cert.Rec.main_arg12))
      ∧ r.2.sem = fun _ => 0)

def quiescent_RecIdeal [hRecIdeal : Cert.RecIdeal.Facts] : Prop :=
  ∀ (m : (ℓ : Loc Cert.RecIdeal.nD Cert.RecIdeal.τ Cert.RecIdeal.sig) → Buf (Elt Ideal) ℓ) (g : Dev Cert.RecIdeal.nD → PrngReg), Pre_RecIdeal m →
    θ_run (Cert.RecIdeal.defs (F := Ideal)) (onTc (τ := Cert.RecIdeal.τ) (Cert.RecIdeal.main (F := Ideal))) ⟨m, fun _ => 0, g⟩ (fun r => (∀ c : Dev Cert.RecIdeal.nD,
      r.2.mem ((c.tc : Thread Cert.RecIdeal.nD Cert.RecIdeal.τ).loc Cert.RecIdeal.main_arg0) = m ((c.tc : Thread Cert.RecIdeal.nD Cert.RecIdeal.τ).loc Cert.RecIdeal.main_arg0)
      ∧ r.2.mem ((c.tc : Thread Cert.RecIdeal.nD Cert.RecIdeal.τ).loc Cert.RecIdeal.main_arg1) = m ((c.tc : Thread Cert.RecIdeal.nD Cert.RecIdeal.τ).loc Cert.RecIdeal.main_arg1)
      ∧ r.2.mem ((c.tc : Thread Cert.RecIdeal.nD Cert.RecIdeal.τ).loc Cert.RecIdeal.main_arg2) = m ((c.tc : Thread Cert.RecIdeal.nD Cert.RecIdeal.τ).loc Cert.RecIdeal.main_arg2)
      ∧ r.2.mem ((c.tc : Thread Cert.RecIdeal.nD Cert.RecIdeal.τ).loc Cert.RecIdeal.main_arg3) = m ((c.tc : Thread Cert.RecIdeal.nD Cert.RecIdeal.τ).loc Cert.RecIdeal.main_arg3)
      ∧ r.2.mem ((c.tc : Thread Cert.RecIdeal.nD Cert.RecIdeal.τ).loc Cert.RecIdeal.main_arg4) = m ((c.tc : Thread Cert.RecIdeal.nD Cert.RecIdeal.τ).loc Cert.RecIdeal.main_arg4)
      ∧ r.2.mem ((c.tc : Thread Cert.RecIdeal.nD Cert.RecIdeal.τ).loc Cert.RecIdeal.main_arg5) = m ((c.tc : Thread Cert.RecIdeal.nD Cert.RecIdeal.τ).loc Cert.RecIdeal.main_arg5)
      ∧ r.2.mem ((c.tc : Thread Cert.RecIdeal.nD Cert.RecIdeal.τ).loc Cert.RecIdeal.main_arg6) = m ((c.tc : Thread Cert.RecIdeal.nD Cert.RecIdeal.τ).loc Cert.RecIdeal.main_arg6)
      ∧ r.2.mem ((c.tc : Thread Cert.RecIdeal.nD Cert.RecIdeal.τ).loc Cert.RecIdeal.main_arg7) = m ((c.tc : Thread Cert.RecIdeal.nD Cert.RecIdeal.τ).loc Cert.RecIdeal.main_arg7)
      ∧ r.2.mem ((c.tc : Thread Cert.RecIdeal.nD Cert.RecIdeal.τ).loc Cert.RecIdeal.main_arg8) = m ((c.tc : Thread Cert.RecIdeal.nD Cert.RecIdeal.τ).loc Cert.RecIdeal.main_arg8)
      ∧ r.2.mem ((c.tc : Thread Cert.RecIdeal.nD Cert.RecIdeal.τ).loc Cert.RecIdeal.main_arg9) = m ((c.tc : Thread Cert.RecIdeal.nD Cert.RecIdeal.τ).loc Cert.RecIdeal.main_arg9)
      ∧ r.2.mem ((c.tc : Thread Cert.RecIdeal.nD Cert.RecIdeal.τ).loc Cert.RecIdeal.main_arg10) = m ((c.tc : Thread Cert.RecIdeal.nD Cert.RecIdeal.τ).loc Cert.RecIdeal.main_arg10)
      ∧ r.2.mem ((c.tc : Thread Cert.RecIdeal.nD Cert.RecIdeal.τ).loc Cert.RecIdeal.main_arg11) = m ((c.tc : Thread Cert.RecIdeal.nD Cert.RecIdeal.τ).loc Cert.RecIdeal.main_arg11)
      ∧ r.2.mem ((c.tc : Thread Cert.RecIdeal.nD Cert.RecIdeal.τ).loc Cert.RecIdeal.main_arg12) = m ((c.tc : Thread Cert.RecIdeal.nD Cert.RecIdeal.τ).loc Cert.RecIdeal.main_arg12))
      ∧ r.2.sem = fun _ => 0)

def quiescent_RecIdeal_pre_finite_recurrence [hRecIdeal : Cert.RecIdeal.Facts] [hPre_finite_recurrence : Cert.Pre_finite_recurrence.Facts] : Prop :=
  ∀ (m : (ℓ : Loc Cert.RecIdeal.nD Cert.RecIdeal.τ Cert.RecIdeal.sig) → Buf (Elt Ideal) ℓ) (g : Dev Cert.RecIdeal.nD → PrngReg), Pre_RecIdeal_finite_recurrence m →
    θ_run (Cert.RecIdeal.defs (F := Ideal)) (onTc (τ := Cert.RecIdeal.τ) (Cert.RecIdeal.main (F := Ideal))) ⟨m, fun _ => 0, g⟩ (fun r => (∀ c : Dev Cert.RecIdeal.nD,
      r.2.mem ((c.tc : Thread Cert.RecIdeal.nD Cert.RecIdeal.τ).loc Cert.RecIdeal.main_arg0) = m ((c.tc : Thread Cert.RecIdeal.nD Cert.RecIdeal.τ).loc Cert.RecIdeal.main_arg0)
      ∧ r.2.mem ((c.tc : Thread Cert.RecIdeal.nD Cert.RecIdeal.τ).loc Cert.RecIdeal.main_arg1) = m ((c.tc : Thread Cert.RecIdeal.nD Cert.RecIdeal.τ).loc Cert.RecIdeal.main_arg1)
      ∧ r.2.mem ((c.tc : Thread Cert.RecIdeal.nD Cert.RecIdeal.τ).loc Cert.RecIdeal.main_arg2) = m ((c.tc : Thread Cert.RecIdeal.nD Cert.RecIdeal.τ).loc Cert.RecIdeal.main_arg2)
      ∧ r.2.mem ((c.tc : Thread Cert.RecIdeal.nD Cert.RecIdeal.τ).loc Cert.RecIdeal.main_arg3) = m ((c.tc : Thread Cert.RecIdeal.nD Cert.RecIdeal.τ).loc Cert.RecIdeal.main_arg3)
      ∧ r.2.mem ((c.tc : Thread Cert.RecIdeal.nD Cert.RecIdeal.τ).loc Cert.RecIdeal.main_arg4) = m ((c.tc : Thread Cert.RecIdeal.nD Cert.RecIdeal.τ).loc Cert.RecIdeal.main_arg4)
      ∧ r.2.mem ((c.tc : Thread Cert.RecIdeal.nD Cert.RecIdeal.τ).loc Cert.RecIdeal.main_arg5) = m ((c.tc : Thread Cert.RecIdeal.nD Cert.RecIdeal.τ).loc Cert.RecIdeal.main_arg5)
      ∧ r.2.mem ((c.tc : Thread Cert.RecIdeal.nD Cert.RecIdeal.τ).loc Cert.RecIdeal.main_arg6) = m ((c.tc : Thread Cert.RecIdeal.nD Cert.RecIdeal.τ).loc Cert.RecIdeal.main_arg6)
      ∧ r.2.mem ((c.tc : Thread Cert.RecIdeal.nD Cert.RecIdeal.τ).loc Cert.RecIdeal.main_arg7) = m ((c.tc : Thread Cert.RecIdeal.nD Cert.RecIdeal.τ).loc Cert.RecIdeal.main_arg7)
      ∧ r.2.mem ((c.tc : Thread Cert.RecIdeal.nD Cert.RecIdeal.τ).loc Cert.RecIdeal.main_arg8) = m ((c.tc : Thread Cert.RecIdeal.nD Cert.RecIdeal.τ).loc Cert.RecIdeal.main_arg8)
      ∧ r.2.mem ((c.tc : Thread Cert.RecIdeal.nD Cert.RecIdeal.τ).loc Cert.RecIdeal.main_arg9) = m ((c.tc : Thread Cert.RecIdeal.nD Cert.RecIdeal.τ).loc Cert.RecIdeal.main_arg9)
      ∧ r.2.mem ((c.tc : Thread Cert.RecIdeal.nD Cert.RecIdeal.τ).loc Cert.RecIdeal.main_arg10) = m ((c.tc : Thread Cert.RecIdeal.nD Cert.RecIdeal.τ).loc Cert.RecIdeal.main_arg10)
      ∧ r.2.mem ((c.tc : Thread Cert.RecIdeal.nD Cert.RecIdeal.τ).loc Cert.RecIdeal.main_arg11) = m ((c.tc : Thread Cert.RecIdeal.nD Cert.RecIdeal.τ).loc Cert.RecIdeal.main_arg11)
      ∧ r.2.mem ((c.tc : Thread Cert.RecIdeal.nD Cert.RecIdeal.τ).loc Cert.RecIdeal.main_arg12) = m ((c.tc : Thread Cert.RecIdeal.nD Cert.RecIdeal.τ).loc Cert.RecIdeal.main_arg12))
      ∧ r.2.sem = fun _ => 0)

def quiescent_RecRefIdeal [hRecRefIdeal : Cert.RecRefIdeal.Facts] : Prop :=
  ∀ (m : (ℓ : Loc Cert.RecRefIdeal.nD Cert.RecRefIdeal.τ Cert.RecRefIdeal.sig) → Buf (Elt Ideal) ℓ) (g : Dev Cert.RecRefIdeal.nD → PrngReg), Pre_RecRefIdeal m →
    θ_run (Cert.RecRefIdeal.defs (F := Ideal)) (onTc (τ := Cert.RecRefIdeal.τ) (Cert.RecRefIdeal.main (F := Ideal))) ⟨m, fun _ => 0, g⟩ (fun r => (∀ c : Dev Cert.RecRefIdeal.nD,
      r.2.mem ((c.tc : Thread Cert.RecRefIdeal.nD Cert.RecRefIdeal.τ).loc Cert.RecRefIdeal.main_arg0) = m ((c.tc : Thread Cert.RecRefIdeal.nD Cert.RecRefIdeal.τ).loc Cert.RecRefIdeal.main_arg0)
      ∧ r.2.mem ((c.tc : Thread Cert.RecRefIdeal.nD Cert.RecRefIdeal.τ).loc Cert.RecRefIdeal.main_arg1) = m ((c.tc : Thread Cert.RecRefIdeal.nD Cert.RecRefIdeal.τ).loc Cert.RecRefIdeal.main_arg1)
      ∧ r.2.mem ((c.tc : Thread Cert.RecRefIdeal.nD Cert.RecRefIdeal.τ).loc Cert.RecRefIdeal.main_arg2) = m ((c.tc : Thread Cert.RecRefIdeal.nD Cert.RecRefIdeal.τ).loc Cert.RecRefIdeal.main_arg2)
      ∧ r.2.mem ((c.tc : Thread Cert.RecRefIdeal.nD Cert.RecRefIdeal.τ).loc Cert.RecRefIdeal.main_arg3) = m ((c.tc : Thread Cert.RecRefIdeal.nD Cert.RecRefIdeal.τ).loc Cert.RecRefIdeal.main_arg3)
      ∧ r.2.mem ((c.tc : Thread Cert.RecRefIdeal.nD Cert.RecRefIdeal.τ).loc Cert.RecRefIdeal.main_arg4) = m ((c.tc : Thread Cert.RecRefIdeal.nD Cert.RecRefIdeal.τ).loc Cert.RecRefIdeal.main_arg4)
      ∧ r.2.mem ((c.tc : Thread Cert.RecRefIdeal.nD Cert.RecRefIdeal.τ).loc Cert.RecRefIdeal.main_arg5) = m ((c.tc : Thread Cert.RecRefIdeal.nD Cert.RecRefIdeal.τ).loc Cert.RecRefIdeal.main_arg5)
      ∧ r.2.mem ((c.tc : Thread Cert.RecRefIdeal.nD Cert.RecRefIdeal.τ).loc Cert.RecRefIdeal.main_arg6) = m ((c.tc : Thread Cert.RecRefIdeal.nD Cert.RecRefIdeal.τ).loc Cert.RecRefIdeal.main_arg6)
      ∧ r.2.mem ((c.tc : Thread Cert.RecRefIdeal.nD Cert.RecRefIdeal.τ).loc Cert.RecRefIdeal.main_arg7) = m ((c.tc : Thread Cert.RecRefIdeal.nD Cert.RecRefIdeal.τ).loc Cert.RecRefIdeal.main_arg7)
      ∧ r.2.mem ((c.tc : Thread Cert.RecRefIdeal.nD Cert.RecRefIdeal.τ).loc Cert.RecRefIdeal.main_arg8) = m ((c.tc : Thread Cert.RecRefIdeal.nD Cert.RecRefIdeal.τ).loc Cert.RecRefIdeal.main_arg8)
      ∧ r.2.mem ((c.tc : Thread Cert.RecRefIdeal.nD Cert.RecRefIdeal.τ).loc Cert.RecRefIdeal.main_arg9) = m ((c.tc : Thread Cert.RecRefIdeal.nD Cert.RecRefIdeal.τ).loc Cert.RecRefIdeal.main_arg9)
      ∧ r.2.mem ((c.tc : Thread Cert.RecRefIdeal.nD Cert.RecRefIdeal.τ).loc Cert.RecRefIdeal.main_arg10) = m ((c.tc : Thread Cert.RecRefIdeal.nD Cert.RecRefIdeal.τ).loc Cert.RecRefIdeal.main_arg10)
      ∧ r.2.mem ((c.tc : Thread Cert.RecRefIdeal.nD Cert.RecRefIdeal.τ).loc Cert.RecRefIdeal.main_arg11) = m ((c.tc : Thread Cert.RecRefIdeal.nD Cert.RecRefIdeal.τ).loc Cert.RecRefIdeal.main_arg11)
      ∧ r.2.mem ((c.tc : Thread Cert.RecRefIdeal.nD Cert.RecRefIdeal.τ).loc Cert.RecRefIdeal.main_arg12) = m ((c.tc : Thread Cert.RecRefIdeal.nD Cert.RecRefIdeal.τ).loc Cert.RecRefIdeal.main_arg12))
      ∧ r.2.sem = fun _ => 0)

def quiescent_RecRefIdeal_pre_finite_recurrence [hRecRefIdeal : Cert.RecRefIdeal.Facts] [hPre_finite_recurrence : Cert.Pre_finite_recurrence.Facts] : Prop :=
  ∀ (m : (ℓ : Loc Cert.RecRefIdeal.nD Cert.RecRefIdeal.τ Cert.RecRefIdeal.sig) → Buf (Elt Ideal) ℓ) (g : Dev Cert.RecRefIdeal.nD → PrngReg), Pre_RecRefIdeal_finite_recurrence m →
    θ_run (Cert.RecRefIdeal.defs (F := Ideal)) (onTc (τ := Cert.RecRefIdeal.τ) (Cert.RecRefIdeal.main (F := Ideal))) ⟨m, fun _ => 0, g⟩ (fun r => (∀ c : Dev Cert.RecRefIdeal.nD,
      r.2.mem ((c.tc : Thread Cert.RecRefIdeal.nD Cert.RecRefIdeal.τ).loc Cert.RecRefIdeal.main_arg0) = m ((c.tc : Thread Cert.RecRefIdeal.nD Cert.RecRefIdeal.τ).loc Cert.RecRefIdeal.main_arg0)
      ∧ r.2.mem ((c.tc : Thread Cert.RecRefIdeal.nD Cert.RecRefIdeal.τ).loc Cert.RecRefIdeal.main_arg1) = m ((c.tc : Thread Cert.RecRefIdeal.nD Cert.RecRefIdeal.τ).loc Cert.RecRefIdeal.main_arg1)
      ∧ r.2.mem ((c.tc : Thread Cert.RecRefIdeal.nD Cert.RecRefIdeal.τ).loc Cert.RecRefIdeal.main_arg2) = m ((c.tc : Thread Cert.RecRefIdeal.nD Cert.RecRefIdeal.τ).loc Cert.RecRefIdeal.main_arg2)
      ∧ r.2.mem ((c.tc : Thread Cert.RecRefIdeal.nD Cert.RecRefIdeal.τ).loc Cert.RecRefIdeal.main_arg3) = m ((c.tc : Thread Cert.RecRefIdeal.nD Cert.RecRefIdeal.τ).loc Cert.RecRefIdeal.main_arg3)
      ∧ r.2.mem ((c.tc : Thread Cert.RecRefIdeal.nD Cert.RecRefIdeal.τ).loc Cert.RecRefIdeal.main_arg4) = m ((c.tc : Thread Cert.RecRefIdeal.nD Cert.RecRefIdeal.τ).loc Cert.RecRefIdeal.main_arg4)
      ∧ r.2.mem ((c.tc : Thread Cert.RecRefIdeal.nD Cert.RecRefIdeal.τ).loc Cert.RecRefIdeal.main_arg5) = m ((c.tc : Thread Cert.RecRefIdeal.nD Cert.RecRefIdeal.τ).loc Cert.RecRefIdeal.main_arg5)
      ∧ r.2.mem ((c.tc : Thread Cert.RecRefIdeal.nD Cert.RecRefIdeal.τ).loc Cert.RecRefIdeal.main_arg6) = m ((c.tc : Thread Cert.RecRefIdeal.nD Cert.RecRefIdeal.τ).loc Cert.RecRefIdeal.main_arg6)
      ∧ r.2.mem ((c.tc : Thread Cert.RecRefIdeal.nD Cert.RecRefIdeal.τ).loc Cert.RecRefIdeal.main_arg7) = m ((c.tc : Thread Cert.RecRefIdeal.nD Cert.RecRefIdeal.τ).loc Cert.RecRefIdeal.main_arg7)
      ∧ r.2.mem ((c.tc : Thread Cert.RecRefIdeal.nD Cert.RecRefIdeal.τ).loc Cert.RecRefIdeal.main_arg8) = m ((c.tc : Thread Cert.RecRefIdeal.nD Cert.RecRefIdeal.τ).loc Cert.RecRefIdeal.main_arg8)
      ∧ r.2.mem ((c.tc : Thread Cert.RecRefIdeal.nD Cert.RecRefIdeal.τ).loc Cert.RecRefIdeal.main_arg9) = m ((c.tc : Thread Cert.RecRefIdeal.nD Cert.RecRefIdeal.τ).loc Cert.RecRefIdeal.main_arg9)
      ∧ r.2.mem ((c.tc : Thread Cert.RecRefIdeal.nD Cert.RecRefIdeal.τ).loc Cert.RecRefIdeal.main_arg10) = m ((c.tc : Thread Cert.RecRefIdeal.nD Cert.RecRefIdeal.τ).loc Cert.RecRefIdeal.main_arg10)
      ∧ r.2.mem ((c.tc : Thread Cert.RecRefIdeal.nD Cert.RecRefIdeal.τ).loc Cert.RecRefIdeal.main_arg11) = m ((c.tc : Thread Cert.RecRefIdeal.nD Cert.RecRefIdeal.τ).loc Cert.RecRefIdeal.main_arg11)
      ∧ r.2.mem ((c.tc : Thread Cert.RecRefIdeal.nD Cert.RecRefIdeal.τ).loc Cert.RecRefIdeal.main_arg12) = m ((c.tc : Thread Cert.RecRefIdeal.nD Cert.RecRefIdeal.τ).loc Cert.RecRefIdeal.main_arg12))
      ∧ r.2.sem = fun _ => 0)

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v11)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v11) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v44) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_InP_InPIdeal : Prop :=
  True

def algebraic_InPIdeal_InPRefIdeal [hInPIdeal : Cert.InPIdeal.Facts] [hInPRefIdeal : Cert.InPRefIdeal.Facts] : Prop :=
  ∀ (m : (ℓ : Loc Cert.InPIdeal.nD Cert.InPIdeal.τ Cert.InPIdeal.sig) → Buf (Elt Ideal) ℓ) (g : Dev Cert.InPIdeal.nD → PrngReg)
    (m' : (ℓ : Loc Cert.InPRefIdeal.nD Cert.InPRefIdeal.τ Cert.InPRefIdeal.sig) → Buf (Elt Ideal) ℓ) (g' : Dev Cert.InPRefIdeal.nD → PrngReg), Pre_InPIdeal m →
    (∀ c : Dev Cert.InPIdeal.nD,
      m' ((c.tc : Thread Cert.InPRefIdeal.nD Cert.InPRefIdeal.τ).loc Cert.InPRefIdeal.main_arg0) = m ((c.tc : Thread Cert.InPIdeal.nD Cert.InPIdeal.τ).loc Cert.InPIdeal.main_arg0)
      ∧ m' ((c.tc : Thread Cert.InPRefIdeal.nD Cert.InPRefIdeal.τ).loc Cert.InPRefIdeal.main_arg1) = m ((c.tc : Thread Cert.InPIdeal.nD Cert.InPIdeal.τ).loc Cert.InPIdeal.main_arg1)
      ∧ m' ((c.tc : Thread Cert.InPRefIdeal.nD Cert.InPRefIdeal.τ).loc Cert.InPRefIdeal.main_arg2) = m ((c.tc : Thread Cert.InPIdeal.nD Cert.InPIdeal.τ).loc Cert.InPIdeal.main_arg2)) →
    ∃ (v0 : (c : Dev Cert.InPIdeal.nD) → Buf (Elt Ideal) ((c.tc : Thread Cert.InPIdeal.nD Cert.InPIdeal.τ).loc Cert.InPIdeal.main_v9_0)) (v1 : (c : Dev Cert.InPIdeal.nD) → Buf (Elt Ideal) ((c.tc : Thread Cert.InPIdeal.nD Cert.InPIdeal.τ).loc Cert.InPIdeal.main_v9_1)) (v2 : (c : Dev Cert.InPIdeal.nD) → Buf (Elt Ideal) ((c.tc : Thread Cert.InPIdeal.nD Cert.InPIdeal.τ).loc Cert.InPIdeal.main_v9_2)) (v3 : (c : Dev Cert.InPIdeal.nD) → Buf (Elt Ideal) ((c.tc : Thread Cert.InPIdeal.nD Cert.InPIdeal.τ).loc Cert.InPIdeal.main_v9_3)) (v4 : (c : Dev Cert.InPIdeal.nD) → Buf (Elt Ideal) ((c.tc : Thread Cert.InPIdeal.nD Cert.InPIdeal.τ).loc Cert.InPIdeal.main_v9_4)) (v5 : (c : Dev Cert.InPIdeal.nD) → Buf (Elt Ideal) ((c.tc : Thread Cert.InPIdeal.nD Cert.InPIdeal.τ).loc Cert.InPIdeal.main_v9_5)) (v6 : (c : Dev Cert.InPIdeal.nD) → Buf (Elt Ideal) ((c.tc : Thread Cert.InPIdeal.nD Cert.InPIdeal.τ).loc Cert.InPIdeal.main_v9_6)) (v7 : (c : Dev Cert.InPIdeal.nD) → Buf (Elt Ideal) ((c.tc : Thread Cert.InPIdeal.nD Cert.InPIdeal.τ).loc Cert.InPIdeal.main_v9_7)) (v8 : (c : Dev Cert.InPIdeal.nD) → Buf (Elt Ideal) ((c.tc : Thread Cert.InPIdeal.nD Cert.InPIdeal.τ).loc Cert.InPIdeal.main_v9_8)) (v9 : (c : Dev Cert.InPIdeal.nD) → Buf (Elt Ideal) ((c.tc : Thread Cert.InPIdeal.nD Cert.InPIdeal.τ).loc Cert.InPIdeal.main_v9_9)),
      θ_run (Cert.InPIdeal.defs (F := Ideal)) (onTc (τ := Cert.InPIdeal.τ) (Cert.InPIdeal.main (F := Ideal))) ⟨m, fun _ => 0, g⟩ (fun r => ∀ c : Dev Cert.InPIdeal.nD,
          r.2.mem ((c.tc : Thread Cert.InPIdeal.nD Cert.InPIdeal.τ).loc Cert.InPIdeal.main_v9_0) = v0 c
          ∧ r.2.mem ((c.tc : Thread Cert.InPIdeal.nD Cert.InPIdeal.τ).loc Cert.InPIdeal.main_v9_1) = v1 c
          ∧ r.2.mem ((c.tc : Thread Cert.InPIdeal.nD Cert.InPIdeal.τ).loc Cert.InPIdeal.main_v9_2) = v2 c
          ∧ r.2.mem ((c.tc : Thread Cert.InPIdeal.nD Cert.InPIdeal.τ).loc Cert.InPIdeal.main_v9_3) = v3 c
          ∧ r.2.mem ((c.tc : Thread Cert.InPIdeal.nD Cert.InPIdeal.τ).loc Cert.InPIdeal.main_v9_4) = v4 c
          ∧ r.2.mem ((c.tc : Thread Cert.InPIdeal.nD Cert.InPIdeal.τ).loc Cert.InPIdeal.main_v9_5) = v5 c
          ∧ r.2.mem ((c.tc : Thread Cert.InPIdeal.nD Cert.InPIdeal.τ).loc Cert.InPIdeal.main_v9_6) = v6 c
          ∧ r.2.mem ((c.tc : Thread Cert.InPIdeal.nD Cert.InPIdeal.τ).loc Cert.InPIdeal.main_v9_7) = v7 c
          ∧ r.2.mem ((c.tc : Thread Cert.InPIdeal.nD Cert.InPIdeal.τ).loc Cert.InPIdeal.main_v9_8) = v8 c
          ∧ r.2.mem ((c.tc : Thread Cert.InPIdeal.nD Cert.InPIdeal.τ).loc Cert.InPIdeal.main_v9_9) = v9 c
          ∧ r.2.mem ((c.tc : Thread Cert.InPIdeal.nD Cert.InPIdeal.τ).loc Cert.InPIdeal.main_arg0) = m ((c.tc : Thread Cert.InPIdeal.nD Cert.InPIdeal.τ).loc Cert.InPIdeal.main_arg0)
          ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
          ∧ r.2.mem ((c.tc : Thread Cert.InPIdeal.nD Cert.InPIdeal.τ).loc Cert.InPIdeal.main_arg2) = m ((c.tc : Thread Cert.InPIdeal.nD Cert.InPIdeal.τ).loc Cert.InPIdeal.main_arg2))
      ∧ θ_run (Cert.InPRefIdeal.defs (F := Ideal)) (onTc (τ := Cert.InPRefIdeal.τ) (Cert.InPRefIdeal.main (F := Ideal))) ⟨m', fun _ => 0, g'⟩ (fun r => ∀ c : Dev Cert.InPRefIdeal.nD,
          r.2.mem ((c.tc : Thread Cert.InPRefIdeal.nD Cert.InPRefIdeal.τ).loc Cert.InPRefIdeal.main_v22) = v0 c
          ∧ r.2.mem ((c.tc : Thread Cert.InPRefIdeal.nD Cert.InPRefIdeal.τ).loc Cert.InPRefIdeal.main_v24) = v1 c
          ∧ r.2.mem ((c.tc : Thread Cert.InPRefIdeal.nD Cert.InPRefIdeal.τ).loc Cert.InPRefIdeal.main_v26) = v2 c
          ∧ r.2.mem ((c.tc : Thread Cert.InPRefIdeal.nD Cert.InPRefIdeal.τ).loc Cert.InPRefIdeal.main_v28) = v3 c
          ∧ r.2.mem ((c.tc : Thread Cert.InPRefIdeal.nD Cert.InPRefIdeal.τ).loc Cert.InPRefIdeal.main_v30) = v4 c
          ∧ r.2.mem ((c.tc : Thread Cert.InPRefIdeal.nD Cert.InPRefIdeal.τ).loc Cert.InPRefIdeal.main_v32) = v5 c
          ∧ r.2.mem ((c.tc : Thread Cert.InPRefIdeal.nD Cert.InPRefIdeal.τ).loc Cert.InPRefIdeal.main_v34) = v6 c
          ∧ r.2.mem ((c.tc : Thread Cert.InPRefIdeal.nD Cert.InPRefIdeal.τ).loc Cert.InPRefIdeal.main_v36) = v7 c
          ∧ r.2.mem ((c.tc : Thread Cert.InPRefIdeal.nD Cert.InPRefIdeal.τ).loc Cert.InPRefIdeal.main_v38) = v8 c
          ∧ r.2.mem ((c.tc : Thread Cert.InPRefIdeal.nD Cert.InPRefIdeal.τ).loc Cert.InPRefIdeal.main_v40) = v9 c
          ∧ r.2.mem ((c.tc : Thread Cert.InPRefIdeal.nD Cert.InPRefIdeal.τ).loc Cert.InPRefIdeal.main_arg0) = m' ((c.tc : Thread Cert.InPRefIdeal.nD Cert.InPRefIdeal.τ).loc Cert.InPRefIdeal.main_arg0)
          ∧ r.2.mem ((c.tc : Thread Cert.InPRefIdeal.nD Cert.InPRefIdeal.τ).loc Cert.InPRefIdeal.main_arg1) = m' ((c.tc : Thread Cert.InPRefIdeal.nD Cert.InPRefIdeal.τ).loc Cert.InPRefIdeal.main_arg1)
          ∧ r.2.mem ((c.tc : Thread Cert.InPRefIdeal.nD Cert.InPRefIdeal.τ).loc Cert.InPRefIdeal.main_arg2) = m' ((c.tc : Thread Cert.InPRefIdeal.nD Cert.InPRefIdeal.τ).loc Cert.InPRefIdeal.main_arg2))

def preserves_InS_InSIdeal : Prop :=
  True

def algebraic_InSIdeal_InSRefIdeal [hInSIdeal : Cert.InSIdeal.Facts] [hInSRefIdeal : Cert.InSRefIdeal.Facts] : Prop :=
  ∀ (m : (ℓ : Loc Cert.InSIdeal.nD Cert.InSIdeal.τ Cert.InSIdeal.sig) → Buf (Elt Ideal) ℓ) (g : Dev Cert.InSIdeal.nD → PrngReg)
    (m' : (ℓ : Loc Cert.InSRefIdeal.nD Cert.InSRefIdeal.τ Cert.InSRefIdeal.sig) → Buf (Elt Ideal) ℓ) (g' : Dev Cert.InSRefIdeal.nD → PrngReg), Pre_InSIdeal m →
    (∀ c : Dev Cert.InSIdeal.nD,
      m' ((c.tc : Thread Cert.InSRefIdeal.nD Cert.InSRefIdeal.τ).loc Cert.InSRefIdeal.main_arg0) = m ((c.tc : Thread Cert.InSIdeal.nD Cert.InSIdeal.τ).loc Cert.InSIdeal.main_arg0)
      ∧ m' ((c.tc : Thread Cert.InSRefIdeal.nD Cert.InSRefIdeal.τ).loc Cert.InSRefIdeal.main_arg1) = m ((c.tc : Thread Cert.InSIdeal.nD Cert.InSIdeal.τ).loc Cert.InSIdeal.main_arg1)) →
    ∃ (v0 : (c : Dev Cert.InSIdeal.nD) → Buf (Elt Ideal) ((c.tc : Thread Cert.InSIdeal.nD Cert.InSIdeal.τ).loc Cert.InSIdeal.main_v7_0)) (v1 : (c : Dev Cert.InSIdeal.nD) → Buf (Elt Ideal) ((c.tc : Thread Cert.InSIdeal.nD Cert.InSIdeal.τ).loc Cert.InSIdeal.main_v7_1)) (v2 : (c : Dev Cert.InSIdeal.nD) → Buf (Elt Ideal) ((c.tc : Thread Cert.InSIdeal.nD Cert.InSIdeal.τ).loc Cert.InSIdeal.main_v7_2)) (v3 : (c : Dev Cert.InSIdeal.nD) → Buf (Elt Ideal) ((c.tc : Thread Cert.InSIdeal.nD Cert.InSIdeal.τ).loc Cert.InSIdeal.main_v7_3)) (v4 : (c : Dev Cert.InSIdeal.nD) → Buf (Elt Ideal) ((c.tc : Thread Cert.InSIdeal.nD Cert.InSIdeal.τ).loc Cert.InSIdeal.main_v7_4)) (v5 : (c : Dev Cert.InSIdeal.nD) → Buf (Elt Ideal) ((c.tc : Thread Cert.InSIdeal.nD Cert.InSIdeal.τ).loc Cert.InSIdeal.main_v7_5)) (v6 : (c : Dev Cert.InSIdeal.nD) → Buf (Elt Ideal) ((c.tc : Thread Cert.InSIdeal.nD Cert.InSIdeal.τ).loc Cert.InSIdeal.main_v7_6)) (v7 : (c : Dev Cert.InSIdeal.nD) → Buf (Elt Ideal) ((c.tc : Thread Cert.InSIdeal.nD Cert.InSIdeal.τ).loc Cert.InSIdeal.main_v7_7)) (v8 : (c : Dev Cert.InSIdeal.nD) → Buf (Elt Ideal) ((c.tc : Thread Cert.InSIdeal.nD Cert.InSIdeal.τ).loc Cert.InSIdeal.main_v7_8)) (v9 : (c : Dev Cert.InSIdeal.nD) → Buf (Elt Ideal) ((c.tc : Thread Cert.InSIdeal.nD Cert.InSIdeal.τ).loc Cert.InSIdeal.main_v7_9)),
      θ_run (Cert.InSIdeal.defs (F := Ideal)) (onTc (τ := Cert.InSIdeal.τ) (Cert.InSIdeal.main (F := Ideal))) ⟨m, fun _ => 0, g⟩ (fun r => ∀ c : Dev Cert.InSIdeal.nD,
          r.2.mem ((c.tc : Thread Cert.InSIdeal.nD Cert.InSIdeal.τ).loc Cert.InSIdeal.main_v7_0) = v0 c
          ∧ r.2.mem ((c.tc : Thread Cert.InSIdeal.nD Cert.InSIdeal.τ).loc Cert.InSIdeal.main_v7_1) = v1 c
          ∧ r.2.mem ((c.tc : Thread Cert.InSIdeal.nD Cert.InSIdeal.τ).loc Cert.InSIdeal.main_v7_2) = v2 c
          ∧ r.2.mem ((c.tc : Thread Cert.InSIdeal.nD Cert.InSIdeal.τ).loc Cert.InSIdeal.main_v7_3) = v3 c
          ∧ r.2.mem ((c.tc : Thread Cert.InSIdeal.nD Cert.InSIdeal.τ).loc Cert.InSIdeal.main_v7_4) = v4 c
          ∧ r.2.mem ((c.tc : Thread Cert.InSIdeal.nD Cert.InSIdeal.τ).loc Cert.InSIdeal.main_v7_5) = v5 c
          ∧ r.2.mem ((c.tc : Thread Cert.InSIdeal.nD Cert.InSIdeal.τ).loc Cert.InSIdeal.main_v7_6) = v6 c
          ∧ r.2.mem ((c.tc : Thread Cert.InSIdeal.nD Cert.InSIdeal.τ).loc Cert.InSIdeal.main_v7_7) = v7 c
          ∧ r.2.mem ((c.tc : Thread Cert.InSIdeal.nD Cert.InSIdeal.τ).loc Cert.InSIdeal.main_v7_8) = v8 c
          ∧ r.2.mem ((c.tc : Thread Cert.InSIdeal.nD Cert.InSIdeal.τ).loc Cert.InSIdeal.main_v7_9) = v9 c
          ∧ r.2.mem ((c.tc : Thread Cert.InSIdeal.nD Cert.InSIdeal.τ).loc Cert.InSIdeal.main_arg0) = m ((c.tc : Thread Cert.InSIdeal.nD Cert.InSIdeal.τ).loc Cert.InSIdeal.main_arg0)
          ∧ r.2.mem ((c.tc : Thread Cert.InSIdeal.nD Cert.InSIdeal.τ).loc Cert.InSIdeal.main_arg1) = m ((c.tc : Thread Cert.InSIdeal.nD Cert.InSIdeal.τ).loc Cert.InSIdeal.main_arg1))
      ∧ θ_run (Cert.InSRefIdeal.defs (F := Ideal)) (onTc (τ := Cert.InSRefIdeal.τ) (Cert.InSRefIdeal.main (F := Ideal))) ⟨m', fun _ => 0, g'⟩ (fun r => ∀ c : Dev Cert.InSRefIdeal.nD,
          r.2.mem ((c.tc : Thread Cert.InSRefIdeal.nD Cert.InSRefIdeal.τ).loc Cert.InSRefIdeal.main_v19) = v0 c
          ∧ r.2.mem ((c.tc : Thread Cert.InSRefIdeal.nD Cert.InSRefIdeal.τ).loc Cert.InSRefIdeal.main_v20) = v1 c
          ∧ r.2.mem ((c.tc : Thread Cert.InSRefIdeal.nD Cert.InSRefIdeal.τ).loc Cert.InSRefIdeal.main_v21) = v2 c
          ∧ r.2.mem ((c.tc : Thread Cert.InSRefIdeal.nD Cert.InSRefIdeal.τ).loc Cert.InSRefIdeal.main_v22) = v3 c
          ∧ r.2.mem ((c.tc : Thread Cert.InSRefIdeal.nD Cert.InSRefIdeal.τ).loc Cert.InSRefIdeal.main_v23) = v4 c
          ∧ r.2.mem ((c.tc : Thread Cert.InSRefIdeal.nD Cert.InSRefIdeal.τ).loc Cert.InSRefIdeal.main_v24) = v5 c
          ∧ r.2.mem ((c.tc : Thread Cert.InSRefIdeal.nD Cert.InSRefIdeal.τ).loc Cert.InSRefIdeal.main_v25) = v6 c
          ∧ r.2.mem ((c.tc : Thread Cert.InSRefIdeal.nD Cert.InSRefIdeal.τ).loc Cert.InSRefIdeal.main_v26) = v7 c
          ∧ r.2.mem ((c.tc : Thread Cert.InSRefIdeal.nD Cert.InSRefIdeal.τ).loc Cert.InSRefIdeal.main_v27) = v8 c
          ∧ r.2.mem ((c.tc : Thread Cert.InSRefIdeal.nD Cert.InSRefIdeal.τ).loc Cert.InSRefIdeal.main_v28) = v9 c
          ∧ r.2.mem ((c.tc : Thread Cert.InSRefIdeal.nD Cert.InSRefIdeal.τ).loc Cert.InSRefIdeal.main_arg0) = m' ((c.tc : Thread Cert.InSRefIdeal.nD Cert.InSRefIdeal.τ).loc Cert.InSRefIdeal.main_arg0)
          ∧ r.2.mem ((c.tc : Thread Cert.InSRefIdeal.nD Cert.InSRefIdeal.τ).loc Cert.InSRefIdeal.main_arg1) = m' ((c.tc : Thread Cert.InSRefIdeal.nD Cert.InSRefIdeal.τ).loc Cert.InSRefIdeal.main_arg1))

def preserves_Mix_MixIdeal : Prop :=
  True

def algebraic_MixIdeal_MixRefIdeal_pre_finite_arguments [hMixIdeal : Cert.MixIdeal.Facts] [hMixRefIdeal : Cert.MixRefIdeal.Facts] [hPre_finite_arguments : Cert.Pre_finite_arguments.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_arguments m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)) →
    ∃ (v0 : (c : Dev Cert.MixIdeal.nD) → Buf (Elt Ideal) ((c.tc : Thread Cert.MixIdeal.nD Cert.MixIdeal.τ).loc Cert.MixIdeal.main_v26_0)) (v1 : (c : Dev Cert.MixIdeal.nD) → Buf (Elt Ideal) ((c.tc : Thread Cert.MixIdeal.nD Cert.MixIdeal.τ).loc Cert.MixIdeal.main_v26_1)) (v2 : (c : Dev Cert.MixIdeal.nD) → Buf (Elt Ideal) ((c.tc : Thread Cert.MixIdeal.nD Cert.MixIdeal.τ).loc Cert.MixIdeal.main_v26_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v26_0) = v0 c
          ∧ r.2.mem ((c.tc : Thread Cert.MixIdeal.nD Cert.MixIdeal.τ).loc Cert.MixIdeal.main_v26_1) = v1 c
          ∧ r.2.mem ((c.tc : Thread Cert.MixIdeal.nD Cert.MixIdeal.τ).loc Cert.MixIdeal.main_v26_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v116) = v0 c
          ∧ r.2.mem ((c.tc : Thread Cert.MixRefIdeal.nD Cert.MixRefIdeal.τ).loc Cert.MixRefIdeal.main_v118) = v1 c
          ∧ r.2.mem ((c.tc : Thread Cert.MixRefIdeal.nD Cert.MixRefIdeal.τ).loc Cert.MixRefIdeal.main_v115) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14))

def preserves_Rec_RecIdeal : Prop :=
  True

def algebraic_RecIdeal_RecRefIdeal_pre_finite_recurrence [hRecIdeal : Cert.RecIdeal.Facts] [hRecRefIdeal : Cert.RecRefIdeal.Facts] [hPre_finite_recurrence : Cert.Pre_finite_recurrence.Facts] : Prop :=
  ∀ (m : (ℓ : Loc Cert.RecIdeal.nD Cert.RecIdeal.τ Cert.RecIdeal.sig) → Buf (Elt Ideal) ℓ) (g : Dev Cert.RecIdeal.nD → PrngReg)
    (m' : (ℓ : Loc Cert.RecRefIdeal.nD Cert.RecRefIdeal.τ Cert.RecRefIdeal.sig) → Buf (Elt Ideal) ℓ) (g' : Dev Cert.RecRefIdeal.nD → PrngReg), Pre_RecIdeal_finite_recurrence m →
    (∀ c : Dev Cert.RecIdeal.nD,
      m' ((c.tc : Thread Cert.RecRefIdeal.nD Cert.RecRefIdeal.τ).loc Cert.RecRefIdeal.main_arg0) = m ((c.tc : Thread Cert.RecIdeal.nD Cert.RecIdeal.τ).loc Cert.RecIdeal.main_arg0)
      ∧ m' ((c.tc : Thread Cert.RecRefIdeal.nD Cert.RecRefIdeal.τ).loc Cert.RecRefIdeal.main_arg1) = m ((c.tc : Thread Cert.RecIdeal.nD Cert.RecIdeal.τ).loc Cert.RecIdeal.main_arg1)
      ∧ m' ((c.tc : Thread Cert.RecRefIdeal.nD Cert.RecRefIdeal.τ).loc Cert.RecRefIdeal.main_arg2) = m ((c.tc : Thread Cert.RecIdeal.nD Cert.RecIdeal.τ).loc Cert.RecIdeal.main_arg2)
      ∧ m' ((c.tc : Thread Cert.RecRefIdeal.nD Cert.RecRefIdeal.τ).loc Cert.RecRefIdeal.main_arg3) = m ((c.tc : Thread Cert.RecIdeal.nD Cert.RecIdeal.τ).loc Cert.RecIdeal.main_arg3)
      ∧ m' ((c.tc : Thread Cert.RecRefIdeal.nD Cert.RecRefIdeal.τ).loc Cert.RecRefIdeal.main_arg4) = m ((c.tc : Thread Cert.RecIdeal.nD Cert.RecIdeal.τ).loc Cert.RecIdeal.main_arg4)
      ∧ m' ((c.tc : Thread Cert.RecRefIdeal.nD Cert.RecRefIdeal.τ).loc Cert.RecRefIdeal.main_arg5) = m ((c.tc : Thread Cert.RecIdeal.nD Cert.RecIdeal.τ).loc Cert.RecIdeal.main_arg5)
      ∧ m' ((c.tc : Thread Cert.RecRefIdeal.nD Cert.RecRefIdeal.τ).loc Cert.RecRefIdeal.main_arg6) = m ((c.tc : Thread Cert.RecIdeal.nD Cert.RecIdeal.τ).loc Cert.RecIdeal.main_arg6)
      ∧ m' ((c.tc : Thread Cert.RecRefIdeal.nD Cert.RecRefIdeal.τ).loc Cert.RecRefIdeal.main_arg7) = m ((c.tc : Thread Cert.RecIdeal.nD Cert.RecIdeal.τ).loc Cert.RecIdeal.main_arg7)
      ∧ m' ((c.tc : Thread Cert.RecRefIdeal.nD Cert.RecRefIdeal.τ).loc Cert.RecRefIdeal.main_arg8) = m ((c.tc : Thread Cert.RecIdeal.nD Cert.RecIdeal.τ).loc Cert.RecIdeal.main_arg8)
      ∧ m' ((c.tc : Thread Cert.RecRefIdeal.nD Cert.RecRefIdeal.τ).loc Cert.RecRefIdeal.main_arg9) = m ((c.tc : Thread Cert.RecIdeal.nD Cert.RecIdeal.τ).loc Cert.RecIdeal.main_arg9)
      ∧ m' ((c.tc : Thread Cert.RecRefIdeal.nD Cert.RecRefIdeal.τ).loc Cert.RecRefIdeal.main_arg10) = m ((c.tc : Thread Cert.RecIdeal.nD Cert.RecIdeal.τ).loc Cert.RecIdeal.main_arg10)
      ∧ m' ((c.tc : Thread Cert.RecRefIdeal.nD Cert.RecRefIdeal.τ).loc Cert.RecRefIdeal.main_arg11) = m ((c.tc : Thread Cert.RecIdeal.nD Cert.RecIdeal.τ).loc Cert.RecIdeal.main_arg11)
      ∧ m' ((c.tc : Thread Cert.RecRefIdeal.nD Cert.RecRefIdeal.τ).loc Cert.RecRefIdeal.main_arg12) = m ((c.tc : Thread Cert.RecIdeal.nD Cert.RecIdeal.τ).loc Cert.RecIdeal.main_arg12)) →
    ∃ (v0 : (c : Dev Cert.RecIdeal.nD) → Buf (Elt Ideal) ((c.tc : Thread Cert.RecIdeal.nD Cert.RecIdeal.τ).loc Cert.RecIdeal.main_v110_1)) (v1 : (c : Dev Cert.RecIdeal.nD) → Buf (Elt Ideal) ((c.tc : Thread Cert.RecIdeal.nD Cert.RecIdeal.τ).loc Cert.RecIdeal.main_v110_2)),
      θ_run (Cert.RecIdeal.defs (F := Ideal)) (onTc (τ := Cert.RecIdeal.τ) (Cert.RecIdeal.main (F := Ideal))) ⟨m, fun _ => 0, g⟩ (fun r => ∀ c : Dev Cert.RecIdeal.nD,
          r.2.mem ((c.tc : Thread Cert.RecIdeal.nD Cert.RecIdeal.τ).loc Cert.RecIdeal.main_v110_1) = v0 c
          ∧ r.2.mem ((c.tc : Thread Cert.RecIdeal.nD Cert.RecIdeal.τ).loc Cert.RecIdeal.main_v110_2) = v1 c
          ∧ r.2.mem ((c.tc : Thread Cert.RecIdeal.nD Cert.RecIdeal.τ).loc Cert.RecIdeal.main_arg0) = m ((c.tc : Thread Cert.RecIdeal.nD Cert.RecIdeal.τ).loc Cert.RecIdeal.main_arg0)
          ∧ r.2.mem ((c.tc : Thread Cert.RecIdeal.nD Cert.RecIdeal.τ).loc Cert.RecIdeal.main_arg1) = m ((c.tc : Thread Cert.RecIdeal.nD Cert.RecIdeal.τ).loc Cert.RecIdeal.main_arg1)
          ∧ r.2.mem ((c.tc : Thread Cert.RecIdeal.nD Cert.RecIdeal.τ).loc Cert.RecIdeal.main_arg2) = m ((c.tc : Thread Cert.RecIdeal.nD Cert.RecIdeal.τ).loc Cert.RecIdeal.main_arg2)
          ∧ r.2.mem ((c.tc : Thread Cert.RecIdeal.nD Cert.RecIdeal.τ).loc Cert.RecIdeal.main_arg3) = m ((c.tc : Thread Cert.RecIdeal.nD Cert.RecIdeal.τ).loc Cert.RecIdeal.main_arg3)
          ∧ r.2.mem ((c.tc : Thread Cert.RecIdeal.nD Cert.RecIdeal.τ).loc Cert.RecIdeal.main_arg4) = m ((c.tc : Thread Cert.RecIdeal.nD Cert.RecIdeal.τ).loc Cert.RecIdeal.main_arg4)
          ∧ r.2.mem ((c.tc : Thread Cert.RecIdeal.nD Cert.RecIdeal.τ).loc Cert.RecIdeal.main_arg5) = m ((c.tc : Thread Cert.RecIdeal.nD Cert.RecIdeal.τ).loc Cert.RecIdeal.main_arg5)
          ∧ r.2.mem ((c.tc : Thread Cert.RecIdeal.nD Cert.RecIdeal.τ).loc Cert.RecIdeal.main_arg6) = m ((c.tc : Thread Cert.RecIdeal.nD Cert.RecIdeal.τ).loc Cert.RecIdeal.main_arg6)
          ∧ r.2.mem ((c.tc : Thread Cert.RecIdeal.nD Cert.RecIdeal.τ).loc Cert.RecIdeal.main_arg7) = m ((c.tc : Thread Cert.RecIdeal.nD Cert.RecIdeal.τ).loc Cert.RecIdeal.main_arg7)
          ∧ r.2.mem ((c.tc : Thread Cert.RecIdeal.nD Cert.RecIdeal.τ).loc Cert.RecIdeal.main_arg8) = m ((c.tc : Thread Cert.RecIdeal.nD Cert.RecIdeal.τ).loc Cert.RecIdeal.main_arg8)
          ∧ r.2.mem ((c.tc : Thread Cert.RecIdeal.nD Cert.RecIdeal.τ).loc Cert.RecIdeal.main_arg9) = m ((c.tc : Thread Cert.RecIdeal.nD Cert.RecIdeal.τ).loc Cert.RecIdeal.main_arg9)
          ∧ r.2.mem ((c.tc : Thread Cert.RecIdeal.nD Cert.RecIdeal.τ).loc Cert.RecIdeal.main_arg10) = m ((c.tc : Thread Cert.RecIdeal.nD Cert.RecIdeal.τ).loc Cert.RecIdeal.main_arg10)
          ∧ r.2.mem ((c.tc : Thread Cert.RecIdeal.nD Cert.RecIdeal.τ).loc Cert.RecIdeal.main_arg11) = m ((c.tc : Thread Cert.RecIdeal.nD Cert.RecIdeal.τ).loc Cert.RecIdeal.main_arg11)
          ∧ r.2.mem ((c.tc : Thread Cert.RecIdeal.nD Cert.RecIdeal.τ).loc Cert.RecIdeal.main_arg12) = m ((c.tc : Thread Cert.RecIdeal.nD Cert.RecIdeal.τ).loc Cert.RecIdeal.main_arg12))
      ∧ θ_run (Cert.RecRefIdeal.defs (F := Ideal)) (onTc (τ := Cert.RecRefIdeal.τ) (Cert.RecRefIdeal.main (F := Ideal))) ⟨m', fun _ => 0, g'⟩ (fun r => ∀ c : Dev Cert.RecRefIdeal.nD,
          r.2.mem ((c.tc : Thread Cert.RecRefIdeal.nD Cert.RecRefIdeal.τ).loc Cert.RecRefIdeal.main_v207) = v0 c
          ∧ r.2.mem ((c.tc : Thread Cert.RecRefIdeal.nD Cert.RecRefIdeal.τ).loc Cert.RecRefIdeal.main_v210) = v1 c
          ∧ r.2.mem ((c.tc : Thread Cert.RecRefIdeal.nD Cert.RecRefIdeal.τ).loc Cert.RecRefIdeal.main_arg0) = m' ((c.tc : Thread Cert.RecRefIdeal.nD Cert.RecRefIdeal.τ).loc Cert.RecRefIdeal.main_arg0)
          ∧ r.2.mem ((c.tc : Thread Cert.RecRefIdeal.nD Cert.RecRefIdeal.τ).loc Cert.RecRefIdeal.main_arg1) = m' ((c.tc : Thread Cert.RecRefIdeal.nD Cert.RecRefIdeal.τ).loc Cert.RecRefIdeal.main_arg1)
          ∧ r.2.mem ((c.tc : Thread Cert.RecRefIdeal.nD Cert.RecRefIdeal.τ).loc Cert.RecRefIdeal.main_arg2) = m' ((c.tc : Thread Cert.RecRefIdeal.nD Cert.RecRefIdeal.τ).loc Cert.RecRefIdeal.main_arg2)
          ∧ r.2.mem ((c.tc : Thread Cert.RecRefIdeal.nD Cert.RecRefIdeal.τ).loc Cert.RecRefIdeal.main_arg3) = m' ((c.tc : Thread Cert.RecRefIdeal.nD Cert.RecRefIdeal.τ).loc Cert.RecRefIdeal.main_arg3)
          ∧ r.2.mem ((c.tc : Thread Cert.RecRefIdeal.nD Cert.RecRefIdeal.τ).loc Cert.RecRefIdeal.main_arg4) = m' ((c.tc : Thread Cert.RecRefIdeal.nD Cert.RecRefIdeal.τ).loc Cert.RecRefIdeal.main_arg4)
          ∧ r.2.mem ((c.tc : Thread Cert.RecRefIdeal.nD Cert.RecRefIdeal.τ).loc Cert.RecRefIdeal.main_arg5) = m' ((c.tc : Thread Cert.RecRefIdeal.nD Cert.RecRefIdeal.τ).loc Cert.RecRefIdeal.main_arg5)
          ∧ r.2.mem ((c.tc : Thread Cert.RecRefIdeal.nD Cert.RecRefIdeal.τ).loc Cert.RecRefIdeal.main_arg6) = m' ((c.tc : Thread Cert.RecRefIdeal.nD Cert.RecRefIdeal.τ).loc Cert.RecRefIdeal.main_arg6)
          ∧ r.2.mem ((c.tc : Thread Cert.RecRefIdeal.nD Cert.RecRefIdeal.τ).loc Cert.RecRefIdeal.main_arg7) = m' ((c.tc : Thread Cert.RecRefIdeal.nD Cert.RecRefIdeal.τ).loc Cert.RecRefIdeal.main_arg7)
          ∧ r.2.mem ((c.tc : Thread Cert.RecRefIdeal.nD Cert.RecRefIdeal.τ).loc Cert.RecRefIdeal.main_arg8) = m' ((c.tc : Thread Cert.RecRefIdeal.nD Cert.RecRefIdeal.τ).loc Cert.RecRefIdeal.main_arg8)
          ∧ r.2.mem ((c.tc : Thread Cert.RecRefIdeal.nD Cert.RecRefIdeal.τ).loc Cert.RecRefIdeal.main_arg9) = m' ((c.tc : Thread Cert.RecRefIdeal.nD Cert.RecRefIdeal.τ).loc Cert.RecRefIdeal.main_arg9)
          ∧ r.2.mem ((c.tc : Thread Cert.RecRefIdeal.nD Cert.RecRefIdeal.τ).loc Cert.RecRefIdeal.main_arg10) = m' ((c.tc : Thread Cert.RecRefIdeal.nD Cert.RecRefIdeal.τ).loc Cert.RecRefIdeal.main_arg10)
          ∧ r.2.mem ((c.tc : Thread Cert.RecRefIdeal.nD Cert.RecRefIdeal.τ).loc Cert.RecRefIdeal.main_arg11) = m' ((c.tc : Thread Cert.RecRefIdeal.nD Cert.RecRefIdeal.τ).loc Cert.RecRefIdeal.main_arg11)
          ∧ r.2.mem ((c.tc : Thread Cert.RecRefIdeal.nD Cert.RecRefIdeal.τ).loc Cert.RecRefIdeal.main_arg12) = m' ((c.tc : Thread Cert.RecRefIdeal.nD Cert.RecRefIdeal.τ).loc Cert.RecRefIdeal.main_arg12))

def Claim : Prop :=
  ∃ (hMoe : Cert.Moe.Facts) (hMoeIdeal : Cert.MoeIdeal.Facts) (hMoeRefIdeal : Cert.MoeRefIdeal.Facts) (hInP : Cert.InP.Facts) (hInPIdeal : Cert.InPIdeal.Facts) (hInPRefIdeal : Cert.InPRefIdeal.Facts) (hInS : Cert.InS.Facts) (hInSIdeal : Cert.InSIdeal.Facts) (hInSRefIdeal : Cert.InSRefIdeal.Facts) (hMix : Cert.Mix.Facts) (hMixIdeal : Cert.MixIdeal.Facts) (hMixRefIdeal : Cert.MixRefIdeal.Facts) (hRec : Cert.Rec.Facts) (hRecIdeal : Cert.RecIdeal.Facts) (hRecRefIdeal : Cert.RecRefIdeal.Facts) (hPre_finite_arguments : Cert.Pre_finite_arguments.Facts) (hPre_finite_recurrence : Cert.Pre_finite_recurrence.Facts),
    quiescent_Moe (hMoe := hMoe)
    ∧ quiescent_MoeIdeal (hMoeIdeal := hMoeIdeal)
    ∧ quiescent_MoeRefIdeal (hMoeRefIdeal := hMoeRefIdeal)
    ∧ quiescent_InP (hInP := hInP)
    ∧ quiescent_InPIdeal (hInPIdeal := hInPIdeal)
    ∧ quiescent_InPRefIdeal (hInPRefIdeal := hInPRefIdeal)
    ∧ quiescent_InS (hInS := hInS)
    ∧ quiescent_InSIdeal (hInSIdeal := hInSIdeal)
    ∧ quiescent_InSRefIdeal (hInSRefIdeal := hInSRefIdeal)
    ∧ quiescent_Mix (hMix := hMix)
    ∧ quiescent_MixIdeal (hMixIdeal := hMixIdeal)
    ∧ quiescent_MixIdeal_pre_finite_arguments (hMixIdeal := hMixIdeal) (hPre_finite_arguments := hPre_finite_arguments)
    ∧ quiescent_MixRefIdeal (hMixRefIdeal := hMixRefIdeal)
    ∧ quiescent_MixRefIdeal_pre_finite_arguments (hMixRefIdeal := hMixRefIdeal) (hPre_finite_arguments := hPre_finite_arguments)
    ∧ quiescent_Rec (hRec := hRec)
    ∧ quiescent_RecIdeal (hRecIdeal := hRecIdeal)
    ∧ quiescent_RecIdeal_pre_finite_recurrence (hRecIdeal := hRecIdeal) (hPre_finite_recurrence := hPre_finite_recurrence)
    ∧ quiescent_RecRefIdeal (hRecRefIdeal := hRecRefIdeal)
    ∧ quiescent_RecRefIdeal_pre_finite_recurrence (hRecRefIdeal := hRecRefIdeal) (hPre_finite_recurrence := hPre_finite_recurrence)
    ∧ preserves_Moe_MoeIdeal
    ∧ algebraic_MoeIdeal_MoeRefIdeal (hMoeIdeal := hMoeIdeal) (hMoeRefIdeal := hMoeRefIdeal)
    ∧ preserves_InP_InPIdeal
    ∧ algebraic_InPIdeal_InPRefIdeal (hInPIdeal := hInPIdeal) (hInPRefIdeal := hInPRefIdeal)
    ∧ preserves_InS_InSIdeal
    ∧ algebraic_InSIdeal_InSRefIdeal (hInSIdeal := hInSIdeal) (hInSRefIdeal := hInSRefIdeal)
    ∧ preserves_Mix_MixIdeal
    ∧ algebraic_MixIdeal_MixRefIdeal_pre_finite_arguments (hMixIdeal := hMixIdeal) (hMixRefIdeal := hMixRefIdeal) (hPre_finite_arguments := hPre_finite_arguments)
    ∧ preserves_Rec_RecIdeal
    ∧ algebraic_RecIdeal_RecRefIdeal_pre_finite_recurrence (hRecIdeal := hRecIdeal) (hRecRefIdeal := hRecRefIdeal) (hPre_finite_recurrence := hPre_finite_recurrence)
-- ==== Pre_finite_arguments.lean ====
abbrev S1x16384x1024 : Shape := ⟨3, ![1, 16384, 1024]⟩
abbrev S16x1024 : Shape := ⟨2, ![16, 1024]⟩
abbrev S17408x512 : Shape := ⟨2, ![17408, 512]⟩
abbrev S17408x1024 : Shape := ⟨2, ![17408, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x16 : Shape := ⟨3, ![1, 1024, 16]⟩
abbrev S1x16 : Shape := ⟨2, ![1, 16]⟩
abbrev S_ : Shape := ⟨0, ![]⟩

class Facts : Prop where
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S17408x512 : S_.BroadcastsInDim S17408x512 (![] : Fin 0 → Fin S17408x512.rank)
  reducesTo_S17408x512_S_d0_1 : S17408x512.ReducesTo [0, 1] S_
  bcast_S_S17408x1024 : S_.BroadcastsInDim S17408x1024 (![] : Fin 0 → Fin S17408x1024.rank)
  reducesTo_S17408x1024_S_d0_1 : S17408x1024.ReducesTo [0, 1] S_
  bcast_S_S1x512x1024 : S_.BroadcastsInDim S1x512x1024 (![] : Fin 0 → Fin S1x512x1024.rank)
  reducesTo_S1x512x1024_S_d0_1_2 : S1x512x1024.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x4 : S_.BroadcastsInDim S1x1024x4 (![] : Fin 0 → Fin S1x1024x4.rank)
  reducesTo_S1x1024x4_S_d0_1_2 : S1x1024x4.ReducesTo [0, 1, 2] S_
  bcast_S_S1x4 : S_.BroadcastsInDim S1x4 (![] : Fin 0 → Fin S1x4.rank)
  reducesTo_S1x4_S_d0_1 : S1x4.ReducesTo [0, 1] S_
  bcast_S_S1x1024x16 : S_.BroadcastsInDim S1x1024x16 (![] : Fin 0 → Fin S1x1024x16.rank)
  reducesTo_S1x1024x16_S_d0_1_2 : S1x1024x16.ReducesTo [0, 1, 2] S_
  bcast_S_S1x16 : S_.BroadcastsInDim S1x16 (![] : Fin 0 → Fin S1x16.rank)
  reducesTo_S1x16_S_d0_1 : S1x16.ReducesTo [0, 1] S_

variable [Facts]

def fn_part4 {F : FTy → Type} [FloatOps F] (main_arg14 : FVec F S1x16 .f32) (main_v63 : IVec S_ 1) (main_v67 : IVec S_ 1) : IVec S_ 1 :=
  let main_v68 : IVec S_ 1 := andi main_v63 main_v67
  let main_v69 : FVec F S1x16 .f32 := Host.absf main_arg14
  let main_cst_26 : FVec F S_ .f32 := constant S_ .f32 0x7F800000#32
  let main_v70 : FVec F S1x16 .f32 := broadcastInDim S1x16 ![] bcast_S_S1x16 main_cst_26
  let main_v71 : IVec S1x16 1 := cmpf .olt main_v69 main_v70
  let main_c_27 : IVec S_ 1 := constantI S_ 1 1#1
  let main_v72 : IVec S_ 1 := (fun x v => Host.reduce IntOp.andi x v reducesTo_S1x16_S_d0_1 h_S_) main_v71 main_c_27
  let main_v73 : IVec S_ 1 := andi main_v68 main_v72
  main_v73

def fn_part3 {F : FTy → Type} [FloatOps F] (main_arg11 : FVec F S1x1024x4 .f32) (main_arg12 : FVec F S1x4 .f32) (main_arg13 : FVec F S1x1024x16 .f32) (main_arg14 : FVec F S1x16 .f32) (main_v48 : IVec S_ 1) (main_v49 : FVec F S1x1024 .f32) (main_v50 : FVec F S1x1024 .f32) : IVec S_ 1 :=
  let main_v51 : IVec S1x1024 1 := cmpf .olt main_v49 main_v50
  let main_c_19 : IVec S_ 1 := constantI S_ 1 1#1
  let main_v52 : IVec S_ 1 := (fun x v => Host.reduce IntOp.andi x v reducesTo_S1x1024_S_d0_1 h_S_) main_v51 main_c_19
  let main_v53 : IVec S_ 1 := andi main_v48 main_v52
  let main_v54 : FVec F S1x1024x4 .f32 := Host.absf main_arg11
  let main_cst_20 : FVec F S_ .f32 := constant S_ .f32 0x7F800000#32
  let main_v55 : FVec F S1x1024x4 .f32 := broadcastInDim S1x1024x4 ![] bcast_S_S1x1024x4 main_cst_20
  let main_v56 : IVec S1x1024x4 1 := cmpf .olt main_v54 main_v55
  let main_c_21 : IVec S_ 1 := constantI S_ 1 1#1
  let main_v57 : IVec S_ 1 := (fun x v => Host.reduce IntOp.andi x v reducesTo_S1x1024x4_S_d0_1_2 h_S_) main_v56 main_c_21
  let main_v58 : IVec S_ 1 := andi main_v53 main_v57
  let main_v59 : FVec F S1x4 .f32 := Host.absf main_arg12
  let main_cst_22 : FVec F S_ .f32 := constant S_ .f32 0x7F800000#32
  let main_v60 : FVec F S1x4 .f32 := broadcastInDim S1x4 ![] bcast_S_S1x4 main_cst_22
  let main_v61 : IVec S1x4 1 := cmpf .olt main_v59 main_v60
  let main_c_23 : IVec S_ 1 := constantI S_ 1 1#1
  let main_v62 : IVec S_ 1 := (fun x v => Host.reduce IntOp.andi x v reducesTo_S1x4_S_d0_1 h_S_) main_v61 main_c_23
  let main_v63 : IVec S_ 1 := andi main_v58 main_v62
  let main_v64 : FVec F S1x1024x16 .f32 := Host.absf main_arg13
  let main_cst_24 : FVec F S_ .f32 := constant S_ .f32 0x7F800000#32
  let main_v65 : FVec F S1x1024x16 .f32 := broadcastInDim S1x1024x16 ![] bcast_S_S1x1024x16 main_cst_24
  let main_v66 : IVec S1x1024x16 1 := cmpf .olt main_v64 main_v65
  let main_c_25 : IVec S_ 1 := constantI S_ 1 1#1
  let main_v67 : IVec S_ 1 := (fun x v => Host.reduce IntOp.andi x v reducesTo_S1x1024x16_S_d0_1_2 h_S_) main_v66 main_c_25
  fn_part4 (F := F) main_arg14 main_v63 main_v67

def fn_part2 {F : FTy → Type} [FloatOps F] (main_arg7 : FVec F S1x512x1024 .f32) (main_arg8 : FVec F S1x1024x1024 .f32) (main_arg9 : FVec F S1x1024 .f32) (main_arg10 : FVec F S1x1024 .f32) (main_arg11 : FVec F S1x1024x4 .f32) (main_arg12 : FVec F S1x4 .f32) (main_arg13 : FVec F S1x1024x16 .f32) (main_arg14 : FVec F S1x16 .f32) (main_v33 : IVec S_ 1) : IVec S_ 1 :=
  let main_v34 : FVec F S1x512x1024 .f32 := Host.absf main_arg7
  let main_cst_12 : FVec F S_ .f32 := constant S_ .f32 0x7F800000#32
  let main_v35 : FVec F S1x512x1024 .f32 := broadcastInDim S1x512x1024 ![] bcast_S_S1x512x1024 main_cst_12
  let main_v36 : IVec S1x512x1024 1 := cmpf .olt main_v34 main_v35
  let main_c_13 : IVec S_ 1 := constantI S_ 1 1#1
  let main_v37 : IVec S_ 1 := (fun x v => Host.reduce IntOp.andi x v reducesTo_S1x512x1024_S_d0_1_2 h_S_) main_v36 main_c_13
  let main_v38 : IVec S_ 1 := andi main_v33 main_v37
  let main_v39 : FVec F S1x1024x1024 .f32 := Host.absf main_arg8
  let main_cst_14 : FVec F S_ .f32 := constant S_ .f32 0x7F800000#32
  let main_v40 : FVec F S1x1024x1024 .f32 := broadcastInDim S1x1024x1024 ![] bcast_S_S1x1024x1024 main_cst_14
  let main_v41 : IVec S1x1024x1024 1 := cmpf .olt main_v39 main_v40
  let main_c_15 : IVec S_ 1 := constantI S_ 1 1#1
  let main_v42 : IVec S_ 1 := (fun x v => Host.reduce IntOp.andi x v reducesTo_S1x1024x1024_S_d0_1_2 h_S_) main_v41 main_c_15
  let main_v43 : IVec S_ 1 := andi main_v38 main_v42
  let main_v44 : FVec F S1x1024 .f32 := Host.absf main_arg9
  let main_cst_16 : FVec F S_ .f32 := constant S_ .f32 0x7F800000#32
  let main_v45 : FVec F S1x1024 .f32 := broadcastInDim S1x1024 ![] bcast_S_S1x1024 main_cst_16
  let main_v46 : IVec S1x1024 1 := cmpf .olt main_v44 main_v45
  let main_c_17 : IVec S_ 1 := constantI S_ 1 1#1
  let main_v47 : IVec S_ 1 := (fun x v => Host.reduce IntOp.andi x v reducesTo_S1x1024_S_d0_1 h_S_) main_v46 main_c_17
  let main_v48 : IVec S_ 1 := andi main_v43 main_v47
  let main_v49 : FVec F S1x1024 .f32 := Host.absf main_arg10
  let main_cst_18 : FVec F S_ .f32 := constant S_ .f32 0x7F800000#32
  let main_v50 : FVec F S1x1024 .f32 := broadcastInDim S1x1024 ![] bcast_S_S1x1024 main_cst_18
  fn_part3 (F := F) main_arg11 main_arg12 main_arg13 main_arg14 main_v48 main_v49 main_v50

def fn_part1 {F : FTy → Type} [FloatOps F] (main_arg4 : FVec F S17408x1024 .f32) (main_arg5 : FVec F S17408x1024 .f32) (main_arg6 : FVec F S1x512x1024 .f32) (main_arg7 : FVec F S1x512x1024 .f32) (main_arg8 : FVec F S1x1024x1024 .f32) (main_arg9 : FVec F S1x1024 .f32) (main_arg10 : FVec F S1x1024 .f32) (main_arg11 : FVec F S1x1024x4 .f32) (main_arg12 : FVec F S1x4 .f32) (main_arg13 : FVec F S1x1024x16 .f32) (main_arg14 : FVec F S1x16 .f32) (main_v13 : IVec S_ 1) (main_v16 : IVec S17408x512 1) : IVec S_ 1 :=
  let main_c_5 : IVec S_ 1 := constantI S_ 1 1#1
  let main_v17 : IVec S_ 1 := (fun x v => Host.reduce IntOp.andi x v reducesTo_S17408x512_S_d0_1 h_S_) main_v16 main_c_5
  let main_v18 : IVec S_ 1 := andi main_v13 main_v17
  let main_v19 : FVec F S17408x1024 .f32 := Host.absf main_arg4
  let main_cst_6 : FVec F S_ .f32 := constant S_ .f32 0x7F800000#32
  let main_v20 : FVec F S17408x1024 .f32 := broadcastInDim S17408x1024 ![] bcast_S_S17408x1024 main_cst_6
  let main_v21 : IVec S17408x1024 1 := cmpf .olt main_v19 main_v20
  let main_c_7 : IVec S_ 1 := constantI S_ 1 1#1
  let main_v22 : IVec S_ 1 := (fun x v => Host.reduce IntOp.andi x v reducesTo_S17408x1024_S_d0_1 h_S_) main_v21 main_c_7
  let main_v23 : IVec S_ 1 := andi main_v18 main_v22
  let main_v24 : FVec F S17408x1024 .f32 := Host.absf main_arg5
  let main_cst_8 : FVec F S_ .f32 := constant S_ .f32 0x7F800000#32
  let main_v25 : FVec F S17408x1024 .f32 := broadcastInDim S17408x1024 ![] bcast_S_S17408x1024 main_cst_8
  let main_v26 : IVec S17408x1024 1 := cmpf .olt main_v24 main_v25
  let main_c_9 : IVec S_ 1 := constantI S_ 1 1#1
  let main_v27 : IVec S_ 1 := (fun x v => Host.reduce IntOp.andi x v reducesTo_S17408x1024_S_d0_1 h_S_) main_v26 main_c_9
  let main_v28 : IVec S_ 1 := andi main_v23 main_v27
  let main_v29 : FVec F S1x512x1024 .f32 := Host.absf main_arg6
  let main_cst_10 : FVec F S_ .f32 := constant S_ .f32 0x7F800000#32
  let main_v30 : FVec F S1x512x1024 .f32 := broadcastInDim S1x512x1024 ![] bcast_S_S1x512x1024 main_cst_10
  let main_v31 : IVec S1x512x1024 1 := cmpf .olt main_v29 main_v30
  let main_c_11 : IVec S_ 1 := constantI S_ 1 1#1
  let main_v32 : IVec S_ 1 := (fun x v => Host.reduce IntOp.andi x v reducesTo_S1x512x1024_S_d0_1_2 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S1x16384x1024 .f32) (main_arg1 : FVec F S16x1024 .f32) (main_arg2 : FVec F S17408x512 .bf16) (main_arg3 : FVec F S17408x512 .bf16) (main_arg4 : FVec F S17408x1024 .f32) (main_arg5 : FVec F S17408x1024 .f32) (main_arg6 : FVec F S1x512x1024 .f32) (main_arg7 : FVec F S1x512x1024 .f32) (main_arg8 : FVec F S1x1024x1024 .f32) (main_arg9 : FVec F S1x1024 .f32) (main_arg10 : FVec F S1x1024 .f32) (main_arg11 : FVec F S1x1024x4 .f32) (main_arg12 : FVec F S1x4 .f32) (main_arg13 : FVec F S1x1024x16 .f32) (main_arg14 : FVec F S1x16 .f32) : IVec S_ 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_c : IVec S_ 1 := constantI S_ 1 1#1
  let main_v3 : IVec S_ 1 := (fun x v => Host.reduce IntOp.andi x v reducesTo_S1x16384x1024_S_d0_1_2 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  let main_v9 : FVec F S17408x512 .bf16 := Host.absf main_arg2
  let main_cst_2 : FVec F S_ .bf16 := constant S_ .bf16 0x7F80#16
  let main_v10 : FVec F S17408x512 .bf16 := broadcastInDim S17408x512 ![] bcast_S_S17408x512 main_cst_2
  let main_v11 : IVec S17408x512 1 := cmpf .olt main_v9 main_v10
  let main_c_3 : IVec S_ 1 := constantI S_ 1 1#1
  let main_v12 : IVec S_ 1 := (fun x v => Host.reduce IntOp.andi x v reducesTo_S17408x512_S_d0_1 h_S_) main_v11 main_c_3
  let main_v13 : IVec S_ 1 := andi main_v8 main_v12
  let main_v14 : FVec F S17408x512 .bf16 := Host.absf main_arg3
  let main_cst_4 : FVec F S_ .bf16 := constant S_ .bf16 0x7F80#16
  let main_v15 : FVec F S17408x512 .bf16 := broadcastInDim S17408x512 ![] bcast_S_S17408x512 main_cst_4
  let main_v16 : IVec S17408x512 1 := cmpf .olt main_v14 main_v15
  fn_part1 (F := F) main_arg4 main_arg5 main_arg6 main_arg7 main_arg8 main_arg9 main_arg10 main_arg11 main_arg12 main_arg13 main_arg14 main_v13 main_v16
-- ==== Pre_finite_recurrence.lean ====
abbrev S128x4x1024 : Shape := ⟨3, ![128, 4, 1024]⟩
abbrev S1x1024x4420 : Shape := ⟨3, ![1, 1024, 4420]⟩
abbrev S1x128x32x64 : Shape := ⟨4, ![1, 128, 32, 64]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x512 : Shape := ⟨2, ![1, 512]⟩
abbrev S1x512x512 : Shape := ⟨3, ![1, 512, 512]⟩
abbrev S_ : Shape := ⟨0, ![]⟩

class Facts : Prop where
  bcast_S_S128x4x1024 : S_.BroadcastsInDim S128x4x1024 (![] : Fin 0 → Fin S128x4x1024.rank)
  reducesTo_S128x4x1024_S_d0_1_2 : S128x4x1024.ReducesTo [0, 1, 2] S_
  h_S_ : 0 < S_.numel
  bcast_S_S1x1024x4420 : S_.BroadcastsInDim S1x1024x4420 (![] : Fin 0 → Fin S1x1024x4420.rank)
  reducesTo_S1x1024x4420_S_d0_1_2 : S1x1024x4420.ReducesTo [0, 1, 2] S_
  bcast_S_S1x128x32x64 : S_.BroadcastsInDim S1x128x32x64 (![] : Fin 0 → Fin S1x128x32x64.rank)
  reducesTo_S1x128x32x64_S_d0_1_2_3 : S1x128x32x64.ReducesTo [0, 1, 2, 3] S_
  bcast_S_S1x32x64 : S_.BroadcastsInDim S1x32x64 (![] : Fin 0 → Fin S1x32x64.rank)
  reducesTo_S1x32x64_S_d0_1_2 : S1x32x64.ReducesTo [0, 1, 2] S_
  bcast_S_S1x32 : S_.BroadcastsInDim S1x32 (![] : Fin 0 → Fin S1x32.rank)
  reducesTo_S1x32_S_d0_1 : S1x32.ReducesTo [0, 1] S_
  bcast_S_S1x32x64x16 : S_.BroadcastsInDim S1x32x64x16 (![] : Fin 0 → Fin S1x32x64x16.rank)
  reducesTo_S1x32x64x16_S_d0_1_2_3 : S1x32x64x16.ReducesTo [0, 1, 2, 3] S_

variable [Facts]

def fn_part2 {F : FTy → Type} [FloatOps F] (main_arg4 : FVec F S1x32x64 .f32) (main_arg5 : FVec F S1x32x64 .f32) (main_arg7 : FVec F S1x32x64x16 .f32) (main_arg8 : FVec F S1x32x64x16 .f32) (main_v33 : IVec S_ 1) : IVec S_ 1 :=
  let main_v34 : FVec F S1x32x64x16 .f32 := Host.absf main_arg7
  let main_cst_12 : FVec F S_ .f32 := constant S_ .f32 0x7F800000#32
  let main_v35 : FVec F S1x32x64x16 .f32 := broadcastInDim S1x32x64x16 ![] bcast_S_S1x32x64x16 main_cst_12
  let main_v36 : IVec S1x32x64x16 1 := cmpf .olt main_v34 main_v35
  let main_c_13 : IVec S_ 1 := constantI S_ 1 1#1
  let main_v37 : IVec S_ 1 := (fun x v => Host.reduce IntOp.andi x v reducesTo_S1x32x64x16_S_d0_1_2_3 h_S_) main_v36 main_c_13
  let main_v38 : IVec S_ 1 := andi main_v33 main_v37
  let main_v39 : FVec F S1x32x64x16 .f32 := Host.absf main_arg8
  let main_cst_14 : FVec F S_ .f32 := constant S_ .f32 0x7F800000#32
  let main_v40 : FVec F S1x32x64x16 .f32 := broadcastInDim S1x32x64x16 ![] bcast_S_S1x32x64x16 main_cst_14
  let main_v41 : IVec S1x32x64x16 1 := cmpf .olt main_v39 main_v40
  let main_c_15 : IVec S_ 1 := constantI S_ 1 1#1
  let main_v42 : IVec S_ 1 := (fun x v => Host.reduce IntOp.andi x v reducesTo_S1x32x64x16_S_d0_1_2_3 h_S_) main_v41 main_c_15
  let main_v43 : IVec S_ 1 := andi main_v38 main_v42
  let main_v44 : FVec F S1x32x64 .f32 := mulf main_arg4 main_arg4
  let main_v45 : FVec F S1x32x64 .f32 := mulf main_arg5 main_arg5
  let main_v46 : FVec F S1x32x64 .f32 := addf main_v44 main_v45
  let main_cst_16 : FVec F S_ .f32 := constant S_ .f32 0x00000000#32
  let main_v47 : FVec F S1x32x64 .f32 := broadcastInDim S1x32x64 ![] bcast_S_S1x32x64 main_cst_16
  let main_v48 : IVec S1x32x64 1 := cmpf .ogt main_v46 main_v47
  let main_c_17 : IVec S_ 1 := constantI S_ 1 1#1
  let main_v49 : IVec S_ 1 := (fun x v => Host.reduce IntOp.andi x v reducesTo_S1x32x64_S_d0_1_2 h_S_) main_v48 main_c_17
  let main_v50 : IVec S_ 1 := andi main_v43 main_v49
  main_v50

def fn_part1 {F : FTy → Type} [FloatOps F] (main_arg4 : FVec F S1x32x64 .f32) (main_arg5 : FVec F S1x32x64 .f32) (main_arg6 : FVec F S1x32 .f32) (main_arg7 : FVec F S1x32x64x16 .f32) (main_arg8 : FVec F S1x32x64x16 .f32) (main_v13 : IVec S_ 1) (main_v16 : IVec S1x128x32x64 1) : IVec S_ 1 :=
  let main_c_5 : IVec S_ 1 := constantI S_ 1 1#1
  let main_v17 : IVec S_ 1 := (fun x v => Host.reduce IntOp.andi x v reducesTo_S1x128x32x64_S_d0_1_2_3 h_S_) main_v16 main_c_5
  let main_v18 : IVec S_ 1 := andi main_v13 main_v17
  let main_v19 : FVec F S1x32x64 .f32 := Host.absf main_arg4
  let main_cst_6 : FVec F S_ .f32 := constant S_ .f32 0x7F800000#32
  let main_v20 : FVec F S1x32x64 .f32 := broadcastInDim S1x32x64 ![] bcast_S_S1x32x64 main_cst_6
  let main_v21 : IVec S1x32x64 1 := cmpf .olt main_v19 main_v20
  let main_c_7 : IVec S_ 1 := constantI S_ 1 1#1
  let main_v22 : IVec S_ 1 := (fun x v => Host.reduce IntOp.andi x v reducesTo_S1x32x64_S_d0_1_2 h_S_) main_v21 main_c_7
  let main_v23 : IVec S_ 1 := andi main_v18 main_v22
  let main_v24 : FVec F S1x32x64 .f32 := Host.absf main_arg5
  let main_cst_8 : FVec F S_ .f32 := constant S_ .f32 0x7F800000#32
  let main_v25 : FVec F S1x32x64 .f32 := broadcastInDim S1x32x64 ![] bcast_S_S1x32x64 main_cst_8
  let main_v26 : IVec S1x32x64 1 := cmpf .olt main_v24 main_v25
  let main_c_9 : IVec S_ 1 := constantI S_ 1 1#1
  let main_v27 : IVec S_ 1 := (fun x v => Host.reduce IntOp.andi x v reducesTo_S1x32x64_S_d0_1_2 h_S_) main_v26 main_c_9
  let main_v28 : IVec S_ 1 := andi main_v23 main_v27
  let main_v29 : FVec F S1x32 .f32 := Host.absf main_arg6
  let main_cst_10 : FVec F S_ .f32 := constant S_ .f32 0x7F800000#32
  let main_v30 : FVec F S1x32 .f32 := broadcastInDim S1x32 ![] bcast_S_S1x32 main_cst_10
  let main_v31 : IVec S1x32 1 := cmpf .olt main_v29 main_v30
  let main_c_11 : IVec S_ 1 := constantI S_ 1 1#1
  let main_v32 : IVec S_ 1 := (fun x v => Host.reduce IntOp.andi x v reducesTo_S1x32_S_d0_1 h_S_) main_v31 main_c_11
  let main_v33 : IVec S_ 1 := andi main_v28 main_v32
  fn_part2 (F := F) main_arg4 main_arg5 main_arg7 main_arg8 main_v33

def fn {F : FTy → Type} [FloatOps F] (main_arg0 : FVec F S128x4x1024 .f32) (main_arg1 : FVec F S1x1024x4420 .f32) (main_arg2 : FVec F S1x128x32x64 .f32) (main_arg3 : FVec F S1x128x32x64 .f32) (main_arg4 : FVec F S1x32x64 .f32) (main_arg5 : FVec F S1x32x64 .f32) (main_arg6 : FVec F S1x32 .f32) (main_arg7 : FVec F S1x32x64x16 .f32) (main_arg8 : FVec F S1x32x64x16 .f32) (main_arg9 : FVec F S1x32x16x64 .f32) (main_arg10 : FVec F S1x32x16x64 .f32) (main_arg11 : FVec F S1x512 .f32) (main_arg12 : FVec F S1x512x512 .f32) : IVec S_ 1 :=
  let main_v0 : FVec F S128x4x1024 .f32 := Host.absf main_arg0
  let main_cst : FVec F S_ .f32 := constant S_ .f32 0x7F800000#32
  let main_v1 : FVec F S128x4x1024 .f32 := broadcastInDim S128x4x1024 ![] bcast_S_S128x4x1024 main_cst
  let main_v2 : IVec S128x4x1024 1 := cmpf .olt main_v0 main_v1
  let main_c : IVec S_ 1 := constantI S_ 1 1#1
  let main_v3 : IVec S_ 1 := (fun x v => Host.reduce IntOp.andi x v reducesTo_S128x4x1024_S_d0_1_2 h_S_) main_v2 main_c
  let main_v4 : FVec F S1x1024x4420 .f32 := Host.absf main_arg1
  let main_cst_0 : FVec F S_ .f32 := constant S_ .f32 0x7F800000#32
  let main_v5 : FVec F S1x1024x4420 .f32 := broadcastInDim S1x1024x4420 ![] bcast_S_S1x1024x4420 main_cst_0
  let main_v6 : IVec S1x1024x4420 1 := cmpf .olt main_v4 main_v5
  let main_c_1 : IVec S_ 1 := constantI S_ 1 1#1
  let main_v7 : IVec S_ 1 := (fun x v => Host.reduce IntOp.andi x v reducesTo_S1x1024x4420_S_d0_1_2 h_S_) main_v6 main_c_1
  let main_v8 : IVec S_ 1 := andi main_v3 main_v7
  let main_v9 : FVec F S1x128x32x64 .f32 := Host.absf main_arg2
  let main_cst_2 : FVec F S_ .f32 := constant S_ .f32 0x7F800000#32
  let main_v10 : FVec F S1x128x32x64 .f32 := broadcastInDim S1x128x32x64 ![] bcast_S_S1x128x32x64 main_cst_2
  let main_v11 : IVec S1x128x32x64 1 := cmpf .olt main_v9 main_v10
  let main_c_3 : IVec S_ 1 := constantI S_ 1 1#1
  let main_v12 : IVec S_ 1 := (fun x v => Host.reduce IntOp.andi x v reducesTo_S1x128x32x64_S_d0_1_2_3 h_S_) main_v11 main_c_3
  let main_v13 : IVec S_ 1 := andi main_v8 main_v12
  let main_v14 : FVec F S1x128x32x64 .f32 := Host.absf main_arg3
  let main_cst_4 : FVec F S_ .f32 := constant S_ .f32 0x7F800000#32
  let main_v15 : FVec F S1x128x32x64 .f32 := broadcastInDim S1x128x32x64 ![] bcast_S_S1x128x32x64 main_cst_4
  let main_v16 : IVec S1x128x32x64 1 := cmpf .olt main_v14 main_v15
  fn_part1 (F := F) main_arg4 main_arg5 main_arg6 main_arg7 main_arg8 main_v13 main_v16
-- ==== Moe.lean ====
abbrev S17408x1024 : Shape := ⟨2, ![17408, 1024]⟩
abbrev S17408x128 : Shape := ⟨2, ![17408, 128]⟩
abbrev S1x16x1024x256 : Shape := ⟨4, ![1, 16, 1024, 256]⟩
abbrev S1x16x256x1024 : Shape := ⟨4, ![1, 16, 256, 1024]⟩
abbrev S1x1024 : Shape := ⟨2, ![1, 1024]⟩
abbrev S1024 : Shape := ⟨1, ![1024]⟩
abbrev S16x1024x256 : Shape := ⟨3, ![16, 1024, 256]⟩
abbrev S16x1024x512 : Shape := ⟨3, ![16, 1024, 512]⟩
abbrev S16x256x1024 : Shape := ⟨3, ![16, 256, 1024]⟩
abbrev S16384x1024 : Shape := ⟨2, ![16384, 1024]⟩
abbrev S1024x1024 : Shape := ⟨2, ![1024, 1024]⟩
abbrev S1024x128 : Shape := ⟨2, ![1024, 128]⟩
abbrev S1x1024x512 : Shape := ⟨3, ![1, 1024, 512]⟩
abbrev S1x256x1024 : Shape := ⟨3, ![1, 256, 1024]⟩
abbrev S1024x512 : Shape := ⟨2, ![1024, 512]⟩
abbrev S1024x256 : Shape := ⟨2, ![1024, 256]⟩
abbrev S1024x1 : Shape := ⟨2, ![1024, 1]⟩
abbrev S256x1024 : Shape := ⟨2, ![256, 1024]⟩

abbrev nBuf : Space → Nat
  | .hbm => 19
  | .vmem => 15
  | .smem => 0
  | _ => 0

abbrev bufTy : (tb : Table) → Fin (tcTables nBuf tb) → BufTy
  | .hbm, ⟨0, _⟩ => ⟨S17408x1024, .f32⟩
  | .hbm, ⟨1, _⟩ => ⟨S17408x128, .f32⟩
  | .hbm, ⟨2, _⟩ => ⟨S1x16x1024x256, .f32⟩
  | .hbm, ⟨3, _⟩ => ⟨S1x16x1024x256, .f32⟩
  | .hbm, ⟨4, _⟩ => ⟨S1x16x256x1024, .f32⟩
  | .hbm, ⟨5, _⟩ => ⟨S1x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S16x1024x256, .f32⟩
  | .hbm, ⟨12, _⟩ => ⟨S16x1024x256, .f32⟩
  | .hbm, ⟨13, _⟩ => ⟨S16x1024x512, .f32⟩
  | .hbm, ⟨14, _⟩ => ⟨S16x1024x512, .bf16⟩
  | .hbm, ⟨15, _⟩ => ⟨S16x256x1024, .f32⟩
  | .hbm, ⟨16, _⟩ => ⟨S16x256x1024, .bf16⟩
  | .hbm, ⟨17, _⟩ => ⟨S17408x1024, .bf16⟩
  | .hbm, ⟨18, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S1x1024x512, .bf16⟩
  | .local _ .vmem, ⟨7, _⟩ => ⟨S1x1024x512, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![17, 16], ![false, false]⟩

def k0_cond2 (i : grid0.Coords) : BitVec 1 :=
  let arg1 : BitVec 32 := BitVec.ofNat 32 (i 1).val
  let c15_i32 : BitVec 32 := 15#32
  let v39 : BitVec 1 := Scalar.cmpi .eq arg1 c15_i32
  let v40 : BitVec 32 := Scalar.extui v39
  let c0_i32_20 : BitVec 32 := 0#32
  let v41 : BitVec 1 := Scalar.cmpi .ne v40 c0_i32_20
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MoeRefIdeal.lean ====
abbrev S17408x1024 : Shape := ⟨2, ![17408, 1024]⟩
abbrev S17408x128 : Shape := ⟨2, ![17408, 128]⟩
abbrev S1x16x1024x256 : Shape := ⟨4, ![1, 16, 1024, 256]⟩
abbrev S1x16x256x1024 : Shape := ⟨4, ![1, 16, 256, 1024]⟩
abbrev S1x1024 : Shape := ⟨2, ![1, 1024]⟩
abbrev S16384x1024 : Shape := ⟨2, ![16384, 1024]⟩
abbrev S1x16384x1024 : Shape := ⟨3, ![1, 16384, 1024]⟩
abbrev S16384x16 : Shape := ⟨2, ![16384, 16]⟩
abbrev S1x16384x16 : Shape := ⟨3, ![1, 16384, 16]⟩
abbrev S16x1024x256 : Shape := ⟨3, ![16, 1024, 256]⟩
abbrev S1x16384x16x256 : Shape := ⟨4, ![1, 16384, 16, 256]⟩
abbrev S_ : Shape := ⟨0, ![]⟩
abbrev S1x16384x16x1 : Shape := ⟨4, ![1, 16384, 16, 1]⟩
abbrev S16x256x1024 : Shape := ⟨3, ![16, 256, 1024]⟩
abbrev S1x16384 : Shape := ⟨2, ![1, 16384]⟩
abbrev S1x16384x1 : Shape := ⟨3, ![1, 16384, 1]⟩
abbrev S1024 : Shape := ⟨1, ![1024]⟩
abbrev S1x1x1024 : Shape := ⟨3, ![1, 1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x128, .f32⟩
  | .hbm, ⟨2, _⟩ => ⟨S1x16x1024x256, .f32⟩
  | .hbm, ⟨3, _⟩ => ⟨S1x16x1024x256, .f32⟩
  | .hbm, ⟨4, _⟩ => ⟨S1x16x256x1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S1x16384x1024, .f32⟩
  | .hbm, ⟨9, _⟩ => ⟨S16384x16, .f32⟩
  | .hbm, ⟨10, _⟩ => ⟨S1x16384x16, .f32⟩
  | .hbm, ⟨11, _⟩ => ⟨S16x1024x256, .f32⟩
  | .hbm, ⟨12, _⟩ => ⟨S1x16384x16x256, .f32⟩
  | .hbm, ⟨13, _⟩ => ⟨S1x16384x16x256, .f32⟩
  | .hbm, ⟨14, _⟩ => ⟨S1x16384x16x256, .f32⟩
  | .hbm, ⟨15, _⟩ => ⟨S_, .f32⟩
  | .hbm, ⟨16, _⟩ => ⟨S1x16384x16x256, .f32⟩
  | .hbm, ⟨17, _⟩ => ⟨S1x16384x16x256, .f32⟩
  | .hbm, ⟨18, _⟩ => ⟨S_, .f32⟩
  | .hbm, ⟨19, _⟩ => ⟨S1x16384x16x256, .f32⟩
  | .hbm, ⟨20, _⟩ => ⟨S1x16384x16x256, .f32⟩
  | .hbm, ⟨21, _⟩ => ⟨S1x16384x16x256, .f32⟩
  | .hbm, ⟨22, _⟩ => ⟨S16x1024x256, .f32⟩
  | .hbm, ⟨23, _⟩ => ⟨S1x16384x16x256, .f32⟩
  | .hbm, ⟨24, _⟩ => ⟨S1x16384x16x256, .f32⟩
  | .hbm, ⟨25, _⟩ => ⟨S1x16384x16x1, .f32⟩
  | .hbm, ⟨26, _⟩ => ⟨S1x16384x16x256, .f32⟩
  | .hbm, ⟨27, _⟩ => ⟨S1x16384x16x256, .f32⟩
  | .hbm, ⟨28, _⟩ => ⟨S_, .f32⟩
  | .hbm, ⟨29, _⟩ => ⟨S1x16384x1024, .f32⟩
  | .hbm, ⟨30, _⟩ => ⟨S1x16384x1024, .f32⟩
  | .hbm, ⟨31, _⟩ => ⟨S16x256x1024, .f32⟩
  | .hbm, ⟨32, _⟩ => ⟨S1x16384x1024, .f32⟩
  | .hbm, ⟨33, _⟩ => ⟨S1x16384x1024, .f32⟩
  | .hbm, ⟨34, _⟩ => ⟨S_, .f32⟩
  | .hbm, ⟨35, _⟩ => ⟨S1x16384, .f32⟩
  | .hbm, ⟨36, _⟩ => ⟨S1x16384x1, .f32⟩
  | .hbm, ⟨37, _⟩ => ⟨S_, .f32⟩
  | .hbm, ⟨38, _⟩ => ⟨S1x16384x1, .f32⟩
  | .hbm, ⟨39, _⟩ => ⟨S1x16384x1, .f32⟩
  | .hbm, ⟨40, _⟩ => ⟨S1x16384x1024, .f32⟩
  | .hbm, ⟨41, _⟩ => ⟨S1x16384x1024, .f32⟩
  | .hbm, ⟨42, _⟩ => ⟨S1x16384x1024, .f32⟩
  | .hbm, ⟨43, _⟩ => ⟨S_, .f32⟩
  | .hbm, ⟨44, _⟩ => ⟨S1x16384, .f32⟩
  | .hbm, ⟨45, _⟩ => ⟨S1x16384x1, .f32⟩
  | .hbm, ⟨46, _⟩ => ⟨S_, .f32⟩
  | .hbm, ⟨47, _⟩ => ⟨S1x16384x1, .f32⟩
  | .hbm, ⟨48, _⟩ => ⟨S1x16384x1, .f32⟩
  | .hbm, ⟨49, _⟩ => ⟨S1x16384x1024, .f32⟩
  | .hbm, ⟨50, _⟩ => ⟨S1x16384x1024, .f32⟩
  | .hbm, ⟨51, _⟩ => ⟨S_, .f32⟩
  | .hbm, ⟨52, _⟩ => ⟨S1x16384x1, .f32⟩
  | .hbm, ⟨53, _⟩ => ⟨S1x16384x1, .f32⟩
  | .hbm, ⟨54, _⟩ => ⟨S1x16384x1, .f32⟩
  | .hbm, ⟨55, _⟩ => ⟨S1x16384x1024, .f32⟩
  | .hbm, ⟨56, _⟩ => ⟨S1x16384x1024, .f32⟩
  | .hbm, ⟨57, _⟩ => ⟨S1024, .f32⟩
  | .hbm, ⟨58, _⟩ => ⟨S1x1x1024, .f32⟩
  | .hbm, ⟨59, _⟩ => ⟨S1x16384x1024, .f32⟩
  | .hbm, ⟨60, _⟩ => ⟨S1x16384x1024, .f32⟩
  | .hbm, ⟨61, _⟩ => ⟨S1024, .f32⟩
  | .hbm, ⟨62, _⟩ => ⟨S1x1x1024, .f32⟩
  | .hbm, ⟨63, _⟩ => ⟨S1x16384x1024, .f32⟩
  | .hbm, ⟨64, _⟩ => ⟨S1x16384x1024, .f32⟩
  | .hbm, ⟨65, _⟩ => ⟨S16384x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== InP.lean ====
abbrev S1x16384x1024 : Shape := ⟨3, ![1, 16384, 1024]⟩
abbrev S16x1024 : Shape := ⟨2, ![16, 1024]⟩
abbrev S1x1024x4420 : Shape := ⟨3, ![1, 1024, 4420]⟩
abbrev S_ : Shape := ⟨0, ![]⟩
abbrev S1008x1024 : Shape := ⟨2, ![1008, 1024]⟩
abbrev S1024x1024 : Shape := ⟨2, ![1024, 1024]⟩
abbrev S16384x1024 : Shape := ⟨2, ![16384, 1024]⟩
abbrev S1024x4420 : Shape := ⟨2, ![1024, 4420]⟩
abbrev S1024x2372 : Shape := ⟨2, ![1024, 2372]⟩
abbrev S1024x60 : Shape := ⟨2, ![1024, 60]⟩
abbrev S1024x2048 : Shape := ⟨2, ![1024, 2048]⟩
abbrev S1024x4480 : Shape := ⟨2, ![1024, 4480]⟩
abbrev S17408x512 : Shape := ⟨2, ![17408, 512]⟩
abbrev S17408x256 : Shape := ⟨2, ![17408, 256]⟩
abbrev S17408x128 : Shape := ⟨2, ![17408, 128]⟩
abbrev S17408x1024 : Shape := ⟨2, ![17408, 1024]⟩
abbrev S256x1024 : Shape := ⟨2, ![256, 1024]⟩
abbrev S256x512 : Shape := ⟨2, ![256, 512]⟩
abbrev S256x256 : Shape := ⟨2, ![256, 256]⟩
abbrev S256x128 : Shape := ⟨2, ![256, 128]⟩
abbrev S1024x512 : Shape := ⟨2, ![1024, 512]⟩
abbrev S1024x256 : Shape := ⟨2, ![1024, 256]⟩
abbrev S1024x128 : Shape := ⟨2, ![1024, 128]⟩

abbrev nBuf : Space → Nat
  | .hbm => 24
  | .vmem => 25
  | .smem => 0
  | _ => 0

abbrev bufTy : (tb : Table) → Fin (tcTables nBuf tb) → BufTy
  | .hbm, ⟨0, _⟩ => ⟨S1x16384x1024, .f32⟩
  | .hbm, ⟨1, _⟩ => ⟨S16x1024, .f32⟩
  | .hbm, ⟨2, _⟩ => ⟨S1x1024x4420, .f32⟩
  | .hbm, ⟨3, _⟩ => ⟨S_, .f32⟩
  | .hbm, ⟨4, _⟩ => ⟨S1008x1024, .f32⟩
  | .hbm, ⟨5, _⟩ => ⟨S1024x1024, .f32⟩
  | .hbm, ⟨6, _⟩ => ⟨S16384x1024, .f32⟩
  | .hbm, ⟨7, _⟩ => ⟨S1024x4420, .f32⟩
  | .hbm, ⟨8, _⟩ => ⟨S1024x2372, .f32⟩
  | .hbm, ⟨9, _⟩ => ⟨S_, .f32⟩
  | .hbm, ⟨10, _⟩ => ⟨S1024x60, .f32⟩
  | .hbm, ⟨11, _⟩ => ⟨S1024x2048, .f32⟩
  | .hbm, ⟨12, _⟩ => ⟨S1024x4480, .f32⟩
  | .hbm, ⟨13, _⟩ => ⟨S1024x4480, .bf16⟩
  | .hbm, ⟨14, _⟩ => ⟨S17408x512, .f32⟩
  | .hbm, ⟨15, _⟩ => ⟨S17408x512, .bf16⟩
  | .hbm, ⟨16, _⟩ => ⟨S17408x512, .f32⟩
  | .hbm, ⟨17, _⟩ => ⟨S17408x512, .f32⟩
  | .hbm, ⟨18, _⟩ => ⟨S17408x512, .bf16⟩
  | .hbm, ⟨19, _⟩ => ⟨S17408x512, .bf16⟩
  | .hbm, ⟨20, _⟩ => ⟨S17408x256, .bf16⟩
  | .hbm, ⟨21, _⟩ => ⟨S17408x128, .f32⟩
  | .hbm, ⟨22, _⟩ => ⟨S17408x1024, .f32⟩
  | .hbm, ⟨23, _⟩ => ⟨S17408x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x4480, .bf16⟩
  | .local _ .vmem, ⟨5, _⟩ => ⟨S256x512, .f32⟩
  | .local _ .vmem, ⟨6, _⟩ => ⟨S256x512, .f32⟩
  | .local _ .vmem, ⟨7, _⟩ => ⟨S256x512, .bf16⟩
  | .local _ .vmem, ⟨8, _⟩ => ⟨S256x512, .bf16⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x256, .bf16⟩
  | .local _ .vmem, ⟨18, _⟩ => ⟨S256x256, .bf16⟩
  | .local _ .vmem, ⟨19, _⟩ => ⟨S256x128, .f32⟩
  | .local _ .vmem, ⟨20, _⟩ => ⟨S256x128, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev main_v9_4 : Ref sig .tc := ⟨.hbm, 18, rfl⟩
abbrev main_v9_5 : Ref sig .tc := ⟨.hbm, 19, rfl⟩
abbrev main_v9_6 : Ref sig .tc := ⟨.hbm, 20, rfl⟩
abbrev main_v9_7 : Ref sig .tc := ⟨.hbm, 21, rfl⟩
abbrev main_v9_8 : Ref sig .tc := ⟨.hbm, 22, rfl⟩
abbrev main_v9_9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4480 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InPRefIdeal.lean ====
abbrev S1x16384x1024 : Shape := ⟨3, ![1, 16384, 1024]⟩
abbrev S16x1024 : Shape := ⟨2, ![16, 1024]⟩
abbrev S1x1024x4420 : Shape := ⟨3, ![1, 1024, 4420]⟩
abbrev S1x16x1024 : Shape := ⟨3, ![1, 16, 1024]⟩
abbrev S1x16400x1024 : Shape := ⟨3, ![1, 16400, 1024]⟩
abbrev S1024x4420 : Shape := ⟨2, ![1024, 4420]⟩
abbrev S1x16400x4420 : Shape := ⟨3, ![1, 16400, 4420]⟩
abbrev S1x16400x512 : Shape := ⟨3, ![1, 16400, 512]⟩
abbrev S1x16400x256 : Shape := ⟨3, ![1, 16400, 256]⟩
abbrev S1x16400x64 : Shape := ⟨3, ![1, 16400, 64]⟩
abbrev S1x16400x4 : Shape := ⟨3, ![1, 16400, 4]⟩
abbrev S_ : Shape := ⟨0, ![]⟩
abbrev S1x16400x60 : Shape := ⟨3, ![1, 16400, 60]⟩
abbrev S1x16400x128 : Shape := ⟨3, ![1, 16400, 128]⟩
abbrev S16400x512 : Shape := ⟨2, ![16400, 512]⟩
abbrev S17408x512 : Shape := ⟨2, ![17408, 512]⟩
abbrev S16400x256 : Shape := ⟨2, ![16400, 256]⟩
abbrev S17408x256 : Shape := ⟨2, ![17408, 256]⟩
abbrev S16400x128 : Shape := ⟨2, ![16400, 128]⟩
abbrev S17408x128 : Shape := ⟨2, ![17408, 128]⟩
abbrev S16400x1024 : Shape := ⟨2, ![16400, 1024]⟩
abbrev S17408x1024 : Shape := ⟨2, ![17408, 1024]⟩

abbrev nBuf : Space → Nat
  | .hbm => 66
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16x1024, .f32⟩
  | .hbm, ⟨2, _⟩ => ⟨S1x1024x4420, .f32⟩
  | .hbm, ⟨3, _⟩ => ⟨S1x16x1024, .f32⟩
  | .hbm, ⟨4, _⟩ => ⟨S1x16400x1024, .f32⟩
  | .hbm, ⟨5, _⟩ => ⟨S1024x4420, .f32⟩
  | .hbm, ⟨6, _⟩ => ⟨S1x16400x4420, .f32⟩
  | .hbm, ⟨7, _⟩ => ⟨S1x16400x512, .f32⟩
  | .hbm, ⟨8, _⟩ => ⟨S1x16400x512, .f32⟩
  | .hbm, ⟨9, _⟩ => ⟨S1x16400x512, .f32⟩
  | .hbm, ⟨10, _⟩ => ⟨S1x16400x512, .f32⟩
  | .hbm, ⟨11, _⟩ => ⟨S1x16400x256, .f32⟩
  | .hbm, ⟨12, _⟩ => ⟨S1x16400x64, .f32⟩
  | .hbm, ⟨13, _⟩ => ⟨S1x16400x4, .f32⟩
  | .hbm, ⟨14, _⟩ => ⟨S1x16400x1024, .f32⟩
  | .hbm, ⟨15, _⟩ => ⟨S1x16400x1024, .f32⟩
  | .hbm, ⟨16, _⟩ => ⟨S_, .f32⟩
  | .hbm, ⟨17, _⟩ => ⟨S1x16400x60, .f32⟩
  | .hbm, ⟨18, _⟩ => ⟨S1x16400x128, .f32⟩
  | .hbm, ⟨19, _⟩ => ⟨S_, .f32⟩
  | .hbm, ⟨20, _⟩ => ⟨S1x16400x512, .f32⟩
  | .hbm, ⟨21, _⟩ => ⟨S1x16400x512, .f32⟩
  | .hbm, ⟨22, _⟩ => ⟨S1x16400x512, .bf16⟩
  | .hbm, ⟨23, _⟩ => ⟨S1x16400x512, .bf16⟩
  | .hbm, ⟨24, _⟩ => ⟨S1x16400x512, .bf16⟩
  | .hbm, ⟨25, _⟩ => ⟨S1x16400x256, .bf16⟩
  | .hbm, ⟨26, _⟩ => ⟨S16400x512, .f32⟩
  | .hbm, ⟨27, _⟩ => ⟨S_, .i32⟩
  | .hbm, ⟨28, _⟩ => ⟨S_, .f32⟩
  | .hbm, ⟨29, _⟩ => ⟨S17408x512, .f32⟩
  | .hbm, ⟨30, _⟩ => ⟨S16400x512, .bf16⟩
  | .hbm, ⟨31, _⟩ => ⟨S_, .i32⟩
  | .hbm, ⟨32, _⟩ => ⟨S_, .bf16⟩
  | .hbm, ⟨33, _⟩ => ⟨S17408x512, .bf16⟩
  | .hbm, ⟨34, _⟩ => ⟨S16400x512, .f32⟩
  | .hbm, ⟨35, _⟩ => ⟨S_, .i32⟩
  | .hbm, ⟨36, _⟩ => ⟨S_, .f32⟩
  | .hbm, ⟨37, _⟩ => ⟨S17408x512, .f32⟩
  | .hbm, ⟨38, _⟩ => ⟨S16400x512, .f32⟩
  | .hbm, ⟨39, _⟩ => ⟨S_, .i32⟩
  | .hbm, ⟨40, _⟩ => ⟨S_, .f32⟩
  | .hbm, ⟨41, _⟩ => ⟨S17408x512, .f32⟩
  | .hbm, ⟨42, _⟩ => ⟨S16400x512, .bf16⟩
  | .hbm, ⟨43, _⟩ => ⟨S_, .i32⟩
  | .hbm, ⟨44, _⟩ => ⟨S_, .bf16⟩
  | .hbm, ⟨45, _⟩ => ⟨S17408x512, .bf16⟩
  | .hbm, ⟨46, _⟩ => ⟨S16400x512, .bf16⟩
  | .hbm, ⟨47, _⟩ => ⟨S_, .i32⟩
  | .hbm, ⟨48, _⟩ => ⟨S_, .bf16⟩
  | .hbm, ⟨49, _⟩ => ⟨S17408x512, .bf16⟩
  | .hbm, ⟨50, _⟩ => ⟨S16400x256, .bf16⟩
  | .hbm, ⟨51, _⟩ => ⟨S_, .i32⟩
  | .hbm, ⟨52, _⟩ => ⟨S_, .bf16⟩
  | .hbm, ⟨53, _⟩ => ⟨S17408x256, .bf16⟩
  | .hbm, ⟨54, _⟩ => ⟨S16400x128, .f32⟩
  | .hbm, ⟨55, _⟩ => ⟨S_, .i32⟩
  | .hbm, ⟨56, _⟩ => ⟨S_, .f32⟩
  | .hbm, ⟨57, _⟩ => ⟨S17408x128, .f32⟩
  | .hbm, ⟨58, _⟩ => ⟨S16400x1024, .f32⟩
  | .hbm, ⟨59, _⟩ => ⟨S_, .i32⟩
  | .hbm, ⟨60, _⟩ => ⟨S_, .f32⟩
  | .hbm, ⟨61, _⟩ => ⟨S17408x1024, .f32⟩
  | .hbm, ⟨62, _⟩ => ⟨S16400x1024, .f32⟩
  | .hbm, ⟨63, _⟩ => ⟨S_, .i32⟩
  | .hbm, ⟨64, _⟩ => ⟨S_, .f32⟩
  | .hbm, ⟨65, _⟩ => ⟨S17408x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c : Ref sig .tc := ⟨.hbm, 27, rfl⟩
abbrev main_call0_v0 : Ref sig .tc := ⟨.hbm, 28, rfl⟩
abbrev main_v22 : Ref sig .tc := ⟨.hbm, 29, rfl⟩
abbrev main_v23 : Ref sig .tc := ⟨.hbm, 30, rfl⟩
abbrev main_c_1 : Ref sig .tc := ⟨.hbm, 31, rfl⟩
abbrev main_call1_v0 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_call2_v0 : Ref sig .tc := ⟨.hbm, 36, rfl⟩
abbrev main_v26 : Ref sig .tc := ⟨.hbm, 37, rfl⟩
abbrev main_v27 : Ref sig .tc := ⟨.hbm, 38, rfl⟩
abbrev main_c_3 : Ref sig .tc := ⟨.hbm, 39, rfl⟩
abbrev main_call3_v0 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_call4_v0 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_call5_v0 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_call6_v0 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_call7_v0 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_call8_v0 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_call9_v0 : Ref sig .tc := ⟨.hbm, 64, rfl⟩
abbrev main_v40 : Ref sig .tc := ⟨.hbm, 65, rfl⟩

abbrev nD : Nat := 1
abbrev τ : Topo := Topo.v7x

variable {F : FTy → Type} [FloatOps F]
-- ==== InS.lean ====
abbrev S128x4x1024 : Shape := ⟨3, ![128, 4, 1024]⟩
abbrev S1x1024x4420 : Shape := ⟨3, ![1, 1024, 4420]⟩
abbrev S512x1024 : Shape := ⟨2, ![512, 1024]⟩
abbrev S1024x4420 : Shape := ⟨2, ![1024, 4420]⟩
abbrev S1024x2372 : Shape := ⟨2, ![1024, 2372]⟩
abbrev S_ : Shape := ⟨0, ![]⟩
abbrev S1024x60 : Shape := ⟨2, ![1024, 60]⟩
abbrev S1024x2048 : Shape := ⟨2, ![1024, 2048]⟩
abbrev S1024x4480 : Shape := ⟨2, ![1024, 4480]⟩
abbrev S512x512 : Shape := ⟨2, ![512, 512]⟩
abbrev S512x256 : Shape := ⟨2, ![512, 256]⟩
abbrev S512x128 : Shape := ⟨2, ![512, 128]⟩
abbrev S1024x512 : Shape := ⟨2, ![1024, 512]⟩
abbrev S1024x256 : Shape := ⟨2, ![1024, 256]⟩
abbrev S1024x128 : Shape := ⟨2, ![1024, 128]⟩
abbrev S1024x1024 : Shape := ⟨2, ![1024, 1024]⟩

abbrev nBuf : Space → Nat
  | .hbm => 20
  | .vmem => 13
  | .smem => 0
  | _ => 0

abbrev bufTy : (tb : Table) → Fin (tcTables nBuf tb) → BufTy
  | .hbm, ⟨0, _⟩ => ⟨S128x4x1024, .f32⟩
  | .hbm, ⟨1, _⟩ => ⟨S1x1024x4420, .f32⟩
  | .hbm, ⟨2, _⟩ => ⟨S512x1024, .f32⟩
  | .hbm, ⟨3, _⟩ => ⟨S1024x4420, .f32⟩
  | .hbm, ⟨4, _⟩ => ⟨S1024x2372, .f32⟩
  | .hbm, ⟨5, _⟩ => ⟨S_, .f32⟩
  | .hbm, ⟨6, _⟩ => ⟨S1024x60, .f32⟩
  | .hbm, ⟨7, _⟩ => ⟨S1024x2048, .f32⟩
  | .hbm, ⟨8, _⟩ => ⟨S1024x4480, .f32⟩
  | .hbm, ⟨9, _⟩ => ⟨S1024x4480, .bf16⟩
  | .hbm, ⟨10, _⟩ => ⟨S512x512, .f32⟩
  | .hbm, ⟨11, _⟩ => ⟨S512x512, .bf16⟩
  | .hbm, ⟨12, _⟩ => ⟨S512x512, .f32⟩
  | .hbm, ⟨13, _⟩ => ⟨S512x512, .f32⟩
  | .hbm, ⟨14, _⟩ => ⟨S512x512, .bf16⟩
  | .hbm, ⟨15, _⟩ => ⟨S512x512, .bf16⟩
  | .hbm, ⟨16, _⟩ => ⟨S512x256, .bf16⟩
  | .hbm, ⟨17, _⟩ => ⟨S512x128, .f32⟩
  | .hbm, ⟨18, _⟩ => ⟨S512x1024, .f32⟩
  | .hbm, ⟨19, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S1024x4480, .bf16⟩
  | .local _ .vmem, ⟨3, _⟩ => ⟨S512x512, .f32⟩
  | .local _ .vmem, ⟨4, _⟩ => ⟨S512x512, .bf16⟩
  | .local _ .vmem, ⟨5, _⟩ => ⟨S512x512, .f32⟩
  | .local _ .vmem, ⟨6, _⟩ => ⟨S512x512, .f32⟩
  | .local _ .vmem, ⟨7, _⟩ => ⟨S512x512, .bf16⟩
  | .local _ .vmem, ⟨8, _⟩ => ⟨S512x512, .bf16⟩
  | .local _ .vmem, ⟨9, _⟩ => ⟨S512x256, .bf16⟩
  | .local _ .vmem, ⟨10, _⟩ => ⟨S512x128, .f32⟩
  | .local _ .vmem, ⟨11, _⟩ => ⟨S512x1024, .f32⟩
  | .local _ .vmem, ⟨12, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev main_v7_3 : Ref sig .tc := ⟨.hbm, 13, rfl⟩
abbrev main_v7_4 : Ref sig .tc := ⟨.hbm, 14, rfl⟩
abbrev main_v7_5 : Ref sig .tc := ⟨.hbm, 15, rfl⟩
abbrev main_v7_6 : Ref sig .tc := ⟨.hbm, 16, rfl⟩
abbrev main_v7_7 : Ref sig .tc := ⟨.hbm, 17, rfl⟩
abbrev main_v7_8 : Ref sig .tc := ⟨.hbm, 18, rfl⟩
abbrev main_v7_9 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4480 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== InSRefIdeal.lean ====
abbrev S128x4x1024 : Shape := ⟨3, ![128, 4, 1024]⟩
abbrev S1x1024x4420 : Shape := ⟨3, ![1, 1024, 4420]⟩
abbrev S1024x4420 : Shape := ⟨2, ![1024, 4420]⟩
abbrev S128x4x4420 : Shape := ⟨3, ![128, 4, 4420]⟩
abbrev S128x4x512 : Shape := ⟨3, ![128, 4, 512]⟩
abbrev S128x4x256 : Shape := ⟨3, ![128, 4, 256]⟩
abbrev S128x4x64 : Shape := ⟨3, ![128, 4, 64]⟩
abbrev S128x4x4 : Shape := ⟨3, ![128, 4, 4]⟩
abbrev S_ : Shape := ⟨0, ![]⟩
abbrev S128x4x60 : Shape := ⟨3, ![128, 4, 60]⟩
abbrev S128x4x128 : Shape := ⟨3, ![128, 4, 128]⟩
abbrev S512x512 : Shape := ⟨2, ![512, 512]⟩
abbrev S512x256 : Shape := ⟨2, ![512, 256]⟩
abbrev S512x128 : Shape := ⟨2, ![512, 128]⟩
abbrev S512x1024 : Shape := ⟨2, ![512, 1024]⟩

abbrev nBuf : Space → Nat
  | .hbm => 33
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1x1024x4420, .f32⟩
  | .hbm, ⟨2, _⟩ => ⟨S1024x4420, .f32⟩
  | .hbm, ⟨3, _⟩ => ⟨S128x4x4420, .f32⟩
  | .hbm, ⟨4, _⟩ => ⟨S128x4x512, .f32⟩
  | .hbm, ⟨5, _⟩ => ⟨S128x4x512, .f32⟩
  | .hbm, ⟨6, _⟩ => ⟨S128x4x512, .f32⟩
  | .hbm, ⟨7, _⟩ => ⟨S128x4x512, .f32⟩
  | .hbm, ⟨8, _⟩ => ⟨S128x4x256, .f32⟩
  | .hbm, ⟨9, _⟩ => ⟨S128x4x64, .f32⟩
  | .hbm, ⟨10, _⟩ => ⟨S128x4x4, .f32⟩
  | .hbm, ⟨11, _⟩ => ⟨S128x4x1024, .f32⟩
  | .hbm, ⟨12, _⟩ => ⟨S128x4x1024, .f32⟩
  | .hbm, ⟨13, _⟩ => ⟨S_, .f32⟩
  | .hbm, ⟨14, _⟩ => ⟨S128x4x60, .f32⟩
  | .hbm, ⟨15, _⟩ => ⟨S128x4x128, .f32⟩
  | .hbm, ⟨16, _⟩ => ⟨S_, .f32⟩
  | .hbm, ⟨17, _⟩ => ⟨S128x4x512, .f32⟩
  | .hbm, ⟨18, _⟩ => ⟨S128x4x512, .f32⟩
  | .hbm, ⟨19, _⟩ => ⟨S128x4x512, .bf16⟩
  | .hbm, ⟨20, _⟩ => ⟨S128x4x512, .bf16⟩
  | .hbm, ⟨21, _⟩ => ⟨S128x4x512, .bf16⟩
  | .hbm, ⟨22, _⟩ => ⟨S128x4x256, .bf16⟩
  | .hbm, ⟨23, _⟩ => ⟨S512x512, .f32⟩
  | .hbm, ⟨24, _⟩ => ⟨S512x512, .bf16⟩
  | .hbm, ⟨25, _⟩ => ⟨S512x512, .f32⟩
  | .hbm, ⟨26, _⟩ => ⟨S512x512, .f32⟩
  | .hbm, ⟨27, _⟩ => ⟨S512x512, .bf16⟩
  | .hbm, ⟨28, _⟩ => ⟨S512x512, .bf16⟩
  | .hbm, ⟨29, _⟩ => ⟨S512x256, .bf16⟩
  | .hbm, ⟨30, _⟩ => ⟨S512x128, .f32⟩
  | .hbm, ⟨31, _⟩ => ⟨S512x1024, .f32⟩
  | .hbm, ⟨32, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩

abbrev nD : Nat := 1
abbrev τ : Topo := Topo.v7x

variable {F : FTy → Type} [FloatOps F]
-- ==== Mix.lean ====
abbrev S1x16384x1024 : Shape := ⟨3, ![1, 16384, 1024]⟩
abbrev S16x1024 : Shape := ⟨2, ![16, 1024]⟩
abbrev S17408x512 : Shape := ⟨2, ![17408, 512]⟩
abbrev S17408x1024 : Shape := ⟨2, ![17408, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x16 : Shape := ⟨3, ![1, 1024, 16]⟩
abbrev S1x16 : Shape := ⟨2, ![1, 16]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S1024x16 : Shape := ⟨2, ![1024, 16]⟩
abbrev S_ : Shape := ⟨0, ![]⟩
abbrev S1024x108 : Shape := ⟨2, ![1024, 108]⟩
abbrev S1024x128 : Shape := ⟨2, ![1024, 128]⟩
abbrev S4 : Shape := ⟨1, ![4]⟩
abbrev S16 : Shape := ⟨1, ![16]⟩
abbrev S108 : Shape := ⟨1, ![108]⟩
abbrev S128 : Shape := ⟨1, ![128]⟩
abbrev S1x128 : Shape := ⟨2, ![1, 128]⟩
abbrev S16384x1024 : Shape := ⟨2, ![16384, 1024]⟩
abbrev S1008x1024 : Shape := ⟨2, ![1008, 1024]⟩
abbrev S17408x128 : Shape := ⟨2, ![17408, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 47
  | .vmem => 26
  | .smem => 0
  | _ => 0

abbrev bufTy : (tb : Table) → Fin (tcTables nBuf tb) → BufTy
  | .hbm, ⟨0, _⟩ => ⟨S1x16384x1024, .f32⟩
  | .hbm, ⟨1, _⟩ => ⟨S16x1024, .f32⟩
  | .hbm, ⟨2, _⟩ => ⟨S17408x512, .bf16⟩
  | .hbm, ⟨3, _⟩ => ⟨S17408x512, .bf16⟩
  | .hbm, ⟨4, _⟩ => ⟨S17408x1024, .f32⟩
  | .hbm, ⟨5, _⟩ => ⟨S17408x1024, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S1x1024x4, .f32⟩
  | .hbm, ⟨12, _⟩ => ⟨S1x4, .f32⟩
  | .hbm, ⟨13, _⟩ => ⟨S1x1024x16, .f32⟩
  | .hbm, ⟨14, _⟩ => ⟨S1x16, .f32⟩
  | .hbm, ⟨15, _⟩ => ⟨S512x1024, .f32⟩
  | .hbm, ⟨16, _⟩ => ⟨S512x1024, .bf16⟩
  | .hbm, ⟨17, _⟩ => ⟨S512x1024, .f32⟩
  | .hbm, ⟨18, _⟩ => ⟨S512x1024, .bf16⟩
  | .hbm, ⟨19, _⟩ => ⟨S1024x1024, .f32⟩
  | .hbm, ⟨20, _⟩ => ⟨S1024x1024, .bf16⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1024x4, .f32⟩
  | .hbm, ⟨26, _⟩ => ⟨S1024x16, .f32⟩
  | .hbm, ⟨27, _⟩ => ⟨S_, .f32⟩
  | .hbm, ⟨28, _⟩ => ⟨S1024x108, .f32⟩
  | .hbm, ⟨29, _⟩ => ⟨S1024x128, .f32⟩
  | .hbm, ⟨30, _⟩ => ⟨S1024x128, .bf16⟩
  | .hbm, ⟨31, _⟩ => ⟨S1024x128, .f32⟩
  | .hbm, ⟨32, _⟩ => ⟨S1024x128, .f32⟩
  | .hbm, ⟨33, _⟩ => ⟨S1024x128, .bf16⟩
  | .hbm, ⟨34, _⟩ => ⟨S4, .f32⟩
  | .hbm, ⟨35, _⟩ => ⟨S16, .f32⟩
  | .hbm, ⟨36, _⟩ => ⟨S_, .f32⟩
  | .hbm, ⟨37, _⟩ => ⟨S108, .f32⟩
  | .hbm, ⟨38, _⟩ => ⟨S128, .f32⟩
  | .hbm, ⟨39, _⟩ => ⟨S1x128, .f32⟩
  | .hbm, ⟨40, _⟩ => ⟨S16384x1024, .f32⟩
  | .hbm, ⟨41, _⟩ => ⟨S_, .f32⟩
  | .hbm, ⟨42, _⟩ => ⟨S1008x1024, .f32⟩
  | .hbm, ⟨43, _⟩ => ⟨S1024x1024, .f32⟩
  | .hbm, ⟨44, _⟩ => ⟨S17408x1024, .f32⟩
  | .hbm, ⟨45, _⟩ => ⟨S17408x1024, .bf16⟩
  | .hbm, ⟨46, _⟩ => ⟨S17408x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1024x128, .bf16⟩
  | .local _ .vmem, ⟨18, _⟩ => ⟨S1024x128, .bf16⟩
  | .local _ .vmem, ⟨19, _⟩ => ⟨S1x128, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x128, .f32⟩
  | .local _ .vmem, ⟨25, _⟩ => ⟨S512x128, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_v26_0 : Ref sig .tc := ⟨.hbm, 44, rfl⟩
abbrev main_v26_1 : Ref sig .tc := ⟨.hbm, 45, rfl⟩
abbrev main_v26_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixRefIdeal.lean ====
abbrev S1x16384x1024 : Shape := ⟨3, ![1, 16384, 1024]⟩
abbrev S16x1024 : Shape := ⟨2, ![16, 1024]⟩
abbrev S17408x512 : Shape := ⟨2, ![17408, 512]⟩
abbrev S17408x1024 : Shape := ⟨2, ![17408, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x16 : Shape := ⟨3, ![1, 1024, 16]⟩
abbrev S1x16 : Shape := ⟨2, ![1, 16]⟩
abbrev S_ : Shape := ⟨0, ![]⟩
abbrev S1024x1024 : Shape := ⟨2, ![1024, 1024]⟩
abbrev S1x17408x1024 : Shape := ⟨3, ![1, 17408, 1024]⟩
abbrev S1x17408x512 : Shape := ⟨3, ![1, 17408, 512]⟩
abbrev S512x1024 : Shape := ⟨2, ![512, 1024]⟩
abbrev S1x17408 : Shape := ⟨2, ![1, 17408]⟩
abbrev S1x17408x1 : Shape := ⟨3, ![1, 17408, 1]⟩
abbrev S1024 : Shape := ⟨1, ![1024]⟩
abbrev S1x1x1024 : Shape := ⟨3, ![1, 1, 1024]⟩
abbrev S1024x4 : Shape := ⟨2, ![1024, 4]⟩
abbrev S1x17408x4 : Shape := ⟨3, ![1, 17408, 4]⟩
abbrev S4 : Shape := ⟨1, ![4]⟩
abbrev S1x1x4 : Shape := ⟨3, ![1, 1, 4]⟩
abbrev S17408x1x1 : Shape := ⟨3, ![17408, 1, 1]⟩
abbrev S1 : Shape := ⟨1, ![1]⟩
abbrev S1x1x1 : Shape := ⟨3, ![1, 1, 1]⟩
abbrev S17408x1 : Shape := ⟨2, ![17408, 1]⟩
abbrev S1024x16 : Shape := ⟨2, ![1024, 16]⟩
abbrev S1x17408x16 : Shape := ⟨3, ![1, 17408, 16]⟩
abbrev S16 : Shape := ⟨1, ![16]⟩
abbrev S1x1x16 : Shape := ⟨3, ![1, 1, 16]⟩
abbrev S1x17408x4x4 : Shape := ⟨4, ![1, 17408, 4, 4]⟩
abbrev S1x17408x1x1 : Shape := ⟨4, ![1, 17408, 1, 1]⟩
abbrev S1x17408x1x4 : Shape := ⟨4, ![1, 17408, 1, 4]⟩
abbrev S1x17408x2 : Shape := ⟨3, ![1, 17408, 2]⟩
abbrev S1x17408x2x1 : Shape := ⟨4, ![1, 17408, 2, 1]⟩
abbrev S1x1x1x16 : Shape := ⟨4, ![1, 1, 1, 16]⟩
abbrev S1x17408x2x16 : Shape := ⟨4, ![1, 17408, 2, 16]⟩
abbrev S17408x16 : Shape := ⟨2, ![17408, 16]⟩
abbrev S17408x128 : Shape := ⟨2, ![17408, 128]⟩

abbrev nBuf : Space → Nat
  | .hbm => 210
  | .vmem => 0
  | .smem => 0
  | _ => 0

abbrev hbmTy0_0 (i : Nat) : BufTy := match i % 128 with
  | 0 => ⟨S1x16384x1024, .f32⟩
  | 1 => ⟨S16x1024, .f32⟩
  | 2 => ⟨S17408x512, .bf16⟩
  | 3 => ⟨S17408x512, .bf16⟩
  | 4 => ⟨S17408x1024, .f32⟩
  | 5 => ⟨S17408x1024, .f32⟩
  | 6 => ⟨S1x512x1024, .f32⟩
  | 7 => ⟨S1x512x1024, .f32⟩
  | 8 => ⟨S1x1024x1024, .f32⟩
  | 9 => ⟨S1x1024, .f32⟩
  | 10 => ⟨S1x1024, .f32⟩
  | 11 => ⟨S1x1024x4, .f32⟩
  | 12 => ⟨S1x4, .f32⟩
  | 13 => ⟨S1x1024x16, .f32⟩
  | 14 => ⟨S1x16, .f32⟩
  | 15 => ⟨S_, .i32⟩
  | 16 => ⟨S_, .f32⟩
  | 17 => ⟨S1024x1024, .f32⟩
  | 18 => ⟨S1x1024x1024, .f32⟩
  | 19 => ⟨S1x17408x1024, .f32⟩
  | 20 => ⟨S1x17408x1024, .f32⟩
  | 21 => ⟨S1x17408x1024, .f32⟩
  | 22 => ⟨S1x17408x1024, .f32⟩
  | 23 => ⟨S_, .f32⟩
  | 24 => ⟨S1x17408x1024, .f32⟩
  | 25 => ⟨S1x17408x1024, .f32⟩
  | 26 => ⟨S_, .f32⟩
  | 27 => ⟨S1x17408x1024, .f32⟩
  | 28 => ⟨S1x17408x1024, .f32⟩
  | 29 => ⟨S1x17408x512, .bf16⟩
  | 30 => ⟨S512x1024, .f32⟩
  | 31 => ⟨S1x17408x1024, .f32⟩
  | 32 => ⟨S1x17408x1024, .f32⟩
  | 33 => ⟨S1x17408x1024, .f32⟩
  | 34 => ⟨S1x17408x1024, .f32⟩
  | 35 => ⟨S1x17408x1024, .f32⟩
  | 36 => ⟨S_, .f32⟩
  | 37 => ⟨S1x17408x1024, .f32⟩
  | 38 => ⟨S1x17408x1024, .f32⟩
  | 39 => ⟨S_, .f32⟩
  | 40 => ⟨S1x17408x1024, .f32⟩
  | 41 => ⟨S1x17408x1024, .f32⟩
  | 42 => ⟨S1x17408x512, .bf16⟩
  | 43 => ⟨S512x1024, .f32⟩
  | 44 => ⟨S1x17408x1024, .f32⟩
  | 45 => ⟨S1x17408x1024, .f32⟩
  | 46 => ⟨S1x17408x1024, .f32⟩
  | 47 => ⟨S_, .f32⟩
  | 48 => ⟨S1x17408x1024, .f32⟩
  | 49 => ⟨S1x17408x1024, .f32⟩
  | 50 => ⟨S1024x1024, .f32⟩
  | 51 => ⟨S1x17408x1024, .f32⟩
  | 52 => ⟨S1x17408x1024, .f32⟩
  | 53 => ⟨S_, .f32⟩
  | 54 => ⟨S1x17408, .f32⟩
  | 55 => ⟨S1x17408x1, .f32⟩
  | 56 => ⟨S_, .f32⟩
  | 57 => ⟨S1x17408x1, .f32⟩
  | 58 => ⟨S1x17408x1, .f32⟩
  | 59 => ⟨S1x17408x1024, .f32⟩
  | 60 => ⟨S1x17408x1024, .f32⟩
  | 61 => ⟨S1x17408x1024, .f32⟩
  | 62 => ⟨S_, .f32⟩
  | 63 => ⟨S1x17408, .f32⟩
  | 64 => ⟨S1x17408x1, .f32⟩
  | 65 => ⟨S_, .f32⟩
  | 66 => ⟨S1x17408x1, .f32⟩
  | 67 => ⟨S1x17408x1, .f32⟩
  | 68 => ⟨S1x17408x1024, .f32⟩
  | 69 => ⟨S1x17408x1024, .f32⟩
  | 70 => ⟨S_, .f32⟩
  | 71 => ⟨S1x17408x1, .f32⟩
  | 72 => ⟨S1x17408x1, .f32⟩
  | 73 => ⟨S1x17408x1, .f32⟩
  | 74 => ⟨S1x17408x1024, .f32⟩
  | 75 => ⟨S1x17408x1024, .f32⟩
  | 76 => ⟨S1024, .f32⟩
  | 77 => ⟨S1x1x1024, .f32⟩
  | 78 => ⟨S1x17408x1024, .f32⟩
  | 79 => ⟨S1x17408x1024, .f32⟩
  | 80 => ⟨S1024, .f32⟩
  | 81 => ⟨S1x1x1024, .f32⟩
  | 82 => ⟨S1x17408x1024, .f32⟩
  | 83 => ⟨S1x17408x1024, .f32⟩
  | 84 => ⟨S1024x4, .f32⟩
  | 85 => ⟨S1x17408x4, .f32⟩
  | 86 => ⟨S4, .f32⟩
  | 87 => ⟨S1x1x4, .f32⟩
  | 88 => ⟨S1x17408x4, .f32⟩
  | 89 => ⟨S1x17408x4, .f32⟩
  | 90 => ⟨S1x17408x1, .f32⟩
  | 91 => ⟨S1x17408x1, .i32⟩
  | 92 => ⟨S1x17408, .i32⟩
  | 93 => ⟨S_, .f32⟩
  | 94 => ⟨S1x17408, .f32⟩
  | 95 => ⟨S_, .f32⟩
  | 96 => ⟨S1x17408, .f32⟩
  | 97 => ⟨S1x17408, .f32⟩
  | 98 => ⟨S1x17408x1, .f32⟩
  | 99 => ⟨S1x17408x4, .f32⟩
  | 100 => ⟨S1x17408x4, .f32⟩
  | 101 => ⟨S1x17408x4, .f32⟩
  | 102 => ⟨S_, .f32⟩
  | 103 => ⟨S1x17408, .f32⟩
  | 104 => ⟨S1x17408x1, .f32⟩
  | 105 => ⟨S1x17408x4, .f32⟩
  | 106 => ⟨S1x17408x4, .f32⟩
  | 107 => ⟨S1x17408x1, .i32⟩
  | 108 => ⟨S_, .i32⟩
  | 109 => ⟨S1x17408x1, .i32⟩
  | 110 => ⟨S1x17408x1, .i1⟩
  | 111 => ⟨S_, .i32⟩
  | 112 => ⟨S1x17408x1, .i32⟩
  | 113 => ⟨S1x17408x1, .i32⟩
  | 114 => ⟨S1x17408x1, .i32⟩
  | 115 => ⟨S17408x1x1, .i32⟩
  | 116 => ⟨S1, .i32⟩
  | 117 => ⟨S_, .i32⟩
  | 118 => ⟨S17408x1x1, .i32⟩
  | 119 => ⟨S17408x1x1, .i1⟩
  | 120 => ⟨S1x1x1, .i32⟩
  | 121 => ⟨S17408x1x1, .i32⟩
  | 122 => ⟨S17408x1x1, .i1⟩
  | 123 => ⟨S17408x1x1, .i1⟩
  | 124 => ⟨S_, .i1⟩
  | 125 => ⟨S17408x1, .i1⟩
  | 126 => ⟨S1x17408x1, .f32⟩
  | 127 => ⟨S1x17408x1, .i1⟩
  | _ => ⟨S1x16384x1024, .f32⟩

abbrev hbmTy0_1 (i : Nat) : BufTy := match i % 128 with
  | 0 => ⟨S_, .f32⟩
  | 1 => ⟨S1x17408x1, .f32⟩
  | 2 => ⟨S1x17408x1, .f32⟩
  | 3 => ⟨S1024x16, .f32⟩
  | 4 => ⟨S1x17408x16, .f32⟩
  | 5 => ⟨S16, .f32⟩
  | 6 => ⟨S1x1x16, .f32⟩
  | 7 => ⟨S1x17408x16, .f32⟩
  | 8 => ⟨S1x17408x16, .f32⟩
  | 9 => ⟨S1x17408x4x4, .f32⟩
  | 10 => ⟨S1x17408x1x1, .i32⟩
  | 11 => ⟨S_, .i32⟩
  | 12 => ⟨S1x17408x1x1, .i32⟩
  | 13 => ⟨S1x17408x1x1, .i1⟩
  | 14 => ⟨S_, .i32⟩
  | 15 => ⟨S1x17408x1x1, .i32⟩
  | 16 => ⟨S1x17408x1x1, .i32⟩
  | 17 => ⟨S1x17408x1x1, .i32⟩
  | 18 => ⟨S17408x1x1, .i32⟩
  | 19 => ⟨S1, .i32⟩
  | 20 => ⟨S_, .i32⟩
  | 21 => ⟨S17408x1x1, .i32⟩
  | 22 => ⟨S17408x1x1, .i1⟩
  | 23 => ⟨S1x1x1, .i32⟩
  | 24 => ⟨S17408x1x1, .i32⟩
  | 25 => ⟨S17408x1x1, .i1⟩
  | 26 => ⟨S17408x1x1, .i1⟩
  | 27 => ⟨S_, .i1⟩
  | 28 => ⟨S17408x1, .i1⟩
  | 29 => ⟨S1x17408x1x4, .f32⟩
  | 30 => ⟨S1x17408x1x4, .i1⟩
  | 31 => ⟨S_, .f32⟩
  | 32 => ⟨S1x17408x1x4, .f32⟩
  | 33 => ⟨S1x17408x1x4, .f32⟩
  | 34 => ⟨S1x17408x4, .f32⟩
  | 35 => ⟨S_, .f32⟩
  | 36 => ⟨S1x17408, .f32⟩
  | 37 => ⟨S_, .f32⟩
  | 38 => ⟨S1x17408, .f32⟩
  | 39 => ⟨S1x17408, .f32⟩
  | 40 => ⟨S1x17408x1, .f32⟩
  | 41 => ⟨S1x17408x4, .f32⟩
  | 42 => ⟨S1x17408x4, .f32⟩
  | 43 => ⟨S1x17408x4, .f32⟩
  | 44 => ⟨S_, .f32⟩
  | 45 => ⟨S1x17408, .f32⟩
  | 46 => ⟨S1x17408x1, .f32⟩
  | 47 => ⟨S1x17408x4, .f32⟩
  | 48 => ⟨S1x17408x4, .f32⟩
  | 49 => ⟨S1x17408x2, .f32⟩
  | 50 => ⟨S1x17408x2, .i32⟩
  | 51 => ⟨S_, .f32⟩
  | 52 => ⟨S1x17408, .f32⟩
  | 53 => ⟨S1x17408x1, .f32⟩
  | 54 => ⟨S1x17408x2, .f32⟩
  | 55 => ⟨S1x17408x2, .f32⟩
  | 56 => ⟨S1x17408x2, .f32⟩
  | 57 => ⟨S1x17408x2, .f32⟩
  | 58 => ⟨S1x17408x1, .i32⟩
  | 59 => ⟨S_, .i32⟩
  | 60 => ⟨S1x17408x1, .i32⟩
  | 61 => ⟨S1x17408x1, .i32⟩
  | 62 => ⟨S1x17408x2, .i32⟩
  | 63 => ⟨S1x17408x2, .i32⟩
  | 64 => ⟨S1x17408x2x1, .i32⟩
  | 65 => ⟨S1x1x1x16, .i32⟩
  | 66 => ⟨S1x17408x2x16, .i32⟩
  | 67 => ⟨S1x17408x2x16, .i32⟩
  | 68 => ⟨S1x17408x2x16, .i1⟩
  | 69 => ⟨S1x17408x2x16, .f32⟩
  | 70 => ⟨S1x17408x2x1, .f32⟩
  | 71 => ⟨S1x17408x2x16, .f32⟩
  | 72 => ⟨S1x17408x2x16, .f32⟩
  | 73 => ⟨S_, .f32⟩
  | 74 => ⟨S1x17408x16, .f32⟩
  | 75 => ⟨S17408x16, .f32⟩
  | 76 => ⟨S_, .i32⟩
  | 77 => ⟨S_, .f32⟩
  | 78 => ⟨S17408x128, .f32⟩
  | 79 => ⟨S17408x1024, .f32⟩
  | 80 => ⟨S17408x1024, .f32⟩
  | 81 => ⟨S17408x1024, .bf16⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_call0_v0 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_8 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_values : Ref sig .tc := ⟨.hbm, 90, rfl⟩
abbrev main_indices : Ref sig .tc := ⟨.hbm, 91, rfl⟩
abbrev main_v63 : Ref sig .tc := ⟨.hbm, 92, rfl⟩
abbrev main_cst_9 : Ref sig .tc := ⟨.hbm, 93, rfl⟩
abbrev main_v64 : Ref sig .tc := ⟨.hbm, 94, rfl⟩
abbrev main_cst_10 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_11 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_call1_c : Ref sig .tc := ⟨.hbm, 108, rfl⟩
abbrev main_call1_v0 : Ref sig .tc := ⟨.hbm, 109, rfl⟩
abbrev main_call1_v1 : Ref sig .tc := ⟨.hbm, 110, rfl⟩
abbrev main_call1_c_0 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_call1_v5 : Ref sig .tc := ⟨.hbm, 115, rfl⟩
abbrev main_call1_c_1 : Ref sig .tc := ⟨.hbm, 116, rfl⟩
abbrev main_call1_c_2 : Ref sig .tc := ⟨.hbm, 117, rfl⟩
abbrev main_call1_v6 : Ref sig .tc := ⟨.hbm, 118, rfl⟩
abbrev main_call1_v7 : Ref sig .tc := ⟨.hbm, 119, rfl⟩
abbrev main_call1_v8 : Ref sig .tc := ⟨.hbm, 120, rfl⟩
abbrev main_call1_v9 : Ref sig .tc := ⟨.hbm, 121, rfl⟩
abbrev main_call1_v10 : Ref sig .tc := ⟨.hbm, 122, rfl⟩
abbrev main_call1_v11 : Ref sig .tc := ⟨.hbm, 123, rfl⟩
abbrev main_call1_c_3 : Ref sig .tc := ⟨.hbm, 124, rfl⟩
abbrev main_call1_v12 : Ref sig .tc := ⟨.hbm, 125, rfl⟩
abbrev main_call1_v13 : Ref sig .tc := ⟨.hbm, 126, rfl⟩
abbrev main_call1_v14 : Ref sig .tc := ⟨.hbm, 127, rfl⟩
abbrev main_call1_cst : Ref sig .tc := ⟨.hbm, 128, rfl⟩
abbrev main_call1_v15 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_call2_c : Ref sig .tc := ⟨.hbm, 139, rfl⟩
abbrev main_call2_v0 : Ref sig .tc := ⟨.hbm, 140, rfl⟩
abbrev main_call2_v1 : Ref sig .tc := ⟨.hbm, 141, rfl⟩
abbrev main_call2_c_0 : Ref sig .tc := ⟨.hbm, 142, rfl⟩
abbrev main_call2_v2 : Ref sig .tc := ⟨.hbm, 143, rfl⟩
abbrev main_call2_v3 : Ref sig .tc := ⟨.hbm, 144, rfl⟩
abbrev main_call2_v4 : Ref sig .tc := ⟨.hbm, 145, rfl⟩
abbrev main_call2_v5 : Ref sig .tc := ⟨.hbm, 146, rfl⟩
abbrev main_call2_c_1 : Ref sig .tc := ⟨.hbm, 147, rfl⟩
abbrev main_call2_c_2 : Ref sig .tc := ⟨.hbm, 148, rfl⟩
abbrev main_call2_v6 : Ref sig .tc := ⟨.hbm, 149, rfl⟩
abbrev main_call2_v7 : Ref sig .tc := ⟨.hbm, 150, rfl⟩
abbrev main_call2_v8 : Ref sig .tc := ⟨.hbm, 151, rfl⟩
abbrev main_call2_v9 : Ref sig .tc := ⟨.hbm, 152, rfl⟩
abbrev main_call2_v10 : Ref sig .tc := ⟨.hbm, 153, rfl⟩
abbrev main_call2_v11 : Ref sig .tc := ⟨.hbm, 154, rfl⟩
abbrev main_call2_c_3 : Ref sig .tc := ⟨.hbm, 155, rfl⟩
abbrev main_call2_v12 : Ref sig .tc := ⟨.hbm, 156, rfl⟩
abbrev main_call2_v13 : Ref sig .tc := ⟨.hbm, 157, rfl⟩
abbrev main_call2_v14 : Ref sig .tc := ⟨.hbm, 158, rfl⟩
abbrev main_call2_cst : Ref sig .tc := ⟨.hbm, 159, rfl⟩
abbrev main_call2_v15 : Ref sig .tc := ⟨.hbm, 160, rfl⟩
abbrev main_v85 : Ref sig .tc := ⟨.hbm, 161, rfl⟩
abbrev main_v86 : Ref sig .tc := ⟨.hbm, 162, rfl⟩
abbrev main_cst_12 : Ref sig .tc := ⟨.hbm, 163, rfl⟩
abbrev main_v87 : Ref sig .tc := ⟨.hbm, 164, rfl⟩
abbrev main_cst_13 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_cst_14 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_values_15 : Ref sig .tc := ⟨.hbm, 177, rfl⟩
abbrev main_indices_16 : Ref sig .tc := ⟨.hbm, 178, rfl⟩
abbrev main_cst_17 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_c_18 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_call3_v0 : Ref sig .tc := ⟨.hbm, 192, rfl⟩
abbrev main_call3_v1 : Ref sig .tc := ⟨.hbm, 193, rfl⟩
abbrev main_call3_v2 : Ref sig .tc := ⟨.hbm, 194, rfl⟩
abbrev main_call3_v3 : Ref sig .tc := ⟨.hbm, 195, rfl⟩
abbrev main_call3_v4 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_cst_19 : Ref sig .tc := ⟨.hbm, 201, rfl⟩
abbrev main_v113 : Ref sig .tc := ⟨.hbm, 202, rfl⟩
abbrev main_v114 : Ref sig .tc := ⟨.hbm, 203, rfl⟩
abbrev main_c_20 : Ref sig .tc := ⟨.hbm, 204, rfl⟩
abbrev main_call4_v0 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩

abbrev nD : Nat := 1
abbrev τ : Topo := Topo.v7x

variable {F : FTy → Type} [FloatOps F]
-- ==== Rec.lean ====
abbrev S128x4x1024 : Shape := ⟨3, ![128, 4, 1024]⟩
abbrev S1x1024x4420 : Shape := ⟨3, ![1, 1024, 4420]⟩
abbrev S1x128x32x64 : Shape := ⟨4, ![1, 128, 32, 64]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x512 : Shape := ⟨2, ![1, 512]⟩
abbrev S1x512x512 : Shape := ⟨3, ![1, 512, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x1 : Shape := ⟨2, ![32, 1]⟩
abbrev S_ : Shape := ⟨0, ![]⟩
abbrev S32x64x1 : Shape := ⟨3, ![32, 64, 1]⟩
abbrev S32x32 : Shape := ⟨2, ![32, 32]⟩
abbrev S32x16x1x64 : Shape := ⟨4, ![32, 16, 1, 64]⟩
abbrev S32x1x32x1 : Shape := ⟨4, ![32, 1, 32, 1]⟩
abbrev S32x16x32x64 : Shape := ⟨4, ![32, 16, 32, 64]⟩
abbrev S512x2048 : Shape := ⟨2, ![512, 2048]⟩
abbrev S512x4096 : Shape := ⟨2, ![512, 4096]⟩
abbrev S32x64x1x16 : Shape := ⟨4, ![32, 64, 1, 16]⟩
abbrev S32x64x32x16 : Shape := ⟨4, ![32, 64, 32, 16]⟩
abbrev S2048x512 : Shape := ⟨2, ![2048, 512]⟩
abbrev S4096x512 : Shape := ⟨2, ![4096, 512]⟩
abbrev S1x2048 : Shape := ⟨2, ![1, 2048]⟩
abbrev S2x2048 : Shape := ⟨2, ![2, 2048]⟩
abbrev S512 : Shape := ⟨1, ![512]⟩
abbrev S512x512 : Shape := ⟨2, ![512, 512]⟩
abbrev S512x1024 : Shape := ⟨2, ![512, 1024]⟩
abbrev S1024x4420 : Shape := ⟨2, ![1024, 4420]⟩
abbrev S1024x2372 : Shape := ⟨2, ![1024, 2372]⟩
abbrev S1024x60 : Shape := ⟨2, ![1024, 60]⟩
abbrev S1024x2048 : Shape := ⟨2, ![1024, 2048]⟩
abbrev S1024x4480 : Shape := ⟨2, ![1024, 4480]⟩
abbrev S512x256 : Shape := ⟨2, ![512, 256]⟩
abbrev S512x128 : Shape := ⟨2, ![512, 128]⟩
abbrev S1024x512 : Shape := ⟨2, ![1024, 512]⟩
abbrev S1024x256 : Shape := ⟨2, ![1024, 256]⟩
abbrev S1024x128 : Shape := ⟨2, ![1024, 128]⟩
abbrev S1024x1024 : Shape := ⟨2, ![1024, 1024]⟩
abbrev S128x4x512 : Shape := ⟨3, ![128, 4, 512]⟩
abbrev S4x128x512 : Shape := ⟨3, ![4, 128, 512]⟩
abbrev S128x32x64 : Shape := ⟨3, ![128, 32, 64]⟩
abbrev S128x2048 : Shape := ⟨2, ![128, 2048]⟩
abbrev S1x128x512 : Shape := ⟨3, ![1, 128, 512]⟩
abbrev S128x512 : Shape := ⟨2, ![128, 512]⟩
abbrev S128x4096 : Shape := ⟨2, ![128, 4096]⟩
abbrev S128x128 : Shape := ⟨2, ![128, 128]⟩

abbrev nBuf : Space → Nat
  | .hbm => 138
  | .vmem => 25
  | .smem => 0
  | _ => 0

abbrev hbmTy0_0 (i : Nat) : BufTy := match i % 128 with
  | 0 => ⟨S128x4x1024, .f32⟩
  | 1 => ⟨S1x1024x4420, .f32⟩
  | 2 => ⟨S1x128x32x64, .f32⟩
  | 3 => ⟨S1x128x32x64, .f32⟩
  | 4 => ⟨S1x32x64, .f32⟩
  | 5 => ⟨S1x32x64, .f32⟩
  | 6 => ⟨S1x32, .f32⟩
  | 7 => ⟨S1x32x64x16, .f32⟩
  | 8 => ⟨S1x32x64x16, .f32⟩
  | 9 => ⟨S1x32x16x64, .f32⟩
  | 10 => ⟨S1x32x16x64, .f32⟩
  | 11 => ⟨S1x512, .f32⟩
  | 12 => ⟨S1x512x512, .f32⟩
  | 13 => ⟨S32x64, .f32⟩
  | 14 => ⟨S32x64, .f32⟩
  | 15 => ⟨S32, .f32⟩
  | 16 => ⟨S32x64x16, .f32⟩
  | 17 => ⟨S32x64x16, .f32⟩
  | 18 => ⟨S32x16x64, .f32⟩
  | 19 => ⟨S32x16x64, .f32⟩
  | 20 => ⟨S32, .f32⟩
  | 21 => ⟨S32x1, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S_, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S32x64, .f32⟩
  | 47 => ⟨S32x64x1, .f32⟩
  | 48 => ⟨S32x64x16, .f32⟩
  | 49 => ⟨S32x64x16, .f32⟩
  | 50 => ⟨S32x64x1, .f32⟩
  | 51 => ⟨S32x64x16, .f32⟩
  | 52 => ⟨S32x64x16, .f32⟩
  | 53 => ⟨S32x64x16, .f32⟩
  | 54 => ⟨S32x64x1, .f32⟩
  | 55 => ⟨S32x64x16, .f32⟩
  | 56 => ⟨S32x64x16, .f32⟩
  | 57 => ⟨S32x64x1, .f32⟩
  | 58 => ⟨S32x64x16, .f32⟩
  | 59 => ⟨S32x64x16, .f32⟩
  | 60 => ⟨S32x64x16, .f32⟩
  | 61 => ⟨S32x32, .i32⟩
  | 62 => ⟨S32x32, .i32⟩
  | 63 => ⟨S_, .i32⟩
  | 64 => ⟨S32x32, .i32⟩
  | 65 => ⟨S32x32, .i32⟩
  | 66 => ⟨S32x32, .i1⟩
  | 67 => ⟨S32x32, .f32⟩
  | 68 => ⟨S32x16x64, .f32⟩
  | 69 => ⟨S32x16x1x64, .f32⟩
  | 70 => ⟨S32x1x32x1, .f32⟩
  | 71 => ⟨S32x16x32x64, .f32⟩
  | 72 => ⟨S32x16x32x64, .f32⟩
  | 73 => ⟨S32x16x32x64, .f32⟩
  | 74 => ⟨S512x2048, .f32⟩
  | 75 => ⟨S32x16x64, .f32⟩
  | 76 => ⟨S32x16x1x64, .f32⟩
  | 77 => ⟨S32x1x32x1, .f32⟩
  | 78 => ⟨S32x16x32x64, .f32⟩
  | 79 => ⟨S32x16x32x64, .f32⟩
  | 80 => ⟨S32x16x32x64, .f32⟩
  | 81 => ⟨S512x2048, .f32⟩
  | 82 => ⟨S512x4096, .f32⟩
  | 83 => ⟨S32x64x16, .f32⟩
  | 84 => ⟨S32x64x1x16, .f32⟩
  | 85 => ⟨S32x1x32x1, .f32⟩
  | 86 => ⟨S32x64x32x16, .f32⟩
  | 87 => ⟨S32x64x32x16, .f32⟩
  | 88 => ⟨S32x64x32x16, .f32⟩
  | 89 => ⟨S2048x512, .f32⟩
  | 90 => ⟨S32x64x16, .f32⟩
  | 91 => ⟨S32x64x1x16, .f32⟩
  | 92 => ⟨S32x1x32x1, .f32⟩
  | 93 => ⟨S32x64x32x16, .f32⟩
  | 94 => ⟨S32x64x32x16, .f32⟩
  | 95 => ⟨S32x64x32x16, .f32⟩
  | 96 => ⟨S2048x512, .f32⟩
  | 97 => ⟨S2048x512, .f32⟩
  | 98 => ⟨S4096x512, .f32⟩
  | 99 => ⟨S1x2048, .f32⟩
  | 100 => ⟨S1x2048, .f32⟩
  | 101 => ⟨S2x2048, .f32⟩
  | 102 => ⟨S512x4096, .bf16⟩
  | 103 => ⟨S512x4096, .f32⟩
  | 104 => ⟨S512x4096, .f32⟩
  | 105 => ⟨S512x4096, .bf16⟩
  | 106 => ⟨S4096x512, .bf16⟩
  | 107 => ⟨S512, .f32⟩
  | 108 => ⟨S1x512, .f32⟩
  | 109 => ⟨S512x512, .f32⟩
  | 110 => ⟨S512x512, .bf16⟩
  | 111 => ⟨S512x1024, .f32⟩
  | 112 => ⟨S1024x4420, .f32⟩
  | 113 => ⟨S1024x2372, .f32⟩
  | 114 => ⟨S_, .f32⟩
  | 115 => ⟨S1024x60, .f32⟩
  | 116 => ⟨S1024x2048, .f32⟩
  | 117 => ⟨S1024x4480, .f32⟩
  | 118 => ⟨S1024x4480, .bf16⟩
  | 119 => ⟨S512x512, .f32⟩
  | 120 => ⟨S512x512, .bf16⟩
  | 121 => ⟨S512x512, .f32⟩
  | 122 => ⟨S512x512, .f32⟩
  | 123 => ⟨S512x512, .bf16⟩
  | 124 => ⟨S512x512, .bf16⟩
  | 125 => ⟨S512x256, .bf16⟩
  | 126 => ⟨S512x128, .f32⟩
  | 127 => ⟨S512x1024, .f32⟩
  | _ => ⟨S128x4x1024, .f32⟩

abbrev hbmTy0_1 (i : Nat) : BufTy := match i % 128 with
  | 0 => ⟨S512x1024, .f32⟩
  | 1 => ⟨S128x4x512, .f32⟩
  | 2 => ⟨S4x128x512, .f32⟩
  | 3 => ⟨S128x32x64, .f32⟩
  | 4 => ⟨S128x2048, .f32⟩
  | 5 => ⟨S128x32x64, .f32⟩
  | 6 => ⟨S128x2048, .f32⟩
  | 7 => ⟨S4x128x512, .bf16⟩
  | 8 => ⟨S128x2048, .f32⟩
  | 9 => ⟨S128x2048, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x4480, .bf16⟩
  | .local _ .vmem, ⟨3, _⟩ => ⟨S512x512, .f32⟩
  | .local _ .vmem, ⟨4, _⟩ => ⟨S512x512, .bf16⟩
  | .local _ .vmem, ⟨5, _⟩ => ⟨S512x512, .f32⟩
  | .local _ .vmem, ⟨6, _⟩ => ⟨S512x512, .f32⟩
  | .local _ .vmem, ⟨7, _⟩ => ⟨S512x512, .bf16⟩
  | .local _ .vmem, ⟨8, _⟩ => ⟨S512x512, .bf16⟩
  | .local _ .vmem, ⟨9, _⟩ => ⟨S512x256, .bf16⟩
  | .local _ .vmem, ⟨10, _⟩ => ⟨S512x128, .f32⟩
  | .local _ .vmem, ⟨11, _⟩ => ⟨S512x1024, .f32⟩
  | .local _ .vmem, ⟨12, _⟩ => ⟨S512x1024, .f32⟩
  | .local _ .vmem, ⟨13, _⟩ => ⟨S4x128x512, .f32⟩
  | .local _ .vmem, ⟨14, _⟩ => ⟨S128x2048, .f32⟩
  | .local _ .vmem, ⟨15, _⟩ => ⟨S128x2048, .f32⟩
  | .local _ .vmem, ⟨16, _⟩ => ⟨S512x4096, .bf16⟩
  | .local _ .vmem, ⟨17, _⟩ => ⟨S512x4096, .bf16⟩
  | .local _ .vmem, ⟨18, _⟩ => ⟨S2x2048, .f32⟩
  | .local _ .vmem, ⟨19, _⟩ => ⟨S4096x512, .bf16⟩
  | .local _ .vmem, ⟨20, _⟩ => ⟨S1x512, .f32⟩
  | .local _ .vmem, ⟨21, _⟩ => ⟨S512x512, .bf16⟩
  | .local _ .vmem, ⟨22, _⟩ => ⟨S4x128x512, .bf16⟩
  | .local _ .vmem, ⟨23, _⟩ => ⟨S128x2048, .f32⟩
  | .local _ .vmem, ⟨24, _⟩ => ⟨S128x2048, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_cst_0 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103_0 : Ref sig .tc := ⟨.hbm, 119, rfl⟩
abbrev main_v103_1 : Ref sig .tc := ⟨.hbm, 120, rfl⟩
abbrev main_v103_2 : Ref sig .tc := ⟨.hbm, 121, rfl⟩
abbrev main_v103_3 : Ref sig .tc := ⟨.hbm, 122, rfl⟩
abbrev main_v103_4 : Ref sig .tc := ⟨.hbm, 123, rfl⟩
abbrev main_v103_5 : Ref sig .tc := ⟨.hbm, 124, rfl⟩
abbrev main_v103_6 : Ref sig .tc := ⟨.hbm, 125, rfl⟩
abbrev main_v103_7 : Ref sig .tc := ⟨.hbm, 126, rfl⟩
abbrev main_v103_8 : Ref sig .tc := ⟨.hbm, 127, rfl⟩
abbrev main_v103_9 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110_0 : Ref sig .tc := ⟨.hbm, 135, rfl⟩
abbrev main_v110_1 : Ref sig .tc := ⟨.hbm, 136, rfl⟩
abbrev main_v110_2 : Ref sig .tc := ⟨.hbm, 137, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4480 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4x128x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4096x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x512 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4x128x512 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x2048 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x2048 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]
-- ==== RecRefIdeal.lean ====
abbrev S128x4x1024 : Shape := ⟨3, ![128, 4, 1024]⟩
abbrev S1x1024x4420 : Shape := ⟨3, ![1, 1024, 4420]⟩
abbrev S1x128x32x64 : Shape := ⟨4, ![1, 128, 32, 64]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x512 : Shape := ⟨2, ![1, 512]⟩
abbrev S1x512x512 : Shape := ⟨3, ![1, 512, 512]⟩
abbrev S32x64 : Shape := ⟨2, ![32, 64]⟩
abbrev S32 : Shape := ⟨1, ![32]⟩
abbrev S32x1 : Shape := ⟨2, ![32, 1]⟩
abbrev S_ : Shape := ⟨0, ![]⟩
abbrev S32x64x1 : Shape := ⟨3, ![32, 64, 1]⟩
abbrev S32x64x16 : Shape := ⟨3, ![32, 64, 16]⟩
abbrev S1024x4420 : Shape := ⟨2, ![1024, 4420]⟩
abbrev S128x4x4420 : Shape := ⟨3, ![128, 4, 4420]⟩
abbrev S128x4x512 : Shape := ⟨3, ![128, 4, 512]⟩
abbrev S128x4x32x16 : Shape := ⟨4, ![128, 4, 32, 16]⟩
abbrev S32x128x4x64 : Shape := ⟨4, ![32, 128, 4, 64]⟩
abbrev S128x4x32x64 : Shape := ⟨4, ![128, 4, 32, 64]⟩
abbrev S128x32x64 : Shape := ⟨3, ![128, 32, 64]⟩
abbrev S1 : Shape := ⟨1, ![1]⟩
abbrev S128x2x32x64 : Shape := ⟨4, ![128, 2, 32, 64]⟩
abbrev S128x1x32x64 : Shape := ⟨4, ![128, 1, 32, 64]⟩
abbrev S128x0x32x64 : Shape := ⟨4, ![128, 0, 32, 64]⟩
abbrev S128x2048 : Shape := ⟨2, ![128, 2048]⟩

abbrev nBuf : Space → Nat
  | .hbm => 243
  | .vmem => 0
  | .smem => 0
  | _ => 0

abbrev hbmTy0_0 (i : Nat) : BufTy := match i % 128 with
  | 0 => ⟨S128x4x1024, .f32⟩
  | 1 => ⟨S1x1024x4420, .f32⟩
  | 2 => ⟨S1x128x32x64, .f32⟩
  | 3 => ⟨S1x128x32x64, .f32⟩
  | 4 => ⟨S1x32x64, .f32⟩
  | 5 => ⟨S1x32x64, .f32⟩
  | 6 => ⟨S1x32, .f32⟩
  | 7 => ⟨S1x32x64x16, .f32⟩
  | 8 => ⟨S1x32x64x16, .f32⟩
  | 9 => ⟨S1x32x16x64, .f32⟩
  | 10 => ⟨S1x32x16x64, .f32⟩
  | 11 => ⟨S1x512, .f32⟩
  | 12 => ⟨S1x512x512, .f32⟩
  | 13 => ⟨S32x64, .f32⟩
  | 14 => ⟨S32x64, .f32⟩
  | 15 => ⟨S32, .f32⟩
  | 16 => ⟨S32, .f32⟩
  | 17 => ⟨S32x1, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S_, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64x1, .f32⟩
  | 44 => ⟨S32x64x16, .f32⟩
  | 45 => ⟨S32x64x16, .f32⟩
  | 46 => ⟨S32x64x16, .f32⟩
  | 47 => ⟨S32x64x1, .f32⟩
  | 48 => ⟨S32x64x16, .f32⟩
  | 49 => ⟨S32x64x16, .f32⟩
  | 50 => ⟨S32x64x16, .f32⟩
  | 51 => ⟨S32x64x16, .f32⟩
  | 52 => ⟨S32x64x1, .f32⟩
  | 53 => ⟨S32x64x16, .f32⟩
  | 54 => ⟨S32x64x16, .f32⟩
  | 55 => ⟨S32x64x16, .f32⟩
  | 56 => ⟨S32x64x1, .f32⟩
  | 57 => ⟨S32x64x16, .f32⟩
  | 58 => ⟨S32x64x16, .f32⟩
  | 59 => ⟨S32x64x16, .f32⟩
  | 60 => ⟨S32x64x16, .f32⟩
  | 61 => ⟨S1024x4420, .f32⟩
  | 62 => ⟨S128x4x4420, .f32⟩
  | 63 => ⟨S128x4x512, .f32⟩
  | 64 => ⟨S128x4x32x16, .f32⟩
  | 65 => ⟨S32x128x4x64, .f32⟩
  | 66 => ⟨S128x4x32x64, .f32⟩
  | 67 => ⟨S32x128x4x64, .f32⟩
  | 68 => ⟨S128x4x32x64, .f32⟩
  | 69 => ⟨S128x32x64, .f32⟩
  | 70 => ⟨S128x32x64, .f32⟩
  | 71 => ⟨S1x32x64, .f32⟩
  | 72 => ⟨S128x32x64, .f32⟩
  | 73 => ⟨S128x32x64, .f32⟩
  | 74 => ⟨S1x32x64, .f32⟩
  | 75 => ⟨S128x32x64, .f32⟩
  | 76 => ⟨S128x32x64, .f32⟩
  | 77 => ⟨S128x32x64, .f32⟩
  | 78 => ⟨S_, .i32⟩
  | 79 => ⟨S1, .i32⟩
  | 80 => ⟨S128x4x32x64, .f32⟩
  | 81 => ⟨S1x32x64, .f32⟩
  | 82 => ⟨S128x32x64, .f32⟩
  | 83 => ⟨S128x32x64, .f32⟩
  | 84 => ⟨S1x32x64, .f32⟩
  | 85 => ⟨S128x32x64, .f32⟩
  | 86 => ⟨S128x32x64, .f32⟩
  | 87 => ⟨S128x32x64, .f32⟩
  | 88 => ⟨S_, .i32⟩
  | 89 => ⟨S1, .i32⟩
  | 90 => ⟨S128x4x32x64, .f32⟩
  | 91 => ⟨S128x4x32x64, .f32⟩
  | 92 => ⟨S128x4x32x64, .f32⟩
  | 93 => ⟨S128x2x32x64, .f32⟩
  | 94 => ⟨S128x2x32x64, .f32⟩
  | 95 => ⟨S128x2x32x64, .f32⟩
  | 96 => ⟨S128x2x32x64, .f32⟩
  | 97 => ⟨S128x2x32x64, .f32⟩
  | 98 => ⟨S128x2x32x64, .f32⟩
  | 99 => ⟨S128x2x32x64, .f32⟩
  | 100 => ⟨S128x2x32x64, .f32⟩
  | 101 => ⟨S128x2x32x64, .f32⟩
  | 102 => ⟨S128x2x32x64, .f32⟩
  | 103 => ⟨S128x2x32x64, .f32⟩
  | 104 => ⟨S128x2x32x64, .f32⟩
  | 105 => ⟨S128x2x32x64, .f32⟩
  | 106 => ⟨S128x2x32x64, .f32⟩
  | 107 => ⟨S128x2x32x64, .f32⟩
  | 108 => ⟨S128x2x32x64, .f32⟩
  | 109 => ⟨S128x2x32x64, .f32⟩
  | 110 => ⟨S128x2x32x64, .f32⟩
  | 111 => ⟨S128x2x32x64, .f32⟩
  | 112 => ⟨S128x2x32x64, .f32⟩
  | 113 => ⟨S128x2x32x64, .f32⟩
  | 114 => ⟨S128x2x32x64, .f32⟩
  | 115 => ⟨S128x1x32x64, .f32⟩
  | 116 => ⟨S128x1x32x64, .f32⟩
  | 117 => ⟨S128x1x32x64, .f32⟩
  | 118 => ⟨S128x1x32x64, .f32⟩
  | 119 => ⟨S128x1x32x64, .f32⟩
  | 120 => ⟨S128x1x32x64, .f32⟩
  | 121 => ⟨S128x1x32x64, .f32⟩
  | 122 => ⟨S128x1x32x64, .f32⟩
  | 123 => ⟨S128x1x32x64, .f32⟩
  | 124 => ⟨S128x1x32x64, .f32⟩
  | 125 => ⟨S128x1x32x64, .f32⟩
  | 126 => ⟨S128x1x32x64, .f32⟩
  | 127 => ⟨S128x1x32x64, .f32⟩
  | _ => ⟨S128x4x1024, .f32⟩

abbrev hbmTy0_1 (i : Nat) : BufTy := match i % 128 with
  | 0 => ⟨S128x1x32x64, .f32⟩
  | 1 => ⟨S128x1x32x64, .f32⟩
  | 2 => ⟨S128x1x32x64, .f32⟩
  | 3 => ⟨S128x1x32x64, .f32⟩
  | 4 => ⟨S128x1x32x64, .f32⟩
  | 5 => ⟨S128x1x32x64, .f32⟩
  | 6 => ⟨S128x1x32x64, .f32⟩
  | 7 => ⟨S128x1x32x64, .f32⟩
  | 8 => ⟨S128x1x32x64, .f32⟩
  | 9 => ⟨S128x0x32x64, .f32⟩
  | 10 => ⟨S128x0x32x64, .f32⟩
  | 11 => ⟨S128x0x32x64, .f32⟩
  | 12 => ⟨S128x0x32x64, .f32⟩
  | 13 => ⟨S128x0x32x64, .f32⟩
  | 14 => ⟨S128x0x32x64, .f32⟩
  | 15 => ⟨S128x0x32x64, .f32⟩
  | 16 => ⟨S128x0x32x64, .f32⟩
  | 17 => ⟨S128x0x32x64, .f32⟩
  | 18 => ⟨S128x0x32x64, .f32⟩
  | 19 => ⟨S128x0x32x64, .f32⟩
  | 20 => ⟨S128x0x32x64, .f32⟩
  | 21 => ⟨S128x0x32x64, .f32⟩
  | 22 => ⟨S128x0x32x64, .f32⟩
  | 23 => ⟨S128x0x32x64, .f32⟩
  | 24 => ⟨S128x0x32x64, .f32⟩
  | 25 => ⟨S128x0x32x64, .f32⟩
  | 26 => ⟨S128x0x32x64, .f32⟩
  | 27 => ⟨S128x0x32x64, .f32⟩
  | 28 => ⟨S128x0x32x64, .f32⟩
  | 29 => ⟨S128x0x32x64, .f32⟩
  | 30 => ⟨S128x0x32x64, .f32⟩
  | 31 => ⟨S128x1x32x64, .f32⟩
  | 32 => ⟨S128x1x32x64, .f32⟩
  | 33 => ⟨S128x1x32x64, .f32⟩
  | 34 => ⟨S128x1x32x64, .f32⟩
  | 35 => ⟨S128x1x32x64, .f32⟩
  | 36 => ⟨S128x1x32x64, .f32⟩
  | 37 => ⟨S128x1x32x64, .f32⟩
  | 38 => ⟨S128x1x32x64, .f32⟩
  | 39 => ⟨S_, .f32⟩
  | 40 => ⟨S128x2x32x64, .f32⟩
  | 41 => ⟨S_, .f32⟩
  | 42 => ⟨S128x2x32x64, .f32⟩
  | 43 => ⟨S128x2x32x64, .f32⟩
  | 44 => ⟨S_, .f32⟩
  | 45 => ⟨S128x2x32x64, .f32⟩
  | 46 => ⟨S_, .f32⟩
  | 47 => ⟨S128x2x32x64, .f32⟩
  | 48 => ⟨S128x2x32x64, .f32⟩
  | 49 => ⟨S_, .f32⟩
  | 50 => ⟨S128x2x32x64, .f32⟩
  | 51 => ⟨S_, .f32⟩
  | 52 => ⟨S128x2x32x64, .f32⟩
  | 53 => ⟨S128x2x32x64, .f32⟩
  | 54 => ⟨S_, .f32⟩
  | 55 => ⟨S128x2x32x64, .f32⟩
  | 56 => ⟨S_, .f32⟩
  | 57 => ⟨S128x2x32x64, .f32⟩
  | 58 => ⟨S128x2x32x64, .f32⟩
  | 59 => ⟨S128x1x32x64, .f32⟩
  | 60 => ⟨S128x1x32x64, .f32⟩
  | 61 => ⟨S128x1x32x64, .f32⟩
  | 62 => ⟨S128x1x32x64, .f32⟩
  | 63 => ⟨S128x1x32x64, .f32⟩
  | 64 => ⟨S128x1x32x64, .f32⟩
  | 65 => ⟨S128x1x32x64, .f32⟩
  | 66 => ⟨S128x1x32x64, .f32⟩
  | 67 => ⟨S128x1x32x64, .f32⟩
  | 68 => ⟨S128x1x32x64, .f32⟩
  | 69 => ⟨S128x1x32x64, .f32⟩
  | 70 => ⟨S128x1x32x64, .f32⟩
  | 71 => ⟨S128x1x32x64, .f32⟩
  | 72 => ⟨S128x1x32x64, .f32⟩
  | 73 => ⟨S128x1x32x64, .f32⟩
  | 74 => ⟨S128x1x32x64, .f32⟩
  | 75 => ⟨S128x1x32x64, .f32⟩
  | 76 => ⟨S128x1x32x64, .f32⟩
  | 77 => ⟨S128x1x32x64, .f32⟩
  | 78 => ⟨S128x1x32x64, .f32⟩
  | 79 => ⟨S128x1x32x64, .f32⟩
  | 80 => ⟨S128x1x32x64, .f32⟩
  | 81 => ⟨S128x1x32x64, .f32⟩
  | 82 => ⟨S128x2x32x64, .f32⟩
  | 83 => ⟨S128x1x32x64, .f32⟩
  | 84 => ⟨S128x2x32x64, .f32⟩
  | 85 => ⟨S128x1x32x64, .f32⟩
  | 86 => ⟨S128x2x32x64, .f32⟩
  | 87 => ⟨S128x1x32x64, .f32⟩
  | 88 => ⟨S128x2x32x64, .f32⟩
  | 89 => ⟨S_, .f32⟩
  | 90 => ⟨S128x4x32x64, .f32⟩
  | 91 => ⟨S_, .f32⟩
  | 92 => ⟨S128x4x32x64, .f32⟩
  | 93 => ⟨S128x4x32x64, .f32⟩
  | 94 => ⟨S_, .f32⟩
  | 95 => ⟨S128x4x32x64, .f32⟩
  | 96 => ⟨S_, .f32⟩
  | 97 => ⟨S128x4x32x64, .f32⟩
  | 98 => ⟨S128x4x32x64, .f32⟩
  | 99 => ⟨S_, .f32⟩
  | 100 => ⟨S128x4x32x64, .f32⟩
  | 101 => ⟨S_, .f32⟩
  | 102 => ⟨S128x4x32x64, .f32⟩
  | 103 => ⟨S128x4x32x64, .f32⟩
  | 104 => ⟨S_, .f32⟩
  | 105 => ⟨S128x4x32x64, .f32⟩
  | 106 => ⟨S_, .f32⟩
  | 107 => ⟨S128x4x32x64, .f32⟩
  | 108 => ⟨S128x4x32x64, .f32⟩
  | 109 => ⟨S128x1x32x64, .f32⟩
  | 110 => ⟨S128x32x64, .f32⟩
  | 111 => ⟨S128x2048, .f32⟩
  | 112 => ⟨S128x1x32x64, .f32⟩
  | 113 => ⟨S128x32x64, .f32⟩
  | 114 => ⟨S128x2048, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_c : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_c_0 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_cst_1 : Ref sig .tc := ⟨.hbm, 167, rfl⟩
abbrev main_v151 : Ref sig .tc := ⟨.hbm, 168, rfl⟩
abbrev main_cst_2 : Ref sig .tc := ⟨.hbm, 169, rfl⟩
abbrev main_v152 : Ref sig .tc := ⟨.hbm, 170, rfl⟩
abbrev main_v153 : Ref sig .tc := ⟨.hbm, 171, rfl⟩
abbrev main_cst_3 : Ref sig .tc := ⟨.hbm, 172, rfl⟩
abbrev main_v154 : Ref sig .tc := ⟨.hbm, 173, rfl⟩
abbrev main_cst_4 : Ref sig .tc := ⟨.hbm, 174, rfl⟩
abbrev main_v155 : Ref sig .tc := ⟨.hbm, 175, rfl⟩
abbrev main_v156 : Ref sig .tc := ⟨.hbm, 176, rfl⟩
abbrev main_cst_5 : Ref sig .tc := ⟨.hbm, 177, rfl⟩
abbrev main_v157 : Ref sig .tc := ⟨.hbm, 178, rfl⟩
abbrev main_cst_6 : Ref sig .tc := ⟨.hbm, 179, rfl⟩
abbrev main_v158 : Ref sig .tc := ⟨.hbm, 180, rfl⟩
abbrev main_v159 : Ref sig .tc := ⟨.hbm, 181, rfl⟩
abbrev main_cst_7 : Ref sig .tc := ⟨.hbm, 182, rfl⟩
abbrev main_v160 : Ref sig .tc := ⟨.hbm, 183, rfl⟩
abbrev main_cst_8 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_cst_9 : Ref sig .tc := ⟨.hbm, 217, rfl⟩
abbrev main_v193 : Ref sig .tc := ⟨.hbm, 218, rfl⟩
abbrev main_cst_10 : Ref sig .tc := ⟨.hbm, 219, rfl⟩
abbrev main_v194 : Ref sig .tc := ⟨.hbm, 220, rfl⟩
abbrev main_v195 : Ref sig .tc := ⟨.hbm, 221, rfl⟩
abbrev main_cst_11 : Ref sig .tc := ⟨.hbm, 222, rfl⟩
abbrev main_v196 : Ref sig .tc := ⟨.hbm, 223, rfl⟩
abbrev main_cst_12 : Ref sig .tc := ⟨.hbm, 224, rfl⟩
abbrev main_v197 : Ref sig .tc := ⟨.hbm, 225, rfl⟩
abbrev main_v198 : Ref sig .tc := ⟨.hbm, 226, rfl⟩
abbrev main_cst_13 : Ref sig .tc := ⟨.hbm, 227, rfl⟩
abbrev main_v199 : Ref sig .tc := ⟨.hbm, 228, rfl⟩
abbrev main_cst_14 : Ref sig .tc := ⟨.hbm, 229, rfl⟩
abbrev main_v200 : Ref sig .tc := ⟨.hbm, 230, rfl⟩
abbrev main_v201 : Ref sig .tc := ⟨.hbm, 231, rfl⟩
abbrev main_cst_15 : Ref sig .tc := ⟨.hbm, 232, rfl⟩
abbrev main_v202 : Ref sig .tc := ⟨.hbm, 233, rfl⟩
abbrev main_cst_16 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩

abbrev nD : Nat := 1
abbrev τ : Topo := Topo.v7x

variable {F : FTy → Type} [FloatOps F]
-- ==== Proof.MoeValue.lean ====
module

public import proofs.«01_k».proof.Proof.Gen.MoeIdeal.Frame
public import proofs.«01_k».proof.Proof.Gen.MoeRefIdeal.Read
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MoeIdeal.Val
open Cert.MoeIdeal Cert.MoeIdeal.Gen
open Cert.MoeRefIdeal.Read

variable (m : (ℓ : Loc nD τ sig) → Buf (Elt Ideal) ℓ)

/-- One row's layer norm: the row less its mean, by the reciprocal root of its variance, scaled and shifted. -/
def LN (x : Fin 1024 → EReal) (g s : EReal) (d : Fin 1024) : EReal :=
  (x d - Ideal.div (∑ k, x k) (Ideal.ofBits .f32 1149239296#32)) *
    Ideal.rsqrt (Ideal.div (∑ k, (x k - Ideal.div (∑ k, x k) (Ideal.ofBits .f32 1149239296#32)) *
      (x k - Ideal.div (∑ k, x k) (Ideal.ofBits .f32 1149239296#32))) (Ideal.ofBits .f32 1149239296#32)
      + Ideal.ofBits .f32 925353388#32) * g + s

/-- One expert's part of an output element: its gated unit over the row `x`, weighted by `cw`, by its down matrix. -/
def part (x : Fin 1024 → EReal) (wg wu : Fin 1024 → Fin 256 → EReal) (cw : EReal) (wd : Fin 256 → EReal) : EReal :=
  ∑ f, (((∑ k, x k * wg k f) * Ideal.div 1 (1 + Ideal.exp (0 - ∑ k, x k * wg k f)) * ∑ k, x k * wu k f) * cw) * wd f

theorem pay2_apply (a b : Vec Ideal S1024x1024 .f32) (g s : Vec Ideal S1x1024 .f32) (r d : Fin 1024) :
    k0_pay2 a b g s (ix2 r d) = LN (fun k => Ideal.ofBits .f32 1066940400#32 * a (ix2 r k) + b (ix2 r k)) (g (ix2 0 d)) (s (ix2 0 d)) d := by
  pointwise [k0_pay2, LN]

theorem lane : ∀ (e : Fin 16) (x : Fin 128), (IntOp.cmpi CmpIPredicate.eq (BitVec.ofNat 32 x.val) (Scalar.addi (BitVec.ofNat 32 e.val) 4#32)) = if x.val = e.val + 4 then 1#1 else 0#1 := by
  decide +kernel

theorem pay4_apply (i : grid0.Coords) (a : Vec Ideal S1024x1024 .bf16) (w : Vec Ideal S1x1024x512 .bf16)
    (cb : Vec Ideal S1024x128 .f32) (wd : Vec Ideal S1x256x1024 .bf16) (r d : Fin 1024) :
    k0_pay4 i a w cb wd (ix2 r d) = part (fun k => a (ix2 r k)) (fun k f => w (ix3 0 k ⟨f.val, by omega⟩)) (fun k f => w (ix3 0 k ⟨256 + f.val, by omega⟩))
      (cb (ix2 r ⟨(i 1).val + 4, by have : (i 1).val < 16 := (i 1).isLt; omega⟩)) (fun f => wd (ix3 0 f d)) := by
  have hi : (i 1).val < 16 := (i 1).isLt
  have hs : ∑ x : Fin 128, Scalar.select (IntOp.cmpi CmpIPredicate.eq (BitVec.ofNat 32 x.val) (Scalar.addi (BitVec.ofNat 32 (i 1).val) 4#32)) (cb (ix2 r x)) 0
      = (cb (ix2 r ⟨(i 1).val + 4, by omega⟩) : EReal) := by
    rw [Finset.sum_eq_single ⟨(i 1).val + 4, by omega⟩]
    · rw [lane ⟨(i 1).val, hi⟩]; simp [Scalar.select]
    · intro x _ hx
      rw [lane ⟨(i 1).val, hi⟩, if_neg (fun h => hx (Fin.ext h))]; simp [Scalar.select]
    · intro h; exact absurd (Finset.mem_univ _) h
  pointwise [k0_pay4, part]
  rw [hs]

theorem pay1_apply (a b : FVec Ideal S1024x1024 .f32) (j) : k0_pay1 a b j = a j + b j := by
  pointwise [k0_pay1]

theorem pay3_apply (j) : k0_pay3 (F := Ideal) j = 0 := by
  pointwise [k0_pay3]

/-- The scratch after the last of a row tile's sixteen points: the sum of the sixteen experts' parts. -/
theorem acc (c : Dev nD) (t : Fin cfg0.N) (h : t.val % 16 = 15) (j) :
    (outsAt0 m c t.val t.isLt).2 j = ∑ s : Fin 16, k0_pay4 (grid0.coords ⟨16 * (t.val / 16) + s.val, Pipeline.run_point_lt_of_flush t h s⟩)
      (iblk m c 1 ⟨16 * (t.val / 16) + s.val, Pipeline.run_point_lt_of_flush t h s⟩)
      (iblk m c 3 ⟨16 * (t.val / 16) + s.val, Pipeline.run_point_lt_of_flush t h s⟩)
      (iblk m c 2 ⟨16 * (t.val / 16) + s.val, Pipeline.run_point_lt_of_flush t h s⟩)
      (iblk m c 4 ⟨16 * (t.val / 16) + s.val, Pipeline.run_point_lt_of_flush t h s⟩) j := by
  have := Pipeline.eq_sum_fin_of_reset_step_apply_of_flush (fun n h => (outsAt0 m c n h).2) 16 (fun _ => (0 : EReal))
    (fun t j => k0_pay4 (grid0.coords t) (iblk m c 1 t) (iblk m c 3 t) (iblk m c 2 t) (iblk m c 4 t) j)
    (fun t h0 j => by rw [outsAt0_A m c t h0 (by omega)]; frame_out; rw [pay1_apply, pay3_apply])
    (fun t h0 j => by
      by_cases h1 : t.val % 16 = 15
      · rw [outsAt0_C m c t h0 h1]; frame_out; simp only [read_unread_whole]; rw [pay1_apply]
      · rw [outsAt0_B m c t h0 h1]; frame_out; simp only [read_unread_whole]; rw [pay1_apply]) t h j
  rw [zero_add] at this
  exact this

theorem out_C (c : Dev nD) (t : Fin cfg0.N) (h : t.val % 16 = 15) :
    (outsAt0 m c t.val t.isLt).1 = k0_pay2 (iblk m c 0 t) (outsAt0 m c t.val t.isLt).2 (iblk m c 5 t) (iblk m c 6 t) := by
  funext j
  rw [outsAt0_C m c t (by omega) h]
  frame_out

/-- The reference's sum before its layer norm, at a row and a column. -/
theorem ref17 (x0 : FVec Ideal Cert.MoeRefIdeal.S17408x1024 .f32) (x1 : FVec Ideal Cert.MoeRefIdeal.S17408x128 .f32)
    (x2 x3 : FVec Ideal Cert.MoeRefIdeal.S1x16x1024x256 .f32) (x4 : FVec Ideal Cert.MoeRefIdeal.S1x16x256x1024 .f32) (r : Fin 16384) (d : Fin 1024) :
    val_main_v17 (F := Ideal) x0 x1 x2 x3 x4 (ix3 0 r d) = Ideal.ofBits .f32 1066940400#32 * x0 (ix2 ⟨1024 + r.val, by omega⟩ d)
      + ∑ e : Fin 16, part (fun k => x0 (ix2 ⟨1024 + r.val, by omega⟩ k)) (fun k f => x2 (ix4 0 e k f)) (fun k f => x3 (ix4 0 e k f))
        (x1 (ix2 ⟨1024 + r.val, by omega⟩ ⟨4 + e.val, by omega⟩)) (fun f => x4 (ix4 0 e f d)) := by
  pointwise [val_main_v17, val_main_v16, val_main_v15, val_main_v14, val_main_v13, val_main_cst, val_main_v12, val_main_v11, val_main_v10, val_main_v9,
    val_main_v8, val_main_v7, val_main_v6, val_main_v5, val_main_v4, val_main_v3, val_main_v2, val_main_v1, val_main_v0, val_main_call0_v0, val_main_call0_v1,
    val_main_call0_v2, val_main_call0_v3, val_main_call0_v4, val_main_call0_v5, val_main_call0_cst, val_main_call0_cst_0, part]
  simp only [zero_sub]

/-- The reference's result at a row and a column: the layer norm of that sum. -/
theorem ref44 (x0 : FVec Ideal Cert.MoeRefIdeal.S17408x1024 .f32) (x1 : FVec Ideal Cert.MoeRefIdeal.S17408x128 .f32)
    (x2 x3 : FVec Ideal Cert.MoeRefIdeal.S1x16x1024x256 .f32) (x4 : FVec Ideal Cert.MoeRefIdeal.S1x16x256x1024 .f32)
    (x5 x6 : FVec Ideal Cert.MoeRefIdeal.S1x1024 .f32) (r : Fin 16384) (d : Fin 1024) :
    val_main_v44 (F := Ideal) x0 x1 x2 x3 x4 x5 x6 (ix2 r d)
      = LN (fun k => val_main_v17 (F := Ideal) x0 x1 x2 x3 x4 (ix3 0 r k)) (x5 (ix2 0 d)) (x6 (ix2 0 d)) d := by
  pointwise [val_main_v44, val_main_v43, val_main_v42, val_main_v41, val_main_v40, val_main_v39, val_main_v38, val_main_v37, val_main_v36, val_main_v35,
    val_main_v34, val_main_v33, val_main_v32, val_main_v31, val_main_v30, val_main_v29, val_main_v28, val_main_v27, val_main_v26, val_main_v25, val_main_v24,
    val_main_v23, val_main_v22, val_main_v21, val_main_v20, val_main_v19, val_main_v18, val_main_cst_0, val_main_cst_1, val_main_cst_2, val_main_cst_3, val_main_cst_4, LN]

theorem idx : ∀ t : Fin cfg0.N, win0_0.index t = ![t.val / 16, 0] ∧ win0_1.index t = ![t.val / 16, 0] ∧ win0_2.index t = ![t.val / 16, 0]
    ∧ win0_3.index t = ![t.val % 16, 0, 0] ∧ win0_4.index t = ![t.val % 16, 0, 0] ∧ win0_5.index t = ![0, 0] ∧ win0_6.index t = ![0, 0]
    ∧ win0_7.index t = ![t.val / 16 - 1, 0] ∧ ((grid0.coords t) 1).val = t.val % 16 ∧ t.val < 272 ∧ ((cfg0.win 7).flush t = true → t.val % 16 = 15 ∧ 16 ≤ t.val) :=
  (by decide +kernel : ∀ t : Fin grid0.N, _)

theorem blk1 (c : Dev nD) (p : Fin cfg0.N) (R : Fin 17408) (r k : Fin 1024) (h : p.val / 16 * 1024 + r.val = R.val) :
    iblk m c 1 p (ix2 r k) = m ((c : Thread nD τ).loc main_arg0) (ix2 R k) := by
  blk_ext! [iblk, V, idx p]

theorem blk2 (c : Dev nD) (p : Fin cfg0.N) (R : Fin 17408) (r : Fin 1024) (k k' : Fin 128) (h : p.val / 16 * 1024 + r.val = R.val) (hk : k.val = k'.val) :
    iblk m c 2 p (ix2 r k) = m ((c : Thread nD τ).loc main_arg1) (ix2 R k') := by
  blk_ext [iblk, V, idx p]

theorem blk3g (c : Dev nD) (p : Fin cfg0.N) (e : Fin 16) (k : Fin 1024) (f : Fin 256) (h : p.val % 16 = e.val) :
    iblk m c 3 p (ix3 0 k ⟨f.val, by omega⟩) = m ((c : Thread nD τ).loc main_arg2) (ix4 0 e k f) := by
  have e' : ((View.whole main_v7).slice (win0_3.rect p)).emb (ix3 0 k ⟨f.val, by omega⟩) = ix3 e k ⟨f.val, by omega⟩ := by
    blk_ext [idx p]
  blk_simp [iblk]
  rw [e']
  entry_read
  pointwise

theorem blk3u (c : Dev nD) (p : Fin cfg0.N) (e : Fin 16) (k : Fin 1024) (f : Fin 256) (h : p.val % 16 = e.val) :
    iblk m c 3 p (ix3 0 k ⟨256 + f.val, by omega⟩) = m ((c : Thread nD τ).loc main_arg3) (ix4 0 e k f) := by
  have e' : ((View.whole main_v7).slice (win0_3.rect p)).emb (ix3 0 k ⟨256 + f.val, by omega⟩) = ix3 e k ⟨256 + f.val, by omega⟩ := by
    blk_ext [idx p]
  blk_simp [iblk]
  rw [e']
  entry_read
  pointwise

theorem blk4 (c : Dev nD) (p : Fin cfg0.N) (e : Fin 16) (k : Fin 256) (f : Fin 1024) (h : p.val % 16 = e.val) :
    iblk m c 4 p (ix3 0 k f) = m ((c : Thread nD τ).loc main_arg4) (ix4 0 e k f) := by
  blk_ext! [iblk, V, idx p]

theorem final (c : Dev nD) : (dats m 0 c).arrAt 7 (cfgs 0).N
    = val_main_v44 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  obtain ⟨h15, h16⟩ := (idx t).2.2.2.2.2.2.2.2.2.2 hf
  rw [after0_7, out_C m c t h15]
  idx_vars y
  rw [pay2_apply]
  simp only [acc m c t h15, pay4_apply]
  have e : ((View.whole main_v11).slice (win0_7.rect t)).emb (ix2 y0 y1)
      = ix2 ⟨(t.val / 16 - 1) * 1024 + y0.val, by have := (idx t).2.2.2.2.2.2.2.2.2.1; omega⟩ y1 := by
    blk_ext [idx t]
  rw [e, ref44]
  simp only [ref17]
  have hx : ∀ k, iblk m c 0 t (ix2 y0 k) = m ((c : Thread nD τ).loc main_arg0) (ix2 ⟨1024 + ((t.val / 16 - 1) * 1024 + y0.val), by have := (idx t).2.2.2.2.2.2.2.2.2.1; omega⟩ k) := by
    intro k
    blk_ext [iblk, V, idx t]
  have hg : iblk m c 5 t (ix2 0 y1) = m ((c : Thread nD τ).loc main_arg5) (ix2 0 y1) := by
    blk_ext! [iblk, V, idx t]
  have hs : iblk m c 6 t (ix2 0 y1) = m ((c : Thread nD τ).loc main_arg6) (ix2 0 y1) := by
    blk_ext! [iblk, V, idx t]
  rw [hg, hs]
  have hN := (idx t).2.2.2.2.2.2.2.2.2.1
  refine congrArg (fun x => LN x _ _ y1) (funext fun k => ?_)
  rw [hx k]
  refine congrArg (_ + ·) (Finset.sum_congr rfl fun e _ => ?_)
  have hp1 : (16 * (t.val / 16) + e.val) / 16 = t.val / 16 := by omega
  have hp2 : (16 * (t.val / 16) + e.val) % 16 = e.val := by omega
  have hc := (idx ⟨16 * (t.val / 16) + e.val, Pipeline.run_point_lt_of_flush t h15 e⟩).2.2.2.2.2.2.2.2.1
  refine congr (congr (congr (congr (congrArg part (funext fun k => ?_)) (funext fun k => funext fun f => ?_)) (funext fun k => funext fun f => ?_)) ?_) (funext fun f => ?_)
  · exact blk1 m c _ _ _ _ (by show _ = 1024 + ((t.val / 16 - 1) * 1024 + y0.val); dsimp only; omega)
  · exact blk3g m c _ _ _ _ hp2
  · exact blk3u m c _ _ _ _ hp2
  · exact blk2 m c _ _ _ _ _ (by show _ = 1024 + ((t.val / 16 - 1) * 1024 + y0.val); dsimp only; omega) (by show _ + 4 = 4 + e.val; exact (congrArg (· + 4) (hc.trans hp2)).trans (Nat.add_comm _ _))
  · exact blk4 m c _ _ _ _ hp2

end Cert.MoeIdeal.Val
-- ==== Proof.InPValue.lean ====
module

public import proofs.«01_k».proof.Proof.Gen.InPIdeal.Frame
public import proofs.«01_k».proof.Proof.Gen.InPRefIdeal.Read
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InPIdeal.Val
open Cert.InPIdeal Cert.InPIdeal.Gen
open Cert.InPRefIdeal.Read

variable (m : (ℓ : Loc nD τ sig) → Buf (Elt Ideal) ℓ)

/-- The projected row `R` of the call's array: nothing before row 1008, then the sixteen meta tokens, then the prompt. -/
def H (x : FVec Ideal Cert.InPRefIdeal.S1x16384x1024 .f32) (mt : FVec Ideal Cert.InPRefIdeal.S16x1024 .f32) (R : Fin 17408) (k : Fin 1024) : EReal :=
  if h : R.val < 1008 then 0 else if h' : R.val < 1024 then mt (ix2 ⟨R.val - 1008, by omega⟩ k) else x (ix3 0 ⟨R.val - 1024, by omega⟩ k)

/-- Column `j` of the projection of row `R`. -/
def Z (x : FVec Ideal Cert.InPRefIdeal.S1x16384x1024 .f32) (mt : FVec Ideal Cert.InPRefIdeal.S16x1024 .f32)
    (w : FVec Ideal Cert.InPRefIdeal.S1x1024x4420 .f32) (R : Fin 17408) (j : Fin 4420) : EReal :=
  ∑ k, H x mt R k * w (ix3 0 k j)

/-- Column `j` of the call's weight array: the projection's columns with sixty columns of zeros after the head weights. -/
def Wp (w : FVec Ideal Cert.InPRefIdeal.S1x1024x4420 .f32) (k : Fin 1024) (j : Fin 4480) : EReal :=
  if h : j.val < 2372 then w (ix3 0 k ⟨j.val, by omega⟩) else if h' : j.val < 2432 then 0 else w (ix3 0 k ⟨j.val - 60, by omega⟩)

/-- The call's weight array from the projection's weights. -/
def padw (w : FVec Ideal S1x1024x4420 .f32) : FVec Ideal S1024x4480 .bf16 :=
  truncf (F := Ideal) .bf16 (concatenate S1024x4480 1 [⟨S1024x2372, (extractStridedSlice S1024x2372 ![0, 0] (shapeCast S1024x4420 w shapeCasts_S1x1024x4420_S1024x4420) slices_S1024x4420_S1024x2372_0_0 : FVec Ideal S1024x2372 .f32)⟩,
    ⟨S1024x60, (broadcastInDim S1024x60 ![] bcast_S_S1024x60 (constant (F := Ideal) S_ .f32 0x00000000#32) : FVec Ideal S1024x60 .f32)⟩,
    ⟨S1024x2048, (extractStridedSlice S1024x2048 ![0, 2372] (shapeCast S1024x4420 w shapeCasts_S1x1024x4420_S1024x4420) slices_S1024x4420_S1024x2048_0_2372 : FVec Ideal S1024x2048 .f32)⟩] concatenates_S1024x2372_S1024x60_S1024x2048_S1024x4480_d1 : FVec Ideal S1024x4480 .f32) bitsLt_bf16_f32

theorem padw_apply (w) (k : Fin 1024) (j : Fin 4480) : padw w (ix2 k j) = Wp w k j := by
  pointwise [padw, Wp]
  by_cases h : j.val < 2372
  · rw [dif_pos h, dif_pos h]
  · rw [dif_neg h, dif_neg h]
    by_cases h' : j.val < 2432
    · rw [dif_pos h', dif_pos (by omega)]
    · rw [dif_neg h', dif_neg (by omega)]
      exact congrArg (fun i => w (ix3 0 k i)) (Fin.ext (by dsimp only; omega))

theorem vw (c : Dev nD) : V m c main_v8 = padw (m ((c : Thread nD τ).loc main_arg2)) := by
  unfold V hostOps0
  simp only [StableHlo.after_cons, StableHlo.after_nil]
  rw [StableHlo.unary_result, StableHlo.nary_result]
  have cat : ∀ (a a' : FVec Ideal S1024x2372 .f32) (b b' : FVec Ideal S1024x60 .f32) (d d' : FVec Ideal S1024x2048 .f32), a = a' → b = b' → d = d' →
      truncf (F := Ideal) .bf16 (concatenate S1024x4480 1 [⟨S1024x2372, a⟩, ⟨S1024x60, b⟩, ⟨S1024x2048, d⟩] concatenates_S1024x2372_S1024x60_S1024x2048_S1024x4480_d1 : FVec Ideal S1024x4480 .f32) bitsLt_bf16_f32
      = truncf (F := Ideal) .bf16 (concatenate S1024x4480 1 [⟨S1024x2372, a'⟩, ⟨S1024x60, b'⟩, ⟨S1024x2048, d'⟩] concatenates_S1024x2372_S1024x60_S1024x2048_S1024x4480_d1 : FVec Ideal S1024x4480 .f32) bitsLt_bf16_f32 := by
    rintro a _ b _ d _ rfl rfl rfl; rfl
  refine cat _ _ _ _ _ _ ?_ ?_ ?_
  · show HloOp.result _ _ (Proc.devRef .tc main_v4) = _
    after_results_loop
    first | done | rfl
  · show HloOp.result _ _ (Proc.devRef .tc main_v5) = _
    after_results_loop
    first | done | rfl
  · show HloOp.result _ _ (Proc.devRef .tc main_v6) = _
    after_results_loop
    first | done | rfl

theorem ofInt0 (φ : FTy) : (FloatOps.sitofp (F := Ideal) φ (0#32) : EReal) = 0 := by
  show ((((0#32 : BitVec 32).toInt : ℤ) : ℝ) : EReal) = 0
  simp

theorem ref3 (x mt w) (R : Fin 17408) (h : ¬ R.val < 1008) (j : Fin 4420) :
    val_main_v3 (F := Ideal) x mt w (ix3 0 ⟨R.val - 1008, by omega⟩ j) = Z x mt w R j := by
  pointwise [val_main_v3, val_main_v2, val_main_v1, val_main_v0, Z, H]
  refine Finset.sum_congr rfl fun k _ => congrArg (· * _) ?_
  rw [dif_neg h]
  by_cases h' : R.val < 1024
  · rw [dif_pos h', dif_pos (by omega)]
  · rw [dif_neg h', dif_neg (by omega)]
    exact congrArg (fun i => x (ix3 0 i k)) (Fin.ext (by dsimp only; omega))

theorem Z0 (x mt w) (R : Fin 17408) (h : R.val < 1008) (j : Fin 4420) : Z x mt w R j = 0 := by
  unfold Z H
  simp only [dif_pos h, zero_mul, Finset.sum_const_zero]

theorem ref22 (x mt w) (R : Fin 17408) (j : Fin 512) :
    val_main_v22 (F := Ideal) x mt w (ix2 R j) = Z x mt w R ⟨0 + j.val, by omega⟩ := by
  pointwise [val_main_v22, val_main_v21, val_main_v4, val_main_call0_v0, val_main_c]
  by_cases h : R.val < 1008
  · rw [dif_neg (by omega), Z0 x mt w R h]
    exact ofInt0 _
  · rw [dif_pos (by omega)]
    exact ref3 x mt w R h ⟨_, _⟩

theorem ref26 (x mt w) (R : Fin 17408) (j : Fin 512) :
    val_main_v26 (F := Ideal) x mt w (ix2 R j) = Z x mt w R ⟨1024 + j.val, by omega⟩ := by
  pointwise [val_main_v26, val_main_v25, val_main_v6, val_main_call2_v0, val_main_c_2]
  by_cases h : R.val < 1008
  · rw [dif_neg (by omega), Z0 x mt w R h]
    exact ofInt0 _
  · rw [dif_pos (by omega)]
    exact ref3 x mt w R h ⟨_, _⟩

theorem ref28 (x mt w) (R : Fin 17408) (j : Fin 512) :
    val_main_v28 (F := Ideal) x mt w (ix2 R j) = Z x mt w R ⟨1536 + j.val, by omega⟩ := by
  pointwise [val_main_v28, val_main_v27, val_main_v7, val_main_call3_v0, val_main_c_3]
  by_cases h : R.val < 1008
  · rw [dif_neg (by omega), Z0 x mt w R h]
    exact ofInt0 _
  · rw [dif_pos (by omega)]
    exact ref3 x mt w R h ⟨_, _⟩

theorem ref30 (x mt w) (R : Fin 17408) (j : Fin 512) :
    val_main_v30 (F := Ideal) x mt w (ix2 R j) = Z x mt w R ⟨1024 + j.val, by omega⟩ := by
  pointwise [val_main_v30, val_main_v29, val_main_v18, val_main_v6, val_main_call4_v0, val_main_c_4]
  by_cases h : R.val < 1008
  · rw [dif_neg (by omega), Z0 x mt w R h]
    exact ofInt0 _
  · rw [dif_pos (by omega)]
    exact ref3 x mt w R h ⟨_, _⟩

theorem ref32 (x mt w) (R : Fin 17408) (j : Fin 512) :
    val_main_v32 (F := Ideal) x mt w (ix2 R j) = Z x mt w R ⟨1536 + j.val, by omega⟩ := by
  pointwise [val_main_v32, val_main_v31, val_main_v19, val_main_v7, val_main_call5_v0, val_main_c_5]
  by_cases h : R.val < 1008
  · rw [dif_neg (by omega), Z0 x mt w R h]
    exact ofInt0 _
  · rw [dif_pos (by omega)]
    exact ref3 x mt w R h ⟨_, _⟩

theorem ref34 (x mt w) (R : Fin 17408) (j : Fin 256) :
    val_main_v34 (F := Ideal) x mt w (ix2 R j) = Z x mt w R ⟨2048 + j.val, by omega⟩ := by
  pointwise [val_main_v34, val_main_v33, val_main_v20, val_main_v8, val_main_call6_v0, val_main_c_6]
  by_cases h : R.val < 1008
  · rw [dif_neg (by omega), Z0 x mt w R h]
    exact ofInt0 _
  · rw [dif_pos (by omega)]
    exact ref3 x mt w R h ⟨_, _⟩

theorem ref38 (x mt w) (R : Fin 17408) (j : Fin 1024) :
    val_main_v38 (F := Ideal) x mt w (ix2 R j) = Z x mt w R ⟨2372 + j.val, by omega⟩ := by
  pointwise [val_main_v38, val_main_v37, val_main_v11, val_main_call8_v0, val_main_c_8]
  by_cases h : R.val < 1008
  · rw [dif_neg (by omega), Z0 x mt w R h]
    exact ofInt0 _
  · rw [dif_pos (by omega)]
    exact ref3 x mt w R h ⟨_, _⟩

theorem ref40 (x mt w) (R : Fin 17408) (j : Fin 1024) :
    val_main_v40 (F := Ideal) x mt w (ix2 R j) = Z x mt w R ⟨3396 + j.val, by omega⟩ := by
  pointwise [val_main_v40, val_main_v39, val_main_v12, val_main_call9_v0, val_main_c_9]
  by_cases h : R.val < 1008
  · rw [dif_neg (by omega), Z0 x mt w R h]
    exact ofInt0 _
  · rw [dif_pos (by omega)]
    exact ref3 x mt w R h ⟨_, _⟩

theorem ref24 (x mt w) (R : Fin 17408) (j : Fin 512) :
    (val_main_v24 (F := Ideal) x mt w (ix2 R j) : EReal) = Z x mt w R ⟨512 + j.val, by omega⟩ * (FloatOps.ofBits (F := Ideal) .f32 0x3E000000#32 : EReal) := by
  pointwise [val_main_v24, val_main_v23, val_main_v17, val_main_v16, val_main_v15, val_main_v5, val_main_cst_0, val_main_call1_v0, val_main_c_1]
  by_cases h : R.val < 1008
  · rw [dif_neg (by omega), Z0 x mt w R h, zero_mul]
    exact ofInt0 _
  · rw [dif_pos (by omega)]
    refine congrArg (· * _) ?_
    exact ref3 x mt w R h ⟨_, _⟩

theorem ref36 (x mt w) (R : Fin 17408) (j : Fin 128) :
    (val_main_v36 (F := Ideal) x mt w (ix2 R j) : EReal) = if h : j.val < 68 then Z x mt w R ⟨2304 + j.val, by omega⟩ else 0 := by
  pointwise [val_main_v36, val_main_v35, val_main_v14, val_main_v9, val_main_v10, val_main_v13, val_main_cst, val_main_call7_v0, val_main_c_7]
  by_cases h : R.val < 1008
  · rw [dif_neg (by omega)]
    have z : (if h : j.val < 68 then Z x mt w R ⟨2304 + j.val, by omega⟩ else 0) = (0 : EReal) := by
      split
      · exact Z0 x mt w R h _
      · rfl
    rw [z]
    exact ofInt0 _
  · rw [dif_pos (by omega)]
    by_cases h' : j.val < 64
    · rw [dif_pos h', dif_pos (by omega)]
      exact ref3 x mt w R h ⟨_, _⟩
    · rw [dif_neg h']
      by_cases h'' : j.val < 68
      · rw [dif_pos h'', dif_pos (by omega)]
        exact (congrArg (fun i => val_main_v3 (F := Ideal) x mt w (ix3 0 _ i)) (Fin.ext (by dsimp only; omega))).trans (ref3 x mt w R h _)
      · rw [dif_neg h'', dif_neg (by omega)]
theorem idx : ∀ t : Fin cfg0.N, win0_0.index t = ![t.val - 4, 0] ∧ win0_1.index t = ![min t.val 3, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] ∧ win0_11.index t = ![t.val, 0]
     ∧ win0_12.index t = ![t.val, 0] ∧ ((grid0.coords t) 0).val = t.val ∧ t.val < 68 :=
  (by decide +kernel : ∀ t : Fin grid0.N, _)

theorem head_tile : ∀ n : Fin 68, Scalar.cmpi CmpIPredicate.slt (BitVec.ofNat 32 n.val) 4#32 = if n.val < 4 then 1#1 else 0#1 := by
  decide +kernel

theorem wemb (c : Dev nD) (t : Fin cfg0.N) (k : Fin 1024) (j : Fin 4480) :
    ((View.whole main_v8).slice (win0_2.rect t)).emb (ix2 k j) = ix2 k j := by
  blk_ext [idx t]

theorem blkw (c : Dev nD) (t : Fin cfg0.N) (k : Fin 1024) (j : Fin 4480) :
    iblk m c 2 t (ix2 k j) = Wp (m ((c : Thread nD τ).loc main_arg2)) k j := by
  blk_simp [iblk]
  rw [wemb c t, vw m c]
  exact padw_apply _ k j

theorem blkh (c : Dev nD) (t : Fin cfg0.N) (h : t.val < 4) (r : Fin 256) (k : Fin 1024) (R : Fin 17408) (hR : R.val = 256 * t.val + r.val) :
    iblk m c 1 t (ix2 r k) = H (m ((c : Thread nD τ).loc main_arg0)) (m ((c : Thread nD τ).loc main_arg1)) R k := by
  have e' : ((View.whole main_v1).slice (win0_1.rect t)).emb (ix2 r k) = ix2 ⟨R.val, by omega⟩ k := by
    blk_ext [idx t]
  blk_simp [iblk]
  rw [e']
  entry_read
  pointwise [H]
  by_cases h8 : R.val < 1008
  · rw [dif_pos h8, dif_pos h8]
  · rw [dif_neg h8, dif_neg h8, dif_pos (by omega)]

theorem blkx (c : Dev nD) (t : Fin cfg0.N) (h : ¬ t.val < 4) (r : Fin 256) (k : Fin 1024) (R : Fin 17408) (hR : R.val = 256 * t.val + r.val) :
    iblk m c 0 t (ix2 r k) = H (m ((c : Thread nD τ).loc main_arg0)) (m ((c : Thread nD τ).loc main_arg1)) R k := by
  rw [H, dif_neg (by omega), dif_neg (by omega)]
  blk_ext! [iblk, V, idx t]

theorem row (c : Dev nD) (t : Fin cfg0.N) (r : Fin 256) (k : Fin 1024) (R : Fin 17408) (h : R.val = 256 * t.val + r.val) :
    (k0_pay6 (grid0.coords t) (iblk m c 1 t) (iblk m c 0 t) (ix2 r k) : EReal) = H (m ((c : Thread nD τ).loc main_arg0)) (m ((c : Thread nD τ).loc main_arg1)) R k := by
  have hi := (idx t).2.2.2.2.2.2.2.2.2.2.2.2.2.1
  have hN := (idx t).2.2.2.2.2.2.2.2.2.2.2.2.2.2
  have hc := head_tile ⟨t.val, hN⟩
  pointwise [k0_pay6]
  rw [hi, hc]
  by_cases h4 : t.val < 4
  · rw [if_pos h4]
    exact blkh m c t h4 r k R h
  · rw [if_neg h4]
    exact blkx m c t h4 r k R h

/-- A row of the call's array times its weights, for a column that is one of the projection's. -/
theorem core (c : Dev nD) (t : Fin cfg0.N) (r : Fin 256) (j : Fin 4480) (R : Fin 17408) (hR : R.val = 256 * t.val + r.val) (jj : Fin 4420)
    (hj : (j.val < 2372 ∧ jj.val = j.val) ∨ (2432 ≤ j.val ∧ jj.val + 60 = j.val)) :
    (∑ k : Fin 1024, (k0_pay6 (grid0.coords t) (iblk m c 1 t) (iblk m c 0 t) (ix2 r k) : EReal) * (iblk m c 2 t (ix2 k j) : EReal))
      = Z (m ((c : Thread nD τ).loc main_arg0)) (m ((c : Thread nD τ).loc main_arg1)) (m ((c : Thread nD τ).loc main_arg2)) R jj := by
  refine Finset.sum_congr rfl fun k _ => ?_
  rw [row m c t r k R hR, blkw m c t k j]
  refine congrArg (_ * ·) ?_
  rcases hj with ⟨h, e⟩ | ⟨h, e⟩
  · rw [Wp, dif_pos h]
    exact congrArg (fun i => m ((c : Thread nD τ).loc main_arg2) (ix3 0 k i)) (Fin.ext e.symm)
  · rw [Wp, dif_neg (by omega), dif_neg (by omega)]
    exact congrArg (fun i => m ((c : Thread nD τ).loc main_arg2) (ix3 0 k i)) (Fin.ext (by dsimp only; omega))

/-- The sixty added columns give nothing. -/
theorem core0 (c : Dev nD) (t : Fin cfg0.N) (r : Fin 256) (j : Fin 4480) (h : 2372 ≤ j.val ∧ j.val < 2432) :
    (∑ k : Fin 1024, (k0_pay6 (grid0.coords t) (iblk m c 1 t) (iblk m c 0 t) (ix2 r k) : EReal) * (iblk m c 2 t (ix2 k j) : EReal)) = 0 := by
  refine Finset.sum_eq_zero fun k _ => ?_
  rw [blkw m c t k j, Wp, dif_neg (by omega), dif_pos (by omega)]
  exact mul_zero _

end Cert.InPIdeal.Val
-- ==== Proof.InPFinal.lean ====
module

public import proofs.«01_k».proof.Proof.Gen.InPIdeal.Frame
public import proofs.«01_k».proof.Proof.Gen.InPRefIdeal.Read
public import proofs.«01_k».proof.Proof.InPValue
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InPIdeal.Val
open Cert.InPIdeal Cert.InPIdeal.Gen
open Cert.InPRefIdeal.Read

variable (m : (ℓ : Loc nD τ sig) → Buf (Elt Ideal) ℓ)

/-- Reading the whole of a buffer gives its contents. -/
theorem ld0 (x : Vec Ideal S256x1024 .f32) : View.ld x r0_0 = x := by
  funext y
  idx_vars y
  pointwise

theorem out3_apply (i : grid0.Coords) (x0 : Vec Ideal S256x1024 .f32) (x1 : Vec Ideal S256x1024 .f32) (x2 : Vec Ideal S1024x4480 .bf16) (r : Fin 256) (j : Fin 512) :
    (out0_3 i x0 x1 x2 (ix2 r j) : EReal) = ∑ k : Fin 1024, (k0_pay6 i x1 x0 (ix2 r k) : EReal) * (x2 (ix2 k ⟨0 + j.val, by omega⟩) : EReal) := by
  frame_out
  pointwise [k0_pay7]

theorem emb3 (t : Fin cfg0.N) (r : Fin 256) (j : Fin 512) :
    ((View.whole main_v9_0).slice (win0_3.rect t)).emb (ix2 r j) = ix2 ⟨256 * t.val + r.val, by have := (idx t).2.2.2.2.2.2.2.2.2.2.2.2.2.2; omega⟩ j := by
  blk_ext [idx t]

/-- Result 0 of the call is the reference's. -/
theorem final3 (c : Dev nD) : (dats m 0 c).arrAt 3 (cfgs 0).N
    = val_main_v22 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  rw [emb3 t y0 y1, ref22]
  have hN := (idx t).2.2.2.2.2.2.2.2.2.2.2.2.2.2
  have hb := core m c t y0 ⟨0 + y1.val, by omega⟩ ⟨256 * t.val + y0.val, by omega⟩ (by dsimp only) ⟨0 + y1.val, by omega⟩ (by dsimp only; omega)
  rw [out3_apply]
  exact hb

theorem out4_apply (i : grid0.Coords) (x0 : Vec Ideal S256x1024 .f32) (x1 : Vec Ideal S256x1024 .f32) (x2 : Vec Ideal S1024x4480 .bf16) (r : Fin 256) (j : Fin 512) :
    (out0_4 i x0 x1 x2 (ix2 r j) : EReal) = (∑ k : Fin 1024, (k0_pay6 i x1 x0 (ix2 r k) : EReal) * (x2 (ix2 k ⟨512 + j.val, by omega⟩) : EReal)) * (FloatOps.ofBits (F := Ideal) .f32 0x3E000000#32 : EReal) := by
  frame_out
  pointwise [k0_pay8]

theorem emb4 (t : Fin cfg0.N) (r : Fin 256) (j : Fin 512) :
    ((View.whole main_v9_1).slice (win0_4.rect t)).emb (ix2 r j) = ix2 ⟨256 * t.val + r.val, by have := (idx t).2.2.2.2.2.2.2.2.2.2.2.2.2.2; omega⟩ j := by
  blk_ext [idx t]

/-- Result 1 of the call is the reference's. -/
theorem final4 (c : Dev nD) : (dats m 0 c).arrAt 4 (cfgs 0).N
    = val_main_v24 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  idx_vars y
  rw [emb4 t y0 y1, ref24]
  have hN := (idx t).2.2.2.2.2.2.2.2.2.2.2.2.2.2
  have hb := core m c t y0 ⟨512 + y1.val, by omega⟩ ⟨256 * t.val + y0.val, by omega⟩ (by dsimp only) ⟨512 + y1.val, by omega⟩ (by dsimp only; omega)
  rw [out4_apply]
  exact congrArg (· * _) hb

theorem out5_apply (i : grid0.Coords) (x0 : Vec Ideal S256x1024 .f32) (x1 : Vec Ideal S256x1024 .f32) (x2 : Vec Ideal S1024x4480 .bf16) (r : Fin 256) (j : Fin 512) :
    (out0_5 i x0 x1 x2 (ix2 r j) : EReal) = ∑ k : Fin 1024, (k0_pay6 i x1 x0 (ix2 r k) : EReal) * (x2 (ix2 k ⟨1024 + j.val, by omega⟩) : EReal) := by
  frame_out
  pointwise [k0_pay9]

theorem emb5 (t : Fin cfg0.N) (r : Fin 256) (j : Fin 512) :
    ((View.whole main_v9_2).slice (win0_5.rect t)).emb (ix2 r j) = ix2 ⟨256 * t.val + r.val, by have := (idx t).2.2.2.2.2.2.2.2.2.2.2.2.2.2; omega⟩ j := by
  blk_ext [idx t]

/-- Result 2 of the call is the reference's. -/
theorem final5 (c : Dev nD) : (dats m 0 c).arrAt 5 (cfgs 0).N
    = val_main_v26 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  idx_vars y
  rw [emb5 t y0 y1, ref26]
  have hN := (idx t).2.2.2.2.2.2.2.2.2.2.2.2.2.2
  have hb := core m c t y0 ⟨1024 + y1.val, by omega⟩ ⟨256 * t.val + y0.val, by omega⟩ (by dsimp only) ⟨1024 + y1.val, by omega⟩ (by dsimp only; omega)
  rw [out5_apply]
  exact hb

theorem out6_apply (i : grid0.Coords) (x0 : Vec Ideal S256x1024 .f32) (x1 : Vec Ideal S256x1024 .f32) (x2 : Vec Ideal S1024x4480 .bf16) (r : Fin 256) (j : Fin 512) :
    (out0_6 i x0 x1 x2 (ix2 r j) : EReal) = ∑ k : Fin 1024, (k0_pay6 i x1 x0 (ix2 r k) : EReal) * (x2 (ix2 k ⟨1536 + j.val, by omega⟩) : EReal) := by
  frame_out
  pointwise [k0_pay13, k0_pay11]
  rw [ld0, ld0]

theorem emb6 (t : Fin cfg0.N) (r : Fin 256) (j : Fin 512) :
    ((View.whole main_v9_3).slice (win0_6.rect t)).emb (ix2 r j) = ix2 ⟨256 * t.val + r.val, by have := (idx t).2.2.2.2.2.2.2.2.2.2.2.2.2.2; omega⟩ j := by
  blk_ext [idx t]

/-- Result 3 of the call is the reference's. -/
theorem final6 (c : Dev nD) : (dats m 0 c).arrAt 6 (cfgs 0).N
    = val_main_v28 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  idx_vars y
  rw [emb6 t y0 y1, ref28]
  have hN := (idx t).2.2.2.2.2.2.2.2.2.2.2.2.2.2
  have hb := core m c t y0 ⟨1536 + y1.val, by omega⟩ ⟨256 * t.val + y0.val, by omega⟩ (by dsimp only) ⟨1536 + y1.val, by omega⟩ (by dsimp only; omega)
  rw [out6_apply]
  exact hb

theorem out7_apply (i : grid0.Coords) (x0 : Vec Ideal S256x1024 .f32) (x1 : Vec Ideal S256x1024 .f32) (x2 : Vec Ideal S1024x4480 .bf16) (r : Fin 256) (j : Fin 512) :
    (out0_7 i x0 x1 x2 (ix2 r j) : EReal) = ∑ k : Fin 1024, (k0_pay6 i x1 x0 (ix2 r k) : EReal) * (x2 (ix2 k ⟨1024 + j.val, by omega⟩) : EReal) := by
  frame_out
  pointwise [k0_pay10, k0_pay9]

theorem emb7 (t : Fin cfg0.N) (r : Fin 256) (j : Fin 512) :
    ((View.whole main_v9_4).slice (win0_7.rect t)).emb (ix2 r j) = ix2 ⟨256 * t.val + r.val, by have := (idx t).2.2.2.2.2.2.2.2.2.2.2.2.2.2; omega⟩ j := by
  blk_ext [idx t]

/-- Result 4 of the call is the reference's. -/
theorem final7 (c : Dev nD) : (dats m 0 c).arrAt 7 (cfgs 0).N
    = val_main_v30 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  idx_vars y
  rw [emb7 t y0 y1, ref30]
  have hN := (idx t).2.2.2.2.2.2.2.2.2.2.2.2.2.2
  have hb := core m c t y0 ⟨1024 + y1.val, by omega⟩ ⟨256 * t.val + y0.val, by omega⟩ (by dsimp only) ⟨1024 + y1.val, by omega⟩ (by dsimp only; omega)
  rw [out7_apply]
  exact hb

theorem out8_apply (i : grid0.Coords) (x0 : Vec Ideal S256x1024 .f32) (x1 : Vec Ideal S256x1024 .f32) (x2 : Vec Ideal S1024x4480 .bf16) (r : Fin 256) (j : Fin 512) :
    (out0_8 i x0 x1 x2 (ix2 r j) : EReal) = ∑ k : Fin 1024, (k0_pay6 i x1 x0 (ix2 r k) : EReal) * (x2 (ix2 k ⟨1536 + j.val, by omega⟩) : EReal) := by
  frame_out
  pointwise [k0_pay1, k0_pay13, k0_pay11]
  rw [ld0, ld0]

theorem emb8 (t : Fin cfg0.N) (r : Fin 256) (j : Fin 512) :
    ((View.whole main_v9_5).slice (win0_8.rect t)).emb (ix2 r j) = ix2 ⟨256 * t.val + r.val, by have := (idx t).2.2.2.2.2.2.2.2.2.2.2.2.2.2; omega⟩ j := by
  blk_ext [idx t]

/-- Result 5 of the call is the reference's. -/
theorem final8 (c : Dev nD) : (dats m 0 c).arrAt 8 (cfgs 0).N
    = val_main_v32 (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  idx_vars y
  rw [emb8 t y0 y1, ref32]
  have hN := (idx t).2.2.2.2.2.2.2.2.2.2.2.2.2.2
  have hb := core m c t y0 ⟨1536 + y1.val, by omega⟩ ⟨256 * t.val + y0.val, by omega⟩ (by dsimp only) ⟨1536 + y1.val, by omega⟩ (by dsimp only; omega)
  rw [out8_apply]
  exact hb

theorem out9_apply (i : grid0.Coords) (x0 : Vec Ideal S256x1024 .f32) (x1 : Vec Ideal S256x1024 .f32) (x2 : Vec Ideal S1024x4480 .bf16) (r : Fin 256) (j : Fin 256) :
    (out0_9 i x0 x1 x2 (ix2 r j) : EReal) = ∑ k : Fin 1024, (k0_pay6 i x1 x0 (ix2 r k) : EReal) * (x2 (ix2 k ⟨2048 + j.val, by omega⟩) : EReal) := by
  frame_out
  pointwise [k0_pay2, k0_pay12]
  rw [ld0, ld0]

theorem emb9 (t : Fin cfg0.N) (r : Fin 256) (j : Fin 256) :
    ((View.whole main_v9_6).slice (win0_9.rect t)).emb (ix2 r j) = ix2 ⟨256 * t.val + r.val, by have := (idx t).2.2.2.2.2.2.2.2.2.2.2.2.2.2; omega⟩ j := by
  blk_ext [idx t]

/-- Result 6 of the call is the reference's. -/
theorem final9 (c : Dev nD) : (dats m 0 c).arrAt 9 (cfgs 0).N
    = val_main_v34 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  idx_vars y
  rw [emb9 t y0 y1, ref34]
  have hN := (idx t).2.2.2.2.2.2.2.2.2.2.2.2.2.2
  have hb := core m c t y0 ⟨2048 + y1.val, by omega⟩ ⟨256 * t.val + y0.val, by omega⟩ (by dsimp only) ⟨2048 + y1.val, by omega⟩ (by dsimp only; omega)
  rw [out9_apply]
  exact hb

theorem out10_apply (i : grid0.Coords) (x0 : Vec Ideal S256x1024 .f32) (x1 : Vec Ideal S256x1024 .f32) (x2 : Vec Ideal S1024x4480 .bf16) (r : Fin 256) (j : Fin 128) :
    (out0_10 i x0 x1 x2 (ix2 r j) : EReal) = ∑ k : Fin 1024, (k0_pay6 i x1 x0 (ix2 r k) : EReal) * (x2 (ix2 k ⟨2304 + j.val, by omega⟩) : EReal) := by
  frame_out
  pointwise [k0_pay3, k0_pay12]
  rw [ld0, ld0]

theorem emb10 (t : Fin cfg0.N) (r : Fin 256) (j : Fin 128) :
    ((View.whole main_v9_7).slice (win0_10.rect t)).emb (ix2 r j) = ix2 ⟨256 * t.val + r.val, by have := (idx t).2.2.2.2.2.2.2.2.2.2.2.2.2.2; omega⟩ j := by
  blk_ext [idx t]

/-- Result 7 of the call is the reference's. -/
theorem final10 (c : Dev nD) : (dats m 0 c).arrAt 10 (cfgs 0).N
    = val_main_v36 (F := Ideal) (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10]
  idx_vars y
  rw [emb10 t y0 y1, ref36]
  have hN := (idx t).2.2.2.2.2.2.2.2.2.2.2.2.2.2
  rw [out10_apply]
  by_cases h : y1.val < 68
  · rw [dif_pos h]
    exact core m c t y0 ⟨2304 + y1.val, by omega⟩ ⟨256 * t.val + y0.val, by omega⟩ (by dsimp only) ⟨2304 + y1.val, by omega⟩ (by dsimp only; omega)
  · rw [dif_neg h]
    exact core0 m c t y0 ⟨2304 + y1.val, by omega⟩ (by dsimp only; omega)

theorem out11_apply (i : grid0.Coords) (x0 : Vec Ideal S256x1024 .f32) (x1 : Vec Ideal S256x1024 .f32) (x2 : Vec Ideal S1024x4480 .bf16) (r : Fin 256) (j : Fin 1024) :
    (out0_11 i x0 x1 x2 (ix2 r j) : EReal) = ∑ k : Fin 1024, (k0_pay6 i x1 x0 (ix2 r k) : EReal) * (x2 (ix2 k ⟨2432 + j.val, by omega⟩) : EReal) := by
  frame_out
  pointwise [k0_pay4, k0_pay12]
  rw [ld0, ld0]

theorem emb11 (t : Fin cfg0.N) (r : Fin 256) (j : Fin 1024) :
    ((View.whole main_v9_8).slice (win0_11.rect t)).emb (ix2 r j) = ix2 ⟨256 * t.val + r.val, by have := (idx t).2.2.2.2.2.2.2.2.2.2.2.2.2.2; omega⟩ j := by
  blk_ext [idx t]

/-- Result 8 of the call is the reference's. -/
theorem final11 (c : Dev nD) : (dats m 0 c).arrAt 11 (cfgs 0).N
    = val_main_v38 (F := Ideal) (m ((c : Thread nD τ).loc main_arg0)) (m ((c : Thread nD τ).loc main_arg1)) (m ((c : Thread nD τ).loc main_arg2)) := by
  refine (dats m 0 c).arrAt_eq_of_covers 11 _ (by decide +kernel) fun t hf y => ?_
  blk_simp
  rw [after0_11]
  idx_vars y
  rw [emb11 t y0 y1, ref38]
  have hN := (idx t).2.2.2.2.2.2.2.2.2.2.2.2.2.2
  have hb := core m c t y0 ⟨2432 + y1.val, by omega⟩ ⟨256 * t.val + y0.val, by omega⟩ (by dsimp only) ⟨2372 + y1.val, by omega⟩ (by dsimp only; omega)
  rw [out11_apply]
  exact hb

theorem out12_apply (i : grid0.Coords) (x0 : Vec Ideal S256x1024 .f32) (x1 : Vec Ideal S256x1024 .f32) (x2 : Vec Ideal S1024x4480 .bf16) (r : Fin 256) (j : Fin 1024) :
    (out0_12 i x0 x1 x2 (ix2 r j) : EReal) = ∑ k : Fin 1024, (k0_pay6 i x1 x0 (ix2 r k) : EReal) * (x2 (ix2 k ⟨3456 + j.val, by omega⟩) : EReal) := by
  frame_out
  pointwise [k0_pay5, k0_pay12]
  rw [ld0, ld0]

theorem emb12 (t : Fin cfg0.N) (r : Fin 256) (j : Fin 1024) :
    ((View.whole main_v9_9).slice (win0_12.rect t)).emb (ix2 r j) = ix2 ⟨256 * t.val + r.val, by have := (idx t).2.2.2.2.2.2.2.2.2.2.2.2.2.2; omega⟩ j := by
  blk_ext [idx t]

/-- Result 9 of the call is the reference's. -/
theorem final12 (c : Dev nD) : (dats m 0 c).arrAt 12 (cfgs 0).N
    = val_main_v40 (F := Ideal) (m ((c : Thread nD τ).loc main_arg0)) (m ((c : Thread nD τ).loc main_arg1)) (m ((c : Thread nD τ).loc main_arg2)) := by
  refine (dats m 0 c).arrAt_eq_of_covers 12 _ (by decide +kernel) fun t hf y => ?_
  blk_simp
  rw [after0_12]
  idx_vars y
  rw [emb12 t y0 y1, ref40]
  have hN := (idx t).2.2.2.2.2.2.2.2.2.2.2.2.2.2
  have hb := core m c t y0 ⟨3456 + y1.val, by omega⟩ ⟨256 * t.val + y0.val, by omega⟩ (by dsimp only) ⟨3396 + y1.val, by omega⟩ (by dsimp only; omega)
  rw [out12_apply]
  exact hb

end Cert.InPIdeal.Val
-- ==== Proof.InSValue.lean ====
module

public import proofs.«01_k».proof.Proof.Gen.InSIdeal.Frame
public import proofs.«01_k».proof.Proof.Gen.InSRefIdeal.Read
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InSIdeal.Val
open Cert.InSIdeal Cert.InSIdeal.Gen
open Cert.InSRefIdeal.Read

variable (m : (ℓ : Loc nD τ sig) → Buf (Elt Ideal) ℓ)

/-- Column `j` of the projection of row `R` of the sample's rows. -/
def Z (x : FVec Ideal Cert.InSRefIdeal.S128x4x1024 .f32) (w : FVec Ideal Cert.InSRefIdeal.S1x1024x4420 .f32) (R : Fin 512) (j : Fin 4420) : EReal :=
  ∑ k, x (ix3 ⟨R.val / 4, by omega⟩ ⟨R.val % 4, by omega⟩ k) * w (ix3 0 k j)

/-- Column `j` of the call's weight array: the projection's columns with sixty columns of zeros after the head weights. -/
def Wp (w : FVec Ideal Cert.InSRefIdeal.S1x1024x4420 .f32) (k : Fin 1024) (j : Fin 4480) : EReal :=
  if h : j.val < 2372 then w (ix3 0 k ⟨j.val, by omega⟩) else if h' : j.val < 2432 then 0 else w (ix3 0 k ⟨j.val - 60, by omega⟩)

/-- The call's weight array from the projection's weights. -/
def padw (w : FVec Ideal S1x1024x4420 .f32) : FVec Ideal S1024x4480 .bf16 :=
  truncf (F := Ideal) .bf16 (concatenate S1024x4480 1 [⟨S1024x2372, (extractStridedSlice S1024x2372 ![0, 0] (shapeCast S1024x4420 w shapeCasts_S1x1024x4420_S1024x4420) slices_S1024x4420_S1024x2372_0_0 : FVec Ideal S1024x2372 .f32)⟩,
    ⟨S1024x60, (broadcastInDim S1024x60 ![] bcast_S_S1024x60 (constant (F := Ideal) S_ .f32 0x00000000#32) : FVec Ideal S1024x60 .f32)⟩,
    ⟨S1024x2048, (extractStridedSlice S1024x2048 ![0, 2372] (shapeCast S1024x4420 w shapeCasts_S1x1024x4420_S1024x4420) slices_S1024x4420_S1024x2048_0_2372 : FVec Ideal S1024x2048 .f32)⟩] concatenates_S1024x2372_S1024x60_S1024x2048_S1024x4480_d1 : FVec Ideal S1024x4480 .f32) bitsLt_bf16_f32

theorem padw_apply (w) (k : Fin 1024) (j : Fin 4480) : padw w (ix2 k j) = Wp w k j := by
  pointwise [padw, Wp]
  by_cases h : j.val < 2372
  · rw [dif_pos h, dif_pos h]
  · rw [dif_neg h, dif_neg h]
    by_cases h' : j.val < 2432
    · rw [dif_pos h', dif_pos (by omega)]
    · rw [dif_neg h', dif_neg (by omega)]
      exact congrArg (fun i => w (ix3 0 k i)) (Fin.ext (by dsimp only; omega))

theorem vw (c : Dev nD) : V m c main_v6 = padw (m ((c : Thread nD τ).loc main_arg1)) := by
  unfold V hostOps0
  simp only [StableHlo.after_cons, StableHlo.after_nil]
  rw [StableHlo.unary_result, StableHlo.nary_result]
  have cat : ∀ (a a' : FVec Ideal S1024x2372 .f32) (b b' : FVec Ideal S1024x60 .f32) (d d' : FVec Ideal S1024x2048 .f32), a = a' → b = b' → d = d' →
      truncf (F := Ideal) .bf16 (concatenate S1024x4480 1 [⟨S1024x2372, a⟩, ⟨S1024x60, b⟩, ⟨S1024x2048, d⟩] concatenates_S1024x2372_S1024x60_S1024x2048_S1024x4480_d1 : FVec Ideal S1024x4480 .f32) bitsLt_bf16_f32
      = truncf (F := Ideal) .bf16 (concatenate S1024x4480 1 [⟨S1024x2372, a'⟩, ⟨S1024x60, b'⟩, ⟨S1024x2048, d'⟩] concatenates_S1024x2372_S1024x60_S1024x2048_S1024x4480_d1 : FVec Ideal S1024x4480 .f32) bitsLt_bf16_f32 := by
    rintro a _ b _ d _ rfl rfl rfl; rfl
  refine cat _ _ _ _ _ _ ?_ ?_ ?_
  · show HloOp.result _ _ (Proc.devRef .tc main_v2) = _
    after_results_loop
    first | done | rfl
  · show HloOp.result _ _ (Proc.devRef .tc main_v3) = _
    after_results_loop
    first | done | rfl
  · show HloOp.result _ _ (Proc.devRef .tc main_v4) = _
    after_results_loop
    first | done | rfl

theorem ref19 (x w) (R : Fin 512) (j : Fin 512) :
    val_main_v19 (F := Ideal) x w (ix2 R j) = Z x w R ⟨0 + j.val, by omega⟩ := by
  pointwise [val_main_v19, val_main_v2, val_main_v1, val_main_v0, Z]

theorem ref21 (x w) (R : Fin 512) (j : Fin 512) :
    val_main_v21 (F := Ideal) x w (ix2 R j) = Z x w R ⟨1024 + j.val, by omega⟩ := by
  pointwise [val_main_v21, val_main_v4, val_main_v1, val_main_v0, Z]

theorem ref22 (x w) (R : Fin 512) (j : Fin 512) :
    val_main_v22 (F := Ideal) x w (ix2 R j) = Z x w R ⟨1536 + j.val, by omega⟩ := by
  pointwise [val_main_v22, val_main_v5, val_main_v1, val_main_v0, Z]

theorem ref23 (x w) (R : Fin 512) (j : Fin 512) :
    val_main_v23 (F := Ideal) x w (ix2 R j) = Z x w R ⟨1024 + j.val, by omega⟩ := by
  pointwise [val_main_v23, val_main_v16, val_main_v4, val_main_v1, val_main_v0, Z]

theorem ref24 (x w) (R : Fin 512) (j : Fin 512) :
    val_main_v24 (F := Ideal) x w (ix2 R j) = Z x w R ⟨1536 + j.val, by omega⟩ := by
  pointwise [val_main_v24, val_main_v17, val_main_v5, val_main_v1, val_main_v0, Z]

theorem ref25 (x w) (R : Fin 512) (j : Fin 256) :
    val_main_v25 (F := Ideal) x w (ix2 R j) = Z x w R ⟨2048 + j.val, by omega⟩ := by
  pointwise [val_main_v25, val_main_v18, val_main_v6, val_main_v1, val_main_v0, Z]

theorem ref27 (x w) (R : Fin 512) (j : Fin 1024) :
    val_main_v27 (F := Ideal) x w (ix2 R j) = Z x w R ⟨2372 + j.val, by omega⟩ := by
  pointwise [val_main_v27, val_main_v9, val_main_v1, val_main_v0, Z]

theorem ref28 (x w) (R : Fin 512) (j : Fin 1024) :
    val_main_v28 (F := Ideal) x w (ix2 R j) = Z x w R ⟨3396 + j.val, by omega⟩ := by
  pointwise [val_main_v28, val_main_v10, val_main_v1, val_main_v0, Z]

theorem ref20 (x w) (R : Fin 512) (j : Fin 512) :
    (val_main_v20 (F := Ideal) x w (ix2 R j) : EReal) = Z x w R ⟨512 + j.val, by omega⟩ * (FloatOps.ofBits (F := Ideal) .f32 0x3E000000#32 : EReal) := by
  pointwise [val_main_v20, val_main_v15, val_main_v14, val_main_v13, val_main_v3, val_main_cst_0, val_main_v1, val_main_v0, Z]

theorem ref26 (x w) (R : Fin 512) (j : Fin 128) :
    (val_main_v26 (F := Ideal) x w (ix2 R j) : EReal) = if h : j.val < 68 then Z x w R ⟨2304 + j.val, by omega⟩ else 0 := by
  pointwise [val_main_v26, val_main_v12, val_main_v11, val_main_v8, val_main_v7, val_main_cst, val_main_v1, val_main_v0, Z]
  by_cases h' : j.val < 64
  · rw [dif_pos h', dif_pos (by omega)]
  · rw [dif_neg h']
    by_cases h'' : j.val < 68
    · rw [dif_pos h'', dif_pos (by omega)]
      refine Finset.sum_congr rfl fun k _ => congrArg (_ * ·) ?_
      exact congrArg (fun i => w (ix3 0 k i)) (Fin.ext (by dsimp only; omega))
    · rw [dif_neg h'', dif_neg (by omega)]

theorem idx : ∀ t : Fin cfg0.N, win0_0.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] :=
  (by decide +kernel : ∀ t : Fin grid0.N, _)

theorem blkw (c : Dev nD) (t : Fin cfg0.N) (k : Fin 1024) (j : Fin 4480) :
    iblk m c 2 t (ix2 k j) = Wp (m ((c : Thread nD τ).loc main_arg1)) k j := by
  have e : ((View.whole main_v6).slice (win0_2.rect t)).emb (ix2 k j) = ix2 k j := by
    blk_ext [idx t]
  blk_simp [iblk]
  rw [e, vw m c]
  exact padw_apply _ k j

theorem blkx (c : Dev nD) (t : Fin cfg0.N) (r : Fin 512) (k : Fin 1024) :
    iblk m c 0 t (ix2 r k) = m ((c : Thread nD τ).loc main_arg0) (ix3 ⟨r.val / 4, by omega⟩ ⟨r.val % 4, by omega⟩ k) := by
  have e : ((View.whole main_v0).slice (win0_0.rect t)).emb (ix2 r k) = ix2 r k := by
    blk_ext [idx t]
  blk_simp [iblk]
  rw [e]
  entry_read
  pointwise

/-- The product of a row of the tile by a column of the weights. -/
def dotc (x0 : Vec Ideal S512x1024 .f32) (x2 : Vec Ideal S1024x4480 .bf16) (r : Fin 512) (j : Fin 4480) : EReal :=
  ∑ k : Fin 1024, (x0 (ix2 r k) : EReal) * (x2 (ix2 k j) : EReal)

/-- A row of the call's array times its weights, for a column that is one of the projection's. -/
theorem core (c : Dev nD) (t : Fin cfg0.N) (r : Fin 512) (j : Fin 4480) (jj : Fin 4420)
    (hj : (j.val < 2372 ∧ jj.val = j.val) ∨ (2432 ≤ j.val ∧ jj.val + 60 = j.val)) :
    dotc (iblk m c 0 t) (iblk m c 2 t) r j
      = Z (m ((c : Thread nD τ).loc main_arg0)) (m ((c : Thread nD τ).loc main_arg1)) r jj := by
  unfold dotc
  refine Finset.sum_congr rfl fun k _ => ?_
  have hw : Wp (m ((c : Thread nD τ).loc main_arg1)) k j = m ((c : Thread nD τ).loc main_arg1) (ix3 0 k jj) := by
    rcases hj with ⟨h, e⟩ | ⟨h, e⟩
    · rw [Wp, dif_pos h]
      exact congrArg (fun i => m ((c : Thread nD τ).loc main_arg1) (ix3 0 k i)) (Fin.ext e.symm)
    · rw [Wp, dif_neg (by omega), dif_neg (by omega)]
      exact congrArg (fun i => m ((c : Thread nD τ).loc main_arg1) (ix3 0 k i)) (Fin.ext (by dsimp only; omega))
  rw [blkx m c t r k, blkw m c t k j, hw]

/-- The sixty added columns give nothing. -/
theorem core0 (c : Dev nD) (t : Fin cfg0.N) (r : Fin 512) (j : Fin 4480) (h : 2372 ≤ j.val ∧ j.val < 2432) :
    dotc (iblk m c 0 t) (iblk m c 2 t) r j = 0 := by
  unfold dotc
  refine Finset.sum_eq_zero fun k _ => ?_
  rw [blkw m c t k j, Wp, dif_neg (by omega), dif_pos (by omega)]
  exact mul_zero _

theorem out3_apply (x0 : Vec Ideal S512x1024 .f32) (x1 : Vec Ideal S512x1024 .f32) (x2 : Vec Ideal S1024x4480 .bf16) (r : Fin 512) (j : Fin 512) :
    (out0_3 x0 x1 x2 (ix2 r j) : EReal) = dotc x0 x2 r ⟨0 + j.val, by omega⟩ := by
  frame_out
  pointwise [k0_pay6, k0_pay5, dotc]

theorem emb3 (t : Fin cfg0.N) (r : Fin 512) (j : Fin 512) :
    ((View.whole main_v7_0).slice (win0_3.rect t)).emb (ix2 r j) = ix2 r j := by
  blk_ext [idx t]

/-- Result 0 of the call is the reference's. -/
theorem final3 (c : Dev nD) : (dats m 0 c).arrAt 3 (cfgs 0).N
    = val_main_v19 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  idx_vars y
  rw [emb3 t y0 y1, ref19]
  have hb := core m c t y0 ⟨0 + y1.val, by omega⟩ ⟨0 + y1.val, by omega⟩ (by dsimp only; omega)
  rw [out3_apply]
  exact hb

theorem out4_apply (x0 : Vec Ideal S512x1024 .f32) (x1 : Vec Ideal S512x1024 .f32) (x2 : Vec Ideal S1024x4480 .bf16) (r : Fin 512) (j : Fin 512) :
    (out0_4 x0 x1 x2 (ix2 r j) : EReal) = (dotc x0 x2 r ⟨512 + j.val, by omega⟩) * (FloatOps.ofBits (F := Ideal) .f32 0x3E000000#32 : EReal) := by
  frame_out
  pointwise [k0_pay7, k0_pay5, dotc]

theorem emb4 (t : Fin cfg0.N) (r : Fin 512) (j : Fin 512) :
    ((View.whole main_v7_1).slice (win0_4.rect t)).emb (ix2 r j) = ix2 r j := by
  blk_ext [idx t]

/-- Result 1 of the call is the reference's. -/
theorem final4 (c : Dev nD) : (dats m 0 c).arrAt 4 (cfgs 0).N
    = val_main_v20 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  idx_vars y
  rw [emb4 t y0 y1, ref20]
  have hb := core m c t y0 ⟨512 + y1.val, by omega⟩ ⟨512 + y1.val, by omega⟩ (by dsimp only; omega)
  rw [out4_apply]
  exact congrArg (· * _) hb

theorem out5_apply (x0 : Vec Ideal S512x1024 .f32) (x1 : Vec Ideal S512x1024 .f32) (x2 : Vec Ideal S1024x4480 .bf16) (r : Fin 512) (j : Fin 512) :
    (out0_5 x0 x1 x2 (ix2 r j) : EReal) = dotc x0 x2 r ⟨1024 + j.val, by omega⟩ := by
  frame_out
  pointwise [k0_pay8, k0_pay5, dotc]

theorem emb5 (t : Fin cfg0.N) (r : Fin 512) (j : Fin 512) :
    ((View.whole main_v7_2).slice (win0_5.rect t)).emb (ix2 r j) = ix2 r j := by
  blk_ext [idx t]

/-- Result 2 of the call is the reference's. -/
theorem final5 (c : Dev nD) : (dats m 0 c).arrAt 5 (cfgs 0).N
    = val_main_v21 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  idx_vars y
  rw [emb5 t y0 y1, ref21]
  have hb := core m c t y0 ⟨1024 + y1.val, by omega⟩ ⟨1024 + y1.val, by omega⟩ (by dsimp only; omega)
  rw [out5_apply]
  exact hb

theorem out6_apply (x0 : Vec Ideal S512x1024 .f32) (x1 : Vec Ideal S512x1024 .f32) (x2 : Vec Ideal S1024x4480 .bf16) (r : Fin 512) (j : Fin 512) :
    (out0_6 x0 x1 x2 (ix2 r j) : EReal) = dotc x0 x2 r ⟨1536 + j.val, by omega⟩ := by
  frame_out
  pointwise [k0_pay10, k0_pay5, dotc]

theorem emb6 (t : Fin cfg0.N) (r : Fin 512) (j : Fin 512) :
    ((View.whole main_v7_3).slice (win0_6.rect t)).emb (ix2 r j) = ix2 r j := by
  blk_ext [idx t]

/-- Result 3 of the call is the reference's. -/
theorem final6 (c : Dev nD) : (dats m 0 c).arrAt 6 (cfgs 0).N
    = val_main_v22 (F := Ideal) (m ((c : Thread nD τ).loc main_arg0)) (m ((c : Thread nD τ).loc main_arg1)) := by
  refine (dats m 0 c).arrAt_eq_of_covers 6 _ (by decide +kernel) fun t hf y => ?_
  blk_simp
  rw [after0_6]
  idx_vars y
  rw [emb6 t y0 y1, ref22]
  have hb := core m c t y0 ⟨1536 + y1.val, by omega⟩ ⟨1536 + y1.val, by omega⟩ (by dsimp only; omega)
  rw [out6_apply]
  exact hb

theorem out7_apply (x0 : Vec Ideal S512x1024 .f32) (x1 : Vec Ideal S512x1024 .f32) (x2 : Vec Ideal S1024x4480 .bf16) (r : Fin 512) (j : Fin 512) :
    (out0_7 x0 x1 x2 (ix2 r j) : EReal) = dotc x0 x2 r ⟨1024 + j.val, by omega⟩ := by
  frame_out
  pointwise [k0_pay9, k0_pay8, k0_pay5, dotc]

theorem emb7 (t : Fin cfg0.N) (r : Fin 512) (j : Fin 512) :
    ((View.whole main_v7_4).slice (win0_7.rect t)).emb (ix2 r j) = ix2 r j := by
  blk_ext [idx t]

/-- Result 4 of the call is the reference's. -/
theorem final7 (c : Dev nD) : (dats m 0 c).arrAt 7 (cfgs 0).N
    = val_main_v23 (F := Ideal) (m ((c : Thread nD τ).loc main_arg0)) (m ((c : Thread nD τ).loc main_arg1)) := by
  refine (dats m 0 c).arrAt_eq_of_covers 7 _ (by decide +kernel) fun t hf y => ?_
  blk_simp
  rw [after0_7]
  idx_vars y
  rw [emb7 t y0 y1, ref23]
  have hb := core m c t y0 ⟨1024 + y1.val, by omega⟩ ⟨1024 + y1.val, by omega⟩ (by dsimp only; omega)
  rw [out7_apply]
  exact hb

theorem out8_apply (x0 : Vec Ideal S512x1024 .f32) (x1 : Vec Ideal S512x1024 .f32) (x2 : Vec Ideal S1024x4480 .bf16) (r : Fin 512) (j : Fin 512) :
    (out0_8 x0 x1 x2 (ix2 r j) : EReal) = dotc x0 x2 r ⟨1536 + j.val, by omega⟩ := by
  frame_out
  pointwise [k0_pay11, k0_pay10, k0_pay5, dotc]

theorem emb8 (t : Fin cfg0.N) (r : Fin 512) (j : Fin 512) :
    ((View.whole main_v7_5).slice (win0_8.rect t)).emb (ix2 r j) = ix2 r j := by
  blk_ext [idx t]

/-- Result 5 of the call is the reference's. -/
theorem final8 (c : Dev nD) : (dats m 0 c).arrAt 8 (cfgs 0).N
    = val_main_v24 (F := Ideal) (m ((c : Thread nD τ).loc main_arg0)) (m ((c : Thread nD τ).loc main_arg1)) := by
  refine (dats m 0 c).arrAt_eq_of_covers 8 _ (by decide +kernel) fun t hf y => ?_
  blk_simp
  rw [after0_8]
  idx_vars y
  rw [emb8 t y0 y1, ref24]
  have hb := core m c t y0 ⟨1536 + y1.val, by omega⟩ ⟨1536 + y1.val, by omega⟩ (by dsimp only; omega)
  rw [out8_apply]
  exact hb

theorem out9_apply (x0 : Vec Ideal S512x1024 .f32) (x1 : Vec Ideal S512x1024 .f32) (x2 : Vec Ideal S1024x4480 .bf16) (r : Fin 512) (j : Fin 256) :
    (out0_9 x0 x1 x2 (ix2 r j) : EReal) = dotc x0 x2 r ⟨2048 + j.val, by omega⟩ := by
  frame_out
  pointwise [k0_pay1, k0_pay12, k0_pay5, dotc]

theorem emb9 (t : Fin cfg0.N) (r : Fin 512) (j : Fin 256) :
    ((View.whole main_v7_6).slice (win0_9.rect t)).emb (ix2 r j) = ix2 r j := by
  blk_ext [idx t]

/-- Result 6 of the call is the reference's. -/
theorem final9 (c : Dev nD) : (dats m 0 c).arrAt 9 (cfgs 0).N
    = val_main_v25 (F := Ideal) (m ((c : Thread nD τ).loc main_arg0)) (m ((c : Thread nD τ).loc main_arg1)) := by
  refine (dats m 0 c).arrAt_eq_of_covers 9 _ (by decide +kernel) fun t hf y => ?_
  blk_simp
  rw [after0_9]
  idx_vars y
  rw [emb9 t y0 y1, ref25]
  have hb := core m c t y0 ⟨2048 + y1.val, by omega⟩ ⟨2048 + y1.val, by omega⟩ (by dsimp only; omega)
  rw [out9_apply]
  exact hb

theorem out10_apply (x0 : Vec Ideal S512x1024 .f32) (x1 : Vec Ideal S512x1024 .f32) (x2 : Vec Ideal S1024x4480 .bf16) (r : Fin 512) (j : Fin 128) :
    (out0_10 x0 x1 x2 (ix2 r j) : EReal) = dotc x0 x2 r ⟨2304 + j.val, by omega⟩ := by
  frame_out
  pointwise [k0_pay2, k0_pay12, k0_pay5, dotc]

theorem emb10 (t : Fin cfg0.N) (r : Fin 512) (j : Fin 128) :
    ((View.whole main_v7_7).slice (win0_10.rect t)).emb (ix2 r j) = ix2 r j := by
  blk_ext [idx t]

/-- Result 7 of the call is the reference's. -/
theorem final10 (c : Dev nD) : (dats m 0 c).arrAt 10 (cfgs 0).N
    = val_main_v26 (F := Ideal) (m ((c : Thread nD τ).loc main_arg0)) (m ((c : Thread nD τ).loc main_arg1)) := by
  refine (dats m 0 c).arrAt_eq_of_covers 10 _ (by decide +kernel) fun t hf y => ?_
  blk_simp
  rw [after0_10]
  idx_vars y
  rw [emb10 t y0 y1, ref26]
  rw [out10_apply]
  by_cases h : y1.val < 68
  · rw [dif_pos h]
    exact core m c t y0 ⟨2304 + y1.val, by omega⟩ ⟨2304 + y1.val, by omega⟩ (by dsimp only; omega)
  · rw [dif_neg h]
    exact core0 m c t y0 ⟨2304 + y1.val, by omega⟩ (by dsimp only; omega)

theorem out11_apply (x0 : Vec Ideal S512x1024 .f32) (x1 : Vec Ideal S512x1024 .f32) (x2 : Vec Ideal S1024x4480 .bf16) (r : Fin 512) (j : Fin 1024) :
    (out0_11 x0 x1 x2 (ix2 r j) : EReal) = dotc x0 x2 r ⟨2432 + j.val, by omega⟩ := by
  frame_out
  pointwise [k0_pay3, k0_pay12, k0_pay5, dotc]

theorem emb11 (t : Fin cfg0.N) (r : Fin 512) (j : Fin 1024) :
    ((View.whole main_v7_8).slice (win0_11.rect t)).emb (ix2 r j) = ix2 r j := by
  blk_ext [idx t]

/-- Result 8 of the call is the reference's. -/
theorem final11 (c : Dev nD) : (dats m 0 c).arrAt 11 (cfgs 0).N
    = val_main_v27 (F := Ideal) (m ((c : Thread nD τ).loc main_arg0)) (m ((c : Thread nD τ).loc main_arg1)) := by
  refine (dats m 0 c).arrAt_eq_of_covers 11 _ (by decide +kernel) fun t hf y => ?_
  blk_simp
  rw [after0_11]
  idx_vars y
  rw [emb11 t y0 y1, ref27]
  have hb := core m c t y0 ⟨2432 + y1.val, by omega⟩ ⟨2372 + y1.val, by omega⟩ (by dsimp only; omega)
  rw [out11_apply]
  exact hb

theorem out12_apply (x0 : Vec Ideal S512x1024 .f32) (x1 : Vec Ideal S512x1024 .f32) (x2 : Vec Ideal S1024x4480 .bf16) (r : Fin 512) (j : Fin 1024) :
    (out0_12 x0 x1 x2 (ix2 r j) : EReal) = dotc x0 x2 r ⟨3456 + j.val, by omega⟩ := by
  frame_out
  pointwise [k0_pay4, k0_pay12, k0_pay5, dotc]

theorem emb12 (t : Fin cfg0.N) (r : Fin 512) (j : Fin 1024) :
    ((View.whole main_v7_9).slice (win0_12.rect t)).emb (ix2 r j) = ix2 r j := by
  blk_ext [idx t]

/-- Result 9 of the call is the reference's. -/
theorem final12 (c : Dev nD) : (dats m 0 c).arrAt 12 (cfgs 0).N
    = val_main_v28 (F := Ideal) (m ((c : Thread nD τ).loc main_arg0)) (m ((c : Thread nD τ).loc main_arg1)) := by
  refine (dats m 0 c).arrAt_eq_of_covers 12 _ (by decide +kernel) fun t hf y => ?_
  blk_simp
  rw [after0_12]
  idx_vars y
  rw [emb12 t y0 y1, ref28]
  have hb := core m c t y0 ⟨3456 + y1.val, by omega⟩ ⟨3396 + y1.val, by omega⟩ (by dsimp only; omega)
  rw [out12_apply]
  exact hb

end Cert.InSIdeal.Val
-- ==== Proof.RouteMath.lean ====
module

public import Idealize.ShloMosaic.Lib.Pipeline.ValueKit
public import Idealize.ShloMosaic.Lib.Pointwise

@[expose] public section

noncomputable section

open Idealize.ShloMosaic

/-! The choice of a group and of two experts among four numbers each, with no kernel in sight. -/

namespace Cert.Route

/-- `i` is the first place where `p` is greatest. -/
def First (p : Fin 4 → EReal) (i : Fin 4) : Prop := ∀ j, p j ≤ p i ∧ (j < i → p j < p i)

/-- `k` is the first place other than `i` where `p` is greatest among the places other than `i`. -/
def Second (p : Fin 4 → EReal) (i k : Fin 4) : Prop := k ≠ i ∧ ∀ j, j ≠ i → p j ≤ p k ∧ (j < k → p j < p k)

/-- A number that is neither infinity. -/
def Fin1 (x : EReal) : Prop := x ≠ ⊥ ∧ x ≠ ⊤

theorem ninf : Ideal.ofBits .f32 4286578688#32 = ⊥ := by simp [Ideal.ofBits, Ideal.ieee]
theorem pinf : Ideal.ofBits .f32 2139095040#32 = ⊤ := by simp [Ideal.ofBits, Ideal.ieee]

theorem fold_max_at {n : ℕ} (f : Fin n → EReal) (i : Fin n) (h : ∀ j, f j ≤ f i) :
    Finset.fold max (Ideal.ofBits .f32 4286578688#32) f Finset.univ = f i := by
  rw [ninf]
  apply le_antisymm
  · rw [Finset.fold_max_le]; exact ⟨bot_le, fun j _ => h j⟩
  · rw [Finset.le_fold_max]; exact Or.inr ⟨i, Finset.mem_univ _, le_refl _⟩

theorem fold_min_at {n : ℕ} (f : Fin n → EReal) (i : Fin n) (h : ∀ j, f i ≤ f j) :
    Finset.fold min (Ideal.ofBits .f32 2139095040#32) f Finset.univ = f i := by
  rw [pinf]
  apply le_antisymm
  · rw [Finset.fold_min_le]; exact Or.inr ⟨i, Finset.mem_univ _, le_refl _⟩
  · rw [Finset.le_fold_min]; exact ⟨le_top, fun j _ => h j⟩

/-- A lane's number as an extended real. -/
def lv (n : ℕ) : EReal := ((n : ℝ) : EReal)

theorem lv_le {a b : ℕ} : lv a ≤ lv b ↔ a ≤ b := by simp [lv]
theorem lv_inj {a b : ℕ} : lv a = lv b ↔ a = b := by simp [lv]

theorem lv_128 : Ideal.ofBits .f32 1124073472#32 = lv 128 := by
  have : Ideal.ofBits .f32 1124073472#32 = ((128 : ℝ) : EReal) := by
    simp [Ideal.ofBits, Ideal.ieee]
    rw [← EReal.coe_mul]
    exact congrArg _ (by norm_num)
  rw [this]; simp [lv]

theorem neg_one_lit : Ideal.ofBits .f32 3212836864#32 < 0 := by
  have : Ideal.ofBits .f32 3212836864#32 = ((-1 : ℝ) : EReal) := by
    simp [Ideal.ofBits, Ideal.ieee]
    exact_mod_cast (by norm_num : (8388608 : ℝ) * (2 ^ 23)⁻¹ = 1)
  rw [this]; exact_mod_cast (by norm_num : (-1 : ℝ) < 0)

theorem exp_bot : Ideal.exp ⊥ = 0 := rfl

theorem exp_nonneg (x : EReal) : 0 ≤ Ideal.exp x := by
  induction x using EReal.rec with
  | bot => exact le_refl _
  | top => exact le_top
  | coe r => exact EReal.coe_nonneg.mpr (Real.exp_pos r).le

theorem exp_pos {x : EReal} (h : x ≠ ⊥) : 0 < Ideal.exp x := by
  induction x using EReal.rec with
  | bot => exact absurd rfl h
  | top => exact EReal.zero_lt_top
  | coe r => exact EReal.coe_pos.mpr (Real.exp_pos r)

theorem exp_zero : Ideal.exp 0 = 1 := by
  show Ideal.exp (((0 : ℝ)) : EReal) = 1
  show ((Real.exp 0 : ℝ) : EReal) = 1
  simp

theorem div_nonneg {x y : EReal} (hx : 0 ≤ x) (hy : 0 < y) : 0 ≤ Ideal.div x y := by
  unfold Ideal.div; rw [if_neg hy.ne']
  exact mul_nonneg hx (EReal.inv_nonneg_of_nonneg hy.le)

theorem div_zero_left {y : EReal} (hy : 0 < y) : Ideal.div 0 y = 0 := by
  unfold Ideal.div; rw [if_neg hy.ne', zero_mul]

/-- The greatest of four numbers. -/
def mx (q : Fin 4 → EReal) : EReal := Finset.fold max (Ideal.ofBits .f32 4286578688#32) q Finset.univ

/-- The softmax's denominator. -/
def den (q : Fin 4 → EReal) : EReal := ∑ j, Ideal.exp (q j - mx q)

/-- The softmax of four numbers. -/
def sm (q : Fin 4 → EReal) (j : Fin 4) : EReal := Ideal.div (Ideal.exp (q j - mx q)) (den q)

theorem mx_first {q : Fin 4 → EReal} {i : Fin 4} (h : First q i) : mx q = q i := fold_max_at q i fun j => (h j).1

theorem mx_mem (q : Fin 4 → EReal) : ∃ i, mx q = q i ∧ ∀ j, q j ≤ q i := by
  obtain ⟨i, hi⟩ := Finite.exists_max q
  exact ⟨i, fold_max_at q i hi, hi⟩

theorem sub_ne_bot {a b : EReal} (ha : a ≠ ⊥) (hb : b ≠ ⊤) : a - b ≠ ⊥ := by
  rw [sub_eq_add_neg]
  intro h
  rcases EReal.add_eq_bot_iff.mp h with h | h
  · exact ha h
  · exact hb (by rwa [EReal.neg_eq_bot_iff] at h)

theorem den_pos {q : Fin 4 → EReal} (h : ∀ j, Fin1 (q j)) : 0 < den q := by
  obtain ⟨i, hi, _⟩ := mx_mem q
  refine lt_of_lt_of_le (exp_pos (x := q 0 - mx q) (sub_ne_bot (h 0).1 (hi ▸ (h i).2))) ?_
  exact Finset.single_le_sum (f := fun j => Ideal.exp (q j - mx q)) (fun j _ => exp_nonneg _) (Finset.mem_univ 0)

theorem sm_nonneg {q : Fin 4 → EReal} (h : ∀ j, Fin1 (q j)) (j : Fin 4) : 0 ≤ sm q j :=
  div_nonneg (exp_nonneg _) (den_pos h)

/-- The weight of the group chosen, its own softmax entry written as the kernel does. -/
def pg (g : Fin 4 → EReal) : EReal := Ideal.div 1 (den g)

theorem sm_first {g : Fin 4 → EReal} {s : Fin 4} (hg : ∀ j, Fin1 (g j)) (h : First g s) : sm g s = pg g := by
  unfold sm pg
  rw [mx_first h, EReal.sub_self (hg s).2 (hg s).1, exp_zero]

/-- The entry of the combine matrix at lane `x`: the two chosen experts' shares, with the group's weight. -/
def entry (g q : Fin 4 → EReal) (s i k : Fin 4) (x : ℕ) : EReal :=
  (if x = 4 + 4 * s.val + i.val then Ideal.div (sm q i) (sm q i + sm q k) * pg g else 0)
    + (if x = 4 + 4 * s.val + k.val then Ideal.div (sm q k) (sm q i + sm q k) * pg g else 0)

/-! Four lanes among the 128, the others holding minus infinity. -/

section lanes
variable (e : Fin 4 → Fin 128) (he : StrictMono e) (q : Fin 4 → EReal) (Lm : Fin 128 → EReal)
  (hin : ∀ j, Lm (e j) = q j) (hout : ∀ l, (∀ j, l ≠ e j) → Lm l = ⊥)
include he hin hout

theorem lanes_max {i : Fin 4} (h : ∀ j, q j ≤ q i) :
    Finset.fold max (Ideal.ofBits .f32 4286578688#32) Lm Finset.univ = q i := by
  rw [← hin i]
  refine fold_max_at Lm (e i) fun l => ?_
  by_cases hl : ∀ j, l ≠ e j
  · rw [hout l hl]; exact bot_le
  · push Not at hl
    obtain ⟨j, rfl⟩ := hl
    rw [hin, hin]; exact h j

theorem lanes_mx : Finset.fold max (Ideal.ofBits .f32 4286578688#32) Lm Finset.univ = mx q := by
  obtain ⟨i, h, h'⟩ := mx_mem q
  rw [lanes_max e he q Lm hin hout h', h]

theorem lanes_sum (c : EReal) : (∑ l, Ideal.exp (Lm l - c)) = ∑ j, Ideal.exp (q j - c) := by
  symm
  refine Finset.sum_of_injOn e he.injective.injOn (fun _ _ => Finset.mem_coe.mpr (Finset.mem_univ _)) ?_ ?_
  · intro l _ hl
    rw [hout l, EReal.bot_sub, exp_bot]
    intro j hj
    exact hl ⟨j, Finset.mem_coe.mpr (Finset.mem_univ _), hj.symm⟩
  · intro j _
    rw [hin]

end lanes

theorem lanes_min (e : Fin 4 → Fin 128) (he : StrictMono e) (C : Fin 128 → Prop) [DecidablePred C] (i : Fin 4)
    (hC : C (e i)) (hr : ∀ l, C l → ∃ j, l = e j ∧ i ≤ j) :
    Finset.fold min (Ideal.ofBits .f32 2139095040#32)
      (fun l : Fin 128 => if C l then lv l.val else Ideal.ofBits .f32 1124073472#32) Finset.univ = lv (e i).val := by
  rw [fold_min_at _ (e i)]
  · rw [if_pos hC]
  · intro l
    rw [if_pos hC]
    by_cases h : C l
    · rw [if_pos h]
      obtain ⟨j, rfl, hj⟩ := hr l h
      exact lv_le.mpr (he.monotone hj)
    · rw [if_neg h, lv_128]
      exact lv_le.mpr (e i).isLt.le

/-! A stable sort of four numbers in falling order begins with the first and the second of them. -/

section sort

/-- How many of the four are greater. -/
def rank (p : Fin 4 → EReal) (j : Fin 4) : Fin 5 :=
  ⟨(Finset.univ.filter fun i => p j < p i).card, by
    have := Finset.card_le_univ (Finset.univ.filter fun i : Fin 4 => p j < p i); simp at this; omega⟩

theorem rank_lt {p : Fin 4 → EReal} {a b : Fin 4} : rank p a < rank p b ↔ p b < p a := by
  have mono : ∀ a b, p b ≤ p a → rank p a ≤ rank p b := fun a b h => by
    show (Finset.univ.filter fun i => p a < p i).card ≤ (Finset.univ.filter fun i => p b < p i).card
    refine Finset.card_le_card fun i hi => ?_
    simp only [Finset.mem_filter, Finset.mem_univ, true_and] at hi ⊢
    exact lt_of_le_of_lt h hi
  constructor
  · intro h
    by_contra hc
    exact absurd (mono b a (not_lt.mp hc)) (not_le.mpr h)
  · intro h
    show (Finset.univ.filter fun i => p a < p i).card < (Finset.univ.filter fun i => p b < p i).card
    refine Finset.card_lt_card ?_
    rw [Finset.ssubset_iff_of_subset]
    · exact ⟨a, by simpa using h, by simp⟩
    · intro i hi
      simp only [Finset.mem_filter, Finset.mem_univ, true_and] at hi ⊢
      exact lt_trans h hi

theorem rank_le {p : Fin 4 → EReal} {a b : Fin 4} : rank p a ≤ rank p b ↔ p b ≤ p a := by
  rw [← not_lt, rank_lt, not_lt]

theorem sort_ranks : ∀ a b c d : Fin 5,
    (∀ j, ![a, b, c, d] (sortedFrom (fun k k' => decide (![a, b, c, d] k < ![a, b, c, d] k')) 0) ≤ ![a, b, c, d] j ∧
      (j < sortedFrom (fun k k' => decide (![a, b, c, d] k < ![a, b, c, d] k')) 0 →
        ![a, b, c, d] (sortedFrom (fun k k' => decide (![a, b, c, d] k < ![a, b, c, d] k')) 0) < ![a, b, c, d] j)) ∧
    sortedFrom (fun k k' => decide (![a, b, c, d] k < ![a, b, c, d] k')) 1 ≠
      sortedFrom (fun k k' => decide (![a, b, c, d] k < ![a, b, c, d] k')) 0 ∧
    (∀ j, j ≠ sortedFrom (fun k k' => decide (![a, b, c, d] k < ![a, b, c, d] k')) 0 →
      ![a, b, c, d] (sortedFrom (fun k k' => decide (![a, b, c, d] k < ![a, b, c, d] k')) 1) ≤ ![a, b, c, d] j ∧
      (j < sortedFrom (fun k k' => decide (![a, b, c, d] k < ![a, b, c, d] k')) 1 →
        ![a, b, c, d] (sortedFrom (fun k k' => decide (![a, b, c, d] k < ![a, b, c, d] k')) 1) < ![a, b, c, d] j)) := by
  decide +kernel

/-- The stable sort by falling value. -/
def order (p : Fin 4 → EReal) (k : Fin 4) : Fin 4 := sortedFrom (fun k k' => decide (p k' < p k)) k

theorem order_spec (p : Fin 4 → EReal) : First p (order p 0) ∧ Second p (order p 0) (order p 1) := by
  have hr : ![rank p 0, rank p 1, rank p 2, rank p 3] = rank p := by
    funext j; fin_cases j <;> rfl
  have h := sort_ranks (rank p 0) (rank p 1) (rank p 2) (rank p 3)
  rw [hr] at h
  have hb : (fun k k' => decide (rank p k < rank p k')) = fun k k' => decide (p k' < p k) := by
    funext k k'; exact decide_eq_decide.mpr rank_lt
  rw [hb] at h
  simp only [rank_lt, rank_le] at h
  exact ⟨h.1, h.2.1, h.2.2⟩

end sort

end Cert.Route
-- ==== Proof.MixRow.lean ====
module

public import proofs.«01_k».proof.Proof.Gen.MixIdeal.Frame
public import proofs.«01_k».proof.Proof.Gen.MixRefIdeal.Read
public import proofs.«01_k».proof.Proof.RouteMath
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixIdeal.Val
open Cert.MixIdeal Cert.MixIdeal.Gen Cert.Route
open Cert.MixRefIdeal.Read

variable (m : (ℓ : Loc nD τ sig) → Buf (Elt Ideal) ℓ)

/-! A row of the mixed and normalized activations: the kernel's body and the reference's stages give the same row. -/

/-- One row's layer norm: the row less its mean, by the reciprocal root of its variance, scaled and shifted. -/
def LN (x : Fin 1024 → EReal) (g s : EReal) (d : Fin 1024) : EReal :=
  (x d - Ideal.div (∑ k, x k) (Ideal.ofBits .f32 1149239296#32)) *
    Ideal.rsqrt (Ideal.div (∑ k, (x k - Ideal.div (∑ k, x k) (Ideal.ofBits .f32 1149239296#32)) *
      (x k - Ideal.div (∑ k, x k) (Ideal.ofBits .f32 1149239296#32))) (Ideal.ofBits .f32 1149239296#32)
      + Ideal.ofBits .f32 925353388#32) * g + s

/-- The gate of a value. -/
def sg (x : EReal) : EReal := Ideal.div 1 (1 + Ideal.exp (-x))

/-- Element `k` of a row's gated sum of the two branches' projections. -/
def Y (ys oa : Fin 512 → EReal) (ga gb : EReal) (ws wa : Fin 512 → EReal) : EReal :=
  sg ga * (∑ e, ys e * ws e) + sg gb * (∑ e, oa e * wa e)

/-- Element `d` of a row before its layer norm: the scaled residual and the projected gated sum. -/
def X (h : EReal) (y : Fin 1024 → EReal) (wo : Fin 1024 → EReal) : EReal :=
  Ideal.ofBits .f32 1066940400#32 * h + ∑ k, y k * wo k

/-- The row `R` of the residual stream: nothing before row 1008, then the sixteen meta tokens, then the prompt. -/
def H (x : FVec Ideal Cert.MixRefIdeal.S1x16384x1024 .f32) (mt : FVec Ideal Cert.MixRefIdeal.S16x1024 .f32) (R : Fin 17408) (k : Fin 1024) : EReal :=
  if h : R.val < 1008 then 0 else if h' : R.val < 1024 then mt (ix2 ⟨R.val - 1008, by omega⟩ k) else x (ix3 0 ⟨R.val - 1024, by omega⟩ k)

theorem pay3_apply (a : Vec Ideal S512x512 .bf16) (wa : Vec Ideal S512x1024 .bf16) (b : Vec Ideal S512x512 .bf16) (wb : Vec Ideal S512x1024 .bf16)
    (p q : Vec Ideal S512x1024 .f32) (r : Fin 512) (k : Fin 1024) :
    (k0_pay3 a wa b wb p q (ix2 r k) : EReal) = Y (fun e => a (ix2 r e)) (fun e => b (ix2 r e)) (p (ix2 r k)) (q (ix2 r k)) (fun e => wa (ix2 e k)) (fun e => wb (ix2 e k)) := by
  pointwise [k0_pay3, Y, sg]
  simp only [zero_sub]

theorem pay4_apply (h : FVec Ideal S512x1024 .f32) (y : FVec Ideal S512x1024 .bf16) (w : Vec Ideal S1024x1024 .bf16) (g s : Vec Ideal S1x1024 .f32) (r : Fin 512) (d : Fin 1024) :
    (k0_pay4 h y w g s (ix2 r d) : EReal) = LN (fun d => X (h (ix2 r d)) (fun k => y (ix2 r k)) (fun k => w (ix2 k d))) (g (ix2 0 d)) (s (ix2 0 d)) d := by
  pointwise [k0_pay4, LN, X]

theorem pay5_apply (h : FVec Ideal S512x1024 .f32) (y : FVec Ideal S512x1024 .bf16) (w : Vec Ideal S1024x1024 .bf16) (g s : Vec Ideal S1x1024 .f32) (r : Fin 512) (d : Fin 1024) :
    (k0_pay5 h y w g s (ix2 r d) : EReal) = k0_pay4 h y w g s (ix2 r d) := by
  pointwise [k0_pay5]

theorem pay6_apply (h : FVec Ideal S512x1024 .f32) (y : FVec Ideal S512x1024 .bf16) (w : Vec Ideal S1024x1024 .bf16) (g s : Vec Ideal S1x1024 .f32) (r : Fin 512) (d : Fin 1024) :
    (k0_pay6 h y w g s (ix2 r d) : EReal) = (k0_pay4 h y w g s (ix2 r d) : EReal) - k0_pay4 h y w g s (ix2 r d) := by
  pointwise [k0_pay6, k0_pay5]

theorem ofInt0 (φ : FTy) : (FloatOps.sitofp (F := Ideal) φ (0#32) : EReal) = 0 := by
  show ((((0#32 : BitVec 32).toInt : ℤ) : ℝ) : EReal) = 0
  simp

theorem ref2 (x0 x1) (R : Fin 17408) (k : Fin 1024) : (val_main_v2 (F := Ideal) x0 x1 (ix3 0 R k) : EReal) = H x0 x1 R k := by
  pointwise [val_main_v2, val_main_v1, val_main_v0, val_main_call0_v0, H]
  by_cases h : R.val < 1008
  · rw [dif_pos (by omega), dif_neg (by omega), dif_pos h]
    exact ofInt0 _
  · rw [dif_neg h]
    by_cases h' : R.val < 1024
    · rw [dif_pos h', dif_pos (by omega), dif_pos h']
    · rw [dif_neg h', dif_neg h']

theorem ref25 (x2 x3 x4 x5 x6 x7) (R : Fin 17408) (k : Fin 1024) : (val_main_v25 (F := Ideal) x2 x3 x4 x5 x6 x7 (ix3 0 R k) : EReal)
    = Y (fun e => x2 (ix2 R e)) (fun e => x3 (ix2 R e)) (x4 (ix2 R k)) (x5 (ix2 R k)) (fun e => x6 (ix3 0 e k)) (fun e => x7 (ix3 0 e k)) := by
  pointwise [val_main_v25, val_main_v24, val_main_v23, val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_v4, val_main_v3, val_main_cst, val_main_cst_0, val_main_cst_1, val_main_cst_2, Y, sg]

/-- Row `R` of the reference's activations before their layer norm. -/
def XR (x0 : FVec Ideal Cert.MixRefIdeal.S1x16384x1024 .f32) (x1 : FVec Ideal Cert.MixRefIdeal.S16x1024 .f32)
    (x2 x3 : FVec Ideal Cert.MixRefIdeal.S17408x512 .bf16) (x4 x5 : FVec Ideal Cert.MixRefIdeal.S17408x1024 .f32)
    (x6 x7 : FVec Ideal Cert.MixRefIdeal.S1x512x1024 .f32) (x8 : FVec Ideal Cert.MixRefIdeal.S1x1024x1024 .f32) (R : Fin 17408) (d : Fin 1024) : EReal :=
  X (H x0 x1 R d) (fun k => val_main_v25 (F := Ideal) x2 x3 x4 x5 x6 x7 (ix3 0 R k)) (fun k => x8 (ix3 0 k d))

theorem ref30 (x0 x1 x2 x3 x4 x5 x6 x7 x8) (R : Fin 17408) (d : Fin 1024) :
    (val_main_v30 (F := Ideal) x0 x1 x2 x3 x4 x5 x6 x7 x8 (ix3 0 R d) : EReal) = XR x0 x1 x2 x3 x4 x5 x6 x7 x8 R d := by
  pointwise [val_main_v30, val_main_v29, val_main_v28, val_main_v27, val_main_v26, val_main_cst_3, XR, X]
  rw [ref2]

theorem ref34 (x0 x1 x2 x3 x4 x5 x6 x7 x8) (R : Fin 17408) :
    (val_main_v34 (F := Ideal) x0 x1 x2 x3 x4 x5 x6 x7 x8 (ix3 0 R 0) : EReal) = Ideal.div (∑ k, XR x0 x1 x2 x3 x4 x5 x6 x7 x8 R k) (Ideal.ofBits .f32 1149239296#32) := by
  pointwise [val_main_v34, val_main_v33, val_main_v32, val_main_v31, val_main_cst_4, val_main_cst_5]
  simp only [ref30]

theorem ref36 (x0 x1 x2 x3 x4 x5 x6 x7 x8) (R : Fin 17408) (d : Fin 1024) :
    (val_main_v36 (F := Ideal) x0 x1 x2 x3 x4 x5 x6 x7 x8 (ix3 0 R d) : EReal) = XR x0 x1 x2 x3 x4 x5 x6 x7 x8 R d - Ideal.div (∑ k, XR x0 x1 x2 x3 x4 x5 x6 x7 x8 R k) (Ideal.ofBits .f32 1149239296#32) := by
  pointwise [val_main_v36, val_main_v35]
  rw [ref30, ref34]

theorem ref41 (x0 x1 x2 x3 x4 x5 x6 x7 x8) (R : Fin 17408) :
    (val_main_v41 (F := Ideal) x0 x1 x2 x3 x4 x5 x6 x7 x8 (ix3 0 R 0) : EReal) = Ideal.div (∑ k, val_main_v36 (F := Ideal) x0 x1 x2 x3 x4 x5 x6 x7 x8 (ix3 0 R k) * val_main_v36 (F := Ideal) x0 x1 x2 x3 x4 x5 x6 x7 x8 (ix3 0 R k)) (Ideal.ofBits .f32 1149239296#32) := by
  pointwise [val_main_v41, val_main_v40, val_main_v39, val_main_v38, val_main_v37, val_main_cst_6, val_main_cst_7]

theorem ref56 (x0 x1 x2 x3 x4 x5 x6 x7 x8 x9 x10) (R : Fin 17408) (d : Fin 1024) :
    (val_main_v56 (F := Ideal) x0 x1 x2 x3 x4 x5 x6 x7 x8 x9 x10 (ix3 0 R d) : EReal) = LN (XR x0 x1 x2 x3 x4 x5 x6 x7 x8 R) (x9 (ix2 0 d)) (x10 (ix2 0 d)) d := by
  pointwise [val_main_v56, val_main_v55, val_main_v54, val_main_v53, val_main_v52, val_main_v51, val_main_v50, val_main_v49, val_main_v48, val_main_v47, val_main_v46, val_main_v45, val_main_v44, val_main_v43, val_main_v42, val_main_cst_8]
  rw [ref30, ref34, ref41]
  simp only [ref36]
  rfl

end Cert.MixIdeal.Val
-- ==== Proof.RouteK.lean ====
module

public import proofs.«01_k».proof.Proof.Gen.MixIdeal.Frame
public import proofs.«01_k».proof.Proof.RouteMath
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.MixIdeal.Val
open Cert.MixIdeal Cert.MixIdeal.Gen Cert.Route

/-! The routing part of the kernel's body, row by row: from a row of logits, the two entries of the combine matrix. -/

/-- The lane of group `j`'s logit. -/
def gl (j : Fin 4) : Fin 128 := ⟨j.val, by omega⟩

/-- The lane of the logit of expert `j` of group `s`. -/
def el (s j : Fin 4) : Fin 128 := ⟨4 + 4 * s.val + j.val, by omega⟩

theorem gl_mono : StrictMono gl := fun a b h => h
theorem el_mono (s : Fin 4) : StrictMono (el s) := fun a b h => by
  rw [Fin.lt_def] at h ⊢; simp only [el]; omega

theorem sel {α : Type} (b : Bool) (x y : α) : Scalar.select (BitVec.ofBool b) x y = if b then x else y := by
  cases b <;> rfl

theorem and_ofBool (a b : Bool) : IntOp.andi (BitVec.ofBool a) (BitVec.ofBool b) = BitVec.ofBool (a && b) := by
  cases a <;> cases b <;> rfl

theorem lane_lt4 : ∀ l : Fin 128, IntOp.cmpi .slt (BitVec.ofNat 32 l.val) 4#32 = BitVec.ofBool (decide (l.val < 4)) := by
  decide +kernel

theorem lane_float : ∀ l : Fin 128, (BitVec.ofNat 32 l.val).toInt = (l.val : ℤ) := by decide +kernel

theorem pay9_apply (r : Fin 512) (l : Fin 128) : k0_pay9 (F := Ideal) (ix2 r l) = lv l.val := by
  have h : k0_pay9 (F := Ideal) (ix2 r l) = (FloatOps.sitofp .f32 (BitVec.ofNat 32 l.val) : Ideal .f32) := by
    pointwise [k0_pay9]
  rw [h]
  show (((BitVec.ofNat 32 l.val).toInt : ℝ) : EReal) = _
  rw [lane_float]; simp [lv]

theorem lane_group : ∀ (s : Fin 4) (l : Fin 128),
    IntOp.andi (IntOp.andi (IntOp.cmpi .sge (BitVec.ofNat 32 l.val) 4#32) (IntOp.cmpi .slt (BitVec.ofNat 32 l.val) 20#32))
      (BitVec.ofBool (decide ((IntOp.shrsi .vector (IntOp.subi (BitVec.ofNat 32 l.val) 4#32) 2#32).toInt = (s.val : ℤ))))
      = BitVec.ofBool (decide (∃ j, l = el s j)) := by
  decide +kernel

section row

variable (a b : FVec Ideal S512x1024 .bf16) (w : FVec Ideal S1024x128 .bf16) (z : FVec Ideal S512x128 .f32)
  (y x : Vec Ideal S1024x128 .bf16) (v : Vec Ideal S1x128 .f32) (r : Fin 512)

theorem pay16_apply (v98 : FVec Ideal S512x1 .f32) (s : Fin 4) (hs : v98 (ix2 r 0) = lv s.val) (l : Fin 128) :
    k0_pay16 v98 k0_pay14 k0_pay15 2#32 (ix2 r l) = BitVec.ofBool (decide (∃ j, l = el s j)) := by
  rw [← lane_group s l]
  pointwise [k0_pay16, k0_pay14, k0_pay15]
  have e : (FloatOps.sitofp .f32 (IntOp.shrsi .vector (IntOp.subi (BitVec.ofNat 32 l.val) 4#32) 2#32) : Ideal .f32)
      = v98 (ix2 r 0) ↔ (IntOp.shrsi .vector (IntOp.subi (BitVec.ofNat 32 l.val) 4#32) 2#32).toInt = (s.val : ℤ) := by
    rw [hs]
    show (((IntOp.shrsi .vector (IntOp.subi (BitVec.ofNat 32 l.val) 4#32) 2#32).toInt : ℝ) : EReal)
      = (((s.val : ℕ) : ℝ) : EReal) ↔ _
    rw [EReal.coe_eq_coe_iff]
    norm_cast
  rw [decide_eq_decide.mpr e]

theorem pay10_apply (l : Fin 128) :
    k0_pay10 a b w z y x v (ix2 r l) = if l.val < 4 then k0_pay8 a b w z y x v (ix2 r l) else ⊥ := by
  have h : k0_pay10 a b w z y x v (ix2 r l) = Scalar.select (IntOp.cmpi .slt (BitVec.ofNat 32 l.val) 4#32)
      (k0_pay8 a b w z y x v (ix2 r l)) (Ideal.ofBits .f32 4286578688#32) := by
    pointwise [k0_pay10]
  rw [h, lane_lt4, sel, ninf]
  simp only [decide_eq_true_eq]

theorem gl_mem {l : Fin 128} (h : l.val < 4) : ∃ j, l = gl j := ⟨⟨l.val, h⟩, rfl⟩

/-- The group logits of row `r`. -/
def gr (V : FVec Ideal S512x128 .f32) (r : Fin 512) (j : Fin 4) : EReal := V (ix2 r (gl j))

/-- The logits of group `s`'s experts in row `r`. -/
def er (V : FVec Ideal S512x128 .f32) (r : Fin 512) (s j : Fin 4) : EReal := V (ix2 r (el s j))

theorem pay10_in (j : Fin 4) : k0_pay10 a b w z y x v (ix2 r (gl j)) = gr (k0_pay8 a b w z y x v) r j := by
  rw [pay10_apply, if_pos (show (gl j).val < 4 from j.isLt)]; rfl

theorem pay10_out (l : Fin 128) (h : ∀ j, l ≠ gl j) : k0_pay10 a b w z y x v (ix2 r l) = ⊥ := by
  rw [pay10_apply, if_neg]
  intro hl
  obtain ⟨j, hj⟩ := gl_mem hl
  exact h j hj

theorem pay11_apply (s : Fin 4) (hs : First (gr (k0_pay8 a b w z y x v) r) s) :
    k0_pay11 a b w z y x v (ix2 r 0) = gr (k0_pay8 a b w z y x v) r s := by
  have h : k0_pay11 a b w z y x v (ix2 r 0) = Finset.fold max (Ideal.ofBits .f32 4286578688#32)
      (fun l => k0_pay10 a b w z y x v (ix2 r l)) Finset.univ := by
    pointwise [k0_pay11]
  rw [h]
  exact lanes_max gl gl_mono (gr (k0_pay8 a b w z y x v) r) _ (pay10_in a b w z y x v r) (pay10_out a b w z y x v r)
    fun j => (hs j).1

theorem pay12_apply (s : Fin 4) (hf : ∀ j, Fin1 (gr (k0_pay8 a b w z y x v) r j))
    (hs : First (gr (k0_pay8 a b w z y x v) r) s) : k0_pay12 a b w z y x v (ix2 r 0) = lv s.val := by
  have h : k0_pay12 a b w z y x v (ix2 r 0) = Finset.fold min (Ideal.ofBits .f32 2139095040#32)
      (fun l : Fin 128 => if k0_pay10 a b w z y x v (ix2 r l) = k0_pay11 a b w z y x v (ix2 r 0)
        then k0_pay9 (F := Ideal) (ix2 r l) else Ideal.ofBits .f32 1124073472#32) Finset.univ := by
    pointwise [k0_pay12]
  rw [h]
  simp only [pay9_apply]
  rw [pay11_apply a b w z y x v r s hs]
  refine lanes_min gl gl_mono (fun l => k0_pay10 a b w z y x v (ix2 r l) = gr (k0_pay8 a b w z y x v) r s) s
    (pay10_in a b w z y x v r s) fun l hl => ?_
  by_cases h4 : ∀ j, l ≠ gl j
  · rw [pay10_out a b w z y x v r l h4] at hl
    exact absurd hl.symm (hf s).1
  · push Not at h4
    obtain ⟨j, rfl⟩ := h4
    rw [pay10_in] at hl
    refine ⟨j, rfl, not_lt.mp fun hj => ?_⟩
    exact absurd hl (ne_of_lt ((hs j).2 hj))

theorem pay13_apply (s : Fin 4) (hs : First (gr (k0_pay8 a b w z y x v) r) s) :
    k0_pay13 a b w z y x v (ix2 r 0) = pg (gr (k0_pay8 a b w z y x v) r) := by
  have h : k0_pay13 a b w z y x v (ix2 r 0) = Ideal.div 1 (∑ l : Fin 128,
      Ideal.exp (k0_pay10 a b w z y x v (ix2 r l) - k0_pay11 a b w z y x v (ix2 r 0))) := by
    pointwise [k0_pay13]
  rw [h, pay11_apply a b w z y x v r s hs,
    lanes_sum gl gl_mono (gr (k0_pay8 a b w z y x v) r) _ (pay10_in a b w z y x v r) (pay10_out a b w z y x v r)]
  unfold pg den
  rw [mx_first hs]

end row

section experts

variable (V : FVec Ideal S512x128 .f32) (G : FVec Ideal S512x1 .f32) (r : Fin 512) (s i k : Fin 4)

theorem masked (hs : G (ix2 r 0) = lv s.val) (l : Fin 128) :
    Scalar.select (k0_pay16 G k0_pay14 k0_pay15 2#32 (ix2 r l)) (V (ix2 r l)) (Ideal.ofBits .f32 4286578688#32)
      = if ∃ j, l = el s j then V (ix2 r l) else ⊥ := by
  rw [pay16_apply r G s hs, sel, ninf]
  simp only [decide_eq_true_eq]

theorem pay17_apply (hs : G (ix2 r 0) = lv s.val) (l : Fin 128) :
    k0_pay17 V G k0_pay14 k0_pay15 2#32 (ix2 r l) = Ideal.div
      (Ideal.exp ((if ∃ j, l = el s j then V (ix2 r l) else ⊥) - mx (er V r s))) (den (er V r s)) := by
  have h : k0_pay17 V G k0_pay14 k0_pay15 2#32 (ix2 r l) =
      Ideal.div (Ideal.exp (Scalar.select (k0_pay16 G k0_pay14 k0_pay15 2#32 (ix2 r l)) (V (ix2 r l))
          (Ideal.ofBits .f32 4286578688#32)
        - Finset.fold max (Ideal.ofBits .f32 4286578688#32) (fun l : Fin 128 => Scalar.select
            (k0_pay16 G k0_pay14 k0_pay15 2#32 (ix2 r l)) (V (ix2 r l)) (Ideal.ofBits .f32 4286578688#32)) Finset.univ))
        (∑ l' : Fin 128, Ideal.exp (Scalar.select (k0_pay16 G k0_pay14 k0_pay15 2#32 (ix2 r l')) (V (ix2 r l'))
          (Ideal.ofBits .f32 4286578688#32)
        - Finset.fold max (Ideal.ofBits .f32 4286578688#32) (fun l : Fin 128 => Scalar.select
            (k0_pay16 G k0_pay14 k0_pay15 2#32 (ix2 r l)) (V (ix2 r l)) (Ideal.ofBits .f32 4286578688#32)) Finset.univ)) := by
    pointwise [k0_pay17]
  rw [h]
  simp only [masked V G r s hs]
  have hin : ∀ j, (if ∃ j', el s j = el s j' then V (ix2 r (el s j)) else ⊥) = er V r s j := fun j => by
    rw [if_pos ⟨j, rfl⟩]; rfl
  have hout : ∀ l, (∀ j, l ≠ el s j) → (if ∃ j, l = el s j then V (ix2 r l) else ⊥) = (⊥ : EReal) := fun l hl => by
    rw [if_neg]; rintro ⟨j, hj⟩; exact hl j hj
  rw [lanes_mx (el s) (el_mono s) (er V r s) (fun l => if ∃ j, l = el s j then V (ix2 r l) else ⊥) hin hout,
    lanes_sum (el s) (el_mono s) (er V r s) (fun l => if ∃ j, l = el s j then V (ix2 r l) else ⊥) hin hout]
  rfl

theorem pay17_in (hs : G (ix2 r 0) = lv s.val) (j : Fin 4) :
    k0_pay17 V G k0_pay14 k0_pay15 2#32 (ix2 r (el s j)) = sm (er V r s) j := by
  rw [pay17_apply V G r s hs, if_pos ⟨j, rfl⟩]; rfl

theorem pay17_out (hs : G (ix2 r 0) = lv s.val) (hf : ∀ j, Fin1 (er V r s j)) (l : Fin 128) (hl : ∀ j, l ≠ el s j) :
    k0_pay17 V G k0_pay14 k0_pay15 2#32 (ix2 r l) = 0 := by
  rw [pay17_apply V G r s hs, if_neg (by rintro ⟨j, hj⟩; exact hl j hj), EReal.bot_sub, exp_bot,
    div_zero_left (den_pos hf)]

variable (hs : G (ix2 r 0) = lv s.val) (hf : ∀ j, Fin1 (er V r s j)) (hi : First (sm (er V r s)) i)
  (hk : Second (sm (er V r s)) i k)
include hs hf hi

theorem pay18_apply : k0_pay18 V G k0_pay14 k0_pay15 2#32 (ix2 r 0) = sm (er V r s) i := by
  have h : k0_pay18 V G k0_pay14 k0_pay15 2#32 (ix2 r 0) = Finset.fold max (Ideal.ofBits .f32 4286578688#32)
      (fun l => k0_pay17 V G k0_pay14 k0_pay15 2#32 (ix2 r l)) Finset.univ := by
    pointwise [k0_pay18]
  rw [h, ← pay17_in V G r s hs i]
  refine fold_max_at _ (el s i) fun l => ?_
  rw [pay17_in V G r s hs i]
  by_cases hl : ∀ j, l ≠ el s j
  · rw [pay17_out V G r s hs hf l hl]; exact sm_nonneg hf i
  · push Not at hl
    obtain ⟨j, rfl⟩ := hl
    rw [pay17_in V G r s hs]; exact (hi j).1

theorem pay19_apply : k0_pay19 V k0_pay9 G k0_pay14 k0_pay15 2#32 (ix2 r 0) = lv (el s i).val := by
  have h : k0_pay19 V k0_pay9 G k0_pay14 k0_pay15 2#32 (ix2 r 0) = Finset.fold min (Ideal.ofBits .f32 2139095040#32)
      (fun l : Fin 128 => Scalar.select (IntOp.andi (k0_pay16 G k0_pay14 k0_pay15 2#32 (ix2 r l))
        (BitVec.ofBool (decide (k0_pay17 V G k0_pay14 k0_pay15 2#32 (ix2 r l)
          = k0_pay18 V G k0_pay14 k0_pay15 2#32 (ix2 r 0)))))
        (k0_pay9 (F := Ideal) (ix2 r l)) (Ideal.ofBits .f32 1124073472#32)) Finset.univ := by
    pointwise [k0_pay19]
  rw [h]
  simp only [pay9_apply, pay16_apply r G s hs, and_ofBool, sel, pay18_apply V G r s i hs hf hi, Bool.and_eq_true,
    decide_eq_true_eq]
  refine lanes_min (el s) (el_mono s) (fun l => (∃ j, l = el s j) ∧
    k0_pay17 V G k0_pay14 k0_pay15 2#32 (ix2 r l) = sm (er V r s) i) i ⟨⟨i, rfl⟩, pay17_in V G r s hs i⟩ ?_
  rintro l ⟨⟨j, rfl⟩, hl⟩
  rw [pay17_in V G r s hs] at hl
  exact ⟨j, rfl, not_lt.mp fun hj => absurd hl (ne_of_lt ((hi j).2 hj))⟩

theorem pay20_apply (l : Fin 128) : k0_pay20 V k0_pay9 G k0_pay14 k0_pay15 2#32 (ix2 r l)
    = BitVec.ofBool (decide ((∃ j, l = el s j) ∧ l ≠ el s i)) := by
  have h : k0_pay20 V k0_pay9 G k0_pay14 k0_pay15 2#32 (ix2 r l)
      = IntOp.andi (k0_pay16 G k0_pay14 k0_pay15 2#32 (ix2 r l)) (BitVec.ofBool (decide
        (k0_pay9 (F := Ideal) (ix2 r l) ≠ k0_pay19 V k0_pay9 G k0_pay14 k0_pay15 2#32 (ix2 r 0)))) := by
    pointwise [k0_pay20]
  rw [h, pay16_apply r G s hs, pay9_apply, pay19_apply V G r s i hs hf hi, and_ofBool, Bool.decide_and]
  have e : lv l.val ≠ lv (el s i).val ↔ l ≠ el s i := by
    rw [Ne, lv_inj, Ne, Fin.ext_iff]
  rw [decide_eq_decide.mpr e]

include hk

theorem pay21_apply : k0_pay21 V k0_pay9 G k0_pay14 k0_pay15 2#32 (ix2 r 0) = sm (er V r s) k := by
  have h : k0_pay21 V k0_pay9 G k0_pay14 k0_pay15 2#32 (ix2 r 0) = Finset.fold max (Ideal.ofBits .f32 4286578688#32)
      (fun l : Fin 128 => Scalar.select (k0_pay20 V k0_pay9 G k0_pay14 k0_pay15 2#32 (ix2 r l))
        (k0_pay17 V G k0_pay14 k0_pay15 2#32 (ix2 r l)) (Ideal.ofBits .f32 3212836864#32)) Finset.univ := by
    pointwise [k0_pay21]
  rw [h]
  simp only [pay20_apply V G r s i hs hf hi, sel, decide_eq_true_eq]
  have hne : ∀ j, j ≠ i → ((∃ j', el s j = el s j') ∧ el s j ≠ el s i) := fun j hj =>
    ⟨⟨j, rfl⟩, fun e => hj ((el_mono s).injective e)⟩
  rw [fold_max_at _ (el s k)]
  · rw [if_pos (hne k hk.1), pay17_in V G r s hs]
  · intro l
    rw [if_pos (hne k hk.1), pay17_in V G r s hs]
    by_cases hl : (∃ j, l = el s j) ∧ l ≠ el s i
    · rw [if_pos hl]
      obtain ⟨⟨j, rfl⟩, hj⟩ := hl
      rw [pay17_in V G r s hs]
      exact (hk.2 j fun e => hj (by rw [e])).1
    · rw [if_neg hl]
      exact le_trans neg_one_lit.le (sm_nonneg hf k)

theorem pay22_apply : k0_pay22 V k0_pay9 G k0_pay14 k0_pay15 2#32 (ix2 r 0) = lv (el s k).val := by
  have h : k0_pay22 V k0_pay9 G k0_pay14 k0_pay15 2#32 (ix2 r 0) = Finset.fold min (Ideal.ofBits .f32 2139095040#32)
      (fun l : Fin 128 => Scalar.select (IntOp.andi (k0_pay20 V k0_pay9 G k0_pay14 k0_pay15 2#32 (ix2 r l))
        (BitVec.ofBool (decide (k0_pay17 V G k0_pay14 k0_pay15 2#32 (ix2 r l)
          = k0_pay21 V k0_pay9 G k0_pay14 k0_pay15 2#32 (ix2 r 0)))))
        (k0_pay9 (F := Ideal) (ix2 r l)) (Ideal.ofBits .f32 1124073472#32)) Finset.univ := by
    pointwise [k0_pay22]
  rw [h]
  simp only [pay9_apply, pay20_apply V G r s i hs hf hi, and_ofBool, sel, pay21_apply V G r s i k hs hf hi hk,
    Bool.and_eq_true, decide_eq_true_eq]
  refine lanes_min (el s) (el_mono s) (fun l => ((∃ j, l = el s j) ∧ l ≠ el s i) ∧
    k0_pay17 V G k0_pay14 k0_pay15 2#32 (ix2 r l) = sm (er V r s) k) k
    ⟨⟨⟨k, rfl⟩, fun e => hk.1 ((el_mono s).injective e)⟩, pay17_in V G r s hs k⟩ ?_
  rintro l ⟨⟨⟨j, rfl⟩, hj⟩, hl⟩
  rw [pay17_in V G r s hs] at hl
  exact ⟨j, rfl, not_lt.mp fun h => absurd hl (ne_of_lt ((hk.2 j fun e => hj (by rw [e])).2 h))⟩

theorem pay23_apply : k0_pay23 V k0_pay9 G k0_pay14 k0_pay15 2#32 (ix2 r 0)
    = sm (er V r s) i + sm (er V r s) k := by
  have h : k0_pay23 V k0_pay9 G k0_pay14 k0_pay15 2#32 (ix2 r 0) = k0_pay18 V G k0_pay14 k0_pay15 2#32 (ix2 r 0)
      + k0_pay21 V k0_pay9 G k0_pay14 k0_pay15 2#32 (ix2 r 0) := by
    pointwise [k0_pay23]
  rw [h, pay18_apply V G r s i hs hf hi, pay21_apply V G r s i k hs hf hi hk]

theorem pay1_apply (W : FVec Ideal S512x1 .f32) (l : Fin 128) :
    k0_pay1 k0_pay9 W (k0_pay21 V k0_pay9 G k0_pay14 k0_pay15 2#32) (k0_pay22 V k0_pay9 G k0_pay14 k0_pay15 2#32)
      (k0_pay23 V k0_pay9 G k0_pay14 k0_pay15 2#32) (k0_pay24 V k0_pay9 G W k0_pay14 k0_pay15 2#32) (ix2 r l)
      = (if l.val = 4 + 4 * s.val + i.val then
          Ideal.div (sm (er V r s) i) (sm (er V r s) i + sm (er V r s) k) * W (ix2 r 0) else 0)
        + (if l.val = 4 + 4 * s.val + k.val then
          Ideal.div (sm (er V r s) k) (sm (er V r s) i + sm (er V r s) k) * W (ix2 r 0) else 0) := by
  have h : k0_pay1 k0_pay9 W (k0_pay21 V k0_pay9 G k0_pay14 k0_pay15 2#32) (k0_pay22 V k0_pay9 G k0_pay14 k0_pay15 2#32)
      (k0_pay23 V k0_pay9 G k0_pay14 k0_pay15 2#32) (k0_pay24 V k0_pay9 G W k0_pay14 k0_pay15 2#32) (ix2 r l)
      = (if k0_pay9 (F := Ideal) (ix2 r l) = k0_pay19 V k0_pay9 G k0_pay14 k0_pay15 2#32 (ix2 r 0) then
          Ideal.div (k0_pay18 V G k0_pay14 k0_pay15 2#32 (ix2 r 0)) (k0_pay23 V k0_pay9 G k0_pay14 k0_pay15 2#32 (ix2 r 0))
            * W (ix2 r 0) else 0)
        + (if k0_pay9 (F := Ideal) (ix2 r l) = k0_pay22 V k0_pay9 G k0_pay14 k0_pay15 2#32 (ix2 r 0) then
          Ideal.div (k0_pay21 V k0_pay9 G k0_pay14 k0_pay15 2#32 (ix2 r 0))
            (k0_pay23 V k0_pay9 G k0_pay14 k0_pay15 2#32 (ix2 r 0)) * W (ix2 r 0) else 0) := by
    pointwise [k0_pay1, k0_pay24]
  rw [h, pay9_apply, pay19_apply V G r s i hs hf hi, pay18_apply V G r s i hs hf hi,
    pay21_apply V G r s i k hs hf hi hk, pay22_apply V G r s i k hs hf hi hk, pay23_apply V G r s i k hs hf hi hk]
  simp only [lv_inj]
  rfl

end experts

end Cert.MixIdeal.Val
-- ==== Proof.MixValue.lean ====
module

public import proofs.«01_k».proof.Proof.MixRow
public import proofs.«01_k».proof.Proof.RouteK
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixIdeal.Val
open Cert.MixIdeal Cert.MixIdeal.Gen Cert.Route
open Cert.MixRefIdeal.Read

variable (m : (ℓ : Loc nD τ sig) → Buf (Elt Ideal) ℓ)

/-! The kernel's blocks from the call's arguments, and the first two results. -/

/-- Where each window's block of a grid point lies. -/
theorem idx : ∀ t : Fin cfg0.N, win0_0.index t = ![t.val - 2, 0] ∧ win0_1.index t = ![min t.val 1, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_14.index t = ![t.val, 0] ∧ win0_15.index t = ![t.val, 0] ∧ win0_16.index t = ![t.val, 0] ∧ ((grid0.coords t) 0).val = t.val ∧ t.val < 34 :=
  (by decide +kernel : ∀ t : Fin grid0.N, _)

theorem head_tile : ∀ n : Fin 34, Scalar.cmpi CmpIPredicate.slt (BitVec.ofNat 32 n.val) 2#32 = if n.val < 2 then 1#1 else 0#1 := by
  decide +kernel

theorem lt34 (t : Fin cfg0.N) : t.val < 34 := (idx t).2.2.2.2.2.2.2.2.2.2.2.2.2.2.2.2.2.2
theorem coord (t : Fin cfg0.N) : ((grid0.coords t) 0).val = t.val := (idx t).2.2.2.2.2.2.2.2.2.2.2.2.2.2.2.2.2.1

/-- The array's row of row `r` of tile `t`. -/
def rw' (t : Fin cfg0.N) (r : Fin 512) : Fin 17408 := ⟨512 * t.val + r.val, by have := lt34 t; omega⟩

theorem blkh (c : Dev nD) (t : Fin cfg0.N) (h : t.val < 2) (r : Fin 512) (k : Fin 1024) (R : Fin 17408) (hR : R.val = 512 * t.val + r.val) :
    iblk m c 1 t (ix2 r k) = H (m ((c : Thread nD τ).loc main_arg0)) (m ((c : Thread nD τ).loc main_arg1)) R k := by
  have e' : ((View.whole main_v25).slice (win0_1.rect t)).emb (ix2 r k) = ix2 ⟨R.val, by omega⟩ k := by
    blk_ext [idx t]
  blk_simp [iblk]
  rw [e']
  entry_read
  pointwise [H]
  by_cases h8 : R.val < 1008
  · rw [dif_pos h8, dif_pos h8]
  · rw [dif_neg h8, dif_neg h8, dif_pos (by omega)]

theorem blkx (c : Dev nD) (t : Fin cfg0.N) (h : ¬ t.val < 2) (r : Fin 512) (k : Fin 1024) (R : Fin 17408) (hR : R.val = 512 * t.val + r.val) :
    iblk m c 0 t (ix2 r k) = H (m ((c : Thread nD τ).loc main_arg0)) (m ((c : Thread nD τ).loc main_arg1)) R k := by
  have hN := lt34 t
  have e' : ((View.whole main_v23).slice (win0_0.rect t)).emb (ix2 r k) = ix2 ⟨R.val - 1024, by omega⟩ k := by
    blk_ext [idx t]
  blk_simp [iblk]
  rw [e', H, dif_neg (by omega), dif_neg (by omega)]
  entry_read
  pointwise

theorem row (c : Dev nD) (t : Fin cfg0.N) (r : Fin 512) (k : Fin 1024) :
    (k0_pay2 (grid0.coords t) (iblk m c 1 t) (iblk m c 0 t) (ix2 r k) : EReal) = H (m ((c : Thread nD τ).loc main_arg0)) (m ((c : Thread nD τ).loc main_arg1)) (rw' t r) k := by
  have hc := head_tile ⟨t.val, lt34 t⟩
  pointwise [k0_pay2]
  rw [coord t, hc]
  by_cases h2 : t.val < 2
  · rw [if_pos h2]
    exact blkh m c t h2 r k _ rfl
  · rw [if_neg h2]
    exact blkx m c t h2 r k _ rfl

theorem blk2 (c : Dev nD) (t : Fin cfg0.N) (r : Fin 512) (k : Fin 512) :
    iblk m c 2 t (ix2 r k) = m ((c : Thread nD τ).loc main_arg2) (ix2 (rw' t r) k) := by
  have hN := lt34 t
  unfold rw'
  blk_ext! [iblk, V, idx t]

theorem blk3 (c : Dev nD) (t : Fin cfg0.N) (r : Fin 512) (k : Fin 512) :
    iblk m c 3 t (ix2 r k) = m ((c : Thread nD τ).loc main_arg3) (ix2 (rw' t r) k) := by
  have hN := lt34 t
  unfold rw'
  blk_ext! [iblk, V, idx t]

theorem blk4 (c : Dev nD) (t : Fin cfg0.N) (r : Fin 512) (k : Fin 1024) :
    iblk m c 4 t (ix2 r k) = m ((c : Thread nD τ).loc main_arg4) (ix2 (rw' t r) k) := by
  have hN := lt34 t
  unfold rw'
  blk_ext! [iblk, V, idx t]

theorem blk5 (c : Dev nD) (t : Fin cfg0.N) (r : Fin 512) (k : Fin 1024) :
    iblk m c 5 t (ix2 r k) = m ((c : Thread nD τ).loc main_arg5) (ix2 (rw' t r) k) := by
  have hN := lt34 t
  unfold rw'
  blk_ext! [iblk, V, idx t]

theorem blk6 (c : Dev nD) (t : Fin cfg0.N) (e : Fin 512) (k : Fin 1024) :
    (iblk m c 6 t (ix2 e k) : EReal) = m ((c : Thread nD τ).loc main_arg6) (ix3 0 e k) := by
  have e' : ((View.whole main_v1).slice (win0_6.rect t)).emb (ix2 e k) = ix2 e k := by
    blk_ext [idx t]
  blk_simp [iblk]
  rw [e']
  entry_read
  pointwise

theorem blk7 (c : Dev nD) (t : Fin cfg0.N) (e : Fin 512) (k : Fin 1024) :
    (iblk m c 7 t (ix2 e k) : EReal) = m ((c : Thread nD τ).loc main_arg7) (ix3 0 e k) := by
  have e' : ((View.whole main_v3).slice (win0_7.rect t)).emb (ix2 e k) = ix2 e k := by
    blk_ext [idx t]
  blk_simp [iblk]
  rw [e']
  entry_read
  pointwise

theorem blk8 (c : Dev nD) (t : Fin cfg0.N) (e k : Fin 1024) :
    (iblk m c 8 t (ix2 e k) : EReal) = m ((c : Thread nD τ).loc main_arg8) (ix3 0 e k) := by
  have e' : ((View.whole main_v5).slice (win0_8.rect t)).emb (ix2 e k) = ix2 e k := by
    blk_ext [idx t]
  blk_simp [iblk]
  rw [e']
  entry_read
  pointwise

theorem blk9 (c : Dev nD) (t : Fin cfg0.N) (k : Fin 1024) :
    (iblk m c 9 t (ix2 0 k) : EReal) = m ((c : Thread nD τ).loc main_arg9) (ix2 0 k) := by
  have e' : ((View.whole main_v7).slice (win0_9.rect t)).emb (ix2 0 k) = ix2 0 k := by
    blk_ext [idx t]
  blk_simp [iblk]
  rw [e']
  entry_read
  pointwise

theorem blk10 (c : Dev nD) (t : Fin cfg0.N) (k : Fin 1024) :
    (iblk m c 10 t (ix2 0 k) : EReal) = m ((c : Thread nD τ).loc main_arg10) (ix2 0 k) := by
  have e' : ((View.whole main_v9).slice (win0_10.rect t)).emb (ix2 0 k) = ix2 0 k := by
    blk_ext [idx t]
  blk_simp [iblk]
  rw [e']
  entry_read
  pointwise

/-- Row `r` of tile `t` of the gated sum is the reference's row. -/
theorem rowY (c : Dev nD) (t : Fin cfg0.N) (r : Fin 512) (k : Fin 1024) :
    (k0_pay3 (iblk m c 2 t) (iblk m c 6 t) (iblk m c 3 t) (iblk m c 7 t) (iblk m c 4 t) (iblk m c 5 t) (ix2 r k) : EReal)
    = val_main_v25 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 0 (rw' t r) k) := by
  refine (pay3_apply (iblk m c 2 t) (iblk m c 6 t) (iblk m c 3 t) (iblk m c 7 t) (iblk m c 4 t) (iblk m c 5 t) r k).trans ?_
  refine Eq.trans ?_ (ref25 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (rw' t r) k).symm
  have h2 : (fun e => (iblk m c 2 t (ix2 r e) : EReal)) = fun e => m ((c : Thread nD τ).loc main_arg2) (ix2 (rw' t r) e) := funext fun e => blk2 m c t r e
  have h3 : (fun e => (iblk m c 3 t (ix2 r e) : EReal)) = fun e => m ((c : Thread nD τ).loc main_arg3) (ix2 (rw' t r) e) := funext fun e => blk3 m c t r e
  have h6 : (fun e => (iblk m c 6 t (ix2 e k) : EReal)) = fun e => m ((c : Thread nD τ).loc main_arg6) (ix3 0 e k) := funext fun e => blk6 m c t e k
  have h7 : (fun e => (iblk m c 7 t (ix2 e k) : EReal)) = fun e => m ((c : Thread nD τ).loc main_arg7) (ix3 0 e k) := funext fun e => blk7 m c t e k
  exact (congr (congr (congr (congr (congr (congrArg Y h2) h3) (blk4 m c t r k)) (blk5 m c t r k)) h6) h7)

/-- Row `r` of tile `t` before its layer norm is the reference's row. -/
theorem rowX (c : Dev nD) (t : Fin cfg0.N) (r : Fin 512) (h : FVec Ideal S512x1024 .f32) (y : FVec Ideal S512x1024 .bf16)
    (hh : ∀ d, (h (ix2 r d) : EReal) = H (m ((c : Thread nD τ).loc main_arg0)) (m ((c : Thread nD τ).loc main_arg1)) (rw' t r) d)
    (hy : ∀ k, (y (ix2 r k) : EReal) = val_main_v25 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 0 (rw' t r) k)) :
    (fun d => X (h (ix2 r d)) (fun k => y (ix2 r k)) (fun k => iblk m c 8 t (ix2 k d))) = XR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (rw' t r) := by
  funext d
  exact congr (congr (congrArg X (hh d)) (funext hy)) (funext fun k => blk8 m c t k d)

/-- Row `r` of tile `t` after its layer norm is the reference's row. -/
theorem core (c : Dev nD) (t : Fin cfg0.N) (r : Fin 512) (d : Fin 1024) :
    (k0_pay4 (k0_pay2 (grid0.coords t) (iblk m c 1 t) (iblk m c 0 t)) (k0_pay3 (iblk m c 2 t) (iblk m c 6 t) (iblk m c 3 t) (iblk m c 7 t) (iblk m c 4 t) (iblk m c 5 t))
      (iblk m c 8 t) (iblk m c 9 t) (iblk m c 10 t) (ix2 r d) : EReal)
    = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 0 (rw' t r) d) := by
  refine Eq.trans ?_ (ref56 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (rw' t r) d).symm
  refine (pay4_apply (k0_pay2 (grid0.coords t) (iblk m c 1 t) (iblk m c 0 t)) (k0_pay3 (iblk m c 2 t) (iblk m c 6 t) (iblk m c 3 t) (iblk m c 7 t) (iblk m c 4 t) (iblk m c 5 t))
      (iblk m c 8 t) (iblk m c 9 t) (iblk m c 10 t) r d).trans ?_
  exact congr (congr (congr (congrArg LN (rowX m c t r _ _ (row m c t r) (rowY m c t r))) (blk9 m c t d)) (blk10 m c t d)) rfl

theorem ld0 (x : Vec Ideal S512x1024 .f32) : View.ld x r0_0 = x := by
  funext y; idx_vars y; pointwise
theorem ld0' (x : Vec Ideal S512x1024 .bf16) : View.ld x r0_0 = x := by
  funext y; idx_vars y; pointwise
theorem ld1 (x : Vec Ideal S512x512 .bf16) : View.ld x r0_1 = x := by
  funext y; idx_vars y; pointwise
theorem ld2 (x : Vec Ideal S1024x1024 .bf16) : View.ld x r0_2 = x := by
  funext y; idx_vars y; pointwise
theorem ld3 (x : Vec Ideal S1x1024 .f32) : View.ld x r0_3 = x := by
  funext y; idx_vars y
  obtain rfl : y0 = 0 := Subsingleton.elim _ _
  pointwise

theorem out14_apply (i : grid0.Coords) (x0 : Vec Ideal S512x1024 .f32) (x1 : Vec Ideal S512x1024 .f32) (x2 : Vec Ideal S512x512 .bf16) (x3 : Vec Ideal S512x512 .bf16)
    (x4 : Vec Ideal S512x1024 .f32) (x5 : Vec Ideal S512x1024 .f32) (x6 : Vec Ideal S512x1024 .bf16) (x7 : Vec Ideal S512x1024 .bf16) (x8 : Vec Ideal S1024x1024 .bf16)
    (x9 x10 : Vec Ideal S1x1024 .f32) (x11 x12 : Vec Ideal S1024x128 .bf16) (x13 : Vec Ideal S1x128 .f32) :
    out0_14 i x0 x1 x2 x3 x4 x5 x6 x7 x8 x9 x10 x11 x12 x13 = k0_pay4 (k0_pay2 i x1 x0) (k0_pay3 x2 x6 x3 x7 x4 x5) x8 x9 x10 := by
  funext y
  frame_out
  simp only [k0_pay25, k0_pay26, ld0, ld0', ld1, ld2, ld3]

theorem out15_apply (i : grid0.Coords) (x0 : Vec Ideal S512x1024 .f32) (x1 : Vec Ideal S512x1024 .f32) (x2 : Vec Ideal S512x512 .bf16) (x3 : Vec Ideal S512x512 .bf16)
    (x4 : Vec Ideal S512x1024 .f32) (x5 : Vec Ideal S512x1024 .f32) (x6 : Vec Ideal S512x1024 .bf16) (x7 : Vec Ideal S512x1024 .bf16) (x8 : Vec Ideal S1024x1024 .bf16)
    (x9 x10 : Vec Ideal S1x1024 .f32) (x11 x12 : Vec Ideal S1024x128 .bf16) (x13 : Vec Ideal S1x128 .f32) :
    out0_15 i x0 x1 x2 x3 x4 x5 x6 x7 x8 x9 x10 x11 x12 x13 = k0_pay5 (k0_pay2 i x1 x0) (k0_pay3 x2 x6 x3 x7 x4 x5) x8 x9 x10 := by
  funext y
  frame_out
  simp only [k0_pay25, k0_pay26, ld0, ld0', ld1, ld2, ld3]

theorem emb14 (t : Fin cfg0.N) (r : Fin 512) (j : Fin 1024) :
    ((View.whole main_v26_0).slice (win0_14.rect t)).emb (ix2 r j) = ix2 (rw' t r) j := by
  have hN := lt34 t
  unfold rw'
  blk_ext [idx t]

theorem emb15 (t : Fin cfg0.N) (r : Fin 512) (j : Fin 1024) :
    ((View.whole main_v26_1).slice (win0_15.rect t)).emb (ix2 r j) = ix2 (rw' t r) j := by
  have hN := lt34 t
  unfold rw'
  blk_ext [idx t]

theorem ref116 (x0 x1 x2 x3 x4 x5 x6 x7 x8 x9 x10) (R : Fin 17408) (d : Fin 1024) :
    (val_main_v116 (F := Ideal) x0 x1 x2 x3 x4 x5 x6 x7 x8 x9 x10 (ix2 R d) : EReal) = val_main_v56 (F := Ideal) x0 x1 x2 x3 x4 x5 x6 x7 x8 x9 x10 (ix3 0 R d) := by
  pointwise [val_main_v116]

theorem ref118 (x0 x1 x2 x3 x4 x5 x6 x7 x8 x9 x10) (R : Fin 17408) (d : Fin 1024) :
    (val_main_v118 (F := Ideal) x0 x1 x2 x3 x4 x5 x6 x7 x8 x9 x10 (ix2 R d) : EReal) = val_main_v56 (F := Ideal) x0 x1 x2 x3 x4 x5 x6 x7 x8 x9 x10 (ix3 0 R d) := by
  pointwise [val_main_v118, val_main_v117]

/-- The first result of the call is the reference's. -/
theorem final14 (c : Dev nD) : (dats m 0 c).arrAt 14 (cfgs 0).N
    = val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 14 _ (by decide +kernel) fun t hf y => ?_
  blk_simp
  rw [after0_14]
  idx_vars y
  rw [emb14 t y0 y1, ref116, out14_apply]
  exact core m c t y0 y1

/-- The second result of the call is the reference's. -/
theorem final15 (c : Dev nD) : (dats m 0 c).arrAt 15 (cfgs 0).N
    = val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 15 _ (by decide +kernel) fun t hf y => ?_
  blk_simp
  rw [after0_15]
  idx_vars y
  rw [emb15 t y0 y1, ref118, out15_apply]
  exact (pay5_apply _ _ _ _ _ y0 y1).trans (core m c t y0 y1)

end Cert.MixIdeal.Val
-- ==== Proof.MixLogits.lean ====
module

public import proofs.«01_k».proof.Proof.MixValue
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixIdeal.Val
open Cert.MixIdeal Cert.MixIdeal.Gen Cert.Route

variable (m : (ℓ : Loc nD τ sig) → Buf (Elt Ideal) ℓ)

/-! The router's weights and biases in the kernel's blocks. -/

/-- The router's weights side by side: four groups, sixteen experts, and columns of zeros. -/
def wcat (a : FVec Ideal S1024x4 .f32) (b : FVec Ideal S1024x16 .f32) (d : FVec Ideal S1024x108 .f32) : FVec Ideal S1024x128 .f32 :=
  concatenate S1024x128 1 [⟨S1024x4, a⟩, ⟨S1024x16, b⟩, ⟨S1024x108, d⟩] concatenates_S1024x4_S1024x16_S1024x108_S1024x128_d1

/-- The router's biases side by side. -/
def bcat (a : FVec Ideal S4 .f32) (b : FVec Ideal S16 .f32) (d : FVec Ideal S108 .f32) : FVec Ideal S128 .f32 :=
  concatenate S128 0 [⟨S4, a⟩, ⟨S16, b⟩, ⟨S108, d⟩] concatenates_S4_S16_S108_S128_d0

/-- The weights from the two arguments. -/
def wrk (a : FVec Ideal S1x1024x4 .f32) (b : FVec Ideal S1x1024x16 .f32) : FVec Ideal S1024x128 .f32 :=
  wcat (shapeCast S1024x4 a shapeCasts_S1x1024x4_S1024x4) (shapeCast S1024x16 b shapeCasts_S1x1024x16_S1024x16)
    (broadcastInDim S1024x108 ![] bcast_S_S1024x108 (constant (F := Ideal) S_ .f32 0x00000000#32))

/-- The biases from the two arguments. -/
def brk (a : FVec Ideal S1x4 .f32) (b : FVec Ideal S1x16 .f32) : FVec Ideal S128 .f32 :=
  bcat (shapeCast S4 a shapeCasts_S1x4_S4) (shapeCast S16 b shapeCasts_S1x16_S16)
    (broadcastInDim S108 ![] bcast_S_S108 (constant (F := Ideal) S_ .f32 0x00000000#32))

/-- Column `j` of the weights. -/
def Wr (a : FVec Ideal S1x1024x4 .f32) (b : FVec Ideal S1x1024x16 .f32) (k : Fin 1024) (j : Fin 128) : EReal :=
  if h : j.val < 4 then a (ix3 0 k ⟨j.val, h⟩) else if h' : j.val < 20 then b (ix3 0 k ⟨j.val - 4, by omega⟩) else 0

/-- Lane `j` of the biases. -/
def Br (a : FVec Ideal S1x4 .f32) (b : FVec Ideal S1x16 .f32) (j : Fin 128) : EReal :=
  if h : j.val < 4 then a (ix2 0 ⟨j.val, h⟩) else if h' : j.val < 20 then b (ix2 0 ⟨j.val - 4, by omega⟩) else 0

theorem wrk_apply (a b) (k : Fin 1024) (j : Fin 128) : wrk a b (ix2 k j) = Wr a b k j := by
  pointwise [wrk, wcat, Wr]
  by_cases h : j.val < 4
  · rw [dif_pos h, dif_pos h]
  · rw [dif_neg h, dif_neg h]
    by_cases h' : j.val < 20
    · rw [dif_pos h', dif_pos (by omega)]
    · rw [dif_neg h', dif_neg (by omega)]

theorem brk_apply (a b) (j : Fin 128) : brk a b (ix1 j) = Br a b j := by
  pointwise [brk, bcat, Br]
  by_cases h : j.val < 4
  · rw [dif_pos h, dif_pos h]
  · rw [dif_neg h, dif_neg h]
    by_cases h' : j.val < 20
    · rw [dif_pos h', dif_pos (by omega)]
    · rw [dif_neg h', dif_neg (by omega)]

theorem v14w (c : Dev nD) : V m c main_v14 = truncf (F := Ideal) .bf16 (wrk (m ((c : Thread nD τ).loc main_arg11)) (m ((c : Thread nD τ).loc main_arg13))) bitsLt_bf16_f32 := by
  unfold V hostOps0
  simp only [StableHlo.after_cons, StableHlo.after_nil]
  repeat after_results_step
  have cat : ∀ (a a' : FVec Ideal S1024x4 .f32) (b b' : FVec Ideal S1024x16 .f32) (d d' : FVec Ideal S1024x108 .f32), a = a' → b = b' → d = d' → (truncf (F := Ideal) .bf16 (wcat a b d) bitsLt_bf16_f32) = (truncf (F := Ideal) .bf16 (wcat a' b' d') bitsLt_bf16_f32) := by
    rintro a _ b _ d _ rfl rfl rfl; rfl
  refine cat _ _ _ _ _ _ ?_ ?_ ?_
  · show HloOp.result _ _ (Proc.devRef .tc main_v10) = _
    after_results_loop
    first | done | rfl
  · show HloOp.result _ _ (Proc.devRef .tc main_v11) = _
    after_results_loop
    first | done | rfl
  · show HloOp.result _ _ (Proc.devRef .tc main_v12) = _
    after_results_loop
    first | done | rfl

theorem v22w (c : Dev nD) : V m c main_v22 = shapeCast S1x128 (brk (m ((c : Thread nD τ).loc main_arg12)) (m ((c : Thread nD τ).loc main_arg14))) shapeCasts_S128_S1x128 := by
  unfold V hostOps0
  simp only [StableHlo.after_cons, StableHlo.after_nil]
  repeat after_results_step
  have cat : ∀ (a a' : FVec Ideal S4 .f32) (b b' : FVec Ideal S16 .f32) (d d' : FVec Ideal S108 .f32), a = a' → b = b' → d = d' → (shapeCast S1x128 (bcat a b d) shapeCasts_S128_S1x128) = (shapeCast S1x128 (bcat a' b' d') shapeCasts_S128_S1x128) := by
    rintro a _ b _ d _ rfl rfl rfl; rfl
  refine cat _ _ _ _ _ _ ?_ ?_ ?_
  · show HloOp.result _ _ (Proc.devRef .tc main_v18) = _
    after_results_loop
    first | done | rfl
  · show HloOp.result _ _ (Proc.devRef .tc main_v19) = _
    after_results_loop
    first | done | rfl
  · show HloOp.result _ _ (Proc.devRef .tc main_v20) = _
    after_results_loop
    first | done | rfl

theorem v17w (c : Dev nD) : V m c main_v17 = truncf (F := Ideal) .bf16 (subf (wrk (m ((c : Thread nD τ).loc main_arg11)) (m ((c : Thread nD τ).loc main_arg13))) (extf .f32 (truncf (F := Ideal) .bf16 (wrk (m ((c : Thread nD τ).loc main_arg11)) (m ((c : Thread nD τ).loc main_arg13))) bitsLt_bf16_f32) bitsLt_bf16_f32)) bitsLt_bf16_f32 := by
  unfold V hostOps0
  simp only [StableHlo.after_cons, StableHlo.after_nil]
  repeat after_results_step
  have cat : ∀ (a a' : FVec Ideal S1024x4 .f32) (b b' : FVec Ideal S1024x16 .f32) (d d' : FVec Ideal S1024x108 .f32), a = a' → b = b' → d = d' → (truncf (F := Ideal) .bf16 (subf (wcat a b d) (extf (F := Ideal) .f32 (truncf (F := Ideal) .bf16 (wcat a b d) bitsLt_bf16_f32) bitsLt_bf16_f32)) bitsLt_bf16_f32) = (truncf (F := Ideal) .bf16 (subf (wcat a' b' d') (extf (F := Ideal) .f32 (truncf (F := Ideal) .bf16 (wcat a' b' d') bitsLt_bf16_f32) bitsLt_bf16_f32)) bitsLt_bf16_f32) := by
    rintro a _ b _ d _ rfl rfl rfl; rfl
  refine cat _ _ _ _ _ _ ?_ ?_ ?_
  · show HloOp.result _ _ (Proc.devRef .tc main_v10) = _
    after_results_loop
    first | done | rfl
  · show HloOp.result _ _ (Proc.devRef .tc main_v11) = _
    after_results_loop
    first | done | rfl
  · show HloOp.result _ _ (Proc.devRef .tc main_v12) = _
    after_results_loop
    first | done | rfl

theorem blk11 (c : Dev nD) (t : Fin cfg0.N) (k : Fin 1024) (j : Fin 128) :
    (iblk m c 11 t (ix2 k j) : EReal) = Wr (m ((c : Thread nD τ).loc main_arg11)) (m ((c : Thread nD τ).loc main_arg13)) k j := by
  have e' : ((View.whole main_v14).slice (win0_11.rect t)).emb (ix2 k j) = ix2 k j := by
    blk_ext [idx t]
  blk_simp [iblk]
  rw [e', v14w m c]
  exact wrk_apply _ _ k j

theorem blk12 (c : Dev nD) (t : Fin cfg0.N) (k : Fin 1024) (j : Fin 128) :
    (iblk m c 12 t (ix2 k j) : EReal) = Wr (m ((c : Thread nD τ).loc main_arg11)) (m ((c : Thread nD τ).loc main_arg13)) k j
      - Wr (m ((c : Thread nD τ).loc main_arg11)) (m ((c : Thread nD τ).loc main_arg13)) k j := by
  have e' : ((View.whole main_v17).slice (win0_12.rect t)).emb (ix2 k j) = ix2 k j := by
    blk_ext [idx t]
  blk_simp [iblk]
  rw [e', v17w m c]
  exact congr (congrArg HSub.hSub (wrk_apply _ _ k j)) (wrk_apply _ _ k j)

theorem blk13 (c : Dev nD) (t : Fin cfg0.N) (j : Fin 128) :
    (iblk m c 13 t (ix2 0 j) : EReal) = Br (m ((c : Thread nD τ).loc main_arg12)) (m ((c : Thread nD τ).loc main_arg14)) j := by
  have e' : ((View.whole main_v22).slice (win0_13.rect t)).emb (ix2 0 j) = ix2 0 j := by
    blk_ext [idx t]
  have hs : ∀ x : FVec Ideal S128 .f32, shapeCast S1x128 x shapeCasts_S128_S1x128 (ix2 0 j) = x (ix1 j) := by
    intro x
    pointwise
  blk_simp [iblk]
  rw [e', v22w m c]
  exact (hs _).trans (brk_apply _ _ j)

theorem pay8_apply (a b : FVec Ideal S512x1024 .bf16) (w : Vec Ideal S1024x128 .bf16) (y x : Vec Ideal S1024x128 .bf16) (v : Vec Ideal S1x128 .f32) (r : Fin 512) (l : Fin 128) :
    (k0_pay8 a b (k0_pay7 w) (constant S512x128 .f32 0x00000000#32) y x v (ix2 r l) : EReal)
      = ∑ k, a (ix2 r k) * w (ix2 k l) + (∑ k, b (ix2 r k) * y (ix2 k l) + ∑ k, a (ix2 r k) * x (ix2 k l)) + v (ix2 0 l) := by
  pointwise [k0_pay8, k0_pay7]

/-- A row's logits: the two correction products are nothing where the row and the weights are finite. -/
theorem logits (c : Dev nD) (t : Fin cfg0.N) (r : Fin 512) (l : Fin 128) (a b : FVec Ideal S512x1024 .bf16) (h : Fin 1024 → EReal)
    (ha : ∀ k, (a (ix2 r k) : EReal) = h k) (hb : ∀ k, (b (ix2 r k) : EReal) = h k - h k) (hf : ∀ k, Fin1 (h k))
    (hw : ∀ k, Fin1 (Wr (m ((c : Thread nD τ).loc main_arg11)) (m ((c : Thread nD τ).loc main_arg13)) k l)) :
    (k0_pay8 a b (k0_pay7 (iblk m c 11 t)) (constant S512x128 .f32 0x00000000#32) (iblk m c 11 t) (iblk m c 12 t) (iblk m c 13 t) (ix2 r l) : EReal)
      = ∑ k, h k * Wr (m ((c : Thread nD τ).loc main_arg11)) (m ((c : Thread nD τ).loc main_arg13)) k l
        + Br (m ((c : Thread nD τ).loc main_arg12)) (m ((c : Thread nD τ).loc main_arg14)) l := by
  refine (pay8_apply a b (iblk m c 11 t) (iblk m c 11 t) (iblk m c 12 t) (iblk m c 13 t) r l).trans ?_
  have h1 : (∑ k, (a (ix2 r k) : EReal) * (iblk m c 11 t (ix2 k l) : EReal)) = ∑ k, h k * Wr (m ((c : Thread nD τ).loc main_arg11)) (m ((c : Thread nD τ).loc main_arg13)) k l :=
    Finset.sum_congr rfl fun k _ => congr (congrArg HMul.hMul (ha k)) (blk11 m c t k l)
  have h2 : (∑ k, (b (ix2 r k) : EReal) * (iblk m c 11 t (ix2 k l) : EReal)) = 0 :=
    Finset.sum_eq_zero fun k _ => by
      have e : (b (ix2 r k) : EReal) = 0 := (hb k).trans (EReal.sub_self (hf k).2 (hf k).1)
      exact (congrArg (· * (iblk m c 11 t (ix2 k l) : EReal)) e).trans (zero_mul _)
  have h3 : (∑ k, (a (ix2 r k) : EReal) * (iblk m c 12 t (ix2 k l) : EReal)) = 0 :=
    Finset.sum_eq_zero fun k _ => by
      have e := (blk12 m c t k l).trans (EReal.sub_self (hw k).2 (hw k).1)
      exact (congrArg (fun z : EReal => (a (ix2 r k) : EReal) * z) e).trans (mul_zero (a (ix2 r k) : EReal))
  have h4 := blk13 m c t l
  refine (congr (congrArg HAdd.hAdd (congr (congrArg HAdd.hAdd h1) (congr (congrArg HAdd.hAdd h2) h3))) h4).trans ?_
  rw [add_zero, add_zero]

theorem ld4 (x : Vec Ideal S1024x128 .bf16) : View.ld x r0_4 = x := by
  funext y; idx_vars y; pointwise
theorem ld5 (x : Vec Ideal S1x128 .f32) : View.ld x r0_5 = x := by
  funext y; idx_vars y
  obtain rfl : y0 = 0 := Subsingleton.elim _ _
  pointwise

/-- The third result's block from the logits `V`, the group's lane `G` and its weight `W`. -/
def comb (V : FVec Ideal S512x128 .f32) (G W : FVec Ideal S512x1 .f32) : FVec Ideal S512x128 .f32 :=
  k0_pay1 k0_pay9 W (k0_pay21 V k0_pay9 G k0_pay14 k0_pay15 2#32) (k0_pay22 V k0_pay9 G k0_pay14 k0_pay15 2#32)
      (k0_pay23 V k0_pay9 G k0_pay14 k0_pay15 2#32) (k0_pay24 V k0_pay9 G W k0_pay14 k0_pay15 2#32)

theorem out16_apply (i : grid0.Coords) (x0 : Vec Ideal S512x1024 .f32) (x1 : Vec Ideal S512x1024 .f32) (x2 : Vec Ideal S512x512 .bf16) (x3 : Vec Ideal S512x512 .bf16)
    (x4 : Vec Ideal S512x1024 .f32) (x5 : Vec Ideal S512x1024 .f32) (x6 : Vec Ideal S512x1024 .bf16) (x7 : Vec Ideal S512x1024 .bf16) (x8 : Vec Ideal S1024x1024 .bf16)
    (x9 x10 : Vec Ideal S1x1024 .f32) (x11 x12 : Vec Ideal S1024x128 .bf16) (x13 : Vec Ideal S1x128 .f32) :
    out0_16 i x0 x1 x2 x3 x4 x5 x6 x7 x8 x9 x10 x11 x12 x13 =
      comb (k0_pay8 (k0_pay5 (k0_pay2 i x1 x0) (k0_pay3 x2 x6 x3 x7 x4 x5) x8 x9 x10) (k0_pay6 (k0_pay2 i x1 x0) (k0_pay3 x2 x6 x3 x7 x4 x5) x8 x9 x10) (k0_pay7 x11) (constant S512x128 .f32 0x00000000#32) x11 x12 x13)
        (k0_pay12 (k0_pay5 (k0_pay2 i x1 x0) (k0_pay3 x2 x6 x3 x7 x4 x5) x8 x9 x10) (k0_pay6 (k0_pay2 i x1 x0) (k0_pay3 x2 x6 x3 x7 x4 x5) x8 x9 x10) (k0_pay7 x11) (constant S512x128 .f32 0x00000000#32) x11 x12 x13)
        (k0_pay13 (k0_pay5 (k0_pay2 i x1 x0) (k0_pay3 x2 x6 x3 x7 x4 x5) x8 x9 x10) (k0_pay6 (k0_pay2 i x1 x0) (k0_pay3 x2 x6 x3 x7 x4 x5) x8 x9 x10) (k0_pay7 x11) (constant S512x128 .f32 0x00000000#32) x11 x12 x13) := by
  funext y
  frame_out
  simp only [comb, k0_pay25, k0_pay26, k0_pay27, k0_pay28, k0_pay29, k0_pay30, k0_pay31, k0_pay32, k0_pay33, k0_pay34, k0_pay35, k0_pay36, ld0, ld0', ld1, ld2, ld3, ld4, ld5]

end Cert.MixIdeal.Val
-- ==== Proof.MixFinite.lean ====
module

public import proofs.«01_k».proof.Proof.MixRow
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixIdeal.Val
open Cert.MixIdeal Cert.MixIdeal.Gen Cert.Route
open Cert.MixRefIdeal.Read

/-! Finite arguments give finite rows: each step of the row's arithmetic keeps a value finite. -/

theorem fin_coe (r : ℝ) : Fin1 (r : EReal) := ⟨EReal.coe_ne_bot r, EReal.coe_ne_top r⟩
theorem fin_real {x : EReal} (h : Fin1 x) : ∃ r : ℝ, x = r := ⟨x.toReal, (EReal.coe_toReal h.2 h.1).symm⟩
theorem fin_zero : Fin1 0 := fin_coe 0

theorem fin_add {x y : EReal} (hx : Fin1 x) (hy : Fin1 y) : Fin1 (x + y) := by
  obtain ⟨a, rfl⟩ := fin_real hx; obtain ⟨b, rfl⟩ := fin_real hy
  rw [← EReal.coe_add]; exact fin_coe _
theorem fin_sub {x y : EReal} (hx : Fin1 x) (hy : Fin1 y) : Fin1 (x - y) := by
  obtain ⟨a, rfl⟩ := fin_real hx; obtain ⟨b, rfl⟩ := fin_real hy
  rw [← EReal.coe_sub]; exact fin_coe _
theorem fin_mul {x y : EReal} (hx : Fin1 x) (hy : Fin1 y) : Fin1 (x * y) := by
  obtain ⟨a, rfl⟩ := fin_real hx; obtain ⟨b, rfl⟩ := fin_real hy
  rw [← EReal.coe_mul]; exact fin_coe _
theorem fin_sum {ι : Type} (s : Finset ι) (f : ι → EReal) (h : ∀ i, Fin1 (f i)) : Fin1 (∑ i ∈ s, f i) := by
  classical
  induction s using Finset.induction_on with
  | empty => rw [Finset.sum_empty]; exact fin_zero
  | insert a s ha ih => rw [Finset.sum_insert ha]; exact fin_add (h a) ih

theorem lit_1024 : Ideal.ofBits .f32 1149239296#32 = ((1024 : ℝ) : EReal) := by
  simp [Ideal.ofBits, Ideal.ieee]
  norm_num
  rw [← EReal.coe_mul]
  exact congrArg _ (by norm_num)
theorem lit_eps : ∃ e : ℝ, 0 < e ∧ Ideal.ofBits .f32 925353388#32 = (e : EReal) := by
  refine ⟨10995116 * (2:ℝ) ^ (-40 : ℤ), by positivity, ?_⟩
  simp [Ideal.ofBits, Ideal.ieee]
theorem lit_res : Fin1 (Ideal.ofBits .f32 1066940400#32) := by
  have : ∃ e : ℝ, Ideal.ofBits .f32 1066940400#32 = (e : EReal) := by
    simp [Ideal.ofBits, Ideal.ieee]
    exact ⟨_, rfl⟩
  obtain ⟨e, he⟩ := this
  rw [he]; exact fin_coe e

theorem fin_div_1024 {x : EReal} (hx : Fin1 x) : Fin1 (Ideal.div x (Ideal.ofBits .f32 1149239296#32)) := by
  rw [lit_1024, Ideal.div_coe (by norm_num)]
  exact fin_mul hx (fin_coe _)

theorem fin_sg {x : EReal} (hx : Fin1 x) : Fin1 (sg x) := by
  obtain ⟨a, rfl⟩ := fin_real hx
  have h : (1 : EReal) + Ideal.exp (-(a : EReal)) = ((1 + Real.exp (-a) : ℝ) : EReal) := by
    rw [← EReal.coe_neg, Ideal.exp_coe, EReal.coe_add]; rfl
  unfold sg
  rw [h, Ideal.div_coe (by have := Real.exp_pos (-a); linarith)]
  exact fin_mul (fin_coe 1) (fin_coe _)

theorem fin_rsqrt {x : EReal} (hx : Fin1 x) (h0 : 0 ≤ x) : Fin1 (Ideal.rsqrt (x + Ideal.ofBits .f32 925353388#32)) := by
  obtain ⟨a, rfl⟩ := fin_real hx
  obtain ⟨e, he, h⟩ := lit_eps
  have ha : 0 ≤ a := EReal.coe_nonneg.mp h0
  rw [h, ← EReal.coe_add, Ideal.rsqrt_coe, if_neg (by linarith), if_neg (by linarith)]
  exact fin_coe _

theorem sq_nonneg' (x : EReal) : 0 ≤ x * x := by
  rcases le_total 0 x with h | h
  · exact mul_nonneg h h
  · have : x * x = (-x) * (-x) := by rw [EReal.neg_mul, mul_comm x (-x), EReal.neg_mul, neg_neg]
    rw [this]
    exact mul_nonneg (EReal.neg_nonneg.mpr h) (EReal.neg_nonneg.mpr h)

theorem fin_LN {x : Fin 1024 → EReal} (hx : ∀ k, Fin1 (x k)) {g s : EReal} (hg : Fin1 g) (hs : Fin1 s) (d : Fin 1024) : Fin1 (LN x g s d) := by
  have hm := fin_div_1024 (fin_sum Finset.univ x hx)
  have hd : ∀ k, Fin1 (x k - Ideal.div (∑ k, x k) (Ideal.ofBits .f32 1149239296#32)) := fun k => fin_sub (hx k) hm
  refine fin_add (fin_mul (fin_mul (hd d) (fin_rsqrt (fin_div_1024 (fin_sum _ _ fun k => fin_mul (hd k) (hd k))) ?_)) hg) hs
  refine div_nonneg (Finset.sum_nonneg fun k _ => sq_nonneg' _) ?_
  rw [lit_1024]
  exact EReal.coe_pos.mpr (by norm_num)

theorem fin_Y {ys oa : Fin 512 → EReal} {ga gb : EReal} {ws wa : Fin 512 → EReal} (h1 : ∀ e, Fin1 (ys e)) (h2 : ∀ e, Fin1 (oa e)) (h3 : Fin1 ga) (h4 : Fin1 gb)
    (h5 : ∀ e, Fin1 (ws e)) (h6 : ∀ e, Fin1 (wa e)) : Fin1 (Y ys oa ga gb ws wa) :=
  fin_add (fin_mul (fin_sg h3) (fin_sum _ _ fun e => fin_mul (h1 e) (h5 e))) (fin_mul (fin_sg h4) (fin_sum _ _ fun e => fin_mul (h2 e) (h6 e)))

theorem fin_H {x0 x1} (h0 : ∀ i, Fin1 (x0 i)) (h1 : ∀ i, Fin1 (x1 i)) (R : Fin 17408) (k : Fin 1024) : Fin1 (H x0 x1 R k) := by
  unfold H
  split
  · exact fin_zero
  · split
    · exact h1 _
    · exact h0 _

/-- The reference's normalized row is finite. -/
theorem fin56 {x0 x1 x2 x3 x4 x5 x6 x7 x8 x9 x10} (h0 : ∀ i, Fin1 (x0 i)) (h1 : ∀ i, Fin1 (x1 i)) (h2 : ∀ i, Fin1 (x2 i)) (h3 : ∀ i, Fin1 (x3 i)) (h4 : ∀ i, Fin1 (x4 i)) (h5 : ∀ i, Fin1 (x5 i))
    (h6 : ∀ i, Fin1 (x6 i)) (h7 : ∀ i, Fin1 (x7 i)) (h8 : ∀ i, Fin1 (x8 i)) (h9 : ∀ i, Fin1 (x9 i)) (h10 : ∀ i, Fin1 (x10 i)) (R : Fin 17408) (d : Fin 1024) :
    Fin1 (val_main_v56 (F := Ideal) x0 x1 x2 x3 x4 x5 x6 x7 x8 x9 x10 (ix3 0 R d)) := by
  rw [ref56]
  refine fin_LN (fun k => ?_) (h9 _) (h10 _) d
  refine fin_add (fin_mul lit_res (fin_H h0 h1 R k)) (fin_sum _ _ fun e => fin_mul ?_ (h8 _))
  show Fin1 (val_main_v25 (F := Ideal) x2 x3 x4 x5 x6 x7 (ix3 0 R e))
  rw [ref25]
  exact fin_Y (fun _ => h2 _) (fun _ => h3 _) (h4 _) (h5 _) (fun _ => h6 _) (fun _ => h7 _)

end Cert.MixIdeal.Val
-- ==== Proof.RouteRef.lean ====
module

public import proofs.«01_k».proof.Proof.Gen.MixRefIdeal.Read
public import proofs.«01_k».proof.Proof.RouteMath
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.MixRefIdeal.Val
open Cert.MixRefIdeal Cert.MixRefIdeal.Gen Cert.MixRefIdeal.Read Cert.Route

/-! The reference's routing, row by row. -/

theorem along3 (n : Fin 17408) (j k : Fin 4) :
    Shape.Idx.along (s := S1x17408x4) (ix3 0 n j) 2 k = ix3 0 n k := by
  funext a
  match a with
  | ⟨0, _⟩ => rfl
  | ⟨1, _⟩ => rfl
  | ⟨2, _⟩ => rfl

theorem gt_one (a b : EReal) : ((FloatOps.cmpfTotal (F := Ideal) (φ := .f32) .gt a b) == 1#1) = decide (b < a) := by
  show (BitVec.ofBool (decide (b < a)) == 1#1) = _
  cases decide (b < a) <;> rfl

theorem sort_at (x : FVec Ideal S1x17408x4 .f32) (n : Fin 17408) (j k : Fin 4) :
    sortedFrom (fun k k' : Fin 4 => (FloatOps.cmpfTotal (F := Ideal) (φ := .f32) .gt
      (x (Shape.Idx.along (s := S1x17408x4) (ix3 0 n j) 2 k)) (x (Shape.Idx.along (s := S1x17408x4) (ix3 0 n j) 2 k'))) == 1#1) k
      = order (fun j => x (ix3 0 n j)) k := by
  unfold order
  congr 1
  funext k k'
  rw [along3, along3]
  exact gt_one _ _

theorem top_val (x : FVec Ideal S1x17408x4 .f32) (n : Fin 17408) (c : Fin 2) :
    (Host.topK S1x17408x2 2 (FloatOps.cmpfTotal (F := Ideal) (φ := .f32) .gt) x sliceFits_S1x17408x4_S1x17408x2).1 (ix3 0 n c)
      = x (ix3 0 n (order (fun j => x (ix3 0 n j)) ⟨c.val, by omega⟩)) := by
  unfold Host.topK Host.sort2
  pointwise
  refine (congrArg x (along3 n ⟨c.val, by omega⟩ _)).trans ?_
  exact congrArg (fun k => x (ix3 0 n k)) (sort_at x n ⟨c.val, by omega⟩ ⟨c.val, by omega⟩)

theorem top_idx (x : FVec Ideal S1x17408x4 .f32) (n : Fin 17408) (c : Fin 2) :
    (Host.topK S1x17408x2 2 (FloatOps.cmpfTotal (F := Ideal) (φ := .f32) .gt) x sliceFits_S1x17408x4_S1x17408x2).2 (ix3 0 n c)
      = BitVec.ofNat 32 (order (fun j => x (ix3 0 n j)) ⟨c.val, by omega⟩).val := by
  unfold Host.topK Host.sort2
  pointwise
  exact congrArg (fun k : Fin 4 => BitVec.ofNat 32 k.val) (sort_at x n ⟨c.val, by omega⟩ ⟨c.val, by omega⟩)

theorem top_idx1 (x : FVec Ideal S1x17408x4 .f32) (n : Fin 17408) :
    (Host.topK S1x17408x1 2 (FloatOps.cmpfTotal (F := Ideal) (φ := .f32) .gt) x sliceFits_S1x17408x4_S1x17408x1).2 (ix3 0 n 0)
      = BitVec.ofNat 32 (order (fun j => x (ix3 0 n j)) 0).val := by
  unfold Host.topK Host.sort2
  pointwise
  exact congrArg (fun k : Fin 4 => BitVec.ofNat 32 k.val) (sort_at x n 0 0)

theorem clamp (s : Fin 4) : min (BitVec.ofNat 32 s.val).toInt.toNat 3 = s.val := by
  revert s; decide

theorem gather1 (x : FVec Ideal S1x17408x4 .f32) (ix : IVec S17408x1x1 32) (n : Fin 17408) (s : Fin 4)
    (hs : ix (ix3 n 0 0) = BitVec.ofNat 32 s.val) :
    Host.gather gather_S1x17408x4_S17408x1x1_S1x17408x1_0_2_1_0_2_2_111 x ix (ix3 0 n 0) = x (ix3 0 n s) := by
  unfold Host.gather
  congr 1
  funext a
  refine Fin.ext ?_
  show GatherDims.start _ _ ix a + GatherDims.batchCoord _ _ a + GatherDims.offCoord _ _ a = _
  match a with
  | ⟨0, _⟩ => rfl
  | ⟨1, _⟩ => show 0 + n.val + 0 = n.val; omega
  | ⟨2, h⟩ =>
    have hsi : GatherDims.siIdx gather_S1x17408x4_S17408x1x1_S1x17408x1_0_2_1_0_2_2_111 (ix3 0 n 0)
        ⟨List.idxOf (⟨2, h⟩ : Fin S1x17408x4.rank) gather_S1x17408x4_S17408x1x1_S1x17408x1_0_2_1_0_2_2_111.startIndexMap,
          List.idxOf_lt_length_iff.2 (List.mem_singleton.mpr rfl)⟩ = ix3 n 0 0 := by
      funext b; refine Fin.ext ?_
      match b with
      | ⟨0, _⟩ => rfl
      | ⟨1, _⟩ => rfl
      | ⟨2, _⟩ => rfl
    show min (ix _).toInt.toNat 3 + 0 + 0 = s.val
    rw [hsi, hs, clamp]; omega

theorem gather2 (x : FVec Ideal S1x17408x4x4 .f32) (ix : IVec S17408x1x1 32) (n : Fin 17408) (s j : Fin 4)
    (hs : ix (ix3 n 0 0) = BitVec.ofNat 32 s.val) :
    Host.gather gather_S1x17408x4x4_S17408x1x1_S1x17408x1x4_03_2_1_0_2_2_1114 x ix (ix4 0 n 0 j) = x (ix4 0 n s j) := by
  unfold Host.gather
  congr 1
  funext a
  refine Fin.ext ?_
  show GatherDims.start _ _ ix a + GatherDims.batchCoord _ _ a + GatherDims.offCoord _ _ a = _
  match a with
  | ⟨0, _⟩ => rfl
  | ⟨1, _⟩ => show 0 + n.val + 0 = n.val; omega
  | ⟨2, h⟩ =>
    have hsi : GatherDims.siIdx gather_S1x17408x4x4_S17408x1x1_S1x17408x1x4_03_2_1_0_2_2_1114 (ix4 0 n 0 j)
        ⟨List.idxOf (⟨2, h⟩ : Fin S1x17408x4x4.rank) gather_S1x17408x4x4_S17408x1x1_S1x17408x1x4_03_2_1_0_2_2_1114.startIndexMap,
          List.idxOf_lt_length_iff.2 (List.mem_singleton.mpr rfl)⟩ = ix3 n 0 0 := by
      funext b; refine Fin.ext ?_
      match b with
      | ⟨0, _⟩ => rfl
      | ⟨1, _⟩ => rfl
      | ⟨2, _⟩ => rfl
    show min (ix _).toInt.toNat 3 + 0 + 0 = s.val
    rw [hsi, hs, clamp]; omega
  | ⟨3, _⟩ => show 0 + 0 + j.val = j.val; omega

theorem wrap (s : Fin 4) : Scalar.select (IntOp.cmpi .slt (BitVec.ofNat 32 s.val) 0#32)
    (IntOp.addi (BitVec.ofNat 32 s.val) 4#32) (BitVec.ofNat 32 s.val) = BitVec.ofNat 32 s.val := by
  revert s; decide

theorem inRange (s : Fin 4) : IntOp.andi (IntOp.andi (IntOp.cmpi .sge (BitVec.ofNat 32 s.val) 0#32)
    (IntOp.cmpi .sle (BitVec.ofNat 32 s.val) 3#32)) 1#1 = 1#1 := by
  revert s; decide

theorem idWord : ∀ s i : Fin 4, IntOp.addi (IntOp.muli (BitVec.ofNat 32 s.val) 4#32) (BitVec.ofNat 32 i.val)
    = BitVec.ofNat 32 (4 * s.val + i.val) := by
  decide

theorem pick1 {α : Type} {c : BitVec 1} (hc : c = 1#1) (x y : α) : Scalar.select c x y = x := by
  subst hc; rfl

theorem uiEq (a b : ℕ) (ha : a < 16) (hb : b < 16) (y : EReal) :
    (FloatOps.uitofp (F := Ideal) .f32 (IntOp.cmpi .eq (BitVec.ofNat 32 a) (BitVec.ofNat 32 b)) : EReal) * y
      = if 4 + b = 4 + a then y else 0 := by
  have h : IntOp.cmpi .eq (BitVec.ofNat 32 a) (BitVec.ofNat 32 b) = BitVec.ofBool (decide (4 + b = 4 + a)) := by
    have := (by decide +kernel : ∀ a b : Fin 16, IntOp.cmpi .eq (BitVec.ofNat 32 a.val) (BitVec.ofNat 32 b.val)
      = BitVec.ofBool (decide (4 + b.val = 4 + a.val)))
    exact this ⟨a, ha⟩ ⟨b, hb⟩
  rw [h]
  by_cases hab : 4 + b = 4 + a
  · rw [if_pos hab, decide_eq_true hab]
    show ((((1 : ℕ) : ℝ) : EReal)) * y = y
    simp
  · rw [if_neg hab, decide_eq_false hab]
    show ((((0 : ℕ) : ℝ) : EReal)) * y = 0
    simp

theorem ofInt0 : (FloatOps.sitofp (F := Ideal) .f32 (0#32) : EReal) = 0 := by
  show ((((0#32 : BitVec 32).toInt : ℤ) : ℝ) : EReal) = 0
  simp

theorem entry_out (g q : Fin 4 → EReal) (s i k : Fin 4) (l : ℕ) (h : ¬ (4 ≤ l ∧ l - 4 < 16)) : entry g q s i k l = 0 := by
  unfold entry
  rw [if_neg (by omega), if_neg (by omega), add_zero]

theorem sm_form (f q : Fin 4 → EReal) (h : ∀ j, f j = q j) (j : Fin 4) :
    Ideal.div (Ideal.exp (f j - max (Ideal.ofBits .f32 4286578688#32) (Finset.fold max (Ideal.ofBits .f32 4286578688#32) f Finset.univ)))
      (∑ x, Ideal.exp (f x - max (Ideal.ofBits .f32 4286578688#32) (Finset.fold max (Ideal.ofBits .f32 4286578688#32) f Finset.univ)))
      = sm q j := by
  obtain rfl : f = q := funext h
  have hm : ∀ y : EReal, max (Ideal.ofBits .f32 4286578688#32) y = y := fun y => by rw [ninf]; exact max_eq_right bot_le
  simp only [hm]
  rfl

section stages

variable (x0 : FVec Ideal S1x16384x1024 .f32) (x1 : FVec Ideal S16x1024 .f32) (x2 x3 : FVec Ideal S17408x512 .bf16)
  (x4 x5 : FVec Ideal S17408x1024 .f32) (x6 x7 : FVec Ideal S1x512x1024 .f32) (x8 : FVec Ideal S1x1024x1024 .f32)
  (x9 x10 : FVec Ideal S1x1024 .f32) (x11 : FVec Ideal S1x1024x4 .f32) (x12 : FVec Ideal S1x4 .f32)
  (x13 : FVec Ideal S1x1024x16 .f32) (x14 : FVec Ideal S1x16 .f32) (n : Fin 17408)

/-- Row `n`'s group logits. -/
def gR (j : Fin 4) : EReal := val_main_v62 (F := Ideal) x0 x1 x2 x3 x4 x5 x6 x7 x8 x9 x10 x11 x12 (ix3 0 n j)

/-- The group row `n` chooses. -/
def sR : Fin 4 := order (gR x0 x1 x2 x3 x4 x5 x6 x7 x8 x9 x10 x11 x12 n) 0

/-- The logits of the four experts of that group. -/
def qR (j : Fin 4) : EReal := val_main_v82 (F := Ideal) x0 x1 x2 x3 x4 x5 x6 x7 x8 x9 x10 x13 x14
  (ix3 0 n ⟨4 * (sR x0 x1 x2 x3 x4 x5 x6 x7 x8 x9 x10 x11 x12 n).val + j.val, by omega⟩)

theorem v63_at : val_main_v63 (F := Ideal) x0 x1 x2 x3 x4 x5 x6 x7 x8 x9 x10 x11 x12 (ix2 0 n)
    = BitVec.ofNat 32 (sR x0 x1 x2 x3 x4 x5 x6 x7 x8 x9 x10 x11 x12 n).val := by
  have h : val_main_v63 (F := Ideal) x0 x1 x2 x3 x4 x5 x6 x7 x8 x9 x10 x11 x12 (ix2 0 n)
      = val_main_indices (F := Ideal) x0 x1 x2 x3 x4 x5 x6 x7 x8 x9 x10 x11 x12 (ix3 0 n 0) := by
    pointwise [val_main_v63]
  rw [h]
  exact top_idx1 _ n

theorem v74_at (j : Fin 4) : val_main_v74 (F := Ideal) x0 x1 x2 x3 x4 x5 x6 x7 x8 x9 x10 x11 x12 (ix3 0 n j)
    = sm (gR x0 x1 x2 x3 x4 x5 x6 x7 x8 x9 x10 x11 x12 n) j := by
  pointwise [val_main_v74, val_main_v73, val_main_v72, val_main_v71, val_main_v70, val_main_v69, val_main_v68, val_main_v67, val_main_v66,
    val_main_v65, val_main_v64, val_main_cst_9, val_main_cst_10, val_main_cst_11]
  have hm : ∀ y : EReal, max (Ideal.ofBits .f32 4286578688#32) y = y := fun y => by rw [ninf]; exact max_eq_right bot_le
  simp only [hm]
  rfl

theorem call1_v5_at : val_main_call1_v5 (F := Ideal) x0 x1 x2 x3 x4 x5 x6 x7 x8 x9 x10 x11 x12 (ix3 n 0 0)
    = BitVec.ofNat 32 (sR x0 x1 x2 x3 x4 x5 x6 x7 x8 x9 x10 x11 x12 n).val := by
  pointwise [val_main_call1_v5, val_main_call1_v4, val_main_call1_v3, val_main_call1_v2, val_main_call1_v1, val_main_call1_v0, val_main_call1_c,
    val_main_call1_c_0, val_main_v75]
  rw [v63_at]
  exact wrap _

theorem call1_v12_at : val_main_call1_v12 (F := Ideal) x0 x1 x2 x3 x4 x5 x6 x7 x8 x9 x10 x11 x12 (ix2 n 0) = 1#1 := by
  pointwise [val_main_call1_v12, val_main_call1_v11, val_main_call1_v10, val_main_call1_v9, val_main_call1_v8, val_main_call1_v7, val_main_call1_v6,
    val_main_call1_c_1, val_main_call1_c_2, val_main_call1_c_3]
  rw [show (Finset.univ : Finset (Fin 1)) = {0} from rfl, Finset.fold_singleton, call1_v5_at]
  exact inRange _

theorem v76_at (hf : ∀ j, Fin1 (gR x0 x1 x2 x3 x4 x5 x6 x7 x8 x9 x10 x11 x12 n j)) :
    val_main_v76 (F := Ideal) x0 x1 x2 x3 x4 x5 x6 x7 x8 x9 x10 x11 x12 (ix3 0 n 0)
    = pg (gR x0 x1 x2 x3 x4 x5 x6 x7 x8 x9 x10 x11 x12 n) := by
  have h : val_main_v76 (F := Ideal) x0 x1 x2 x3 x4 x5 x6 x7 x8 x9 x10 x11 x12 (ix3 0 n 0)
      = Scalar.select (val_main_call1_v12 (F := Ideal) x0 x1 x2 x3 x4 x5 x6 x7 x8 x9 x10 x11 x12 (ix2 n 0))
        (val_main_call1_v13 (F := Ideal) x0 x1 x2 x3 x4 x5 x6 x7 x8 x9 x10 x11 x12 (ix3 0 n 0))
        (Ideal.ofBits .f32 0x7FC00000#32) := by
    pointwise [val_main_v76, val_main_call1_v14, val_main_call1_v15, val_main_call1_cst]
  rw [h]
  refine (pick1 (call1_v12_at x0 x1 x2 x3 x4 x5 x6 x7 x8 x9 x10 x11 x12 n) _ _).trans ?_
  refine (gather1 _ _ n _ (call1_v5_at x0 x1 x2 x3 x4 x5 x6 x7 x8 x9 x10 x11 x12 n)).trans ?_
  rw [v74_at]
  exact sm_first hf (order_spec _).1

theorem call2_v5_at : val_main_call2_v5 (F := Ideal) x0 x1 x2 x3 x4 x5 x6 x7 x8 x9 x10 x11 x12 (ix3 n 0 0)
    = BitVec.ofNat 32 (sR x0 x1 x2 x3 x4 x5 x6 x7 x8 x9 x10 x11 x12 n).val := by
  pointwise [val_main_call2_v5, val_main_call2_v4, val_main_call2_v3, val_main_call2_v2, val_main_call2_v1, val_main_call2_v0, val_main_call2_c,
    val_main_call2_c_0, val_main_v84]
  rw [v63_at]
  exact wrap _

theorem call2_v12_at : val_main_call2_v12 (F := Ideal) x0 x1 x2 x3 x4 x5 x6 x7 x8 x9 x10 x11 x12 (ix2 n 0) = 1#1 := by
  pointwise [val_main_call2_v12, val_main_call2_v11, val_main_call2_v10, val_main_call2_v9, val_main_call2_v8, val_main_call2_v7, val_main_call2_v6,
    val_main_call2_c_1, val_main_call2_c_2, val_main_call2_c_3]
  rw [show (Finset.univ : Finset (Fin 1)) = {0} from rfl, Finset.fold_singleton, call2_v5_at]
  exact inRange _

theorem v86_at (j : Fin 4) : val_main_v86 (F := Ideal) x0 x1 x2 x3 x4 x5 x6 x7 x8 x9 x10 x11 x12 x13 x14 (ix3 0 n j)
    = qR x0 x1 x2 x3 x4 x5 x6 x7 x8 x9 x10 x11 x12 x13 x14 n j := by
  have h : val_main_v86 (F := Ideal) x0 x1 x2 x3 x4 x5 x6 x7 x8 x9 x10 x11 x12 x13 x14 (ix3 0 n j)
      = Scalar.select (val_main_call2_v12 (F := Ideal) x0 x1 x2 x3 x4 x5 x6 x7 x8 x9 x10 x11 x12 (ix2 n 0))
        (val_main_call2_v13 (F := Ideal) x0 x1 x2 x3 x4 x5 x6 x7 x8 x9 x10 x11 x12 x13 x14 (ix4 0 n 0 j))
        (Ideal.ofBits .f32 0x7FC00000#32) := by
    pointwise [val_main_v86, val_main_v85, val_main_call2_v14, val_main_call2_v15, val_main_call2_cst]
  rw [h]
  refine (pick1 (call2_v12_at x0 x1 x2 x3 x4 x5 x6 x7 x8 x9 x10 x11 x12 n) _ _).trans ?_
  refine (gather2 (val_main_v83 (F := Ideal) x0 x1 x2 x3 x4 x5 x6 x7 x8 x9 x10 x13 x14) _ n _ j (call2_v5_at x0 x1 x2 x3 x4 x5 x6 x7 x8 x9 x10 x11 x12 n)).trans ?_
  generalize hs : sR x0 x1 x2 x3 x4 x5 x6 x7 x8 x9 x10 x11 x12 n = s
  unfold qR
  have h' : val_main_v83 (F := Ideal) x0 x1 x2 x3 x4 x5 x6 x7 x8 x9 x10 x13 x14 (ix4 0 n s j)
      = val_main_v82 (F := Ideal) x0 x1 x2 x3 x4 x5 x6 x7 x8 x9 x10 x13 x14 (ix3 0 n ⟨4 * s.val + j.val, by omega⟩) := by
    rw [val_main_v83_apply]
    refine congrArg _ ?_
    funext a
    refine Fin.ext ?_
    match a with
    | ⟨0, _⟩ => rfl
    | ⟨1, _⟩ => show ((((0 * 17408 + n.val) * 4 + s.val) * 4 + j.val) / 16) % 17408 = n.val; omega
    | ⟨2, _⟩ => show ((((0 * 17408 + n.val) * 4 + s.val) * 4 + j.val)) % 16 = 4 * s.val + j.val; omega
  rw [h']
  subst hs
  rfl

theorem v89_at : val_main_v89 (F := Ideal) x0 x1 x2 x3 x4 x5 x6 x7 x8 x9 x10 x11 x12 x13 x14 (ix2 0 n) = mx (qR x0 x1 x2 x3 x4 x5 x6 x7 x8 x9 x10 x11 x12 x13 x14 n) := by
  have h : val_main_v89 (F := Ideal) x0 x1 x2 x3 x4 x5 x6 x7 x8 x9 x10 x11 x12 x13 x14 (ix2 0 n) = max (Ideal.ofBits .f32 4286578688#32)
      (Finset.fold max (Ideal.ofBits .f32 4286578688#32) (fun x => val_main_v86 (F := Ideal) x0 x1 x2 x3 x4 x5 x6 x7 x8 x9 x10 x11 x12 x13 x14 (ix3 0 n x)) Finset.univ) := by
    pointwise [val_main_v89, val_main_v88, val_main_v87, val_main_cst_12, val_main_cst_13]
  rw [h, ninf, max_eq_right bot_le, ← ninf]
  exact congrArg mx (funext (v86_at x0 x1 x2 x3 x4 x5 x6 x7 x8 x9 x10 x11 x12 x13 x14 n))

theorem v93_at (j : Fin 4) : val_main_v93 (F := Ideal) x0 x1 x2 x3 x4 x5 x6 x7 x8 x9 x10 x11 x12 x13 x14 (ix3 0 n j) = Ideal.exp (qR x0 x1 x2 x3 x4 x5 x6 x7 x8 x9 x10 x11 x12 x13 x14 n j - mx (qR x0 x1 x2 x3 x4 x5 x6 x7 x8 x9 x10 x11 x12 x13 x14 n)) := by
  have h : val_main_v93 (F := Ideal) x0 x1 x2 x3 x4 x5 x6 x7 x8 x9 x10 x11 x12 x13 x14 (ix3 0 n j)
      = Ideal.exp (val_main_v86 (F := Ideal) x0 x1 x2 x3 x4 x5 x6 x7 x8 x9 x10 x11 x12 x13 x14 (ix3 0 n j) - val_main_v89 (F := Ideal) x0 x1 x2 x3 x4 x5 x6 x7 x8 x9 x10 x11 x12 x13 x14 (ix2 0 n)) := by
    pointwise [val_main_v93, val_main_v92, val_main_v91, val_main_v90]
  rw [h, v86_at, v89_at]

theorem v97_at (j : Fin 4) : val_main_v97 (F := Ideal) x0 x1 x2 x3 x4 x5 x6 x7 x8 x9 x10 x11 x12 x13 x14 (ix3 0 n j) = sm (qR x0 x1 x2 x3 x4 x5 x6 x7 x8 x9 x10 x11 x12 x13 x14 n) j := by
  have h : val_main_v97 (F := Ideal) x0 x1 x2 x3 x4 x5 x6 x7 x8 x9 x10 x11 x12 x13 x14 (ix3 0 n j)
      = Ideal.div (val_main_v93 (F := Ideal) x0 x1 x2 x3 x4 x5 x6 x7 x8 x9 x10 x11 x12 x13 x14 (ix3 0 n j)) (∑ x, val_main_v93 (F := Ideal) x0 x1 x2 x3 x4 x5 x6 x7 x8 x9 x10 x11 x12 x13 x14 (ix3 0 n x)) := by
    pointwise [val_main_v97, val_main_v96, val_main_v95, val_main_v94, val_main_cst_14]
  rw [h, v93_at]
  unfold sm den
  exact congrArg _ (Finset.sum_congr rfl fun x _ => v93_at x0 x1 x2 x3 x4 x5 x6 x7 x8 x9 x10 x11 x12 x13 x14 n x)

/-- The first and the second expert chosen, within the group. -/
def iR (c : Fin 2) : Fin 4 := order (sm (qR x0 x1 x2 x3 x4 x5 x6 x7 x8 x9 x10 x11 x12 x13 x14 n)) ⟨c.val, by omega⟩

theorem row97 : (fun j => val_main_v97 (F := Ideal) x0 x1 x2 x3 x4 x5 x6 x7 x8 x9 x10 x11 x12 x13 x14 (ix3 0 n j))
    = sm (qR x0 x1 x2 x3 x4 x5 x6 x7 x8 x9 x10 x11 x12 x13 x14 n) := by
  funext j; exact v97_at _ _ _ _ _ _ _ _ _ _ _ _ _ _ _ n j

theorem values_at (c : Fin 2) : val_main_values_15 (F := Ideal) x0 x1 x2 x3 x4 x5 x6 x7 x8 x9 x10 x11 x12 x13 x14 (ix3 0 n c)
    = sm (qR x0 x1 x2 x3 x4 x5 x6 x7 x8 x9 x10 x11 x12 x13 x14 n) (iR x0 x1 x2 x3 x4 x5 x6 x7 x8 x9 x10 x11 x12 x13 x14 n c) := by
  refine (top_val _ n c).trans ?_
  rw [v97_at, row97]
  rfl

theorem indices_at (c : Fin 2) : val_main_indices_16 (F := Ideal) x0 x1 x2 x3 x4 x5 x6 x7 x8 x9 x10 x11 x12 x13 x14 (ix3 0 n c)
    = BitVec.ofNat 32 (iR x0 x1 x2 x3 x4 x5 x6 x7 x8 x9 x10 x11 x12 x13 x14 n c).val := by
  refine (top_idx _ n c).trans ?_
  rw [row97]
  rfl

theorem v103_at (hf : ∀ j, Fin1 (gR x0 x1 x2 x3 x4 x5 x6 x7 x8 x9 x10 x11 x12 n j)) (c : Fin 2) :
    val_main_v103 (F := Ideal) x0 x1 x2 x3 x4 x5 x6 x7 x8 x9 x10 x11 x12 x13 x14 (ix3 0 n c)
    = Ideal.div (sm (qR x0 x1 x2 x3 x4 x5 x6 x7 x8 x9 x10 x11 x12 x13 x14 n) (iR x0 x1 x2 x3 x4 x5 x6 x7 x8 x9 x10 x11 x12 x13 x14 n c))
        (sm (qR x0 x1 x2 x3 x4 x5 x6 x7 x8 x9 x10 x11 x12 x13 x14 n) (iR x0 x1 x2 x3 x4 x5 x6 x7 x8 x9 x10 x11 x12 x13 x14 n 0)
          + sm (qR x0 x1 x2 x3 x4 x5 x6 x7 x8 x9 x10 x11 x12 x13 x14 n) (iR x0 x1 x2 x3 x4 x5 x6 x7 x8 x9 x10 x11 x12 x13 x14 n 1))
      * pg (gR x0 x1 x2 x3 x4 x5 x6 x7 x8 x9 x10 x11 x12 n) := by
  pointwise [val_main_v103, val_main_v102, val_main_v101, val_main_v100, val_main_v99, val_main_v98, val_main_cst_17]
  simp only [v76_at _ _ _ _ _ _ _ _ _ _ _ _ _ n hf, values_at, Fin.sum_univ_two]

theorem v108_at (c : Fin 2) : val_main_v108 (F := Ideal) x0 x1 x2 x3 x4 x5 x6 x7 x8 x9 x10 x11 x12 x13 x14 (ix3 0 n c)
    = BitVec.ofNat 32 (4 * (sR x0 x1 x2 x3 x4 x5 x6 x7 x8 x9 x10 x11 x12 n).val + (iR x0 x1 x2 x3 x4 x5 x6 x7 x8 x9 x10 x11 x12 x13 x14 n c).val) := by
  pointwise [val_main_v108, val_main_v107, val_main_v106, val_main_v105, val_main_v104, val_main_c_18]
  rw [v63_at, indices_at]
  exact idWord _ _

theorem v113_at (hf : ∀ j, Fin1 (gR x0 x1 x2 x3 x4 x5 x6 x7 x8 x9 x10 x11 x12 n j)) (x : Fin 16) :
    val_main_v113 (F := Ideal) x0 x1 x2 x3 x4 x5 x6 x7 x8 x9 x10 x11 x12 x13 x14 (ix3 0 n x)
    = entry (gR x0 x1 x2 x3 x4 x5 x6 x7 x8 x9 x10 x11 x12 n) (qR x0 x1 x2 x3 x4 x5 x6 x7 x8 x9 x10 x11 x12 x13 x14 n)
        (sR x0 x1 x2 x3 x4 x5 x6 x7 x8 x9 x10 x11 x12 n) (iR x0 x1 x2 x3 x4 x5 x6 x7 x8 x9 x10 x11 x12 x13 x14 n 0)
        (iR x0 x1 x2 x3 x4 x5 x6 x7 x8 x9 x10 x11 x12 x13 x14 n 1) (4 + x.val) := by
  pointwise [val_main_v113, val_main_v112, val_main_v111, val_main_v110, val_main_v109, val_main_call3_v4, val_main_call3_v3, val_main_call3_v2,
    val_main_call3_v1, val_main_call3_v0, val_main_cst_19]
  simp only [Fin.sum_univ_two, v108_at, v103_at _ _ _ _ _ _ _ _ _ _ _ _ _ _ _ n hf]
  unfold entry
  rw [add_assoc, add_assoc]
  exact congrArg₂ (· + ·) (uiEq _ _ (by omega) x.isLt _) (uiEq _ _ (by omega) x.isLt _)

theorem v115_at (hf : ∀ j, Fin1 (gR x0 x1 x2 x3 x4 x5 x6 x7 x8 x9 x10 x11 x12 n j)) (l : Fin 128) :
    val_main_v115 (F := Ideal) x0 x1 x2 x3 x4 x5 x6 x7 x8 x9 x10 x11 x12 x13 x14 (ix2 n l)
    = entry (gR x0 x1 x2 x3 x4 x5 x6 x7 x8 x9 x10 x11 x12 n) (qR x0 x1 x2 x3 x4 x5 x6 x7 x8 x9 x10 x11 x12 x13 x14 n)
        (sR x0 x1 x2 x3 x4 x5 x6 x7 x8 x9 x10 x11 x12 n) (iR x0 x1 x2 x3 x4 x5 x6 x7 x8 x9 x10 x11 x12 x13 x14 n 0)
        (iR x0 x1 x2 x3 x4 x5 x6 x7 x8 x9 x10 x11 x12 x13 x14 n 1) l.val := by
  pointwise [val_main_v115, val_main_v114, val_main_call4_v0, val_main_c_20]
  by_cases h : 4 ≤ l.val ∧ l.val - 4 < 16
  · rw [dif_pos h, v113_at x0 x1 x2 x3 x4 x5 x6 x7 x8 x9 x10 x11 x12 x13 x14 n hf]
    congr 1
    show 4 + (l.val - 4) = l.val
    omega
  · rw [dif_neg h, entry_out _ _ _ _ _ _ h]
    exact ofInt0

end stages

end Cert.MixRefIdeal.Val
-- ==== Proof.MixFinal.lean ====
module

public import proofs.«01_k».proof.Proof.MixLogits
public import proofs.«01_k».proof.Proof.MixFinite
public import proofs.«01_k».proof.Proof.RouteRef
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixIdeal.Val
open Cert.MixIdeal Cert.MixIdeal.Gen Cert.Route
open Cert.MixRefIdeal.Read Cert.MixRefIdeal.Val

variable (m : (ℓ : Loc nD τ sig) → Buf (Elt Ideal) ℓ)

/-! The third result: the kernel's routing of a row is the reference's. -/

/-- The kernel's combine row from its logits, where the group's and the chosen experts' logits are `g` and `q`. -/
theorem route (a b : FVec Ideal S512x1024 .bf16) (w : FVec Ideal S1024x128 .bf16) (z : FVec Ideal S512x128 .f32) (y x : Vec Ideal S1024x128 .bf16) (v : Vec Ideal S1x128 .f32)
    (r : Fin 512) (l : Fin 128) (g q : Fin 4 → EReal) (hg : gr (k0_pay8 a b w z y x v) r = g) (hgf : ∀ j, Fin1 (g j))
    (hq : er (k0_pay8 a b w z y x v) r (order g 0) = q) (hqf : ∀ j, Fin1 (q j)) :
    (comb (k0_pay8 a b w z y x v) (k0_pay12 a b w z y x v) (k0_pay13 a b w z y x v) (ix2 r l) : EReal)
      = entry g q (order g 0) (order (sm q) 0) (order (sm q) 1) l.val := by
  have o1 := (order_spec g).1
  have o2 := order_spec (sm q)
  have e12 := pay12_apply a b w z y x v r (order g 0) (by rw [hg]; exact hgf) (by rw [hg]; exact o1)
  have e13 := pay13_apply a b w z y x v r (order g 0) (by rw [hg]; exact o1)
  have e1 := pay1_apply (k0_pay8 a b w z y x v) (k0_pay12 a b w z y x v) r (order g 0) (order (sm q) 0) (order (sm q) 1) e12
    (by rw [hq]; exact hqf) (by rw [hq]; exact o2.1) (by rw [hq]; exact o2.2) (k0_pay13 a b w z y x v) l
  refine Eq.trans e1 ?_
  rw [e13, hq, hg]
  rfl

theorem ref62 (x0 x1 x2 x3 x4 x5 x6 x7 x8 x9 x10 x11 x12) (R : Fin 17408) (j : Fin 4) :
    (val_main_v62 (F := Ideal) x0 x1 x2 x3 x4 x5 x6 x7 x8 x9 x10 x11 x12 (ix3 0 R j) : EReal)
      = ∑ k : Fin 1024, (val_main_v56 (F := Ideal) x0 x1 x2 x3 x4 x5 x6 x7 x8 x9 x10 (ix3 0 R k) : EReal) * (x11 (ix3 0 k j) : EReal) + (x12 (ix2 0 j) : EReal) := by
  pointwise [val_main_v62, val_main_v61, val_main_v60, val_main_v59, val_main_v58, val_main_v57]

theorem ref82 (x0 x1 x2 x3 x4 x5 x6 x7 x8 x9 x10 x13 x14) (R : Fin 17408) (j : Fin 16) :
    (val_main_v82 (F := Ideal) x0 x1 x2 x3 x4 x5 x6 x7 x8 x9 x10 x13 x14 (ix3 0 R j) : EReal)
      = ∑ k : Fin 1024, (val_main_v56 (F := Ideal) x0 x1 x2 x3 x4 x5 x6 x7 x8 x9 x10 (ix3 0 R k) : EReal) * (x13 (ix3 0 k j) : EReal) + (x14 (ix2 0 j) : EReal) := by
  pointwise [val_main_v82, val_main_v81, val_main_v80, val_main_v79, val_main_v78, val_main_v77]

theorem Wr_gl (a b) (k : Fin 1024) (j : Fin 4) : Wr a b k (gl j) = a (ix3 0 k j) := by
  unfold Wr; rw [dif_pos (show (gl j).val < 4 from j.isLt)]; rfl
theorem Br_gl (a b) (j : Fin 4) : Br a b (gl j) = a (ix2 0 j) := by
  unfold Br; rw [dif_pos (show (gl j).val < 4 from j.isLt)]; rfl
theorem el_val (s j : Fin 4) : (el s j).val = 4 + 4 * s.val + j.val := rfl
theorem Wr_el (a b) (k : Fin 1024) (s j : Fin 4) : Wr a b k (el s j) = b (ix3 0 k ⟨4 * s.val + j.val, by omega⟩) := by
  have e := el_val s j
  unfold Wr; rw [dif_neg (by omega), dif_pos (by omega)]
  exact congrArg (fun i => b (ix3 0 k i)) (Fin.ext (by dsimp only; omega))
theorem Br_el (a b) (s j : Fin 4) : Br a b (el s j) = b (ix2 0 ⟨4 * s.val + j.val, by omega⟩) := by
  have e := el_val s j
  unfold Br; rw [dif_neg (by omega), dif_pos (by omega)]
  exact congrArg (fun i => b (ix2 0 i)) (Fin.ext (by dsimp only; omega))

theorem fin_Wr {a b} (ha : ∀ i, Fin1 (a i)) (hb : ∀ i, Fin1 (b i)) (k : Fin 1024) (j : Fin 128) : Fin1 (Wr a b k j) := by
  unfold Wr
  split
  · exact ha _
  · split
    · exact hb _
    · exact fin_zero

theorem fin_Br {a b} (ha : ∀ i, Fin1 (a i)) (hb : ∀ i, Fin1 (b i)) (j : Fin 128) : Fin1 (Br a b j) := by
  unfold Br
  split
  · exact ha _
  · split
    · exact hb _
    · exact fin_zero

/-- A tile's logits from the reference's row. -/
theorem logit_row (c : Dev nD) (h0 : ∀ i, Fin1 (m ((c : Thread nD τ).loc main_arg0) i)) (h1 : ∀ i, Fin1 (m ((c : Thread nD τ).loc main_arg1) i)) (h2 : ∀ i, Fin1 (m ((c : Thread nD τ).loc main_arg2) i)) (h3 : ∀ i, Fin1 (m ((c : Thread nD τ).loc main_arg3) i)) (h4 : ∀ i, Fin1 (m ((c : Thread nD τ).loc main_arg4) i)) (h5 : ∀ i, Fin1 (m ((c : Thread nD τ).loc main_arg5) i)) (h6 : ∀ i, Fin1 (m ((c : Thread nD τ).loc main_arg6) i)) (h7 : ∀ i, Fin1 (m ((c : Thread nD τ).loc main_arg7) i)) (h8 : ∀ i, Fin1 (m ((c : Thread nD τ).loc main_arg8) i)) (h9 : ∀ i, Fin1 (m ((c : Thread nD τ).loc main_arg9) i)) (h10 : ∀ i, Fin1 (m ((c : Thread nD τ).loc main_arg10) i)) (h11 : ∀ i, Fin1 (m ((c : Thread nD τ).loc main_arg11) i)) (h12 : ∀ i, Fin1 (m ((c : Thread nD τ).loc main_arg12) i)) (h13 : ∀ i, Fin1 (m ((c : Thread nD τ).loc main_arg13) i)) (h14 : ∀ i, Fin1 (m ((c : Thread nD τ).loc main_arg14) i)) (t : Fin cfg0.N) (r : Fin 512) (l : Fin 128) (a b : FVec Ideal S512x1024 .bf16)
    (ha : ∀ k, (a (ix2 r k) : EReal) = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 0 (rw' t r) k))
    (hb : ∀ k, (b (ix2 r k) : EReal) = (val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 0 (rw' t r) k) : EReal) - (val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 0 (rw' t r) k) : EReal)) :
    (k0_pay8 a b (k0_pay7 (iblk m c 11 t)) (constant S512x128 .f32 0x00000000#32) (iblk m c 11 t) (iblk m c 12 t) (iblk m c 13 t) (ix2 r l) : EReal)
      = ∑ k : Fin 1024, (val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 0 (rw' t r) k) : EReal) * Wr (m ((c : Thread nD τ).loc main_arg11)) (m ((c : Thread nD τ).loc main_arg13)) k l + Br (m ((c : Thread nD τ).loc main_arg12)) (m ((c : Thread nD τ).loc main_arg14)) l :=
  logits m c t r l a b (fun k => (val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 0 (rw' t r) k) : EReal)) ha hb
    (fun k => fin56 h0 h1 h2 h3 h4 h5 h6 h7 h8 h9 h10 (rw' t r) k) (fun k => fin_Wr h11 h13 k l)

theorem core16 (c : Dev nD) (h0 : ∀ i, Fin1 (m ((c : Thread nD τ).loc main_arg0) i)) (h1 : ∀ i, Fin1 (m ((c : Thread nD τ).loc main_arg1) i)) (h2 : ∀ i, Fin1 (m ((c : Thread nD τ).loc main_arg2) i)) (h3 : ∀ i, Fin1 (m ((c : Thread nD τ).loc main_arg3) i)) (h4 : ∀ i, Fin1 (m ((c : Thread nD τ).loc main_arg4) i)) (h5 : ∀ i, Fin1 (m ((c : Thread nD τ).loc main_arg5) i)) (h6 : ∀ i, Fin1 (m ((c : Thread nD τ).loc main_arg6) i)) (h7 : ∀ i, Fin1 (m ((c : Thread nD τ).loc main_arg7) i)) (h8 : ∀ i, Fin1 (m ((c : Thread nD τ).loc main_arg8) i)) (h9 : ∀ i, Fin1 (m ((c : Thread nD τ).loc main_arg9) i)) (h10 : ∀ i, Fin1 (m ((c : Thread nD τ).loc main_arg10) i)) (h11 : ∀ i, Fin1 (m ((c : Thread nD τ).loc main_arg11) i)) (h12 : ∀ i, Fin1 (m ((c : Thread nD τ).loc main_arg12) i)) (h13 : ∀ i, Fin1 (m ((c : Thread nD τ).loc main_arg13) i)) (h14 : ∀ i, Fin1 (m ((c : Thread nD τ).loc main_arg14) i)) (t : Fin cfg0.N) (r : Fin 512) (l : Fin 128) (a b : FVec Ideal S512x1024 .bf16)
    (ha : ∀ k, (a (ix2 r k) : EReal) = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 0 (rw' t r) k))
    (hb : ∀ k, (b (ix2 r k) : EReal) = (val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 0 (rw' t r) k) : EReal) - (val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 0 (rw' t r) k) : EReal)) :
    (comb (k0_pay8 a b (k0_pay7 (iblk m c 11 t)) (constant S512x128 .f32 0x00000000#32) (iblk m c 11 t) (iblk m c 12 t) (iblk m c 13 t))
      (k0_pay12 a b (k0_pay7 (iblk m c 11 t)) (constant S512x128 .f32 0x00000000#32) (iblk m c 11 t) (iblk m c 12 t) (iblk m c 13 t))
      (k0_pay13 a b (k0_pay7 (iblk m c 11 t)) (constant S512x128 .f32 0x00000000#32) (iblk m c 11 t) (iblk m c 12 t) (iblk m c 13 t)) (ix2 r l) : EReal)
      = val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix2 (rw' t r) l) := by
  have L := fun l => logit_row m c h0 h1 h2 h3 h4 h5 h6 h7 h8 h9 h10 h11 h12 h13 h14 t r l a b ha hb
  have F := fun l : Fin 128 => fin_add (fin_sum Finset.univ _ fun k : Fin 1024 => fin_mul (fin56 h0 h1 h2 h3 h4 h5 h6 h7 h8 h9 h10 (rw' t r) k) (fin_Wr h11 h13 k l)) (fin_Br h12 h14 l)
  have hg : gr (k0_pay8 a b (k0_pay7 (iblk m c 11 t)) (constant S512x128 .f32 0x00000000#32) (iblk m c 11 t) (iblk m c 12 t) (iblk m c 13 t)) r = gR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (rw' t r) := by
    funext j
    refine (L (gl j)).trans ?_
    refine Eq.trans ?_ (ref62 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (rw' t r) j).symm
    exact congr (congrArg HAdd.hAdd (Finset.sum_congr rfl fun k _ => congrArg (fun z : EReal => (_ : EReal) * z) (Wr_gl _ _ k j))) (Br_gl _ _ j)
  have hgf : ∀ j, Fin1 (gR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (rw' t r) j) := fun j => by
    rw [← hg]
    show Fin1 (k0_pay8 a b (k0_pay7 (iblk m c 11 t)) (constant S512x128 .f32 0x00000000#32) (iblk m c 11 t) (iblk m c 12 t) (iblk m c 13 t) (ix2 r (gl j)))
    rw [L (gl j)]
    exact F (gl j)
  have hq : er (k0_pay8 a b (k0_pay7 (iblk m c 11 t)) (constant S512x128 .f32 0x00000000#32) (iblk m c 11 t) (iblk m c 12 t) (iblk m c 13 t)) r (sR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (rw' t r)) = qR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (rw' t r) := by
    funext j
    refine (L (el _ j)).trans ?_
    refine Eq.trans ?_ (ref82 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (rw' t r) _).symm
    exact congr (congrArg HAdd.hAdd (Finset.sum_congr rfl fun k _ => congrArg (fun z : EReal => (_ : EReal) * z) (Wr_el _ _ k _ j))) (Br_el _ _ _ j)
  have hqf : ∀ j, Fin1 (qR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (rw' t r) j) := fun j => by
    rw [← hq]
    show Fin1 (k0_pay8 a b (k0_pay7 (iblk m c 11 t)) (constant S512x128 .f32 0x00000000#32) (iblk m c 11 t) (iblk m c 12 t) (iblk m c 13 t) (ix2 r (el _ j)))
    rw [L (el _ j)]
    exact F (el _ j)
  refine Eq.trans ?_ (v115_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (rw' t r) hgf l).symm
  exact route a b (k0_pay7 (iblk m c 11 t)) (constant S512x128 .f32 0x00000000#32) (iblk m c 11 t) (iblk m c 12 t) (iblk m c 13 t) r l _ _ hg hgf hq hqf

theorem emb16 (t : Fin cfg0.N) (r : Fin 512) (j : Fin 128) :
    ((View.whole main_v26_2).slice (win0_16.rect t)).emb (ix2 r j) = ix2 (rw' t r) j := by
  have hN := lt34 t
  unfold rw'
  blk_ext [idx t]

/-- The third result of the call is the reference's, for finite arguments. -/
theorem final16 (c : Dev nD) (h0 : ∀ i, Fin1 (m ((c : Thread nD τ).loc main_arg0) i)) (h1 : ∀ i, Fin1 (m ((c : Thread nD τ).loc main_arg1) i)) (h2 : ∀ i, Fin1 (m ((c : Thread nD τ).loc main_arg2) i)) (h3 : ∀ i, Fin1 (m ((c : Thread nD τ).loc main_arg3) i)) (h4 : ∀ i, Fin1 (m ((c : Thread nD τ).loc main_arg4) i)) (h5 : ∀ i, Fin1 (m ((c : Thread nD τ).loc main_arg5) i)) (h6 : ∀ i, Fin1 (m ((c : Thread nD τ).loc main_arg6) i)) (h7 : ∀ i, Fin1 (m ((c : Thread nD τ).loc main_arg7) i)) (h8 : ∀ i, Fin1 (m ((c : Thread nD τ).loc main_arg8) i)) (h9 : ∀ i, Fin1 (m ((c : Thread nD τ).loc main_arg9) i)) (h10 : ∀ i, Fin1 (m ((c : Thread nD τ).loc main_arg10) i)) (h11 : ∀ i, Fin1 (m ((c : Thread nD τ).loc main_arg11) i)) (h12 : ∀ i, Fin1 (m ((c : Thread nD τ).loc main_arg12) i)) (h13 : ∀ i, Fin1 (m ((c : Thread nD τ).loc main_arg13) i)) (h14 : ∀ i, Fin1 (m ((c : Thread nD τ).loc main_arg14) i)) : (dats m 0 c).arrAt 16 (cfgs 0).N
    = val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 16 _ (by decide +kernel) fun t hf y => ?_
  blk_simp
  rw [after0_16]
  idx_vars y
  rw [emb16 t y0 y1, out16_apply]
  exact core16 m c h0 h1 h2 h3 h4 h5 h6 h7 h8 h9 h10 h11 h12 h13 h14 t y0 y1 _ _ (fun k => (pay5_apply _ _ _ _ _ y0 k).trans (core m c t y0 k))
    (fun k => (pay6_apply _ _ _ _ _ y0 k).trans (congr (congrArg HSub.hSub (core m c t y0 k)) (core m c t y0 k)))

end Cert.MixIdeal.Val
-- ==== Proof.MixPre.lean ====
module

public import proofs.«01_k».proof.Pre_finite_arguments
public import proofs.«01_k».proof.Proof.RouteMath
public import Idealize.ShloMosaic.Lib.ReduceAll
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Route
open Cert.Pre_finite_arguments Cert.Pre_finite_arguments.Facts

/-! The precondition says of every argument's every entry that it is finite. -/

theorem bpinf : Ideal.ofBits .bf16 32640#16 = ⊤ := by simp [Ideal.ofBits, Ideal.ieee]

instance : Subsingleton S_.Idx := ⟨fun a b => funext fun x => x.elim0⟩

theorem abs_fin (x : EReal) (h : Ideal.cmp .olt (max x (-x)) ⊤ = 1#1) : Fin1 x := by
  have h' : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  have h2 := lt_of_le_of_lt (le_max_left x (-x)) h'
  have h3 := lt_of_le_of_lt (le_max_right x (-x)) h'
  refine ⟨fun hb => ?_, h2.ne⟩
  rw [hb] at h3
  exact absurd h3 (by simp)

theorem all_fin {s t u : Shape} {axes : List (Fin s.rank)} [Subsingleton t.Idx] {φ : FTy} (x b : FVec Ideal s φ) (hb : ∀ i, (b i : EReal) = ⊤) (init : IVec u 1)
    (h : s.ReducesTo axes t) (hu : 0 < u.numel) (j : t.Idx) (e : Host.reduce IntOp.andi (cmpf .olt (Host.absf x) b) init h hu j = 1#1) (i : s.Idx) : Fin1 (x i) := by
  have h1 : Ideal.cmp .olt (max (x i : EReal) (-(x i : EReal))) (b i) = 1#1 := Host.reduce_andi_all _ _ _ _ j e i
  rw [hb] at h1
  exact abs_fin _ h1

theorem all_fin32 {s u : Shape} {axes : List (Fin s.rank)} (x : FVec Ideal s .f32) (hb : S_.BroadcastsInDim s (![] : Fin 0 → Fin s.rank)) (init : IVec u 1)
    (h : s.ReducesTo axes S_) (hu : 0 < u.numel) (j : S_.Idx)
    (e : Host.reduce IntOp.andi (cmpf .olt (Host.absf x) (broadcastInDim s ![] hb (constant (F := Ideal) S_ .f32 0x7F800000#32))) init h hu j = 1#1) (i : s.Idx) : Fin1 (x i) :=
  all_fin x _ (fun i => pinf) init h hu j e i

theorem all_fin16 {s u : Shape} {axes : List (Fin s.rank)} (x : FVec Ideal s .bf16) (hb : S_.BroadcastsInDim s (![] : Fin 0 → Fin s.rank)) (init : IVec u 1)
    (h : s.ReducesTo axes S_) (hu : 0 < u.numel) (j : S_.Idx)
    (e : Host.reduce IntOp.andi (cmpf .olt (Host.absf x) (broadcastInDim s ![] hb (constant (F := Ideal) S_ .bf16 0x7F80#16))) init h hu j = 1#1) (i : s.Idx) : Fin1 (x i) :=
  all_fin x _ (fun i => bpinf) init h hu j e i

/-- Every entry of the fifteen arguments is finite, from the precondition. -/
theorem args_fin [Cert.Pre_finite_arguments.Facts] (x0 : FVec Ideal S1x16384x1024 .f32) (x1 : FVec Ideal S16x1024 .f32) (x2 : FVec Ideal S17408x512 .bf16) (x3 : FVec Ideal S17408x512 .bf16) (x4 : FVec Ideal S17408x1024 .f32) (x5 : FVec Ideal S17408x1024 .f32) (x6 : FVec Ideal S1x512x1024 .f32) (x7 : FVec Ideal S1x512x1024 .f32) (x8 : FVec Ideal S1x1024x1024 .f32) (x9 : FVec Ideal S1x1024 .f32) (x10 : FVec Ideal S1x1024 .f32) (x11 : FVec Ideal S1x1024x4 .f32) (x12 : FVec Ideal S1x4 .f32) (x13 : FVec Ideal S1x1024x16 .f32) (x14 : FVec Ideal S1x16 .f32)
    (h : fn (F := Ideal) x0 x1 x2 x3 x4 x5 x6 x7 x8 x9 x10 x11 x12 x13 x14 = fun _ => 1#1) :
    (∀ i, Fin1 (x0 i)) ∧ (∀ i, Fin1 (x1 i)) ∧ (∀ i, Fin1 (x2 i)) ∧ (∀ i, Fin1 (x3 i)) ∧ (∀ i, Fin1 (x4 i)) ∧ (∀ i, Fin1 (x5 i)) ∧ (∀ i, Fin1 (x6 i)) ∧ (∀ i, Fin1 (x7 i)) ∧ (∀ i, Fin1 (x8 i)) ∧ (∀ i, Fin1 (x9 i)) ∧ (∀ i, Fin1 (x10 i)) ∧ (∀ i, Fin1 (x11 i)) ∧ (∀ i, Fin1 (x12 i)) ∧ (∀ i, Fin1 (x13 i)) ∧ (∀ i, Fin1 (x14 i)) := by
  have h0 := congrFun h (Shape.Idx.first h_S_)
  simp only [fn, fn_part1, fn_part2, fn_part3, fn_part4, andi, IntOp.andi_eq_one] at h0
  obtain ⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩ := h0
  refine ⟨?_, ?_, ?_, ?_, ?_, ?_, ?_, ?_, ?_, ?_, ?_, ?_, ?_, ?_, ?_⟩
  · exact all_fin32 x0 _ _ _ _ _ h0
  · exact all_fin32 x1 _ _ _ _ _ h1
  · exact all_fin16 x2 _ _ _ _ _ h2
  · exact all_fin16 x3 _ _ _ _ _ h3
  · exact all_fin32 x4 _ _ _ _ _ h4
  · exact all_fin32 x5 _ _ _ _ _ h5
  · exact all_fin32 x6 _ _ _ _ _ h6
  · exact all_fin32 x7 _ _ _ _ _ h7
  · exact all_fin32 x8 _ _ _ _ _ h8
  · exact all_fin32 x9 _ _ _ _ _ h9
  · exact all_fin32 x10 _ _ _ _ _ h10
  · exact all_fin32 x11 _ _ _ _ _ h11
  · exact all_fin32 x12 _ _ _ _ _ h12
  · exact all_fin32 x13 _ _ _ _ _ h13
  · exact all_fin32 x14 _ _ _ _ _ h14

end Cert.Route
-- ==== Proof.RecMath.lean ====
module

public import proofs.«01_k».proof.Proof.MixFinite
public import proofs.«01_k».proof.Proof.Gen.RecRefIdeal.Read
public import Idealize.ShloMosaic.Lib.Routing.OpsPair
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Rec
open Cert.Route Cert.MixIdeal.Val

/-! The recurrence's arithmetic over the reals: four steps one after another are the scan's tree of pairs. -/

/-- The real part after one step. -/
def stR (A B h k p : EReal) : EReal := A * h - B * k + p
/-- The imaginary part after one step. -/
def stI (A B h k q : EReal) : EReal := A * k + B * h + q

/-- The real part after four steps. -/
def runR (A B h k : EReal) (p q : Fin 4 → EReal) : EReal :=
  stR A B (stR A B (stR A B (stR A B h k (p 0)) (stI A B h k (q 0)) (p 1)) (stI A B (stR A B h k (p 0)) (stI A B h k (q 0)) (q 1)) (p 2))
    (stI A B (stR A B (stR A B h k (p 0)) (stI A B h k (q 0)) (p 1)) (stI A B (stR A B h k (p 0)) (stI A B h k (q 0)) (q 1)) (q 2)) (p 3)
/-- The imaginary part after four steps. -/
def runI (A B h k : EReal) (p q : Fin 4 → EReal) : EReal :=
  stI A B (stR A B (stR A B (stR A B h k (p 0)) (stI A B h k (q 0)) (p 1)) (stI A B (stR A B h k (p 0)) (stI A B h k (q 0)) (q 1)) (p 2))
    (stI A B (stR A B (stR A B h k (p 0)) (stI A B h k (q 0)) (p 1)) (stI A B (stR A B h k (p 0)) (stI A B h k (q 0)) (q 1)) (q 2)) (q 3)

/-- The scan's first pair: its real part. -/
def c1 (A B h k : EReal) (p q : Fin 4 → EReal) : EReal := A * (p 0 + (A * h - B * k)) - B * (q 0 + (A * k + B * h)) + p 1
def d1 (A B h k : EReal) (p q : Fin 4 → EReal) : EReal := A * (q 0 + (A * k + B * h)) + B * (p 0 + (A * h - B * k)) + q 1
def c2 (A B : EReal) (p q : Fin 4 → EReal) : EReal := A * p 2 - B * q 2 + p 3
def d2 (A B : EReal) (p q : Fin 4 → EReal) : EReal := A * q 2 + B * p 2 + q 3
/-- The scan's last real part. -/
def scR (A B h k : EReal) (p q : Fin 4 → EReal) : EReal := (A * A - B * B) * c1 A B h k p q - (A * B + B * A) * d1 A B h k p q + c2 A B p q
/-- The scan's last imaginary part. -/
def scI (A B h k : EReal) (p q : Fin 4 → EReal) : EReal := (A * A - B * B) * d1 A B h k p q + (A * B + B * A) * c1 A B h k p q + d2 A B p q

theorem real_fun {f : Fin 4 → EReal} (h : ∀ i, Fin1 (f i)) : ∃ r : Fin 4 → ℝ, f = fun i => (r i : EReal) :=
  ⟨fun i => (f i).toReal, funext fun i => (EReal.coe_toReal (h i).2 (h i).1).symm⟩

theorem run_scR {A B h k : EReal} {p q : Fin 4 → EReal} (hA : Fin1 A) (hB : Fin1 B) (hh : Fin1 h) (hk : Fin1 k) (hp : ∀ i, Fin1 (p i)) (hq : ∀ i, Fin1 (q i)) :
    runR A B h k p q = scR A B h k p q := by
  obtain ⟨A, rfl⟩ := fin_real hA; obtain ⟨B, rfl⟩ := fin_real hB; obtain ⟨h, rfl⟩ := fin_real hh; obtain ⟨k, rfl⟩ := fin_real hk
  obtain ⟨p, rfl⟩ := real_fun hp; obtain ⟨q, rfl⟩ := real_fun hq
  unfold runR scR c1 d1 c2 stR stI
  simp only [← EReal.coe_mul, ← EReal.coe_add, ← EReal.coe_sub]
  exact congrArg _ (by ring)

theorem run_scI {A B h k : EReal} {p q : Fin 4 → EReal} (hA : Fin1 A) (hB : Fin1 B) (hh : Fin1 h) (hk : Fin1 k) (hp : ∀ i, Fin1 (p i)) (hq : ∀ i, Fin1 (q i)) :
    runI A B h k p q = scI A B h k p q := by
  obtain ⟨A, rfl⟩ := fin_real hA; obtain ⟨B, rfl⟩ := fin_real hB; obtain ⟨h, rfl⟩ := fin_real hh; obtain ⟨k, rfl⟩ := fin_real hk
  obtain ⟨p, rfl⟩ := real_fun hp; obtain ⟨q, rfl⟩ := real_fun hq
  unfold runI scI c1 d1 d2 stR stI
  simp only [← EReal.coe_mul, ← EReal.coe_add, ← EReal.coe_sub]
  exact congrArg _ (by ring)

/-! An update added at one position. -/

theorem foldl_one {α : Type} {n : Nat} (k : Fin n) (g : α → Fin n → α) (L : List (Fin n)) (hL : L.Nodup) (z : α) :
    L.foldl (fun a i => if i = k then g a i else a) z = if k ∈ L then g z k else z := by
  induction L generalizing z with
  | nil => rfl
  | cons x l ih =>
    obtain ⟨hx, hl⟩ := List.nodup_cons.1 hL
    rw [List.foldl_cons, ih hl]
    by_cases e : x = k
    · subst e
      rw [if_neg hx, if_pos rfl, if_pos List.mem_cons_self]
    · rw [if_neg e]
      by_cases hk : k ∈ l
      · rw [if_pos hk, if_pos (List.mem_cons_of_mem _ hk)]
      · rw [if_neg hk, if_neg fun h => (List.mem_cons.1 h).elim (fun q => e q.symm) hk]

end Cert.Rec

namespace Cert.RecRefIdeal
open Idealize.ShloMosaic.Routing

theorem lands (idx : IVec S1 32) (h : ∀ j, idx j = 0#32) (j : S128x32x64.Idx) (i : S128x4x32x64.Idx) :
    scatter_S128x4x32x64_S1_S128x32x64_012_1_1_0.resultIdx? j idx = some i ↔ (i 1).val = 0 ∧ (j 0).val = (i 0).val ∧ (j 1).val = (i 2).val ∧ (j 2).val = (i 3).val := by
  rw [resultIdx?_eq_some]
  have s0 : ∀ a, scatter_S128x4x32x64_S1_S128x32x64_012_1_1_0.start j idx a = 0 := fun a => by
    unfold ScatterDims.start
    split
    · rw [h]; rfl
    · rfl
  have w0 : scatter_S128x4x32x64_S1_S128x32x64_012_1_1_0.window j 0 = (j 0).val := rfl
  have w1 : scatter_S128x4x32x64_S1_S128x32x64_012_1_1_0.window j 1 = 0 := rfl
  have w2 : scatter_S128x4x32x64_S1_S128x32x64_012_1_1_0.window j 2 = (j 1).val := rfl
  have w3 : scatter_S128x4x32x64_S1_S128x32x64_012_1_1_0.window j 3 = (j 2).val := rfl
  constructor
  · intro q
    have q0 := q 0; have q1 := q 1; have q2 := q 2; have q3 := q 3
    rw [s0, w0] at q0; rw [s0, w1] at q1; rw [s0, w2] at q2; rw [s0, w3] at q3
    refine ⟨?_, ?_, ?_, ?_⟩ <;> omega
  · rintro ⟨q1, q0, q2, q3⟩ a
    rw [s0]
    match a with
    | ⟨0, _⟩ => show (0 : Int) + ((scatter_S128x4x32x64_S1_S128x32x64_012_1_1_0.window j 0 : Nat) : Int) = ((i 0).val : Int); rw [w0]; omega
    | ⟨1, _⟩ => show (0 : Int) + ((scatter_S128x4x32x64_S1_S128x32x64_012_1_1_0.window j 1 : Nat) : Int) = ((i 1).val : Int); rw [w1]; omega
    | ⟨2, _⟩ => show (0 : Int) + ((scatter_S128x4x32x64_S1_S128x32x64_012_1_1_0.window j 2 : Nat) : Int) = ((i 2).val : Int); rw [w2]; omega
    | ⟨3, _⟩ => show (0 : Int) + ((scatter_S128x4x32x64_S1_S128x32x64_012_1_1_0.window j 3 : Nat) : Int) = ((i 3).val : Int); rw [w3]; omega

/-- An update added at position 0 of the second axis. -/
theorem scatter_head {α : Type} (f : α → α → α) (x : S128x4x32x64.Idx → α) (idx : IVec S1 32) (h : ∀ j, idx j = 0#32) (upd : S128x32x64.Idx → α)
    (b : Fin 128) (s : Fin 4) (g : Fin 32) (p : Fin 64) :
    Host.scatter scatter_S128x4x32x64_S1_S128x32x64_012_1_1_0 f x idx upd (ix4 b s g p)
      = if s.val = 0 then f (x (ix4 b s g p)) (upd (ix3 b g p)) else x (ix4 b s g p) := by
  rw [scatter_at]
  by_cases hs : s.val = 0
  · rw [if_pos hs]
    have key : ∀ n, scatter_S128x4x32x64_S1_S128x32x64_012_1_1_0.resultIdx? (S128x32x64.rowMajor.symm n) idx = some (ix4 b s g p) ↔ n = S128x32x64.rowMajor (ix3 b g p) := fun n => by
      rw [lands idx h]
      constructor
      · rintro ⟨-, h0, h1, h2⟩
        rw [← Equiv.symm_apply_eq]
        funext a
        match a with
        | ⟨0, _⟩ => exact Fin.ext h0
        | ⟨1, _⟩ => exact Fin.ext h1
        | ⟨2, _⟩ => exact Fin.ext h2
      · rintro rfl
        rw [Equiv.symm_apply_apply]
        exact ⟨hs, rfl, rfl, rfl⟩
    simp only [key]
    refine (Cert.Rec.foldl_one (S128x32x64.rowMajor (ix3 b g p)) (fun a n => f a (upd (S128x32x64.rowMajor.symm n))) _ (List.nodup_finRange _) _).trans ?_
    rw [if_pos (List.mem_finRange _), Equiv.symm_apply_apply]
  · rw [if_neg hs]
    have key : ∀ n, ¬ scatter_S128x4x32x64_S1_S128x32x64_012_1_1_0.resultIdx? (S128x32x64.rowMajor.symm n) idx = some (ix4 b s g p) := fun n e =>
      hs ((lands idx h _ _).1 e).1
    simp only [key, if_false]
    generalize List.finRange _ = L
    induction L with
    | nil => rfl
    | cons _ _ ih => exact ih

end Cert.RecRefIdeal
-- ==== Proof.RecRef.lean ====
module

public import proofs.«01_k».proof.Proof.RecMath
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.RecRefIdeal.Val
open Cert.RecRefIdeal Cert.RecRefIdeal.Read Cert.Route Cert.MixIdeal.Val Cert.Rec

/-! The reference's last state, read at an entry: the scan's tree of pairs at its last position. -/

variable (x0 : FVec Ideal S128x4x1024 .f32) (x1 : FVec Ideal S1x1024x4420 .f32) (x2 x3 : FVec Ideal S1x128x32x64 .f32) (x4 x5 : FVec Ideal S1x32x64 .f32) (x6 : FVec Ideal S1x32 .f32) (x7 x8 : FVec Ideal S1x32x64x16 .f32)

/-- The projection's entries. -/
theorem ref48 (b : Fin 128) (s : Fin 4) (j : Fin 4420) : (val_main_v48 (F := Ideal) x0 x1 (ix3 b s j) : EReal) = ∑ k : Fin 1024, (x0 (ix3 b s k) : EReal) * x1 (ix3 0 k j) := by
  pointwise [val_main_v48, val_main_v47]

theorem zero_lit : (Ideal.ofBits .f32 0#32 : EReal) = 0 := by simp [Ideal.ofBits, Ideal.ieee]

theorem ref65 (b : Fin 128) (s : Fin 4) (g : Fin 32) (p : Fin 64) : (val_main_v65 (F := Ideal) x0 x1 x2 x3 x4 x5 x6 x7 x8 (ix4 b s g p) : EReal)
    = if s.val = 0 then (val_main_v52 (F := Ideal) x0 x1 x4 x5 x6 x7 x8 (ix4 b s g p) : EReal) + val_main_v63 (F := Ideal) x2 x3 x4 x5 x6 (ix3 b g p) else val_main_v52 (F := Ideal) x0 x1 x4 x5 x6 x7 x8 (ix4 b s g p) := by
  unfold val_main_v65
  exact scatter_head _ _ _ (fun j => rfl) _ b s g p

theorem ref74 (b : Fin 128) (s : Fin 4) (g : Fin 32) (p : Fin 64) : (val_main_v74 (F := Ideal) x0 x1 x2 x3 x4 x5 x6 x7 x8 (ix4 b s g p) : EReal)
    = if s.val = 0 then (val_main_v54 (F := Ideal) x0 x1 x4 x5 x6 x7 x8 (ix4 b s g p) : EReal) + val_main_v72 (F := Ideal) x2 x3 x4 x5 x6 (ix3 b g p) else val_main_v54 (F := Ideal) x0 x1 x4 x5 x6 x7 x8 (ix4 b s g p) := by
  unfold val_main_v74
  exact scatter_head _ _ _ (fun j => rfl) _ b s g p

theorem sl77 (b : Fin 128) (s : Fin 2) (g : Fin 32) (p : Fin 64) : val_main_v77 (F := Ideal) x4 x5 x6 (ix4 b s g p) = val_main_v75 (F := Ideal) x4 x5 x6 (ix4 b ⟨0 + 2 * s.val, by omega⟩ g p) := by
  unfold val_main_v77
  generalize val_main_v75 (F := Ideal) x4 x5 x6 = y
  pointwise

theorem sl78 (b : Fin 128) (s : Fin 2) (g : Fin 32) (p : Fin 64) : val_main_v78 (F := Ideal) x4 x5 x6 (ix4 b s g p) = val_main_v76 (F := Ideal) x4 x5 x6 (ix4 b ⟨0 + 2 * s.val, by omega⟩ g p) := by
  unfold val_main_v78
  generalize val_main_v76 (F := Ideal) x4 x5 x6 = y
  pointwise

theorem sl79 (b : Fin 128) (s : Fin 2) (g : Fin 32) (p : Fin 64) : val_main_v79 (F := Ideal) x0 x1 x2 x3 x4 x5 x6 x7 x8 (ix4 b s g p) = val_main_v65 (F := Ideal) x0 x1 x2 x3 x4 x5 x6 x7 x8 (ix4 b ⟨0 + 2 * s.val, by omega⟩ g p) := by
  unfold val_main_v79
  generalize val_main_v65 (F := Ideal) x0 x1 x2 x3 x4 x5 x6 x7 x8 = y
  pointwise

theorem sl80 (b : Fin 128) (s : Fin 2) (g : Fin 32) (p : Fin 64) : val_main_v80 (F := Ideal) x0 x1 x2 x3 x4 x5 x6 x7 x8 (ix4 b s g p) = val_main_v74 (F := Ideal) x0 x1 x2 x3 x4 x5 x6 x7 x8 (ix4 b ⟨0 + 2 * s.val, by omega⟩ g p) := by
  unfold val_main_v80
  generalize val_main_v74 (F := Ideal) x0 x1 x2 x3 x4 x5 x6 x7 x8 = y
  pointwise

theorem sl81 (b : Fin 128) (s : Fin 2) (g : Fin 32) (p : Fin 64) : val_main_v81 (F := Ideal) x4 x5 x6 (ix4 b s g p) = val_main_v75 (F := Ideal) x4 x5 x6 (ix4 b ⟨1 + 2 * s.val, by omega⟩ g p) := by
  unfold val_main_v81
  generalize val_main_v75 (F := Ideal) x4 x5 x6 = y
  pointwise

theorem sl82 (b : Fin 128) (s : Fin 2) (g : Fin 32) (p : Fin 64) : val_main_v82 (F := Ideal) x4 x5 x6 (ix4 b s g p) = val_main_v76 (F := Ideal) x4 x5 x6 (ix4 b ⟨1 + 2 * s.val, by omega⟩ g p) := by
  unfold val_main_v82
  generalize val_main_v76 (F := Ideal) x4 x5 x6 = y
  pointwise

theorem sl83 (b : Fin 128) (s : Fin 2) (g : Fin 32) (p : Fin 64) : val_main_v83 (F := Ideal) x0 x1 x2 x3 x4 x5 x6 x7 x8 (ix4 b s g p) = val_main_v65 (F := Ideal) x0 x1 x2 x3 x4 x5 x6 x7 x8 (ix4 b ⟨1 + 2 * s.val, by omega⟩ g p) := by
  unfold val_main_v83
  generalize val_main_v65 (F := Ideal) x0 x1 x2 x3 x4 x5 x6 x7 x8 = y
  pointwise

theorem sl84 (b : Fin 128) (s : Fin 2) (g : Fin 32) (p : Fin 64) : val_main_v84 (F := Ideal) x0 x1 x2 x3 x4 x5 x6 x7 x8 (ix4 b s g p) = val_main_v74 (F := Ideal) x0 x1 x2 x3 x4 x5 x6 x7 x8 (ix4 b ⟨1 + 2 * s.val, by omega⟩ g p) := by
  unfold val_main_v84
  generalize val_main_v74 (F := Ideal) x0 x1 x2 x3 x4 x5 x6 x7 x8 = y
  pointwise

theorem sl99 (b : Fin 128) (g : Fin 32) (p : Fin 64) : val_main_v99 (F := Ideal) x4 x5 x6 (ix4 b 0 g p) = val_main_v87 (F := Ideal) x4 x5 x6 (ix4 b 0 g p) := by
  unfold val_main_v99
  generalize val_main_v87 (F := Ideal) x4 x5 x6 = y
  pointwise

theorem sl100 (b : Fin 128) (g : Fin 32) (p : Fin 64) : val_main_v100 (F := Ideal) x4 x5 x6 (ix4 b 0 g p) = val_main_v90 (F := Ideal) x4 x5 x6 (ix4 b 0 g p) := by
  unfold val_main_v100
  generalize val_main_v90 (F := Ideal) x4 x5 x6 = y
  pointwise

theorem sl101 (b : Fin 128) (g : Fin 32) (p : Fin 64) : val_main_v101 (F := Ideal) x0 x1 x2 x3 x4 x5 x6 x7 x8 (ix4 b 0 g p) = val_main_v94 (F := Ideal) x0 x1 x2 x3 x4 x5 x6 x7 x8 (ix4 b 0 g p) := by
  unfold val_main_v101
  generalize val_main_v94 (F := Ideal) x0 x1 x2 x3 x4 x5 x6 x7 x8 = y
  pointwise

theorem sl102 (b : Fin 128) (g : Fin 32) (p : Fin 64) : val_main_v102 (F := Ideal) x0 x1 x2 x3 x4 x5 x6 x7 x8 (ix4 b 0 g p) = val_main_v98 (F := Ideal) x0 x1 x2 x3 x4 x5 x6 x7 x8 (ix4 b 0 g p) := by
  unfold val_main_v102
  generalize val_main_v98 (F := Ideal) x0 x1 x2 x3 x4 x5 x6 x7 x8 = y
  pointwise

theorem sl103 (b : Fin 128) (g : Fin 32) (p : Fin 64) : val_main_v103 (F := Ideal) x4 x5 x6 (ix4 b 0 g p) = val_main_v87 (F := Ideal) x4 x5 x6 (ix4 b 1 g p) := by
  unfold val_main_v103
  generalize val_main_v87 (F := Ideal) x4 x5 x6 = y
  pointwise

theorem sl104 (b : Fin 128) (g : Fin 32) (p : Fin 64) : val_main_v104 (F := Ideal) x4 x5 x6 (ix4 b 0 g p) = val_main_v90 (F := Ideal) x4 x5 x6 (ix4 b 1 g p) := by
  unfold val_main_v104
  generalize val_main_v90 (F := Ideal) x4 x5 x6 = y
  pointwise

theorem sl105 (b : Fin 128) (g : Fin 32) (p : Fin 64) : val_main_v105 (F := Ideal) x0 x1 x2 x3 x4 x5 x6 x7 x8 (ix4 b 0 g p) = val_main_v94 (F := Ideal) x0 x1 x2 x3 x4 x5 x6 x7 x8 (ix4 b 1 g p) := by
  unfold val_main_v105
  generalize val_main_v94 (F := Ideal) x0 x1 x2 x3 x4 x5 x6 x7 x8 = y
  pointwise

theorem sl106 (b : Fin 128) (g : Fin 32) (p : Fin 64) : val_main_v106 (F := Ideal) x0 x1 x2 x3 x4 x5 x6 x7 x8 (ix4 b 0 g p) = val_main_v98 (F := Ideal) x0 x1 x2 x3 x4 x5 x6 x7 x8 (ix4 b 1 g p) := by
  unfold val_main_v106
  generalize val_main_v98 (F := Ideal) x0 x1 x2 x3 x4 x5 x6 x7 x8 = y
  pointwise

theorem br75 (b : Fin 128) (s : Fin 4) (g : Fin 32) (p : Fin 64) : val_main_v75 (F := Ideal) x4 x5 x6 (ix4 b s g p) = val_main_v11 (F := Ideal) x4 x5 x6 (ix2 g p) := by
  unfold val_main_v75
  generalize val_main_v11 (F := Ideal) x4 x5 x6 = y
  pointwise

theorem br76 (b : Fin 128) (s : Fin 4) (g : Fin 32) (p : Fin 64) : val_main_v76 (F := Ideal) x4 x5 x6 (ix4 b s g p) = val_main_v15 (F := Ideal) x4 x5 x6 (ix2 g p) := by
  unfold val_main_v76
  generalize val_main_v15 (F := Ideal) x4 x5 x6 = y
  pointwise

theorem ref63 (b : Fin 128) (g : Fin 32) (p : Fin 64) : (val_main_v63 (F := Ideal) x2 x3 x4 x5 x6 (ix3 b g p) : EReal)
    = (val_main_v11 (F := Ideal) x4 x5 x6 (ix2 g p) : EReal) * x2 (ix4 0 b g p) - val_main_v15 (F := Ideal) x4 x5 x6 (ix2 g p) * x3 (ix4 0 b g p) := by
  unfold val_main_v63 val_main_v59 val_main_v62 val_main_v58 val_main_v57 val_main_v61 val_main_v60 val_main_v55 val_main_v56
  generalize val_main_v11 (F := Ideal) x4 x5 x6 = y
  generalize val_main_v15 (F := Ideal) x4 x5 x6 = z
  pointwise

theorem ref72 (b : Fin 128) (g : Fin 32) (p : Fin 64) : (val_main_v72 (F := Ideal) x2 x3 x4 x5 x6 (ix3 b g p) : EReal)
    = (val_main_v11 (F := Ideal) x4 x5 x6 (ix2 g p) : EReal) * x3 (ix4 0 b g p) + val_main_v15 (F := Ideal) x4 x5 x6 (ix2 g p) * x2 (ix4 0 b g p) := by
  unfold val_main_v72 val_main_v68 val_main_v71 val_main_v67 val_main_v66 val_main_v70 val_main_v69 val_main_v56 val_main_v55
  generalize val_main_v11 (F := Ideal) x4 x5 x6 = y
  generalize val_main_v15 (F := Ideal) x4 x5 x6 = z
  pointwise

theorem ref52 (b : Fin 128) (s : Fin 4) (g : Fin 32) (p : Fin 64) : (val_main_v52 (F := Ideal) x0 x1 x4 x5 x6 x7 x8 (ix4 b s g p) : EReal)
    = ∑ k : Fin 16, (val_main_v48 (F := Ideal) x0 x1 (ix3 b s ⟨g.val * 16 + k.val, by omega⟩) : EReal) * val_main_v37 (F := Ideal) x4 x5 x6 x7 x8 (ix3 g p k) := by
  unfold val_main_v52 val_main_v51 val_main_v50 val_main_v49
  generalize val_main_v48 (F := Ideal) x0 x1 = u
  generalize val_main_v37 (F := Ideal) x4 x5 x6 x7 x8 = y
  pointwise

theorem ref54 (b : Fin 128) (s : Fin 4) (g : Fin 32) (p : Fin 64) : (val_main_v54 (F := Ideal) x0 x1 x4 x5 x6 x7 x8 (ix4 b s g p) : EReal)
    = ∑ k : Fin 16, (val_main_v48 (F := Ideal) x0 x1 (ix3 b s ⟨g.val * 16 + k.val, by omega⟩) : EReal) * val_main_v46 (F := Ideal) x4 x5 x6 x7 x8 (ix3 g p k) := by
  unfold val_main_v54 val_main_v53 val_main_v50 val_main_v49
  generalize val_main_v48 (F := Ideal) x0 x1 = u
  generalize val_main_v46 (F := Ideal) x4 x5 x6 x7 x8 = y
  pointwise

theorem ref201 (b : Fin 128) (g : Fin 32) (p : Fin 64) : (val_main_v201 (F := Ideal) x0 x1 x2 x3 x4 x5 x6 x7 x8 (ix4 b 3 g p) : EReal) = val_main_v159 (F := Ideal) x0 x1 x2 x3 x4 x5 x6 x7 x8 (ix4 b 1 g p) := by
  rw [val_main_v201_apply]
  have e1 : (val_main_v199 (F := Ideal) x0 x1 x2 x3 x4 x5 x6 x7 x8 (ix4 b 3 g p) : EReal) = 0 := by
    unfold val_main_v199
    exact (pad_apply_of_not_inside _ _ _ _ _ _ _ _ 1 (by rintro ⟨-, h, -⟩; exact absurd h (by show ¬ ((3 : ℕ) - 0) % (1 + 1) = 0; decide))).trans zero_lit
  have e2 : val_main_v200 (F := Ideal) x0 x1 x2 x3 x4 x5 x6 x7 x8 (ix4 b 3 g p) = val_main_v159 (F := Ideal) x0 x1 x2 x3 x4 x5 x6 x7 x8 (ix4 b 1 g p) := by
    unfold val_main_v200
    exact pad_apply_of_inside _ _ _ _ _ _ _ _ _ (fun a => match a with | ⟨0, _⟩ => by show b.val = 0 + b.val * 1; omega | ⟨1, _⟩ => rfl | ⟨2, _⟩ => by show g.val = 0 + g.val * 1; omega | ⟨3, _⟩ => by show p.val = 0 + p.val * 1; omega)
  show (val_main_v199 (F := Ideal) x0 x1 x2 x3 x4 x5 x6 x7 x8 (ix4 b 3 g p) : EReal) + val_main_v200 (F := Ideal) x0 x1 x2 x3 x4 x5 x6 x7 x8 (ix4 b 3 g p) = _
  rw [e1, e2]
  exact zero_add _

theorem ref204 (b : Fin 128) (g : Fin 32) (p : Fin 64) : (val_main_v204 (F := Ideal) x0 x1 x2 x3 x4 x5 x6 x7 x8 (ix4 b 3 g p) : EReal) = val_main_v162 (F := Ideal) x0 x1 x2 x3 x4 x5 x6 x7 x8 (ix4 b 1 g p) := by
  rw [val_main_v204_apply]
  have e1 : (val_main_v202 (F := Ideal) x0 x1 x2 x3 x4 x5 x6 x7 x8 (ix4 b 3 g p) : EReal) = 0 := by
    unfold val_main_v202
    exact (pad_apply_of_not_inside _ _ _ _ _ _ _ _ 1 (by rintro ⟨-, h, -⟩; exact absurd h (by show ¬ ((3 : ℕ) - 0) % (1 + 1) = 0; decide))).trans zero_lit
  have e2 : val_main_v203 (F := Ideal) x0 x1 x2 x3 x4 x5 x6 x7 x8 (ix4 b 3 g p) = val_main_v162 (F := Ideal) x0 x1 x2 x3 x4 x5 x6 x7 x8 (ix4 b 1 g p) := by
    unfold val_main_v203
    exact pad_apply_of_inside _ _ _ _ _ _ _ _ _ (fun a => match a with | ⟨0, _⟩ => by show b.val = 0 + b.val * 1; omega | ⟨1, _⟩ => rfl | ⟨2, _⟩ => by show g.val = 0 + g.val * 1; omega | ⟨3, _⟩ => by show p.val = 0 + p.val * 1; omega)
  show (val_main_v202 (F := Ideal) x0 x1 x2 x3 x4 x5 x6 x7 x8 (ix4 b 3 g p) : EReal) + val_main_v203 (F := Ideal) x0 x1 x2 x3 x4 x5 x6 x7 x8 (ix4 b 3 g p) = _
  rw [e1, e2]
  exact zero_add _

theorem ref159 (b : Fin 128) (g : Fin 32) (p : Fin 64) : (val_main_v159 (F := Ideal) x0 x1 x2 x3 x4 x5 x6 x7 x8 (ix4 b 1 g p) : EReal) = val_main_v116 (F := Ideal) x0 x1 x2 x3 x4 x5 x6 x7 x8 (ix4 b 0 g p) := by
  rw [val_main_v159_apply]
  have e1 : (val_main_v157 (F := Ideal) x0 x1 x2 x3 x4 x5 x6 x7 x8 (ix4 b 1 g p) : EReal) = 0 := by
    unfold val_main_v157
    exact (pad_apply_of_not_inside _ _ _ _ _ _ _ _ 1 (by rintro ⟨-, h, -⟩; exact absurd h (by show ¬ ((1 : ℕ) - 0) % (1 + 1) = 0; decide))).trans zero_lit
  have e2 : val_main_v158 (F := Ideal) x0 x1 x2 x3 x4 x5 x6 x7 x8 (ix4 b 1 g p) = val_main_v116 (F := Ideal) x0 x1 x2 x3 x4 x5 x6 x7 x8 (ix4 b 0 g p) := by
    unfold val_main_v158
    exact pad_apply_of_inside _ _ _ _ _ _ _ _ _ (fun a => match a with | ⟨0, _⟩ => by show b.val = 0 + b.val * 1; omega | ⟨1, _⟩ => rfl | ⟨2, _⟩ => by show g.val = 0 + g.val * 1; omega | ⟨3, _⟩ => by show p.val = 0 + p.val * 1; omega)
  show (val_main_v157 (F := Ideal) x0 x1 x2 x3 x4 x5 x6 x7 x8 (ix4 b 1 g p) : EReal) + val_main_v158 (F := Ideal) x0 x1 x2 x3 x4 x5 x6 x7 x8 (ix4 b 1 g p) = _
  rw [e1, e2]
  exact zero_add _

theorem ref162 (b : Fin 128) (g : Fin 32) (p : Fin 64) : (val_main_v162 (F := Ideal) x0 x1 x2 x3 x4 x5 x6 x7 x8 (ix4 b 1 g p) : EReal) = val_main_v120 (F := Ideal) x0 x1 x2 x3 x4 x5 x6 x7 x8 (ix4 b 0 g p) := by
  rw [val_main_v162_apply]
  have e1 : (val_main_v160 (F := Ideal) x0 x1 x2 x3 x4 x5 x6 x7 x8 (ix4 b 1 g p) : EReal) = 0 := by
    unfold val_main_v160
    exact (pad_apply_of_not_inside _ _ _ _ _ _ _ _ 1 (by rintro ⟨-, h, -⟩; exact absurd h (by show ¬ ((1 : ℕ) - 0) % (1 + 1) = 0; decide))).trans zero_lit
  have e2 : val_main_v161 (F := Ideal) x0 x1 x2 x3 x4 x5 x6 x7 x8 (ix4 b 1 g p) = val_main_v120 (F := Ideal) x0 x1 x2 x3 x4 x5 x6 x7 x8 (ix4 b 0 g p) := by
    unfold val_main_v161
    exact pad_apply_of_inside _ _ _ _ _ _ _ _ _ (fun a => match a with | ⟨0, _⟩ => by show b.val = 0 + b.val * 1; omega | ⟨1, _⟩ => rfl | ⟨2, _⟩ => by show g.val = 0 + g.val * 1; omega | ⟨3, _⟩ => by show p.val = 0 + p.val * 1; omega)
  show (val_main_v160 (F := Ideal) x0 x1 x2 x3 x4 x5 x6 x7 x8 (ix4 b 1 g p) : EReal) + val_main_v161 (F := Ideal) x0 x1 x2 x3 x4 x5 x6 x7 x8 (ix4 b 1 g p) = _
  rw [e1, e2]
  exact zero_add _

theorem v87 (b : Fin 128) (s : Fin 2) (g : Fin 32) (p : Fin 64) : (val_main_v87 (F := Ideal) x4 x5 x6 (ix4 b s g p) : EReal)
    = (val_main_v11 (F := Ideal) x4 x5 x6 (ix2 g p) : EReal) * val_main_v11 (F := Ideal) x4 x5 x6 (ix2 g p) - (val_main_v15 (F := Ideal) x4 x5 x6 (ix2 g p) : EReal) * val_main_v15 (F := Ideal) x4 x5 x6 (ix2 g p) := by
  rw [val_main_v87_apply, val_main_v85_apply, val_main_v86_apply, sl81, sl77, sl82, sl78, br75, br75, br76, br76]; rfl

theorem v90 (b : Fin 128) (s : Fin 2) (g : Fin 32) (p : Fin 64) : (val_main_v90 (F := Ideal) x4 x5 x6 (ix4 b s g p) : EReal)
    = (val_main_v11 (F := Ideal) x4 x5 x6 (ix2 g p) : EReal) * val_main_v15 (F := Ideal) x4 x5 x6 (ix2 g p) + (val_main_v15 (F := Ideal) x4 x5 x6 (ix2 g p) : EReal) * val_main_v11 (F := Ideal) x4 x5 x6 (ix2 g p) := by
  rw [val_main_v90_apply, val_main_v88_apply, val_main_v89_apply, sl81, sl77, sl82, sl78, br75, br75, br76, br76]; rfl

theorem v94 (b : Fin 128) (s : Fin 2) (g : Fin 32) (p : Fin 64) : (val_main_v94 (F := Ideal) x0 x1 x2 x3 x4 x5 x6 x7 x8 (ix4 b s g p) : EReal)
    = (val_main_v11 (F := Ideal) x4 x5 x6 (ix2 g p) : EReal) * val_main_v65 (F := Ideal) x0 x1 x2 x3 x4 x5 x6 x7 x8 (ix4 b ⟨0 + 2 * s.val, by omega⟩ g p) - (val_main_v15 (F := Ideal) x4 x5 x6 (ix2 g p) : EReal) * val_main_v74 (F := Ideal) x0 x1 x2 x3 x4 x5 x6 x7 x8 (ix4 b ⟨0 + 2 * s.val, by omega⟩ g p)
      + val_main_v65 (F := Ideal) x0 x1 x2 x3 x4 x5 x6 x7 x8 (ix4 b ⟨1 + 2 * s.val, by omega⟩ g p) := by
  rw [val_main_v94_apply, val_main_v93_apply, val_main_v91_apply, val_main_v92_apply, sl81, sl79, sl82, sl80, sl83, br75, br76]; rfl

theorem v98 (b : Fin 128) (s : Fin 2) (g : Fin 32) (p : Fin 64) : (val_main_v98 (F := Ideal) x0 x1 x2 x3 x4 x5 x6 x7 x8 (ix4 b s g p) : EReal)
    = (val_main_v11 (F := Ideal) x4 x5 x6 (ix2 g p) : EReal) * val_main_v74 (F := Ideal) x0 x1 x2 x3 x4 x5 x6 x7 x8 (ix4 b ⟨0 + 2 * s.val, by omega⟩ g p) + (val_main_v15 (F := Ideal) x4 x5 x6 (ix2 g p) : EReal) * val_main_v65 (F := Ideal) x0 x1 x2 x3 x4 x5 x6 x7 x8 (ix4 b ⟨0 + 2 * s.val, by omega⟩ g p)
      + val_main_v74 (F := Ideal) x0 x1 x2 x3 x4 x5 x6 x7 x8 (ix4 b ⟨1 + 2 * s.val, by omega⟩ g p) := by
  rw [val_main_v98_apply, val_main_v97_apply, val_main_v95_apply, val_main_v96_apply, sl81, sl79, sl82, sl80, sl84, br75, br76]; rfl

theorem pair94_0 (b : Fin 128) (g : Fin 32) (p : Fin 64) : (val_main_v94 (F := Ideal) x0 x1 x2 x3 x4 x5 x6 x7 x8 (ix4 b 0 g p) : EReal) = c1 (val_main_v11 (F := Ideal) x4 x5 x6 (ix2 g p)) (val_main_v15 (F := Ideal) x4 x5 x6 (ix2 g p)) (x2 (ix4 0 b g p)) (x3 (ix4 0 b g p)) (fun s => val_main_v52 (F := Ideal) x0 x1 x4 x5 x6 x7 x8 (ix4 b s g p)) (fun s => val_main_v54 (F := Ideal) x0 x1 x4 x5 x6 x7 x8 (ix4 b s g p)) := by
  rw [v94]
  simp only [ref65, ref74, ref63, ref72]
  rfl

theorem pair98_0 (b : Fin 128) (g : Fin 32) (p : Fin 64) : (val_main_v98 (F := Ideal) x0 x1 x2 x3 x4 x5 x6 x7 x8 (ix4 b 0 g p) : EReal) = d1 (val_main_v11 (F := Ideal) x4 x5 x6 (ix2 g p)) (val_main_v15 (F := Ideal) x4 x5 x6 (ix2 g p)) (x2 (ix4 0 b g p)) (x3 (ix4 0 b g p)) (fun s => val_main_v52 (F := Ideal) x0 x1 x4 x5 x6 x7 x8 (ix4 b s g p)) (fun s => val_main_v54 (F := Ideal) x0 x1 x4 x5 x6 x7 x8 (ix4 b s g p)) := by
  rw [v98]
  simp only [ref65, ref74, ref63, ref72]
  rfl

theorem pair94_1 (b : Fin 128) (g : Fin 32) (p : Fin 64) : (val_main_v94 (F := Ideal) x0 x1 x2 x3 x4 x5 x6 x7 x8 (ix4 b 1 g p) : EReal) = c2 (val_main_v11 (F := Ideal) x4 x5 x6 (ix2 g p)) (val_main_v15 (F := Ideal) x4 x5 x6 (ix2 g p)) (fun s => val_main_v52 (F := Ideal) x0 x1 x4 x5 x6 x7 x8 (ix4 b s g p)) (fun s => val_main_v54 (F := Ideal) x0 x1 x4 x5 x6 x7 x8 (ix4 b s g p)) := by
  rw [v94]
  simp only [ref65, ref74, ref63, ref72]
  rfl

theorem pair98_1 (b : Fin 128) (g : Fin 32) (p : Fin 64) : (val_main_v98 (F := Ideal) x0 x1 x2 x3 x4 x5 x6 x7 x8 (ix4 b 1 g p) : EReal) = d2 (val_main_v11 (F := Ideal) x4 x5 x6 (ix2 g p)) (val_main_v15 (F := Ideal) x4 x5 x6 (ix2 g p)) (fun s => val_main_v52 (F := Ideal) x0 x1 x4 x5 x6 x7 x8 (ix4 b s g p)) (fun s => val_main_v54 (F := Ideal) x0 x1 x4 x5 x6 x7 x8 (ix4 b s g p)) := by
  rw [v98]
  simp only [ref65, ref74, ref63, ref72]
  rfl

theorem ref116 (b : Fin 128) (g : Fin 32) (p : Fin 64) : (val_main_v116 (F := Ideal) x0 x1 x2 x3 x4 x5 x6 x7 x8 (ix4 b 0 g p) : EReal) = scR (val_main_v11 (F := Ideal) x4 x5 x6 (ix2 g p)) (val_main_v15 (F := Ideal) x4 x5 x6 (ix2 g p)) (x2 (ix4 0 b g p)) (x3 (ix4 0 b g p)) (fun s => val_main_v52 (F := Ideal) x0 x1 x4 x5 x6 x7 x8 (ix4 b s g p)) (fun s => val_main_v54 (F := Ideal) x0 x1 x4 x5 x6 x7 x8 (ix4 b s g p)) := by
  rw [val_main_v116_apply, val_main_v115_apply, val_main_v113_apply, val_main_v114_apply, sl103, sl101, sl104, sl102, sl105, v87, v90, pair94_0, pair98_0, pair94_1]; rfl

theorem ref120 (b : Fin 128) (g : Fin 32) (p : Fin 64) : (val_main_v120 (F := Ideal) x0 x1 x2 x3 x4 x5 x6 x7 x8 (ix4 b 0 g p) : EReal) = scI (val_main_v11 (F := Ideal) x4 x5 x6 (ix2 g p)) (val_main_v15 (F := Ideal) x4 x5 x6 (ix2 g p)) (x2 (ix4 0 b g p)) (x3 (ix4 0 b g p)) (fun s => val_main_v52 (F := Ideal) x0 x1 x4 x5 x6 x7 x8 (ix4 b s g p)) (fun s => val_main_v54 (F := Ideal) x0 x1 x4 x5 x6 x7 x8 (ix4 b s g p)) := by
  rw [val_main_v120_apply, val_main_v119_apply, val_main_v117_apply, val_main_v118_apply, sl103, sl102, sl104, sl101, sl106, v87, v90, pair94_0, pair98_0, pair98_1]; rfl

/-- The reference's result: the scan's last state. -/
theorem ref207 (b : Fin 128) (g : Fin 32) (p : Fin 64) : (val_main_v207 (F := Ideal) x0 x1 x2 x3 x4 x5 x6 x7 x8 (ix2 b ⟨64 * g.val + p.val, by omega⟩) : EReal) = scR (val_main_v11 (F := Ideal) x4 x5 x6 (ix2 g p)) (val_main_v15 (F := Ideal) x4 x5 x6 (ix2 g p)) (x2 (ix4 0 b g p)) (x3 (ix4 0 b g p)) (fun s => val_main_v52 (F := Ideal) x0 x1 x4 x5 x6 x7 x8 (ix4 b s g p)) (fun s => val_main_v54 (F := Ideal) x0 x1 x4 x5 x6 x7 x8 (ix4 b s g p)) := by
  have e : val_main_v207 (F := Ideal) x0 x1 x2 x3 x4 x5 x6 x7 x8 (ix2 b ⟨64 * g.val + p.val, by omega⟩) = val_main_v201 (F := Ideal) x0 x1 x2 x3 x4 x5 x6 x7 x8 (ix4 b 3 g p) := by
    unfold val_main_v207 val_main_v206 val_main_v205
    generalize val_main_v201 (F := Ideal) x0 x1 x2 x3 x4 x5 x6 x7 x8 = y
    pointwise
  rw [e, ref201, ref159, ref116]

/-- The reference's result: the scan's last state. -/
theorem ref210 (b : Fin 128) (g : Fin 32) (p : Fin 64) : (val_main_v210 (F := Ideal) x0 x1 x2 x3 x4 x5 x6 x7 x8 (ix2 b ⟨64 * g.val + p.val, by omega⟩) : EReal) = scI (val_main_v11 (F := Ideal) x4 x5 x6 (ix2 g p)) (val_main_v15 (F := Ideal) x4 x5 x6 (ix2 g p)) (x2 (ix4 0 b g p)) (x3 (ix4 0 b g p)) (fun s => val_main_v52 (F := Ideal) x0 x1 x4 x5 x6 x7 x8 (ix4 b s g p)) (fun s => val_main_v54 (F := Ideal) x0 x1 x4 x5 x6 x7 x8 (ix4 b s g p)) := by
  have e : val_main_v210 (F := Ideal) x0 x1 x2 x3 x4 x5 x6 x7 x8 (ix2 b ⟨64 * g.val + p.val, by omega⟩) = val_main_v204 (F := Ideal) x0 x1 x2 x3 x4 x5 x6 x7 x8 (ix4 b 3 g p) := by
    unfold val_main_v210 val_main_v209 val_main_v208
    generalize val_main_v204 (F := Ideal) x0 x1 x2 x3 x4 x5 x6 x7 x8 = y
    pointwise
  rw [e, ref204, ref162, ref120]

end Cert.RecRefIdeal.Val
-- ==== Proof.RecPre.lean ====
module

public import proofs.«01_k».proof.Pre_finite_recurrence
public import proofs.«01_k».proof.Proof.MixPre
public import proofs.«01_k».proof.Proof.RecRef

@[expose] public section

set_option maxRecDepth 16384

noncomputable section

open Idealize.ShloMosaic Idealize.ShloMosaic.TcCoe Idealize.SL.Sem
open Idealize.ShloMosaic.Pipeline (Dat)

namespace Cert.Rec
open Cert.Pre_finite_recurrence Cert.Pre_finite_recurrence.Facts Cert.Route Cert.MixIdeal.Val

/-! The precondition: the arguments' entries are finite, and no squared modulus is zero. -/

theorem gt_pos (x : EReal) (h : Ideal.cmp .ogt x 0 = 1#1) : 0 < x := by
  by_contra hn
  have : Ideal.cmp .ogt x 0 = 0#1 := by
    show BitVec.ofBool (decide (0 < x)) = 0#1
    rw [decide_eq_false hn]; rfl
  rw [this] at h
  exact absurd h (by decide)

theorem args_fin [Cert.Pre_finite_recurrence.Facts] (x0 : FVec Ideal S128x4x1024 .f32) (x1 : FVec Ideal S1x1024x4420 .f32) (x2 x3 : FVec Ideal S1x128x32x64 .f32) (x4 x5 : FVec Ideal S1x32x64 .f32) (x6 : FVec Ideal S1x32 .f32) (x7 x8 : FVec Ideal S1x32x64x16 .f32) (x9 x10 : FVec Ideal S1x32x16x64 .f32) (x11 : FVec Ideal S1x512 .f32) (x12 : FVec Ideal S1x512x512 .f32)
    (h : fn (F := Ideal) x0 x1 x2 x3 x4 x5 x6 x7 x8 x9 x10 x11 x12 = fun _ => 1#1) :
    (∀ i, Fin1 (x0 i)) ∧ (∀ i, Fin1 (x1 i)) ∧ (∀ i, Fin1 (x2 i)) ∧ (∀ i, Fin1 (x3 i)) ∧ (∀ i, Fin1 (x4 i)) ∧ (∀ i, Fin1 (x5 i)) ∧ (∀ i, Fin1 (x6 i)) ∧ (∀ i, Fin1 (x7 i)) ∧ (∀ i, Fin1 (x8 i))
      ∧ ∀ i, (0 : EReal) < (x4 i : EReal) * x4 i + (x5 i : EReal) * x5 i := by
  have h0 := congrFun h (Shape.Idx.first h_S_)
  simp only [fn, fn_part1, fn_part2, andi, IntOp.andi_eq_one] at h0
  obtain ⟨⟨⟨⟨⟨⟨⟨⟨⟨h0, h1⟩, h2⟩, h3⟩, h4⟩, h5⟩, h6⟩, h7⟩, h8⟩, h9⟩ := h0
  refine ⟨?_, ?_, ?_, ?_, ?_, ?_, ?_, ?_, ?_, ?_⟩
  · exact all_fin32 x0 _ _ _ _ _ h0
  · exact all_fin32 x1 _ _ _ _ _ h1
  · exact all_fin32 x2 _ _ _ _ _ h2
  · exact all_fin32 x3 _ _ _ _ _ h3
  · exact all_fin32 x4 _ _ _ _ _ h4
  · exact all_fin32 x5 _ _ _ _ _ h5
  · exact all_fin32 x6 _ _ _ _ _ h6
  · exact all_fin32 x7 _ _ _ _ _ h7
  · exact all_fin32 x8 _ _ _ _ _ h8
  · intro i
    have h1 : Ideal.cmp .ogt ((x4 i : EReal) * x4 i + (x5 i : EReal) * x5 i) (Ideal.ofBits .f32 0#32) = 1#1 := Host.reduce_andi_all _ _ _ _ _ h9 i
    rw [Cert.RecRefIdeal.Val.zero_lit] at h1
    exact gt_pos _ h1

end Cert.Rec

namespace Cert.RecRefIdeal.Val
open Cert.RecRefIdeal Cert.RecRefIdeal.Read Cert.Route Cert.MixIdeal.Val Cert.Rec

variable {x0 : FVec Ideal S128x4x1024 .f32} {x1 : FVec Ideal S1x1024x4420 .f32} {x2 x3 : FVec Ideal S1x128x32x64 .f32} {x4 x5 : FVec Ideal S1x32x64 .f32} {x6 : FVec Ideal S1x32 .f32} {x7 x8 : FVec Ideal S1x32x64x16 .f32}

theorem fin_exp {x : EReal} (h : Fin1 x) : Fin1 (Ideal.exp x) := by
  obtain ⟨a, rfl⟩ := fin_real h
  rw [Ideal.exp_coe]; exact fin_coe _
theorem fin_cos {x : EReal} (h : Fin1 x) : Fin1 (Ideal.cos x) := by
  obtain ⟨a, rfl⟩ := fin_real h
  rw [Ideal.cos_coe]; exact fin_coe _
theorem fin_sin {x : EReal} (h : Fin1 x) : Fin1 (Ideal.sin x) := by
  obtain ⟨a, rfl⟩ := fin_real h
  rw [Ideal.sin_coe]; exact fin_coe _
theorem fin_quot {x y : EReal} (h : Fin1 x) (hy : Fin1 y) (h0 : 0 < y) : Fin1 (Ideal.div x y) := by
  obtain ⟨b, rfl⟩ := fin_real hy
  rw [Ideal.div_coe (by intro e; rw [e] at h0; exact lt_irrefl _ h0)]
  exact fin_mul h (fin_coe _)
theorem one_lit : (Ideal.ofBits .f32 1065353216#32 : EReal) = ((1 : ℝ) : EReal) := by
  simp [Ideal.ofBits, Ideal.ieee]
  rw [← EReal.coe_mul]
  norm_num

section
variable (h3 : ∀ i, Fin1 (x4 i)) (h4 : ∀ i, Fin1 (x5 i)) (h5 : ∀ i, Fin1 (x6 i))
include h3 h4 h5

theorem fin_v11 (g : Fin 32) (p : Fin 64) : Fin1 (val_main_v11 (F := Ideal) x4 x5 x6 (ix2 g p)) := by
  have e : (val_main_v11 (F := Ideal) x4 x5 x6 (ix2 g p) : EReal) = Ideal.exp (x4 (ix3 0 g p) * Ideal.exp (x6 (ix2 0 g))) * Ideal.cos (x5 (ix3 0 g p) * Ideal.exp (x6 (ix2 0 g))) := by
    pointwise [val_main_v11, val_main_v10, val_main_v9, val_main_v8, val_main_v7, val_main_v6, val_main_v5, val_main_v4, val_main_v3, val_main_v2, val_main_v1, val_main_v0]
  rw [e]
  exact fin_mul (fin_exp (fin_mul (h3 _) (fin_exp (h5 _)))) (fin_cos (fin_mul (h4 _) (fin_exp (h5 _))))

theorem fin_v15 (g : Fin 32) (p : Fin 64) : Fin1 (val_main_v15 (F := Ideal) x4 x5 x6 (ix2 g p)) := by
  have e : (val_main_v15 (F := Ideal) x4 x5 x6 (ix2 g p) : EReal) = Ideal.exp (x4 (ix3 0 g p) * Ideal.exp (x6 (ix2 0 g))) * Ideal.sin (x5 (ix3 0 g p) * Ideal.exp (x6 (ix2 0 g))) := by
    pointwise [val_main_v15, val_main_v14, val_main_v13, val_main_v12, val_main_v7, val_main_v6, val_main_v5, val_main_v4, val_main_v3, val_main_v2, val_main_v1, val_main_v0]
  rw [e]
  exact fin_mul (fin_exp (fin_mul (h3 _) (fin_exp (h5 _)))) (fin_sin (fin_mul (h4 _) (fin_exp (h5 _))))

variable (hp : ∀ i, (0 : EReal) < (x4 i : EReal) * x4 i + (x5 i : EReal) * x5 i)
include hp

theorem fin_v24 (g : Fin 32) (p : Fin 64) : Fin1 (val_main_v24 (F := Ideal) x4 x5 x6 (ix2 g p)) := by
  have f1 := fin_v11 h3 h4 h5 g p
  have f2 := fin_v15 h3 h4 h5 g p
  have e : (val_main_v24 (F := Ideal) x4 x5 x6 (ix2 g p) : EReal) = Ideal.div ((val_main_v11 (F := Ideal) x4 x5 x6 (ix2 g p) - Ideal.ofBits .f32 1065353216#32) * x4 (ix3 0 g p) + val_main_v15 (F := Ideal) x4 x5 x6 (ix2 g p) * x5 (ix3 0 g p))
      ((x4 (ix3 0 g p) : EReal) * x4 (ix3 0 g p) + (x5 (ix3 0 g p) : EReal) * x5 (ix3 0 g p)) := by
    unfold val_main_v24 val_main_v23 val_main_v22 val_main_v21 val_main_v20
    generalize val_main_v11 (F := Ideal) x4 x5 x6 = y
    generalize val_main_v15 (F := Ideal) x4 x5 x6 = z
    pointwise [val_main_v19, val_main_v18, val_main_v17, val_main_v16, val_main_v1, val_main_v0, val_main_cst]
  rw [e, one_lit]
  exact fin_quot (fin_add (fin_mul (fin_sub f1 (fin_coe 1)) (h3 _)) (fin_mul f2 (h4 _))) (fin_add (fin_mul (h3 _) (h3 _)) (fin_mul (h4 _) (h4 _))) (hp _)

theorem fin_v28 (g : Fin 32) (p : Fin 64) : Fin1 (val_main_v28 (F := Ideal) x4 x5 x6 (ix2 g p)) := by
  have f1 := fin_v11 h3 h4 h5 g p
  have f2 := fin_v15 h3 h4 h5 g p
  have e : (val_main_v28 (F := Ideal) x4 x5 x6 (ix2 g p) : EReal) = Ideal.div (val_main_v15 (F := Ideal) x4 x5 x6 (ix2 g p) * x4 (ix3 0 g p) - (val_main_v11 (F := Ideal) x4 x5 x6 (ix2 g p) - Ideal.ofBits .f32 1065353216#32) * x5 (ix3 0 g p))
      ((x4 (ix3 0 g p) : EReal) * x4 (ix3 0 g p) + (x5 (ix3 0 g p) : EReal) * x5 (ix3 0 g p)) := by
    unfold val_main_v28 val_main_v27 val_main_v26 val_main_v25 val_main_v20
    generalize val_main_v11 (F := Ideal) x4 x5 x6 = y
    generalize val_main_v15 (F := Ideal) x4 x5 x6 = z
    pointwise [val_main_v19, val_main_v18, val_main_v17, val_main_v16, val_main_v1, val_main_v0, val_main_cst]
  rw [e, one_lit]
  exact fin_quot (fin_sub (fin_mul f2 (h3 _)) (fin_mul (fin_sub f1 (fin_coe 1)) (h4 _))) (fin_add (fin_mul (h3 _) (h3 _)) (fin_mul (h4 _) (h4 _))) (hp _)

variable (h6 : ∀ i, Fin1 (x7 i)) (h7 : ∀ i, Fin1 (x8 i))
include h6 h7

theorem fin_v37 (g : Fin 32) (p : Fin 64) (k : Fin 16) : Fin1 (val_main_v37 (F := Ideal) x4 x5 x6 x7 x8 (ix3 g p k)) := by
  have e : (val_main_v37 (F := Ideal) x4 x5 x6 x7 x8 (ix3 g p k) : EReal) = val_main_v24 (F := Ideal) x4 x5 x6 (ix2 g p) * x7 (ix4 0 g p k) - val_main_v28 (F := Ideal) x4 x5 x6 (ix2 g p) * x8 (ix4 0 g p k) := by
    unfold val_main_v37 val_main_v36 val_main_v35 val_main_v34 val_main_v33 val_main_v32 val_main_v31 val_main_v30 val_main_v29
    generalize val_main_v24 (F := Ideal) x4 x5 x6 = y
    generalize val_main_v28 (F := Ideal) x4 x5 x6 = z
    pointwise
  rw [e]
  exact fin_sub (fin_mul (fin_v24 h3 h4 h5 hp g p) (h6 _)) (fin_mul (fin_v28 h3 h4 h5 hp g p) (h7 _))

theorem fin_v46 (g : Fin 32) (p : Fin 64) (k : Fin 16) : Fin1 (val_main_v46 (F := Ideal) x4 x5 x6 x7 x8 (ix3 g p k)) := by
  have e : (val_main_v46 (F := Ideal) x4 x5 x6 x7 x8 (ix3 g p k) : EReal) = val_main_v24 (F := Ideal) x4 x5 x6 (ix2 g p) * x8 (ix4 0 g p k) + val_main_v28 (F := Ideal) x4 x5 x6 (ix2 g p) * x7 (ix4 0 g p k) := by
    unfold val_main_v46 val_main_v45 val_main_v44 val_main_v43 val_main_v42 val_main_v41 val_main_v40 val_main_v39 val_main_v38
    generalize val_main_v24 (F := Ideal) x4 x5 x6 = y
    generalize val_main_v28 (F := Ideal) x4 x5 x6 = z
    pointwise
  rw [e]
  exact fin_add (fin_mul (fin_v24 h3 h4 h5 hp g p) (h7 _)) (fin_mul (fin_v28 h3 h4 h5 hp g p) (h6 _))

variable (h0 : ∀ i, Fin1 (x0 i)) (h1 : ∀ i, Fin1 (x1 i))
include h0 h1

omit h3 h4 h5 hp h6 h7 in
theorem fin_v48 (b : Fin 128) (s : Fin 4) (j : Fin 4420) : Fin1 (val_main_v48 (F := Ideal) x0 x1 (ix3 b s j)) := by
  rw [ref48]
  exact fin_sum _ _ fun k => fin_mul (h0 _) (h1 _)

theorem fin_v52 (b : Fin 128) (s : Fin 4) (g : Fin 32) (p : Fin 64) : Fin1 (val_main_v52 (F := Ideal) x0 x1 x4 x5 x6 x7 x8 (ix4 b s g p)) := by
  rw [ref52]
  exact fin_sum _ _ fun k => fin_mul (fin_v48 h0 h1 b s _) (fin_v37 h3 h4 h5 hp h6 h7 g p k)

theorem fin_v54 (b : Fin 128) (s : Fin 4) (g : Fin 32) (p : Fin 64) : Fin1 (val_main_v54 (F := Ideal) x0 x1 x4 x5 x6 x7 x8 (ix4 b s g p)) := by
  rw [ref54]
  exact fin_sum _ _ fun k => fin_mul (fin_v48 h0 h1 b s _) (fin_v46 h3 h4 h5 hp h6 h7 g p k)

end

end Cert.RecRefIdeal.Val
-- ==== Proof.RecHost.lean ====
module

public import proofs.«01_k».proof.Proof.RecPre
public import proofs.«01_k».proof.Proof.Gen.RecIdeal.Frame

@[expose] public section

set_option maxRecDepth 16384

noncomputable section

open Idealize.ShloMosaic Idealize.ShloMosaic.TcCoe Idealize.SL.Sem
open Idealize.ShloMosaic.Pipeline (Dat)

namespace Cert.RecIdeal.Val
open Cert.RecIdeal Cert.RecIdeal.Gen Cert.Route Cert.MixIdeal.Val Cert.Rec
open Cert.RecRefIdeal.Read

variable (m : (ℓ : Loc nD τ sig) → Buf (Elt Ideal) ℓ) (ρ : Dev nD → PrngReg)

/-! The kernel's blocks from the call's arguments. -/

/-- The identity's entries. -/
def eyeM : FVec Ideal S32x32 .f32 :=
  uitofp .f32 (cmpi .eq (addi (iotaInDim S32x32 32 0) (broadcastInDim S32x32 ![] bcast_S_S32x32 (constantI S_ 32 0#32))) (iotaInDim S32x32 32 1))

/-- The block-diagonal matrix of a group's weights. -/
def bmat (y : FVec Ideal S32x64x16 .f32) : FVec Ideal S512x2048 .f32 :=
  shapeCast S512x2048 (mulf (broadcastInDim S32x16x32x64 ![0, 1, 2, 3] bcast_S32x16x1x64_S32x16x32x64_0_1_2_3 (broadcastInDim S32x16x1x64 ![0, 1, 3] bcast_S32x16x64_S32x16x1x64_0_1_3 (transpose S32x16x64 [0, 2, 1] y transposes_S32x64x16_S32x16x64_0_2_1)))
    (broadcastInDim S32x16x32x64 ![0, 1, 2, 3] bcast_S32x1x32x1_S32x16x32x64_0_1_2_3 (broadcastInDim S32x1x32x1 ![0, 2] bcast_S32x32_S32x1x32x1_0_2 eyeM)) : FVec Ideal S32x16x32x64 .f32) shapeCasts_S32x16x32x64_S512x2048

/-- Both parts' matrices next to one another. -/
def bbig (y z : FVec Ideal S32x64x16 .f32) : FVec Ideal S512x4096 .f32 :=
  concatenate S512x4096 1 [⟨S512x2048, bmat y⟩, ⟨S512x2048, bmat z⟩] concatenates_S512x2048_S512x2048_S512x4096_d1

theorem eyeM_apply (a b : Fin 32) : (eyeM (ix2 a b) : EReal) = if a = b then 1 else 0 := by
  have h : ∀ a b : Fin 32, IntOp.cmpi .eq (IntOp.addi (BitVec.ofNat 32 a.val) 0#32) (BitVec.ofNat 32 b.val) = if a = b then 1#1 else 0#1 := by decide +kernel
  unfold eyeM
  show FloatOps.uitofp (F := Ideal) .f32 (IntOp.cmpi .eq (IntOp.addi (BitVec.ofNat 32 a.val) 0#32) (BitVec.ofNat 32 b.val)) = _
  rw [h]
  by_cases e : a = b
  · rw [if_pos e, if_pos e]; show (((1#1 : BitVec 1).toNat : ℝ) : EReal) = 1; simp
  · rw [if_neg e, if_neg e]; show (((0#1 : BitVec 1).toNat : ℝ) : EReal) = 0; simp

theorem bmat_apply (y) (g : Fin 32) (k : Fin 16) (g' : Fin 32) (p : Fin 64) :
    (bmat y (ix2 ⟨g.val * 16 + k.val, by omega⟩ ⟨64 * g'.val + p.val, by omega⟩) : EReal) = y (ix3 g p k) * (if g = g' then 1 else 0) := by
  rw [← eyeM_apply]
  unfold bmat
  generalize eyeM = e
  pointwise

theorem v39_eq (c : Dev nD) : V1 m ρ c main_v39 = val_main_v37 (F := Ideal) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps0 (W0 m ρ c) _ = _
  unfold hostOps0
  after_results_loop
  first | done | rfl

theorem v46_eq (c : Dev nD) : V1 m ρ c main_v46 = val_main_v46 (F := Ideal) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps0 (W0 m ρ c) _ = _
  unfold hostOps0
  after_results_loop
  first | done | rfl

theorem v67_eq (c : Dev nD) : V1 m ρ c main_v67 = bbig (val_main_v37 (F := Ideal) (m ((c : Thread nD τ).loc main_arg4)) (m ((c : Thread nD τ).loc main_arg5)) (m ((c : Thread nD τ).loc main_arg6)) (m ((c : Thread nD τ).loc main_arg7)) (m ((c : Thread nD τ).loc main_arg8))) (val_main_v46 (F := Ideal) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps0 (W0 m ρ c) _ = _
  unfold hostOps0
  after_results_loop
  first | done | rfl

theorem v15_eq (c : Dev nD) : V1 m ρ c main_v15 = val_main_v11 (F := Ideal) (m ((c : Thread nD τ).loc main_arg4)) (m ((c : Thread nD τ).loc main_arg5)) (m ((c : Thread nD τ).loc main_arg6)) := by
  show StableHlo.after hostOps0 (W0 m ρ c) _ = _
  unfold hostOps0
  after_results_loop
  first | done | rfl

end Cert.RecIdeal.Val
-- ==== Proof.RecProj.lean ====
module

public import proofs.«01_k».proof.Proof.RecHost

@[expose] public section

set_option maxRecDepth 16384

noncomputable section

open Idealize.ShloMosaic Idealize.ShloMosaic.TcCoe Idealize.SL.Sem
open Idealize.ShloMosaic.Pipeline (Dat)

namespace Cert.RecIdeal.Val
open Cert.RecIdeal Cert.RecIdeal.Gen Cert.Route Cert.MixIdeal.Val Cert.Rec
open Cert.RecRefIdeal.Read

variable (m : (ℓ : Loc nD τ sig) → Buf (Elt Ideal) ℓ) (ρ : Dev nD → PrngReg)

/-! The first call: the sample's projection. -/

/-- Column `j` of the projection of row `R` of the sample's rows. -/
def Z (x : FVec Ideal S128x4x1024 .f32) (w : FVec Ideal S1x1024x4420 .f32) (R : Fin 512) (j : Fin 4420) : EReal :=
  ∑ k, x (ix3 ⟨R.val / 4, by omega⟩ ⟨R.val % 4, by omega⟩ k) * w (ix3 0 k j)

/-- Column `j` of the call's weight array: the projection's columns with sixty columns of zeros after the head weights. -/
def Wp (w : FVec Ideal S1x1024x4420 .f32) (k : Fin 1024) (j : Fin 4480) : EReal :=
  if h : j.val < 2372 then w (ix3 0 k ⟨j.val, by omega⟩) else if h' : j.val < 2432 then 0 else w (ix3 0 k ⟨j.val - 60, by omega⟩)

/-- The call's weight array from the projection's weights. -/
def padw (w : FVec Ideal S1x1024x4420 .f32) : FVec Ideal S1024x4480 .bf16 :=
  truncf (F := Ideal) .bf16 (concatenate S1024x4480 1 [⟨S1024x2372, (extractStridedSlice S1024x2372 ![0, 0] (shapeCast S1024x4420 w shapeCasts_S1x1024x4420_S1024x4420) slices_S1024x4420_S1024x2372_0_0 : FVec Ideal S1024x2372 .f32)⟩,
    ⟨S1024x60, (broadcastInDim S1024x60 ![] bcast_S_S1024x60 (constant (F := Ideal) S_ .f32 0x00000000#32) : FVec Ideal S1024x60 .f32)⟩,
    ⟨S1024x2048, (extractStridedSlice S1024x2048 ![0, 2372] (shapeCast S1024x4420 w shapeCasts_S1x1024x4420_S1024x4420) slices_S1024x4420_S1024x2048_0_2372 : FVec Ideal S1024x2048 .f32)⟩] concatenates_S1024x2372_S1024x60_S1024x2048_S1024x4480_d1 : FVec Ideal S1024x4480 .f32) bitsLt_bf16_f32

theorem padw_apply (w) (k : Fin 1024) (j : Fin 4480) : padw w (ix2 k j) = Wp w k j := by
  pointwise [padw, Wp]
  by_cases h : j.val < 2372
  · rw [dif_pos h, dif_pos h]
  · rw [dif_neg h, dif_neg h]
    by_cases h' : j.val < 2432
    · rw [dif_pos h', dif_pos (by omega)]
    · rw [dif_neg h', dif_neg (by omega)]
      exact congrArg (fun i => w (ix3 0 k i)) (Fin.ext (by dsimp only; omega))

theorem vw (c : Dev nD) : V1 m ρ c main_v102 = padw (m ((c : Thread nD τ).loc main_arg1)) := by
  show StableHlo.after hostOps0 (W0 m ρ c) _ = _
  unfold hostOps0
  simp only [StableHlo.after_cons, StableHlo.after_nil]
  rw [StableHlo.unary_result, StableHlo.nary_result]
  have cat : ∀ (a a' : FVec Ideal S1024x2372 .f32) (b b' : FVec Ideal S1024x60 .f32) (d d' : FVec Ideal S1024x2048 .f32), a = a' → b = b' → d = d' →
      truncf (F := Ideal) .bf16 (concatenate S1024x4480 1 [⟨S1024x2372, a⟩, ⟨S1024x60, b⟩, ⟨S1024x2048, d⟩] concatenates_S1024x2372_S1024x60_S1024x2048_S1024x4480_d1 : FVec Ideal S1024x4480 .f32) bitsLt_bf16_f32
      = truncf (F := Ideal) .bf16 (concatenate S1024x4480 1 [⟨S1024x2372, a'⟩, ⟨S1024x60, b'⟩, ⟨S1024x2048, d'⟩] concatenates_S1024x2372_S1024x60_S1024x2048_S1024x4480_d1 : FVec Ideal S1024x4480 .f32) bitsLt_bf16_f32 := by
    rintro a _ b _ d _ rfl rfl rfl; rfl
  refine cat _ _ _ _ _ _ ?_ ?_ ?_
  · show HloOp.result _ _ (Proc.devRef .tc main_v98) = _
    after_results_loop
    first | done | rfl
  · show HloOp.result _ _ (Proc.devRef .tc main_v99) = _
    after_results_loop
    first | done | rfl
  · show HloOp.result _ _ (Proc.devRef .tc main_v100) = _
    after_results_loop
    first | done | rfl

/-- The projection's first columns, a row of the sample after another. -/
def proj (x : FVec Ideal S128x4x1024 .f32) (w : FVec Ideal S1x1024x4420 .f32) : FVec Ideal S512x512 .f32 :=
  fun i => Z x w ⟨(i 0).val, (i 0).isLt⟩ ⟨0 + (i 1).val, by have : (i 1).val < 512 := (i 1).isLt; omega⟩

theorem proj_apply (x w) (R j : Fin 512) : proj x w (ix2 R j) = Z x w R ⟨0 + j.val, by omega⟩ := rfl

theorem v96_eq (c : Dev nD) : V1 m ρ c main_v96 = shapeCast S512x1024 (m ((c : Thread nD τ).loc main_arg0)) shapeCasts_S128x4x1024_S512x1024 := by
  show StableHlo.after hostOps0 (W0 m ρ c) _ = _
  unfold hostOps0
  after_results_loop
  first | done | rfl

theorem idx0 : ∀ t : Fin cfg0.N, win0_0.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] :=
  (by decide +kernel : ∀ t : Fin grid0.N, _)

theorem blkw (c : Dev nD) (t : Fin cfg0.N) (k : Fin 1024) (j : Fin 4480) :
    iblk0 (V1 m ρ) c 2 t (ix2 k j) = Wp (m ((c : Thread nD τ).loc main_arg1)) k j := by
  have e : ((View.whole main_v102).slice (win0_2.rect t)).emb (ix2 k j) = ix2 k j := by
    blk_ext [idx0 t]
  blk_simp [iblk0]
  rw [e, vw m ρ c]
  exact padw_apply _ k j

theorem blkx (c : Dev nD) (t : Fin cfg0.N) (r : Fin 512) (k : Fin 1024) :
    iblk0 (V1 m ρ) c 0 t (ix2 r k) = m ((c : Thread nD τ).loc main_arg0) (ix3 ⟨r.val / 4, by omega⟩ ⟨r.val % 4, by omega⟩ k) := by
  have e : ((View.whole main_v96).slice (win0_0.rect t)).emb (ix2 r k) = ix2 r k := by
    blk_ext [idx0 t]
  have h : ∀ x : FVec Ideal S128x4x1024 .f32, (shapeCast S512x1024 x shapeCasts_S128x4x1024_S512x1024 : FVec Ideal S512x1024 .f32) (ix2 r k) = x (ix3 ⟨r.val / 4, by omega⟩ ⟨r.val % 4, by omega⟩ k) := by
    intro x
    pointwise
  blk_simp [iblk0]
  rw [e, v96_eq m ρ c]
  exact h _

/-- The product of a row of the tile by a column of the weights. -/
def dotc (x0 : Vec Ideal S512x1024 .f32) (x2 : Vec Ideal S1024x4480 .bf16) (r : Fin 512) (j : Fin 4480) : EReal :=
  ∑ k : Fin 1024, (x0 (ix2 r k) : EReal) * (x2 (ix2 k j) : EReal)

/-- A row of the call's array times its weights, for a column that is one of the projection's. -/
theorem core (c : Dev nD) (t : Fin cfg0.N) (r : Fin 512) (j : Fin 4480) (jj : Fin 4420)
    (hj : (j.val < 2372 ∧ jj.val = j.val) ∨ (2432 ≤ j.val ∧ jj.val + 60 = j.val)) :
    dotc (iblk0 (V1 m ρ) c 0 t) (iblk0 (V1 m ρ) c 2 t) r j
      = Z (m ((c : Thread nD τ).loc main_arg0)) (m ((c : Thread nD τ).loc main_arg1)) r jj := by
  unfold dotc
  refine Finset.sum_congr rfl fun k _ => ?_
  have hw : Wp (m ((c : Thread nD τ).loc main_arg1)) k j = m ((c : Thread nD τ).loc main_arg1) (ix3 0 k jj) := by
    rcases hj with ⟨h, e⟩ | ⟨h, e⟩
    · rw [Wp, dif_pos h]
      exact congrArg (fun i => m ((c : Thread nD τ).loc main_arg1) (ix3 0 k i)) (Fin.ext e.symm)
    · rw [Wp, dif_neg (by omega), dif_neg (by omega)]
      exact congrArg (fun i => m ((c : Thread nD τ).loc main_arg1) (ix3 0 k i)) (Fin.ext (by dsimp only; omega))
  rw [blkx m ρ c t r k, blkw m ρ c t k j, hw]

theorem out3_apply (x0 : Vec Ideal S512x1024 .f32) (x1 : Vec Ideal S512x1024 .f32) (x2 : Vec Ideal S1024x4480 .bf16) (r : Fin 512) (j : Fin 512) :
    (out0_3 x0 x1 x2 (ix2 r j) : EReal) = dotc x0 x2 r ⟨0 + j.val, by omega⟩ := by
  frame_out
  pointwise [k0_pay6, k0_pay5, dotc]

theorem emb3 (t : Fin cfg0.N) (r : Fin 512) (j : Fin 512) :
    ((View.whole main_v103_0).slice (win0_3.rect t)).emb (ix2 r j) = ix2 r j := by
  blk_ext [idx0 t]

/-- Result 0 of the call is the projection's first columns. -/
theorem final3 (c : Dev nD) : (dat0 (V1 m ρ) c).arrAt 3 cfg0.N
    = proj (m ((c : Thread nD τ).loc main_arg0)) (m ((c : Thread nD τ).loc main_arg1)) := by
  refine (dat0 (V1 m ρ) c).arrAt_eq_of_covers 3 _ (by decide +kernel) fun t hf y => ?_
  blk_simp
  rw [after0_3]
  idx_vars y
  rw [emb3 t y0 y1, proj_apply]
  have hb := core m ρ c t y0 ⟨0 + y1.val, by omega⟩ ⟨0 + y1.val, by omega⟩ (by dsimp only; omega)
  rw [out3_apply]
  exact hb

/-! What the second call reads: the projection, the states and the tables. -/

theorem V3_keep (c : Dev nD) (r : Ref sig .tc) (h : r ∉ hostOps1_W) (h0 : ∀ w : Fin cfg0.W, Pipeline.arrRef spec0 w = r → (cfg0.win w).isOut = false) :
    V3 m ρ c r = V1 m ρ c r := (W3_of m ρ c r h).trans (W2_of m ρ c r h0)

theorem v105_eq (c : Dev nD) : V3 m ρ c main_v105 = transpose S4x128x512 [1, 0, 2] (shapeCast S128x4x512 (proj (m ((c : Thread nD τ).loc main_arg0)) (m ((c : Thread nD τ).loc main_arg1))) shapeCasts_S512x512_S128x4x512) transposes_S128x4x512_S4x128x512_1_0_2 := by
  have e : W2 m ρ c (Proc.devRef .tc main_v103_0) = proj (m ((c : Thread nD τ).loc main_arg0)) (m ((c : Thread nD τ).loc main_arg1)) := (W2_arr m ρ c 3).trans (final3 m ρ c)
  rw [← e]
  show StableHlo.after hostOps1 (W2 m ρ c) _ = _
  unfold hostOps1
  after_results_loop
  first | done | rfl

theorem v107_of (V : Valuation τ sig (Elt Ideal)) : StableHlo.after hostOps1 V (Proc.devRef .tc main_v107) = (shapeCast S128x2048 (shapeCast S128x32x64 (V (Proc.devRef .tc main_arg2)) shapeCasts_S1x128x32x64_S128x32x64 : FVec Ideal S128x32x64 .f32) shapeCasts_S128x32x64_S128x2048 : FVec Ideal S128x2048 .f32) := by
  unfold hostOps1
  after_results_loop
  first | done | rfl

theorem v107_eq (c : Dev nD) : V3 m ρ c main_v107 = shapeCast S128x2048 (shapeCast S128x32x64 (m ((c : Thread nD τ).loc main_arg2)) shapeCasts_S1x128x32x64_S128x32x64 : FVec Ideal S128x32x64 .f32) shapeCasts_S128x32x64_S128x2048 := by
  have e : W2 m ρ c (Proc.devRef .tc main_arg2) = m ((c : Thread nD τ).loc main_arg2) := W2_args m ρ c main_arg2 (by decide)
  have h := v107_of (W2 m ρ c)
  rw [e] at h
  exact h

theorem v109_of (V : Valuation τ sig (Elt Ideal)) : StableHlo.after hostOps1 V (Proc.devRef .tc main_v109) = (shapeCast S128x2048 (shapeCast S128x32x64 (V (Proc.devRef .tc main_arg3)) shapeCasts_S1x128x32x64_S128x32x64 : FVec Ideal S128x32x64 .f32) shapeCasts_S128x32x64_S128x2048 : FVec Ideal S128x2048 .f32) := by
  unfold hostOps1
  after_results_loop
  first | done | rfl

theorem v109_eq (c : Dev nD) : V3 m ρ c main_v109 = shapeCast S128x2048 (shapeCast S128x32x64 (m ((c : Thread nD τ).loc main_arg3)) shapeCasts_S1x128x32x64_S128x32x64 : FVec Ideal S128x32x64 .f32) shapeCasts_S128x32x64_S128x2048 := by
  have e : W2 m ρ c (Proc.devRef .tc main_arg3) = m ((c : Thread nD τ).loc main_arg3) := W2_args m ρ c main_arg3 (by decide)
  have h := v109_of (W2 m ρ c)
  rw [e] at h
  exact h

end Cert.RecIdeal.Val
-- ==== Proof.RecOut.lean ====
module

public import proofs.«01_k».proof.Proof.RecMath
public import proofs.«01_k».proof.Proof.Gen.RecIdeal.Frame

@[expose] public section

set_option maxRecDepth 16384

noncomputable section

open Idealize.ShloMosaic Idealize.ShloMosaic.TcCoe Idealize.SL.Sem
open Idealize.ShloMosaic.Pipeline (Dat)

namespace Cert.RecIdeal.Val
open Cert.RecIdeal Cert.RecIdeal.Gen Cert.Route Cert.MixIdeal.Val Cert.Rec

/-! The kernel's two state blocks from its input blocks: four steps, one after another. -/

/-- What one step adds: the input against the two halves of the weights. -/
def bu (u : Fin 512 → EReal) (x3 x4 : Vec Ideal S512x4096 .bf16) (j : Fin 4096) : EReal :=
  (∑ k : Fin 512, u k * (x3 (ix2 k j) : EReal)) + ((∑ k : Fin 512, (u k - u k) * (x3 (ix2 k j) : EReal)) + ∑ k : Fin 512, u k * (x4 (ix2 k j) : EReal))

variable (x0 : Vec Ideal S4x128x512 .f32) (x1 x2 : Vec Ideal S128x2048 .f32) (x3 x4 : Vec Ideal S512x4096 .bf16) (x5 : Vec Ideal S2x2048 .f32) (x6 : Vec Ideal S4096x512 .bf16) (x7 : Vec Ideal S1x512 .f32) (x8 : Vec Ideal S512x512 .bf16)

theorem pay7 (v8 : Vec Ideal S1x128x512 .f32) (a b' c : Vec Ideal S512x4096 .bf16) (hb : b' = a) (b : Fin 128) (j : Fin 4096) :
    (k1_pay7 v8 a b' c (ix2 b j) : EReal) = bu (fun k => v8 (ix3 0 b k)) a c j := by
  subst hb
  pointwise [k1_pay7, k1_pay6, bu]

theorem pay32 (v8 : Vec Ideal S1x128x512 .f32) (a b' c : Vec Ideal S512x4096 .bf16) (hb : b' = a) (b : Fin 128) (j : Fin 4096) :
    (k1_pay32 v8 a b' c (ix2 b j) : EReal) = bu (fun k => v8 (ix3 0 b k)) a c j := by
  subst hb
  pointwise [k1_pay32, k1_pay31, bu]

theorem pay44 (v8 : Vec Ideal S1x128x512 .f32) (a b' c : Vec Ideal S512x4096 .bf16) (hb : b' = a) (b : Fin 128) (j : Fin 4096) :
    (k1_pay44 v8 a b' c (ix2 b j) : EReal) = bu (fun k => v8 (ix3 0 b k)) a c j := by
  subst hb
  pointwise [k1_pay44, k1_pay43, bu]

theorem pay21 (v8 : Vec Ideal S1x128x512 .f32) (a b' c : Vec Ideal S512x4096 .bf16) (hb : b' = a) (b : Fin 128) (j : Fin 4096) :
    (k1_pay21 (k1_pay18 v8) (k1_pay19 v8) (k1_pay20 v8) a b' c (ix2 b j) : EReal) = bu (fun k => v8 (ix3 0 b k)) a c j := by
  subst hb
  pointwise [k1_pay21, k1_pay20, k1_pay19, k1_pay18, bu]

theorem ld0 (b : Fin 128) (k : Fin 512) : View.ld x0 r1_3 (ix3 0 b k) = x0 (ix3 0 b k) := by
  pointwise
theorem ld1 (b : Fin 128) (k : Fin 512) : View.ld x0 r1_15 (ix3 0 b k) = x0 (ix3 1 b k) := by
  pointwise
theorem ld2 (b : Fin 128) (k : Fin 512) : View.ld x0 r1_16 (ix3 0 b k) = x0 (ix3 2 b k) := by
  pointwise
theorem ld3 (b : Fin 128) (k : Fin 512) : View.ld x0 r1_17 (ix3 0 b k) = x0 (ix3 3 b k) := by
  pointwise

theorem ld4 (x : Vec Ideal S512x4096 .bf16) : View.ld x r1_4 = x := by
  funext y
  idx_vars y
  pointwise

theorem pay52_apply (q : Fin 2048) : (k1_pay52 x0 x1 x2 x3 x4 x5 x6 x7 x8 (ix2 0 q) : EReal) = x5 (ix2 0 q) := by
  unfold k1_pay52 k1_pay2
  pointwise

theorem pay53_apply (q : Fin 2048) : (k1_pay53 x0 x1 x2 x3 x4 x5 x6 x7 x8 (ix2 0 q) : EReal) = x5 (ix2 1 q) := by
  unfold k1_pay53 k1_pay3
  pointwise

/-- What step `s` adds to the real parts. -/
def pR (x0 : Vec Ideal S4x128x512 .f32) (x3 x4 : Vec Ideal S512x4096 .bf16) (b : Fin 128) (q : Fin 2048) (s : Fin 4) : EReal := bu (fun k => x0 (ix3 s b k)) x3 x4 ⟨0 + q.val, by omega⟩
/-- What step `s` adds to the imaginary parts. -/
def pI (x0 : Vec Ideal S4x128x512 .f32) (x3 x4 : Vec Ideal S512x4096 .bf16) (b : Fin 128) (q : Fin 2048) (s : Fin 4) : EReal := bu (fun k => x0 (ix3 s b k)) x3 x4 ⟨2048 + q.val, by omega⟩

theorem st8 (a d : Vec Ideal S1x2048 .f32) (h k : Vec Ideal S128x2048 .f32) (v8 : Vec Ideal S1x128x512 .f32) (v14 v17 v20 : Vec Ideal S512x4096 .bf16) (b : Fin 128) (q : Fin 2048) :
    (k1_pay8 a d h k v8 v14 v17 v20 (ix2 b q) : EReal) = stR (a (ix2 0 q)) (d (ix2 0 q)) (h (ix2 b q)) (k (ix2 b q)) (k1_pay7 v8 v14 v17 v20 (ix2 b ⟨0 + q.val, by omega⟩)) := by
  unfold k1_pay8 k1_pay2 k1_pay3 k1_pay4 k1_pay5
  generalize k1_pay7 v8 v14 v17 v20 = w
  pointwise [stR]

theorem st9 (a d : Vec Ideal S1x2048 .f32) (h k : Vec Ideal S128x2048 .f32) (v8 : Vec Ideal S1x128x512 .f32) (v14 v17 v20 : Vec Ideal S512x4096 .bf16) (b : Fin 128) (q : Fin 2048) :
    (k1_pay9 a d h k v8 v14 v17 v20 (ix2 b q) : EReal) = stI (a (ix2 0 q)) (d (ix2 0 q)) (h (ix2 b q)) (k (ix2 b q)) (k1_pay7 v8 v14 v17 v20 (ix2 b ⟨2048 + q.val, by omega⟩)) := by
  unfold k1_pay9 k1_pay2 k1_pay3 k1_pay4 k1_pay5
  generalize k1_pay7 v8 v14 v17 v20 = w
  pointwise [stI]

theorem st22 (a d : FVec Ideal S1x2048 .f32) (h k : FVec Ideal S128x2048 .f32) (u1 : FVec Ideal S128x512 .f32) (u2 : FVec Ideal S128x512 .bf16) (u3 : FVec Ideal S128x512 .f32) (v14 v17 v20 : Vec Ideal S512x4096 .bf16) (b : Fin 128) (q : Fin 2048) :
    (k1_pay22 a d h k u1 u2 u3 v14 v17 v20 (ix2 b q) : EReal) = stR (a (ix2 0 q)) (d (ix2 0 q)) (h (ix2 b q)) (k (ix2 b q)) (k1_pay21 u1 u2 u3 v14 v17 v20 (ix2 b ⟨0 + q.val, by omega⟩)) := by
  unfold k1_pay22
  generalize k1_pay21 u1 u2 u3 v14 v17 v20 = w
  pointwise [stR]

theorem st23 (a d : FVec Ideal S1x2048 .f32) (h k : FVec Ideal S128x2048 .f32) (u1 : FVec Ideal S128x512 .f32) (u2 : FVec Ideal S128x512 .bf16) (u3 : FVec Ideal S128x512 .f32) (v14 v17 v20 : Vec Ideal S512x4096 .bf16) (b : Fin 128) (q : Fin 2048) :
    (k1_pay23 a d h k u1 u2 u3 v14 v17 v20 (ix2 b q) : EReal) = stI (a (ix2 0 q)) (d (ix2 0 q)) (h (ix2 b q)) (k (ix2 b q)) (k1_pay21 u1 u2 u3 v14 v17 v20 (ix2 b ⟨2048 + q.val, by omega⟩)) := by
  unfold k1_pay23
  generalize k1_pay21 u1 u2 u3 v14 v17 v20 = w
  pointwise [stI]

theorem st34 (a d : FVec Ideal S1x2048 .f32) (h k : FVec Ideal S128x2048 .f32) (w : FVec Ideal S128x4096 .f32) (b : Fin 128) (q : Fin 2048) :
    (k1_pay34 d k w (k1_pay33 a h) (ix2 b q) : EReal) = stR (a (ix2 0 q)) (d (ix2 0 q)) (h (ix2 b q)) (k (ix2 b q)) (w (ix2 b ⟨0 + q.val, by omega⟩)) := by
  unfold k1_pay34 k1_pay33
  generalize w = w
  pointwise [stR]

theorem st35 (a d : FVec Ideal S1x2048 .f32) (h k : FVec Ideal S128x2048 .f32) (w : FVec Ideal S128x4096 .f32) (b : Fin 128) (q : Fin 2048) :
    (k1_pay35 a d h k w (ix2 b q) : EReal) = stI (a (ix2 0 q)) (d (ix2 0 q)) (h (ix2 b q)) (k (ix2 b q)) (w (ix2 b ⟨2048 + q.val, by omega⟩)) := by
  unfold k1_pay35
  generalize w = w
  pointwise [stI]

theorem st45 (a d : Vec Ideal S1x2048 .f32) (h k : Vec Ideal S128x2048 .f32) (v8 : Vec Ideal S1x128x512 .f32) (v14 v17 v20 : Vec Ideal S512x4096 .bf16) (b : Fin 128) (q : Fin 2048) :
    (k1_pay45 a d h k v8 v14 v17 v20 (ix2 b q) : EReal) = stR (a (ix2 0 q)) (d (ix2 0 q)) (h (ix2 b q)) (k (ix2 b q)) (k1_pay44 v8 v14 v17 v20 (ix2 b ⟨0 + q.val, by omega⟩)) := by
  unfold k1_pay45
  generalize k1_pay44 v8 v14 v17 v20 = w
  pointwise [stR]

theorem st46 (a d : Vec Ideal S1x2048 .f32) (h k : Vec Ideal S128x2048 .f32) (v8 : Vec Ideal S1x128x512 .f32) (v14 v17 v20 : Vec Ideal S512x4096 .bf16) (b : Fin 128) (q : Fin 2048) :
    (k1_pay46 a d h k v8 v14 v17 v20 (ix2 b q) : EReal) = stI (a (ix2 0 q)) (d (ix2 0 q)) (h (ix2 b q)) (k (ix2 b q)) (k1_pay44 v8 v14 v17 v20 (ix2 b ⟨2048 + q.val, by omega⟩)) := by
  unfold k1_pay46
  generalize k1_pay44 v8 v14 v17 v20 = w
  pointwise [stI]

theorem ldr2 (x : Vec Ideal S128x2048 .f32) : View.ld x r1_2 = x := by
  funext y
  idx_vars y
  pointwise

theorem ldA (q : Fin 2048) : View.ld x5 r1_0 (ix2 0 q) = x5 (ix2 0 q) := by
  pointwise

theorem ldB (q : Fin 2048) : View.ld x5 r1_1 (ix2 0 q) = x5 (ix2 1 q) := by
  pointwise

theorem pay54_apply (b : Fin 128) (q : Fin 2048) : (k1_pay54 x0 x1 x2 x3 x4 x5 x6 x7 x8 (ix2 b q) : EReal) = (stR (x5 (ix2 0 q)) (x5 (ix2 1 q)) (x1 (ix2 b q)) (x2 (ix2 b q)) (pR x0 x3 x4 b q 0)) := by
  unfold k1_pay54
  rw [st8, pay7 _ _ _ _ rfl, ldA, ldB, ldr2, ldr2, ld4, ld4]
  exact congrArg (fun w => stR _ _ _ _ (bu w x3 x4 _)) (funext fun k => ld0 x0 b k)

theorem pay55_apply (b : Fin 128) (q : Fin 2048) : (k1_pay55 x0 x1 x2 x3 x4 x5 x6 x7 x8 (ix2 b q) : EReal) = (stI (x5 (ix2 0 q)) (x5 (ix2 1 q)) (x1 (ix2 b q)) (x2 (ix2 b q)) (pI x0 x3 x4 b q 0)) := by
  unfold k1_pay55
  rw [st9, pay7 _ _ _ _ rfl, ldA, ldB, ldr2, ldr2, ld4, ld4]
  exact congrArg (fun w => stI _ _ _ _ (bu w x3 x4 _)) (funext fun k => ld0 x0 b k)

theorem pay59_apply (b : Fin 128) (q : Fin 2048) : (k1_pay59 x0 x1 x2 x3 x4 x5 x6 x7 x8 (ix2 b q) : EReal) = (stR (x5 (ix2 0 q)) (x5 (ix2 1 q)) (stR (x5 (ix2 0 q)) (x5 (ix2 1 q)) (x1 (ix2 b q)) (x2 (ix2 b q)) (pR x0 x3 x4 b q 0)) (stI (x5 (ix2 0 q)) (x5 (ix2 1 q)) (x1 (ix2 b q)) (x2 (ix2 b q)) (pI x0 x3 x4 b q 0)) (pR x0 x3 x4 b q 1)) := by
  unfold k1_pay59 k1_pay56 k1_pay57 k1_pay58
  rw [st22, pay21 _ _ _ _ rfl, pay52_apply, pay53_apply, pay54_apply, pay55_apply, ld4, ld4]
  exact congrArg (fun w => stR _ _ _ _ (bu w x3 x4 _)) (funext fun k => ld1 x0 b k)

theorem pay60_apply (b : Fin 128) (q : Fin 2048) : (k1_pay60 x0 x1 x2 x3 x4 x5 x6 x7 x8 (ix2 b q) : EReal) = (stI (x5 (ix2 0 q)) (x5 (ix2 1 q)) (stR (x5 (ix2 0 q)) (x5 (ix2 1 q)) (x1 (ix2 b q)) (x2 (ix2 b q)) (pR x0 x3 x4 b q 0)) (stI (x5 (ix2 0 q)) (x5 (ix2 1 q)) (x1 (ix2 b q)) (x2 (ix2 b q)) (pI x0 x3 x4 b q 0)) (pI x0 x3 x4 b q 1)) := by
  unfold k1_pay60 k1_pay56 k1_pay57 k1_pay58
  rw [st23, pay21 _ _ _ _ rfl, pay52_apply, pay53_apply, pay54_apply, pay55_apply, ld4, ld4]
  exact congrArg (fun w => stI _ _ _ _ (bu w x3 x4 _)) (funext fun k => ld1 x0 b k)

theorem pay66_apply (b : Fin 128) (q : Fin 2048) : (k1_pay66 x0 x1 x2 x3 x4 x5 x6 x7 x8 (ix2 b q) : EReal) = (stR (x5 (ix2 0 q)) (x5 (ix2 1 q)) (stR (x5 (ix2 0 q)) (x5 (ix2 1 q)) (stR (x5 (ix2 0 q)) (x5 (ix2 1 q)) (x1 (ix2 b q)) (x2 (ix2 b q)) (pR x0 x3 x4 b q 0)) (stI (x5 (ix2 0 q)) (x5 (ix2 1 q)) (x1 (ix2 b q)) (x2 (ix2 b q)) (pI x0 x3 x4 b q 0)) (pR x0 x3 x4 b q 1)) (stI (x5 (ix2 0 q)) (x5 (ix2 1 q)) (stR (x5 (ix2 0 q)) (x5 (ix2 1 q)) (x1 (ix2 b q)) (x2 (ix2 b q)) (pR x0 x3 x4 b q 0)) (stI (x5 (ix2 0 q)) (x5 (ix2 1 q)) (x1 (ix2 b q)) (x2 (ix2 b q)) (pI x0 x3 x4 b q 0)) (pI x0 x3 x4 b q 1)) (pR x0 x3 x4 b q 2)) := by
  unfold k1_pay66 k1_pay65 k1_pay64
  rw [st34, pay32 _ _ _ _ rfl, pay52_apply, pay53_apply, pay59_apply, pay60_apply, ld4, ld4]
  exact congrArg (fun w => stR _ _ _ _ (bu w x3 x4 _)) (funext fun k => ld2 x0 b k)

theorem pay67_apply (b : Fin 128) (q : Fin 2048) : (k1_pay67 x0 x1 x2 x3 x4 x5 x6 x7 x8 (ix2 b q) : EReal) = (stI (x5 (ix2 0 q)) (x5 (ix2 1 q)) (stR (x5 (ix2 0 q)) (x5 (ix2 1 q)) (stR (x5 (ix2 0 q)) (x5 (ix2 1 q)) (x1 (ix2 b q)) (x2 (ix2 b q)) (pR x0 x3 x4 b q 0)) (stI (x5 (ix2 0 q)) (x5 (ix2 1 q)) (x1 (ix2 b q)) (x2 (ix2 b q)) (pI x0 x3 x4 b q 0)) (pR x0 x3 x4 b q 1)) (stI (x5 (ix2 0 q)) (x5 (ix2 1 q)) (stR (x5 (ix2 0 q)) (x5 (ix2 1 q)) (x1 (ix2 b q)) (x2 (ix2 b q)) (pR x0 x3 x4 b q 0)) (stI (x5 (ix2 0 q)) (x5 (ix2 1 q)) (x1 (ix2 b q)) (x2 (ix2 b q)) (pI x0 x3 x4 b q 0)) (pI x0 x3 x4 b q 1)) (pI x0 x3 x4 b q 2)) := by
  unfold k1_pay67 k1_pay64
  rw [st35, pay32 _ _ _ _ rfl, pay52_apply, pay53_apply, pay59_apply, pay60_apply, ld4, ld4]
  exact congrArg (fun w => stI _ _ _ _ (bu w x3 x4 _)) (funext fun k => ld2 x0 b k)

/-- The block of result 1 of the call: four steps from the given state. -/
theorem out10_apply (b : Fin 128) (q : Fin 2048) : (out1_10 x0 x1 x2 x3 x4 x5 x6 x7 x8 (ix2 b q) : EReal)
    = runR (x5 (ix2 0 q)) (x5 (ix2 1 q)) (x1 (ix2 b q)) (x2 (ix2 b q)) (pR x0 x3 x4 b q) (pI x0 x3 x4 b q) := by
  frame_out
  rw [st45, pay44 _ _ _ _ rfl, pay52_apply, pay53_apply, pay66_apply, pay67_apply]
  exact congrArg (fun w => stR _ _ _ _ (bu w x3 x4 _)) (funext fun k => ld3 x0 b k)

/-- The block of result 2 of the call: four steps from the given state. -/
theorem out11_apply (b : Fin 128) (q : Fin 2048) : (out1_11 x0 x1 x2 x3 x4 x5 x6 x7 x8 (ix2 b q) : EReal)
    = runI (x5 (ix2 0 q)) (x5 (ix2 1 q)) (x1 (ix2 b q)) (x2 (ix2 b q)) (pR x0 x3 x4 b q) (pI x0 x3 x4 b q) := by
  frame_out
  rw [st46, pay44 _ _ _ _ rfl, pay52_apply, pay53_apply, pay66_apply, pay67_apply]
  exact congrArg (fun w => stI _ _ _ _ (bu w x3 x4 _)) (funext fun k => ld3 x0 b k)

end Cert.RecIdeal.Val
-- ==== Proof.RecValue.lean ====
module

public import proofs.«01_k».proof.Proof.RecProj
public import proofs.«01_k».proof.Proof.RecOut

@[expose] public section

set_option maxRecDepth 16384

noncomputable section

open Idealize.ShloMosaic Idealize.ShloMosaic.TcCoe Idealize.SL.Sem
open Idealize.ShloMosaic.Pipeline (Dat)

namespace Cert.RecIdeal.Val
open Cert.RecIdeal Cert.RecIdeal.Gen Cert.Route Cert.MixIdeal.Val Cert.Rec
open Cert.RecRefIdeal.Read

variable (m : (ℓ : Loc nD τ sig) → Buf (Elt Ideal) ℓ) (ρ : Dev nD → PrngReg)

/-! The kernel's blocks entry by entry, the block-diagonal product, and the two states. -/

theorem v87_eq (c : Dev nD) : V1 m ρ c main_v87 = truncf (F := Ideal) .bf16 (bbig (val_main_v37 (F := Ideal) (m ((c : Thread nD τ).loc main_arg4)) (m ((c : Thread nD τ).loc main_arg5)) (m ((c : Thread nD τ).loc main_arg6)) (m ((c : Thread nD τ).loc main_arg7)) (m ((c : Thread nD τ).loc main_arg8))) (val_main_v46 (F := Ideal) (m ((c : Thread nD τ).loc main_arg4)) (m ((c : Thread nD τ).loc main_arg5)) (m ((c : Thread nD τ).loc main_arg6)) (m ((c : Thread nD τ).loc main_arg7)) (m ((c : Thread nD τ).loc main_arg8)))) bitsLt_bf16_f32 := by
  show StableHlo.after hostOps0 (W0 m ρ c) _ = _
  unfold hostOps0
  after_results_loop
  first | done | rfl

theorem v90_eq (c : Dev nD) : V1 m ρ c main_v90 = truncf (F := Ideal) .bf16 (subf (bbig (val_main_v37 (F := Ideal) (m ((c : Thread nD τ).loc main_arg4)) (m ((c : Thread nD τ).loc main_arg5)) (m ((c : Thread nD τ).loc main_arg6)) (m ((c : Thread nD τ).loc main_arg7)) (m ((c : Thread nD τ).loc main_arg8))) (val_main_v46 (F := Ideal) (m ((c : Thread nD τ).loc main_arg4)) (m ((c : Thread nD τ).loc main_arg5)) (m ((c : Thread nD τ).loc main_arg6)) (m ((c : Thread nD τ).loc main_arg7)) (m ((c : Thread nD τ).loc main_arg8)))) (extf (F := Ideal) .f32 (truncf (F := Ideal) .bf16 (bbig (val_main_v37 (F := Ideal) (m ((c : Thread nD τ).loc main_arg4)) (m ((c : Thread nD τ).loc main_arg5)) (m ((c : Thread nD τ).loc main_arg6)) (m ((c : Thread nD τ).loc main_arg7)) (m ((c : Thread nD τ).loc main_arg8))) (val_main_v46 (F := Ideal) (m ((c : Thread nD τ).loc main_arg4)) (m ((c : Thread nD τ).loc main_arg5)) (m ((c : Thread nD τ).loc main_arg6)) (m ((c : Thread nD τ).loc main_arg7)) (m ((c : Thread nD τ).loc main_arg8)))) bitsLt_bf16_f32) bitsLt_bf16_f32)) bitsLt_bf16_f32 := by
  show StableHlo.after hostOps0 (W0 m ρ c) _ = _
  unfold hostOps0
  after_results_loop
  first | done | rfl

theorem v86_eq (c : Dev nD) : V1 m ρ c main_v86 = concatenate S2x2048 0 [⟨S1x2048, (shapeCast S1x2048 (val_main_v11 (F := Ideal) (m ((c : Thread nD τ).loc main_arg4)) (m ((c : Thread nD τ).loc main_arg5)) (m ((c : Thread nD τ).loc main_arg6))) shapeCasts_S32x64_S1x2048 : FVec Ideal S1x2048 .f32)⟩, ⟨S1x2048, (shapeCast S1x2048 (val_main_v15 (F := Ideal) (m ((c : Thread nD τ).loc main_arg4)) (m ((c : Thread nD τ).loc main_arg5)) (m ((c : Thread nD τ).loc main_arg6))) shapeCasts_S32x64_S1x2048 : FVec Ideal S1x2048 .f32)⟩] concatenates_S1x2048_S1x2048_S2x2048_d0 := by
  show StableHlo.after hostOps0 (W0 m ρ c) _ = _
  unfold hostOps0
  after_results_loop
  first | done | rfl

theorem bbig_lo (y z : FVec Ideal S32x64x16 .f32) (i : Fin 512) (q : Fin 2048) : bbig y z (ix2 i ⟨0 + q.val, by omega⟩) = bmat y (ix2 i q) := by
  unfold bbig
  generalize bmat y = u
  generalize bmat z = v
  pointwise
  first | done | (rw [dif_pos (by omega)]; try (exact congrArg (fun r => u (ix2 i r)) (Fin.ext (by dsimp only; omega))))

theorem bbig_hi (y z : FVec Ideal S32x64x16 .f32) (i : Fin 512) (q : Fin 2048) : bbig y z (ix2 i ⟨2048 + q.val, by omega⟩) = bmat z (ix2 i q) := by
  unfold bbig
  generalize bmat y = u
  generalize bmat z = v
  pointwise
  first | done | (rw [dif_neg (by omega)]; try (exact congrArg (fun r => v (ix2 i r)) (Fin.ext (by dsimp only; omega))))

theorem idx : ∀ t : Fin cfg1.N, win1_0.index t = ![0, 0, 0] ∧ win1_1.index t = ![0, 0] ∧ win1_2.index t = ![0, 0] ∧ win1_3.index t = ![0, 0] ∧ win1_4.index t = ![0, 0] ∧ win1_5.index t = ![0, 0] ∧ win1_10.index t = ![0, 0] ∧ win1_11.index t = ![0, 0] :=
  (by decide +kernel : ∀ t : Fin grid1.N, _)

/-- A row of the first call's array is the reference's product of that token. -/
theorem proj_ref (x : FVec Ideal S128x4x1024 .f32) (w : FVec Ideal S1x1024x4420 .f32) (b : Fin 128) (s : Fin 4) (k : Fin 512) :
    proj x w (ix2 ⟨b.val * 4 + s.val, by omega⟩ k) = val_main_v48 (F := Ideal) x w (ix3 b s ⟨k.val, by omega⟩) := by
  rw [proj_apply, Cert.RecRefIdeal.Val.ref48]
  unfold Z
  have hb : (⟨(b.val * 4 + s.val) / 4, by omega⟩ : Fin 128) = b := Fin.ext (by dsimp only; omega)
  have hs : (⟨(b.val * 4 + s.val) % 4, by omega⟩ : Fin 4) = s := Fin.ext (by dsimp only; omega)
  have hk : (⟨0 + k.val, by omega⟩ : Fin 4420) = ⟨k.val, by omega⟩ := Fin.ext (by dsimp only; omega)
  refine Finset.sum_congr rfl fun q _ => ?_
  dsimp only
  rw [hb, hs, hk]

theorem blk0 (c : Dev nD) (t : Fin cfg1.N) (s : Fin 4) (b : Fin 128) (k : Fin 512) :
    iblk1 (V3 m ρ) c 0 t (ix3 s b k) = (val_main_v48 (F := Ideal) (m ((c : Thread nD τ).loc main_arg0)) (m ((c : Thread nD τ).loc main_arg1))) (ix3 b s ⟨k.val, by omega⟩) := by
  have e : ((View.whole main_v105).slice (win1_0.rect t)).emb (ix3 s b k) = ix3 s b k := by
    blk_ext [idx t]
  have h : ∀ y : FVec Ideal S512x512 .f32, transpose S4x128x512 [1, 0, 2] (shapeCast S128x4x512 y shapeCasts_S512x512_S128x4x512) transposes_S128x4x512_S4x128x512_1_0_2 (ix3 s b k) = y (ix2 ⟨b.val * 4 + s.val, by omega⟩ k) := by
    intro y
    pointwise
  blk_simp [iblk1]
  rw [e, v105_eq m ρ c]
  exact (h _).trans (proj_ref _ _ b s k)

/-- A state's groups of 64 side by side. -/
theorem state_cols (x : FVec Ideal S1x128x32x64 .f32) (b : Fin 128) (g : Fin 32) (p : Fin 64) :
    (shapeCast S128x2048 (shapeCast S128x32x64 x shapeCasts_S1x128x32x64_S128x32x64 : FVec Ideal S128x32x64 .f32) shapeCasts_S128x32x64_S128x2048 : FVec Ideal S128x2048 .f32) (ix2 b ⟨64 * g.val + p.val, by omega⟩) = x (ix4 0 b g p) := by
  pointwise

theorem blk1 (c : Dev nD) (t : Fin cfg1.N) (b : Fin 128) (g : Fin 32) (p : Fin 64) :
    iblk1 (V3 m ρ) c 1 t (ix2 b ⟨64 * g.val + p.val, by omega⟩) = (m ((c : Thread nD τ).loc main_arg2)) (ix4 0 b g p) := by
  have e : ((View.whole main_v107).slice (win1_1.rect t)).emb (ix2 b ⟨64 * g.val + p.val, by omega⟩) = ix2 b ⟨64 * g.val + p.val, by omega⟩ := by
    blk_ext [idx t]
  blk_simp [iblk1]
  rw [e, v107_eq m ρ c]
  exact state_cols _ b g p

theorem blk2 (c : Dev nD) (t : Fin cfg1.N) (b : Fin 128) (g : Fin 32) (p : Fin 64) :
    iblk1 (V3 m ρ) c 2 t (ix2 b ⟨64 * g.val + p.val, by omega⟩) = (m ((c : Thread nD τ).loc main_arg3)) (ix4 0 b g p) := by
  have e : ((View.whole main_v109).slice (win1_2.rect t)).emb (ix2 b ⟨64 * g.val + p.val, by omega⟩) = ix2 b ⟨64 * g.val + p.val, by omega⟩ := by
    blk_ext [idx t]
  blk_simp [iblk1]
  rw [e, v109_eq m ρ c]
  exact state_cols _ b g p

theorem blk3 (c : Dev nD) (t : Fin cfg1.N) (i : Fin 512) (j : Fin 4096) :
    (iblk1 (V3 m ρ) c 3 t (ix2 i j) : EReal) = bbig (val_main_v37 (F := Ideal) (m ((c : Thread nD τ).loc main_arg4)) (m ((c : Thread nD τ).loc main_arg5)) (m ((c : Thread nD τ).loc main_arg6)) (m ((c : Thread nD τ).loc main_arg7)) (m ((c : Thread nD τ).loc main_arg8))) (val_main_v46 (F := Ideal) (m ((c : Thread nD τ).loc main_arg4)) (m ((c : Thread nD τ).loc main_arg5)) (m ((c : Thread nD τ).loc main_arg6)) (m ((c : Thread nD τ).loc main_arg7)) (m ((c : Thread nD τ).loc main_arg8))) (ix2 i j) := by
  have e : ((View.whole main_v87).slice (win1_3.rect t)).emb (ix2 i j) = ix2 i j := by
    blk_ext [idx t]
  blk_simp [iblk1]
  rw [e, V3_keep m ρ c main_v87 (by decide) (by decide), v87_eq m ρ c]
  rfl

theorem blk4 (c : Dev nD) (t : Fin cfg1.N) (i : Fin 512) (j : Fin 4096) :
    (iblk1 (V3 m ρ) c 4 t (ix2 i j) : EReal) = (bbig (val_main_v37 (F := Ideal) (m ((c : Thread nD τ).loc main_arg4)) (m ((c : Thread nD τ).loc main_arg5)) (m ((c : Thread nD τ).loc main_arg6)) (m ((c : Thread nD τ).loc main_arg7)) (m ((c : Thread nD τ).loc main_arg8))) (val_main_v46 (F := Ideal) (m ((c : Thread nD τ).loc main_arg4)) (m ((c : Thread nD τ).loc main_arg5)) (m ((c : Thread nD τ).loc main_arg6)) (m ((c : Thread nD τ).loc main_arg7)) (m ((c : Thread nD τ).loc main_arg8))) (ix2 i j) : EReal) - bbig (val_main_v37 (F := Ideal) (m ((c : Thread nD τ).loc main_arg4)) (m ((c : Thread nD τ).loc main_arg5)) (m ((c : Thread nD τ).loc main_arg6)) (m ((c : Thread nD τ).loc main_arg7)) (m ((c : Thread nD τ).loc main_arg8))) (val_main_v46 (F := Ideal) (m ((c : Thread nD τ).loc main_arg4)) (m ((c : Thread nD τ).loc main_arg5)) (m ((c : Thread nD τ).loc main_arg6)) (m ((c : Thread nD τ).loc main_arg7)) (m ((c : Thread nD τ).loc main_arg8))) (ix2 i j) := by
  have e : ((View.whole main_v90).slice (win1_4.rect t)).emb (ix2 i j) = ix2 i j := by
    blk_ext [idx t]
  blk_simp [iblk1]
  rw [e, V3_keep m ρ c main_v90 (by decide) (by decide), v90_eq m ρ c]
  rfl

theorem blk5a (c : Dev nD) (t : Fin cfg1.N) (g : Fin 32) (p : Fin 64) :
    iblk1 (V3 m ρ) c 5 t (ix2 0 ⟨64 * g.val + p.val, by omega⟩) = val_main_v11 (F := Ideal) (m ((c : Thread nD τ).loc main_arg4)) (m ((c : Thread nD τ).loc main_arg5)) (m ((c : Thread nD τ).loc main_arg6)) (ix2 g p) := by
  have e : ((View.whole main_v86).slice (win1_5.rect t)).emb (ix2 0 ⟨64 * g.val + p.val, by omega⟩) = ix2 0 ⟨64 * g.val + p.val, by omega⟩ := by
    blk_ext [idx t]
  blk_simp [iblk1]
  rw [e, V3_keep m ρ c main_v86 (by decide) (by decide), v86_eq m ρ c]
  generalize val_main_v11 (F := Ideal) (m ((c : Thread nD τ).loc main_arg4)) (m ((c : Thread nD τ).loc main_arg5)) (m ((c : Thread nD τ).loc main_arg6)) = u
  generalize val_main_v15 (F := Ideal) (m ((c : Thread nD τ).loc main_arg4)) (m ((c : Thread nD τ).loc main_arg5)) (m ((c : Thread nD τ).loc main_arg6)) = v
  pointwise

theorem blk5b (c : Dev nD) (t : Fin cfg1.N) (g : Fin 32) (p : Fin 64) :
    iblk1 (V3 m ρ) c 5 t (ix2 1 ⟨64 * g.val + p.val, by omega⟩) = val_main_v15 (F := Ideal) (m ((c : Thread nD τ).loc main_arg4)) (m ((c : Thread nD τ).loc main_arg5)) (m ((c : Thread nD τ).loc main_arg6)) (ix2 g p) := by
  have e : ((View.whole main_v86).slice (win1_5.rect t)).emb (ix2 1 ⟨64 * g.val + p.val, by omega⟩) = ix2 1 ⟨64 * g.val + p.val, by omega⟩ := by
    blk_ext [idx t]
  blk_simp [iblk1]
  rw [e, V3_keep m ρ c main_v86 (by decide) (by decide), v86_eq m ρ c]
  generalize val_main_v11 (F := Ideal) (m ((c : Thread nD τ).loc main_arg4)) (m ((c : Thread nD τ).loc main_arg5)) (m ((c : Thread nD τ).loc main_arg6)) = u
  generalize val_main_v15 (F := Ideal) (m ((c : Thread nD τ).loc main_arg4)) (m ((c : Thread nD τ).loc main_arg5)) (m ((c : Thread nD τ).loc main_arg6)) = v
  pointwise

theorem self_sub {x : EReal} (h : Fin1 x) : x - x = 0 := by
  obtain ⟨a, rfl⟩ := fin_real h
  rw [← EReal.coe_sub, sub_self]; rfl

theorem sum_block (f : Fin 512 → EReal) (w : Fin 32 → Fin 16 → EReal) (g : Fin 32)
    (hf : ∀ (g' : Fin 32) (k : Fin 16), f ⟨g'.val * 16 + k.val, by omega⟩ = w g' k * (if g' = g then 1 else 0)) : ∑ i, f i = ∑ k, w g k := by
  have h1 : ∑ i, f i = ∑ x : Fin 32 × Fin 16, f ⟨x.1.val * 16 + x.2.val, by have := x.1.isLt; have := x.2.isLt; omega⟩ := by
    refine (Equiv.sum_comp (finProdFinEquiv (m := 32) (n := 16)) f).symm.trans (Finset.sum_congr rfl fun x _ => congrArg f (Fin.ext ?_))
    show x.2.val + 16 * x.1.val = x.1.val * 16 + x.2.val
    omega
  rw [h1, Fintype.sum_prod_type]
  simp only [hf]
  rw [Finset.sum_eq_single g]
  · exact Finset.sum_congr rfl fun k _ => by rw [if_pos rfl, mul_one]
  · intro g' _ hne
    exact Finset.sum_eq_zero fun k _ => by rw [if_neg hne, mul_zero]
  · intro h; exact absurd (Finset.mem_univ g) h

/-- A step's input against the block-diagonal weights: the sixteen terms of its own group. -/
theorem bu_block (u : Fin 512 → EReal) (x3 x4 : Vec Ideal S512x4096 .bf16) (j : Fin 4096) (w : Fin 32 → Fin 16 → EReal) (g : Fin 32)
    (hu : ∀ i, Fin1 (u i)) (hx : ∀ i, Fin1 (x3 (ix2 i j)))
    (h3 : ∀ (g' : Fin 32) (k : Fin 16), (x3 (ix2 ⟨g'.val * 16 + k.val, by omega⟩ j) : EReal) = w g' k * (if g' = g then 1 else 0))
    (h4 : ∀ i, (x4 (ix2 i j) : EReal) = (x3 (ix2 i j) : EReal) - (x3 (ix2 i j) : EReal)) :
    bu u x3 x4 j = ∑ k : Fin 16, u ⟨g.val * 16 + k.val, by omega⟩ * w g k := by
  unfold bu
  rw [Finset.sum_eq_zero (f := fun k => (u k - u k) * (x3 (ix2 k j) : EReal)) (fun k _ => by rw [self_sub (hu k), zero_mul]),
    Finset.sum_eq_zero (f := fun k => u k * (x4 (ix2 k j) : EReal)) (fun k _ => by rw [h4, self_sub (hx k), mul_zero]), add_zero, add_zero]
  exact sum_block (fun i => u i * (x3 (ix2 i j) : EReal)) (fun g' k => u ⟨g'.val * 16 + k.val, by omega⟩ * w g' k) g
    (fun g' k => by show u _ * (x3 _ : EReal) = _; rw [h3, mul_assoc])

section
variable (c : Dev nD) (t : Fin cfg1.N)
  (f0 : ∀ i, Fin1 ((m ((c : Thread nD τ).loc main_arg0)) i)) (f1 : ∀ i, Fin1 ((m ((c : Thread nD τ).loc main_arg1)) i))

include f0 f1

theorem pR_eq (hy : ∀ g p k, Fin1 ((val_main_v37 (F := Ideal) (m ((c : Thread nD τ).loc main_arg4)) (m ((c : Thread nD τ).loc main_arg5)) (m ((c : Thread nD τ).loc main_arg6)) (m ((c : Thread nD τ).loc main_arg7)) (m ((c : Thread nD τ).loc main_arg8))) (ix3 g p k))) (b : Fin 128) (g : Fin 32) (p : Fin 64) (s : Fin 4) :
    pR (iblk1 (V3 m ρ) c 0 t) (iblk1 (V3 m ρ) c 3 t) (iblk1 (V3 m ρ) c 4 t) b ⟨64 * g.val + p.val, by omega⟩ s = val_main_v52 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (ix4 b s g p) := by
  have hb : ∀ (g' : Fin 32) (k : Fin 16), (iblk1 (V3 m ρ) c 3 t (ix2 ⟨g'.val * 16 + k.val, by omega⟩ ⟨0 + (64 * g.val + p.val), by omega⟩) : EReal) = (val_main_v37 (F := Ideal) (m ((c : Thread nD τ).loc main_arg4)) (m ((c : Thread nD τ).loc main_arg5)) (m ((c : Thread nD τ).loc main_arg6)) (m ((c : Thread nD τ).loc main_arg7)) (m ((c : Thread nD τ).loc main_arg8))) (ix3 g' p k) * (if g' = g then 1 else 0) := by
    intro g' k
    rw [blk3 m ρ c t]
    exact (bbig_lo _ _ _ ⟨64 * g.val + p.val, by omega⟩).trans (bmat_apply _ g' k g p)
  unfold pR
  rw [bu_block (fun k => iblk1 (V3 m ρ) c 0 t (ix3 s b k)) (iblk1 (V3 m ρ) c 3 t) (iblk1 (V3 m ρ) c 4 t) _ (fun g' k => (val_main_v37 (F := Ideal) (m ((c : Thread nD τ).loc main_arg4)) (m ((c : Thread nD τ).loc main_arg5)) (m ((c : Thread nD τ).loc main_arg6)) (m ((c : Thread nD τ).loc main_arg7)) (m ((c : Thread nD τ).loc main_arg8))) (ix3 g' p k)) g
    (fun i => by rw [blk0 m ρ c t]; exact Cert.RecRefIdeal.Val.fin_v48 f0 f1 _ _ _) ?_ hb (fun i => by rw [blk4 m ρ c t, blk3 m ρ c t]), Cert.RecRefIdeal.Val.ref52]
  · exact Finset.sum_congr rfl fun k _ => by rw [blk0 m ρ c t]
  · intro i
    have e := hb ⟨i.val / 16, by omega⟩ ⟨i.val % 16, by omega⟩
    have hi : (⟨(⟨i.val / 16, by omega⟩ : Fin 32).val * 16 + (⟨i.val % 16, by omega⟩ : Fin 16).val, by have := i.isLt; dsimp only; omega⟩ : Fin 512) = i := Fin.ext (by dsimp only; omega)
    rw [hi] at e
    rw [e]
    exact fin_mul (hy _ _ _) (by split <;> [exact fin_coe 1; exact fin_coe 0])

theorem pI_eq (hy : ∀ g p k, Fin1 ((val_main_v46 (F := Ideal) (m ((c : Thread nD τ).loc main_arg4)) (m ((c : Thread nD τ).loc main_arg5)) (m ((c : Thread nD τ).loc main_arg6)) (m ((c : Thread nD τ).loc main_arg7)) (m ((c : Thread nD τ).loc main_arg8))) (ix3 g p k))) (b : Fin 128) (g : Fin 32) (p : Fin 64) (s : Fin 4) :
    pI (iblk1 (V3 m ρ) c 0 t) (iblk1 (V3 m ρ) c 3 t) (iblk1 (V3 m ρ) c 4 t) b ⟨64 * g.val + p.val, by omega⟩ s = val_main_v54 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (ix4 b s g p) := by
  have hb : ∀ (g' : Fin 32) (k : Fin 16), (iblk1 (V3 m ρ) c 3 t (ix2 ⟨g'.val * 16 + k.val, by omega⟩ ⟨2048 + (64 * g.val + p.val), by omega⟩) : EReal) = (val_main_v46 (F := Ideal) (m ((c : Thread nD τ).loc main_arg4)) (m ((c : Thread nD τ).loc main_arg5)) (m ((c : Thread nD τ).loc main_arg6)) (m ((c : Thread nD τ).loc main_arg7)) (m ((c : Thread nD τ).loc main_arg8))) (ix3 g' p k) * (if g' = g then 1 else 0) := by
    intro g' k
    rw [blk3 m ρ c t]
    exact (bbig_hi _ _ _ ⟨64 * g.val + p.val, by omega⟩).trans (bmat_apply _ g' k g p)
  unfold pI
  rw [bu_block (fun k => iblk1 (V3 m ρ) c 0 t (ix3 s b k)) (iblk1 (V3 m ρ) c 3 t) (iblk1 (V3 m ρ) c 4 t) _ (fun g' k => (val_main_v46 (F := Ideal) (m ((c : Thread nD τ).loc main_arg4)) (m ((c : Thread nD τ).loc main_arg5)) (m ((c : Thread nD τ).loc main_arg6)) (m ((c : Thread nD τ).loc main_arg7)) (m ((c : Thread nD τ).loc main_arg8))) (ix3 g' p k)) g
    (fun i => by rw [blk0 m ρ c t]; exact Cert.RecRefIdeal.Val.fin_v48 f0 f1 _ _ _) ?_ hb (fun i => by rw [blk4 m ρ c t, blk3 m ρ c t]), Cert.RecRefIdeal.Val.ref54]
  · exact Finset.sum_congr rfl fun k _ => by rw [blk0 m ρ c t]
  · intro i
    have e := hb ⟨i.val / 16, by omega⟩ ⟨i.val % 16, by omega⟩
    have hi : (⟨(⟨i.val / 16, by omega⟩ : Fin 32).val * 16 + (⟨i.val % 16, by omega⟩ : Fin 16).val, by have := i.isLt; dsimp only; omega⟩ : Fin 512) = i := Fin.ext (by dsimp only; omega)
    rw [hi] at e
    rw [e]
    exact fin_mul (hy _ _ _) (by split <;> [exact fin_coe 1; exact fin_coe 0])

end

theorem col (q : Fin 2048) : ∃ (g : Fin 32) (p : Fin 64), q = ⟨64 * g.val + p.val, by omega⟩ :=
  ⟨⟨q.val / 64, by omega⟩, ⟨q.val % 64, by omega⟩, Fin.ext (by dsimp only; omega)⟩

theorem emb10 (t : Fin cfg1.N) (r : Fin 128) (j : Fin 2048) :
    ((View.whole main_v110_1).slice (win1_10.rect t)).emb (ix2 r j) = ix2 r j := by
  blk_ext [idx t]

/-- Result 1 of the call is the reference's last state. -/
theorem final10 [Cert.Pre_finite_recurrence.Facts] (c : Dev nD)
    (hpre : Cert.Pre_finite_recurrence.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) = fun _ => 1#1) :
    (dat1 (V3 m ρ) c).arrAt 10 cfg1.N = val_main_v207 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨f0, f1, f2, f3, f4, f5, f6, f7, f8, hp⟩ := args_fin _ _ _ _ _ _ _ _ _ _ _ _ _ hpre
  refine (dat1 (V3 m ρ) c).arrAt_eq_of_covers 10 _ (by decide +kernel) fun t hf y => ?_
  blk_simp
  rw [after1_10]
  idx_vars y
  obtain ⟨g, p, rfl⟩ := col y1
  rw [emb10 t y0 _, Cert.RecRefIdeal.Val.ref207]
  have hR : pR (iblk1 (V3 m ρ) c 0 t) (iblk1 (V3 m ρ) c 3 t) (iblk1 (V3 m ρ) c 4 t) y0 ⟨64 * g.val + p.val, by omega⟩ = fun s => val_main_v52 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (ix4 y0 s g p) :=
    funext fun s => pR_eq m ρ c t f0 f1 (fun g p k => Cert.RecRefIdeal.Val.fin_v37 f4 f5 f6 hp f7 f8 g p k) y0 g p s
  have hI : pI (iblk1 (V3 m ρ) c 0 t) (iblk1 (V3 m ρ) c 3 t) (iblk1 (V3 m ρ) c 4 t) y0 ⟨64 * g.val + p.val, by omega⟩ = fun s => val_main_v54 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (ix4 y0 s g p) :=
    funext fun s => pI_eq m ρ c t f0 f1 (fun g p k => Cert.RecRefIdeal.Val.fin_v46 f4 f5 f6 hp f7 f8 g p k) y0 g p s
  rw [out10_apply, hR, hI, blk5a m ρ c t, blk5b m ρ c t, blk1 m ρ c t, blk2 m ρ c t]
  exact run_scR (Cert.RecRefIdeal.Val.fin_v11 f4 f5 f6 g p) (Cert.RecRefIdeal.Val.fin_v15 f4 f5 f6 g p) (f2 _) (f3 _)
    (fun s => Cert.RecRefIdeal.Val.fin_v52 f4 f5 f6 hp f7 f8 f0 f1 y0 s g p) (fun s => Cert.RecRefIdeal.Val.fin_v54 f4 f5 f6 hp f7 f8 f0 f1 y0 s g p)

theorem emb11 (t : Fin cfg1.N) (r : Fin 128) (j : Fin 2048) :
    ((View.whole main_v110_2).slice (win1_11.rect t)).emb (ix2 r j) = ix2 r j := by
  blk_ext [idx t]

/-- Result 2 of the call is the reference's last state. -/
theorem final11 [Cert.Pre_finite_recurrence.Facts] (c : Dev nD)
    (hpre : Cert.Pre_finite_recurrence.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) = fun _ => 1#1) :
    (dat1 (V3 m ρ) c).arrAt 11 cfg1.N = val_main_v210 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨f0, f1, f2, f3, f4, f5, f6, f7, f8, hp⟩ := args_fin _ _ _ _ _ _ _ _ _ _ _ _ _ hpre
  refine (dat1 (V3 m ρ) c).arrAt_eq_of_covers 11 _ (by decide +kernel) fun t hf y => ?_
  blk_simp
  rw [after1_11]
  idx_vars y
  obtain ⟨g, p, rfl⟩ := col y1
  rw [emb11 t y0 _, Cert.RecRefIdeal.Val.ref210]
  have hR : pR (iblk1 (V3 m ρ) c 0 t) (iblk1 (V3 m ρ) c 3 t) (iblk1 (V3 m ρ) c 4 t) y0 ⟨64 * g.val + p.val, by omega⟩ = fun s => val_main_v52 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (ix4 y0 s g p) :=
    funext fun s => pR_eq m ρ c t f0 f1 (fun g p k => Cert.RecRefIdeal.Val.fin_v37 f4 f5 f6 hp f7 f8 g p k) y0 g p s
  have hI : pI (iblk1 (V3 m ρ) c 0 t) (iblk1 (V3 m ρ) c 3 t) (iblk1 (V3 m ρ) c 4 t) y0 ⟨64 * g.val + p.val, by omega⟩ = fun s => val_main_v54 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (ix4 y0 s g p) :=
    funext fun s => pI_eq m ρ c t f0 f1 (fun g p k => Cert.RecRefIdeal.Val.fin_v46 f4 f5 f6 hp f7 f8 g p k) y0 g p s
  rw [out11_apply, hR, hI, blk5a m ρ c t, blk5b m ρ c t, blk1 m ρ c t, blk2 m ρ c t]
  exact run_scI (Cert.RecRefIdeal.Val.fin_v11 f4 f5 f6 g p) (Cert.RecRefIdeal.Val.fin_v15 f4 f5 f6 g p) (f2 _) (f3 _)
    (fun s => Cert.RecRefIdeal.Val.fin_v52 f4 f5 f6 hp f7 f8 f0 f1 y0 s g p) (fun s => Cert.RecRefIdeal.Val.fin_v54 f4 f5 f6 hp f7 f8 f0 f1 y0 s g p)

end Cert.RecIdeal.Val
-- ==== Proof.RecRun.lean ====
module

public import proofs.«01_k».proof.Proof.RecValue

@[expose] public section

set_option maxRecDepth 16384

noncomputable section

namespace Cert.RecIdeal.Val

open Cert.RecIdeal Cert.RecIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The algebra of the joined program's states. -/
abbrev Alg := MT nD τ sig Unit (Elt Ideal) ℕ (UR sig nD τ) ℕ

/-! The joined program's run: both calls end, and every array is left at the contents after the second call. -/

set_option backward.isDefEq.respectTransparency.types false in
/-- Every array of the program ends at what the chain of its parts leaves there. -/
theorem run_arrays : θ_run defs (onTc (τ := τ) (main (F := Ideal))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Alg)
            ⊢ BI.own (emb₁ (initOf (Pipeline.cells cfgs cellOf_inj) (Pipeline.launchToks cfgs cellOf_inj))) from .rfl)
        iexact Hu
      iapply (show (BI.emp : sProp Alg) ⊢ bigSep Finset.univ (fun _ : Dev nD => (BI.emp : sProp Alg)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

/-- The two results of the program are what the second call leaves in its two state arrays. -/
theorem run_results : θ_run defs (onTc (τ := τ) (main (F := Ideal))) ⟨m, fun _ => 0, ρ⟩ (fun r => ∀ c : Dev nD,
    r.2.mem ((c.tc : Thread nD τ).loc main_v110_1) = (dat1 (V3 m ρ) c).arrAt 10 cfg1.N
    ∧ r.2.mem ((c.tc : Thread nD τ).loc main_v110_2) = (dat1 (V3 m ρ) c).arrAt 11 cfg1.N) :=
  (θ_run defs _ _).mono (fun r h c => ⟨(h c _ (mem_uc main_v110_1 (by decide))).trans (W4_arr m ρ c 10),
    (h c _ (mem_uc main_v110_2 (by decide))).trans (W4_arr m ρ c 11)⟩) (run_arrays m ρ)

end Cert.RecIdeal.Val
-- ==== Proof.lean ====
module

public import proofs.«01_k».proof.Defs
public import proofs.«01_k».proof.Proof.Gen.Moe.Frame
public import proofs.«01_k».proof.Proof.MoeValue
public import proofs.«01_k».proof.Proof.Gen.InP.Frame
public import proofs.«01_k».proof.Proof.InPFinal
public import proofs.«01_k».proof.Proof.Gen.InS.Frame
public import proofs.«01_k».proof.Proof.InSValue
public import proofs.«01_k».proof.Proof.Gen.Mix.Frame
public import proofs.«01_k».proof.Proof.Gen.MixIdeal.Frame
public import proofs.«01_k».proof.Proof.Gen.MixRefIdeal.Read
public import proofs.«01_k».proof.Proof.MixFinal
public import proofs.«01_k».proof.Proof.MixPre
public import proofs.«01_k».proof.Proof.Gen.Rec.Frame
public import proofs.«01_k».proof.Proof.RecRun
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

theorem moe_algebraic : Cert.algebraic_MoeIdeal_MoeRefIdeal := by
  pair_intro
  · run_from Cert.MoeIdeal.Gen.run_main m g
  · run_from Cert.MoeRefIdeal.Value.run m' g'
    obtain ⟨a0, a1, a2, a3, a4, a5, a6⟩ := hagree c
    rw [Cert.MoeRefIdeal.Read.val_main_v44_eq m' c, a0, a1, a2, a3, a4, a5, a6]
    exact (Cert.MoeIdeal.Val.final m c).symm

/-- The reference's frame: it keeps no semaphore at all, so every counter reads zero. -/
theorem moeRef_frame : Cert.quiescent_MoeRefIdeal := fun m g _ =>
  (θ_run Cert.MoeRefIdeal.defs _ _).mono (fun r h => ⟨fun c => (h c).2, sem_eq_zero_of_no_sems (by decide) r.2⟩)
    (Cert.MoeRefIdeal.Value.run m g)

/-- The call's run, each result at the reference's term over the call's arguments. -/
theorem inp_run (m : (ℓ : Loc Cert.InPIdeal.nD Cert.InPIdeal.τ Cert.InPIdeal.sig) → Buf (Elt Ideal) ℓ) (g : Dev Cert.InPIdeal.nD → PrngReg) :
    θ_run (Cert.InPIdeal.defs (F := Ideal)) (onTc (τ := Cert.InPIdeal.τ) (Cert.InPIdeal.main (F := Ideal))) ⟨m, fun _ => 0, g⟩ (fun r => ∀ c : Dev Cert.InPIdeal.nD,
      r.2.mem ((c.tc : Thread Cert.InPIdeal.nD Cert.InPIdeal.τ).loc Cert.InPIdeal.main_v9_0) = Cert.InPRefIdeal.Read.val_main_v22 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg2))
      ∧ r.2.mem ((c.tc : Thread Cert.InPIdeal.nD Cert.InPIdeal.τ).loc Cert.InPIdeal.main_v9_1) = Cert.InPRefIdeal.Read.val_main_v24 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg2))
      ∧ r.2.mem ((c.tc : Thread Cert.InPIdeal.nD Cert.InPIdeal.τ).loc Cert.InPIdeal.main_v9_2) = Cert.InPRefIdeal.Read.val_main_v26 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg2))
      ∧ r.2.mem ((c.tc : Thread Cert.InPIdeal.nD Cert.InPIdeal.τ).loc Cert.InPIdeal.main_v9_3) = Cert.InPRefIdeal.Read.val_main_v28 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg2))
      ∧ r.2.mem ((c.tc : Thread Cert.InPIdeal.nD Cert.InPIdeal.τ).loc Cert.InPIdeal.main_v9_4) = Cert.InPRefIdeal.Read.val_main_v30 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg2))
      ∧ r.2.mem ((c.tc : Thread Cert.InPIdeal.nD Cert.InPIdeal.τ).loc Cert.InPIdeal.main_v9_5) = Cert.InPRefIdeal.Read.val_main_v32 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg2))
      ∧ r.2.mem ((c.tc : Thread Cert.InPIdeal.nD Cert.InPIdeal.τ).loc Cert.InPIdeal.main_v9_6) = Cert.InPRefIdeal.Read.val_main_v34 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg2))
      ∧ r.2.mem ((c.tc : Thread Cert.InPIdeal.nD Cert.InPIdeal.τ).loc Cert.InPIdeal.main_v9_7) = Cert.InPRefIdeal.Read.val_main_v36 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg2))
      ∧ r.2.mem ((c.tc : Thread Cert.InPIdeal.nD Cert.InPIdeal.τ).loc Cert.InPIdeal.main_v9_8) = Cert.InPRefIdeal.Read.val_main_v38 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg2))
      ∧ r.2.mem ((c.tc : Thread Cert.InPIdeal.nD Cert.InPIdeal.τ).loc Cert.InPIdeal.main_v9_9) = Cert.InPRefIdeal.Read.val_main_v40 (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg2))
      ∧ r.2.mem ((c.tc : Thread Cert.InPIdeal.nD Cert.InPIdeal.τ).loc Cert.InPIdeal.main_arg0) = m ((c.tc : Thread Cert.InPIdeal.nD Cert.InPIdeal.τ).loc Cert.InPIdeal.main_arg0)
      ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
      ∧ r.2.mem ((c.tc : Thread Cert.InPIdeal.nD Cert.InPIdeal.τ).loc Cert.InPIdeal.main_arg2) = m ((c.tc : Thread Cert.InPIdeal.nD Cert.InPIdeal.τ).loc Cert.InPIdeal.main_arg2)) :=
  (θ_run Cert.InPIdeal.defs _ _).mono (fun r h c => ⟨((h.1 c).1 3).trans (Cert.InPIdeal.Val.final3 m c),
      ((h.1 c).1 4).trans (Cert.InPIdeal.Val.final4 m c),
      ((h.1 c).1 5).trans (Cert.InPIdeal.Val.final5 m c),
      ((h.1 c).1 6).trans (Cert.InPIdeal.Val.final6 m c),
      ((h.1 c).1 7).trans (Cert.InPIdeal.Val.final7 m c),
      ((h.1 c).1 8).trans (Cert.InPIdeal.Val.final8 m c),
      ((h.1 c).1 9).trans (Cert.InPIdeal.Val.final9 m c),
      ((h.1 c).1 10).trans (Cert.InPIdeal.Val.final10 m c),
      ((h.1 c).1 11).trans (Cert.InPIdeal.Val.final11 m c),
      ((h.1 c).1 12).trans (Cert.InPIdeal.Val.final12 m c), h.2 c⟩)
    (θ_run_and (Cert.InPIdeal.Gen.run_main m g) (Cert.InPIdeal.Gen.unchanged m g))

/-- The reference's run, each result at the stage that computes it. -/
theorem inpRef_run (m' : (ℓ : Loc Cert.InPRefIdeal.nD Cert.InPRefIdeal.τ Cert.InPRefIdeal.sig) → Buf (Elt Ideal) ℓ) (g' : Dev Cert.InPRefIdeal.nD → PrngReg) :
    θ_run (Cert.InPRefIdeal.defs (F := Ideal)) (onTc (τ := Cert.InPRefIdeal.τ) (Cert.InPRefIdeal.main (F := Ideal))) ⟨m', fun _ => 0, g'⟩ (fun r => ∀ c : Dev Cert.InPRefIdeal.nD,
      r.2.mem ((c.tc : Thread Cert.InPRefIdeal.nD Cert.InPRefIdeal.τ).loc Cert.InPRefIdeal.main_v22) = Cert.InPRefIdeal.Read.val_main_v22 (F := Ideal) (m' ((c.tc : Thread Cert.InPRefIdeal.nD Cert.InPRefIdeal.τ).loc Cert.InPRefIdeal.main_arg0)) (m' ((c.tc : Thread Cert.InPRefIdeal.nD Cert.InPRefIdeal.τ).loc Cert.InPRefIdeal.main_arg1)) (m' ((c.tc : Thread Cert.InPRefIdeal.nD Cert.InPRefIdeal.τ).loc Cert.InPRefIdeal.main_arg2))
      ∧ r.2.mem ((c.tc : Thread Cert.InPRefIdeal.nD Cert.InPRefIdeal.τ).loc Cert.InPRefIdeal.main_v24) = Cert.InPRefIdeal.Read.val_main_v24 (F := Ideal) (m' ((c.tc : Thread Cert.InPRefIdeal.nD Cert.InPRefIdeal.τ).loc Cert.InPRefIdeal.main_arg0)) (m' ((c.tc : Thread Cert.InPRefIdeal.nD Cert.InPRefIdeal.τ).loc Cert.InPRefIdeal.main_arg1)) (m' ((c.tc : Thread Cert.InPRefIdeal.nD Cert.InPRefIdeal.τ).loc Cert.InPRefIdeal.main_arg2))
      ∧ r.2.mem ((c.tc : Thread Cert.InPRefIdeal.nD Cert.InPRefIdeal.τ).loc Cert.InPRefIdeal.main_v26) = Cert.InPRefIdeal.Read.val_main_v26 (F := Ideal) (m' ((c.tc : Thread Cert.InPRefIdeal.nD Cert.InPRefIdeal.τ).loc Cert.InPRefIdeal.main_arg0)) (m' ((c.tc : Thread Cert.InPRefIdeal.nD Cert.InPRefIdeal.τ).loc Cert.InPRefIdeal.main_arg1)) (m' ((c.tc : Thread Cert.InPRefIdeal.nD Cert.InPRefIdeal.τ).loc Cert.InPRefIdeal.main_arg2))
      ∧ r.2.mem ((c.tc : Thread Cert.InPRefIdeal.nD Cert.InPRefIdeal.τ).loc Cert.InPRefIdeal.main_v28) = Cert.InPRefIdeal.Read.val_main_v28 (F := Ideal) (m' ((c.tc : Thread Cert.InPRefIdeal.nD Cert.InPRefIdeal.τ).loc Cert.InPRefIdeal.main_arg0)) (m' ((c.tc : Thread Cert.InPRefIdeal.nD Cert.InPRefIdeal.τ).loc Cert.InPRefIdeal.main_arg1)) (m' ((c.tc : Thread Cert.InPRefIdeal.nD Cert.InPRefIdeal.τ).loc Cert.InPRefIdeal.main_arg2))
      ∧ r.2.mem ((c.tc : Thread Cert.InPRefIdeal.nD Cert.InPRefIdeal.τ).loc Cert.InPRefIdeal.main_v30) = Cert.InPRefIdeal.Read.val_main_v30 (F := Ideal) (m' ((c.tc : Thread Cert.InPRefIdeal.nD Cert.InPRefIdeal.τ).loc Cert.InPRefIdeal.main_arg0)) (m' ((c.tc : Thread Cert.InPRefIdeal.nD Cert.InPRefIdeal.τ).loc Cert.InPRefIdeal.main_arg1)) (m' ((c.tc : Thread Cert.InPRefIdeal.nD Cert.InPRefIdeal.τ).loc Cert.InPRefIdeal.main_arg2))
      ∧ r.2.mem ((c.tc : Thread Cert.InPRefIdeal.nD Cert.InPRefIdeal.τ).loc Cert.InPRefIdeal.main_v32) = Cert.InPRefIdeal.Read.val_main_v32 (F := Ideal) (m' ((c.tc : Thread Cert.InPRefIdeal.nD Cert.InPRefIdeal.τ).loc Cert.InPRefIdeal.main_arg0)) (m' ((c.tc : Thread Cert.InPRefIdeal.nD Cert.InPRefIdeal.τ).loc Cert.InPRefIdeal.main_arg1)) (m' ((c.tc : Thread Cert.InPRefIdeal.nD Cert.InPRefIdeal.τ).loc Cert.InPRefIdeal.main_arg2))
      ∧ r.2.mem ((c.tc : Thread Cert.InPRefIdeal.nD Cert.InPRefIdeal.τ).loc Cert.InPRefIdeal.main_v34) = Cert.InPRefIdeal.Read.val_main_v34 (F := Ideal) (m' ((c.tc : Thread Cert.InPRefIdeal.nD Cert.InPRefIdeal.τ).loc Cert.InPRefIdeal.main_arg0)) (m' ((c.tc : Thread Cert.InPRefIdeal.nD Cert.InPRefIdeal.τ).loc Cert.InPRefIdeal.main_arg1)) (m' ((c.tc : Thread Cert.InPRefIdeal.nD Cert.InPRefIdeal.τ).loc Cert.InPRefIdeal.main_arg2))
      ∧ r.2.mem ((c.tc : Thread Cert.InPRefIdeal.nD Cert.InPRefIdeal.τ).loc Cert.InPRefIdeal.main_v36) = Cert.InPRefIdeal.Read.val_main_v36 (F := Ideal) (m' ((c.tc : Thread Cert.InPRefIdeal.nD Cert.InPRefIdeal.τ).loc Cert.InPRefIdeal.main_arg0)) (m' ((c.tc : Thread Cert.InPRefIdeal.nD Cert.InPRefIdeal.τ).loc Cert.InPRefIdeal.main_arg1)) (m' ((c.tc : Thread Cert.InPRefIdeal.nD Cert.InPRefIdeal.τ).loc Cert.InPRefIdeal.main_arg2))
      ∧ r.2.mem ((c.tc : Thread Cert.InPRefIdeal.nD Cert.InPRefIdeal.τ).loc Cert.InPRefIdeal.main_v38) = Cert.InPRefIdeal.Read.val_main_v38 (F := Ideal) (m' ((c.tc : Thread Cert.InPRefIdeal.nD Cert.InPRefIdeal.τ).loc Cert.InPRefIdeal.main_arg0)) (m' ((c.tc : Thread Cert.InPRefIdeal.nD Cert.InPRefIdeal.τ).loc Cert.InPRefIdeal.main_arg1)) (m' ((c.tc : Thread Cert.InPRefIdeal.nD Cert.InPRefIdeal.τ).loc Cert.InPRefIdeal.main_arg2))
      ∧ r.2.mem ((c.tc : Thread Cert.InPRefIdeal.nD Cert.InPRefIdeal.τ).loc Cert.InPRefIdeal.main_v40) = Cert.InPRefIdeal.Read.val_main_v40 (F := Ideal) (m' ((c.tc : Thread Cert.InPRefIdeal.nD Cert.InPRefIdeal.τ).loc Cert.InPRefIdeal.main_arg0)) (m' ((c.tc : Thread Cert.InPRefIdeal.nD Cert.InPRefIdeal.τ).loc Cert.InPRefIdeal.main_arg1)) (m' ((c.tc : Thread Cert.InPRefIdeal.nD Cert.InPRefIdeal.τ).loc Cert.InPRefIdeal.main_arg2))
      ∧ r.2.mem ((c.tc : Thread Cert.InPRefIdeal.nD Cert.InPRefIdeal.τ).loc Cert.InPRefIdeal.main_arg0) = m' ((c.tc : Thread Cert.InPRefIdeal.nD Cert.InPRefIdeal.τ).loc Cert.InPRefIdeal.main_arg0)
      ∧ r.2.mem ((c.tc : Thread Cert.InPRefIdeal.nD Cert.InPRefIdeal.τ).loc Cert.InPRefIdeal.main_arg1) = m' ((c.tc : Thread Cert.InPRefIdeal.nD Cert.InPRefIdeal.τ).loc Cert.InPRefIdeal.main_arg1)
      ∧ r.2.mem ((c.tc : Thread Cert.InPRefIdeal.nD Cert.InPRefIdeal.τ).loc Cert.InPRefIdeal.main_arg2) = m' ((c.tc : Thread Cert.InPRefIdeal.nD Cert.InPRefIdeal.τ).loc Cert.InPRefIdeal.main_arg2)) :=
  (θ_run Cert.InPRefIdeal.defs _ _).mono (fun r h c => ⟨(h c).1.trans (Cert.InPRefIdeal.Read.val_main_v22_eq _ _ _),
      (h c).2.1.trans (Cert.InPRefIdeal.Read.val_main_v24_eq _ _ _),
      (h c).2.2.1.trans (Cert.InPRefIdeal.Read.val_main_v26_eq _ _ _),
      (h c).2.2.2.1.trans (Cert.InPRefIdeal.Read.val_main_v28_eq _ _ _),
      (h c).2.2.2.2.1.trans (Cert.InPRefIdeal.Read.val_main_v30_eq _ _ _),
      (h c).2.2.2.2.2.1.trans (Cert.InPRefIdeal.Read.val_main_v32_eq _ _ _),
      (h c).2.2.2.2.2.2.1.trans (Cert.InPRefIdeal.Read.val_main_v34_eq _ _ _),
      (h c).2.2.2.2.2.2.2.1.trans (Cert.InPRefIdeal.Read.val_main_v36_eq _ _ _),
      (h c).2.2.2.2.2.2.2.2.1.trans (Cert.InPRefIdeal.Read.val_main_v38_eq _ _ _),
      (h c).2.2.2.2.2.2.2.2.2.1.trans (Cert.InPRefIdeal.Read.val_main_v40_eq _ _ _), (h c).2.2.2.2.2.2.2.2.2.2⟩)
    (Cert.InPRefIdeal.Value.run m' g')

theorem inp_algebraic : Cert.algebraic_InPIdeal_InPRefIdeal := by
  intro m g m' g' _ hagree
  refine ⟨_, _, _, _, _, _, _, _, _, _, inp_run m g, (θ_run Cert.InPRefIdeal.defs _ _).mono (fun r h c => ?_) (inpRef_run m' g')⟩
  have hc := h c
  obtain ⟨a0, a1, a2⟩ := hagree c
  rw [a0, a1, a2] at hc ⊢
  exact hc

/-- The reference's frame: it keeps no semaphore at all, so every counter reads zero. -/
theorem inpRef_frame : Cert.quiescent_InPRefIdeal := fun m g _ =>
  (θ_run Cert.InPRefIdeal.defs _ _).mono (fun r h => ⟨fun c => (h c).2.2.2.2.2.2.2.2.2.2, sem_eq_zero_of_no_sems (by decide) r.2⟩)
    (inpRef_run m g)

/-- The call's run, each result at the reference's term over the call's arguments. -/
theorem ins_run (m : (ℓ : Loc Cert.InSIdeal.nD Cert.InSIdeal.τ Cert.InSIdeal.sig) → Buf (Elt Ideal) ℓ) (g : Dev Cert.InSIdeal.nD → PrngReg) :
    θ_run (Cert.InSIdeal.defs (F := Ideal)) (onTc (τ := Cert.InSIdeal.τ) (Cert.InSIdeal.main (F := Ideal))) ⟨m, fun _ => 0, g⟩ (fun r => ∀ c : Dev Cert.InSIdeal.nD,
      r.2.mem ((c.tc : Thread Cert.InSIdeal.nD Cert.InSIdeal.τ).loc Cert.InSIdeal.main_v7_0) = Cert.InSRefIdeal.Read.val_main_v19 (F := Ideal) (m ((c.tc : Thread Cert.InSIdeal.nD Cert.InSIdeal.τ).loc Cert.InSIdeal.main_arg0)) (m ((c.tc : Thread Cert.InSIdeal.nD Cert.InSIdeal.τ).loc Cert.InSIdeal.main_arg1))
      ∧ r.2.mem ((c.tc : Thread Cert.InSIdeal.nD Cert.InSIdeal.τ).loc Cert.InSIdeal.main_v7_1) = Cert.InSRefIdeal.Read.val_main_v20 (F := Ideal) (m ((c.tc : Thread Cert.InSIdeal.nD Cert.InSIdeal.τ).loc Cert.InSIdeal.main_arg0)) (m ((c.tc : Thread Cert.InSIdeal.nD Cert.InSIdeal.τ).loc Cert.InSIdeal.main_arg1))
      ∧ r.2.mem ((c.tc : Thread Cert.InSIdeal.nD Cert.InSIdeal.τ).loc Cert.InSIdeal.main_v7_2) = Cert.InSRefIdeal.Read.val_main_v21 (F := Ideal) (m ((c.tc : Thread Cert.InSIdeal.nD Cert.InSIdeal.τ).loc Cert.InSIdeal.main_arg0)) (m ((c.tc : Thread Cert.InSIdeal.nD Cert.InSIdeal.τ).loc Cert.InSIdeal.main_arg1))
      ∧ r.2.mem ((c.tc : Thread Cert.InSIdeal.nD Cert.InSIdeal.τ).loc Cert.InSIdeal.main_v7_3) = Cert.InSRefIdeal.Read.val_main_v22 (F := Ideal) (m ((c.tc : Thread Cert.InSIdeal.nD Cert.InSIdeal.τ).loc Cert.InSIdeal.main_arg0)) (m ((c.tc : Thread Cert.InSIdeal.nD Cert.InSIdeal.τ).loc Cert.InSIdeal.main_arg1))
      ∧ r.2.mem ((c.tc : Thread Cert.InSIdeal.nD Cert.InSIdeal.τ).loc Cert.InSIdeal.main_v7_4) = Cert.InSRefIdeal.Read.val_main_v23 (F := Ideal) (m ((c.tc : Thread Cert.InSIdeal.nD Cert.InSIdeal.τ).loc Cert.InSIdeal.main_arg0)) (m ((c.tc : Thread Cert.InSIdeal.nD Cert.InSIdeal.τ).loc Cert.InSIdeal.main_arg1))
      ∧ r.2.mem ((c.tc : Thread Cert.InSIdeal.nD Cert.InSIdeal.τ).loc Cert.InSIdeal.main_v7_5) = Cert.InSRefIdeal.Read.val_main_v24 (F := Ideal) (m ((c.tc : Thread Cert.InSIdeal.nD Cert.InSIdeal.τ).loc Cert.InSIdeal.main_arg0)) (m ((c.tc : Thread Cert.InSIdeal.nD Cert.InSIdeal.τ).loc Cert.InSIdeal.main_arg1))
      ∧ r.2.mem ((c.tc : Thread Cert.InSIdeal.nD Cert.InSIdeal.τ).loc Cert.InSIdeal.main_v7_6) = Cert.InSRefIdeal.Read.val_main_v25 (F := Ideal) (m ((c.tc : Thread Cert.InSIdeal.nD Cert.InSIdeal.τ).loc Cert.InSIdeal.main_arg0)) (m ((c.tc : Thread Cert.InSIdeal.nD Cert.InSIdeal.τ).loc Cert.InSIdeal.main_arg1))
      ∧ r.2.mem ((c.tc : Thread Cert.InSIdeal.nD Cert.InSIdeal.τ).loc Cert.InSIdeal.main_v7_7) = Cert.InSRefIdeal.Read.val_main_v26 (F := Ideal) (m ((c.tc : Thread Cert.InSIdeal.nD Cert.InSIdeal.τ).loc Cert.InSIdeal.main_arg0)) (m ((c.tc : Thread Cert.InSIdeal.nD Cert.InSIdeal.τ).loc Cert.InSIdeal.main_arg1))
      ∧ r.2.mem ((c.tc : Thread Cert.InSIdeal.nD Cert.InSIdeal.τ).loc Cert.InSIdeal.main_v7_8) = Cert.InSRefIdeal.Read.val_main_v27 (F := Ideal) (m ((c.tc : Thread Cert.InSIdeal.nD Cert.InSIdeal.τ).loc Cert.InSIdeal.main_arg0)) (m ((c.tc : Thread Cert.InSIdeal.nD Cert.InSIdeal.τ).loc Cert.InSIdeal.main_arg1))
      ∧ r.2.mem ((c.tc : Thread Cert.InSIdeal.nD Cert.InSIdeal.τ).loc Cert.InSIdeal.main_v7_9) = Cert.InSRefIdeal.Read.val_main_v28 (F := Ideal) (m ((c.tc : Thread Cert.InSIdeal.nD Cert.InSIdeal.τ).loc Cert.InSIdeal.main_arg0)) (m ((c.tc : Thread Cert.InSIdeal.nD Cert.InSIdeal.τ).loc Cert.InSIdeal.main_arg1))
      ∧ r.2.mem ((c.tc : Thread Cert.InSIdeal.nD Cert.InSIdeal.τ).loc Cert.InSIdeal.main_arg0) = m ((c.tc : Thread Cert.InSIdeal.nD Cert.InSIdeal.τ).loc Cert.InSIdeal.main_arg0)
      ∧ r.2.mem ((c.tc : Thread Cert.InSIdeal.nD Cert.InSIdeal.τ).loc Cert.InSIdeal.main_arg1) = m ((c.tc : Thread Cert.InSIdeal.nD Cert.InSIdeal.τ).loc Cert.InSIdeal.main_arg1)) :=
  (θ_run Cert.InSIdeal.defs _ _).mono (fun r h c => ⟨((h.1 c).1 3).trans (Cert.InSIdeal.Val.final3 m c),
      ((h.1 c).1 4).trans (Cert.InSIdeal.Val.final4 m c),
      ((h.1 c).1 5).trans (Cert.InSIdeal.Val.final5 m c),
      ((h.1 c).1 6).trans (Cert.InSIdeal.Val.final6 m c),
      ((h.1 c).1 7).trans (Cert.InSIdeal.Val.final7 m c),
      ((h.1 c).1 8).trans (Cert.InSIdeal.Val.final8 m c),
      ((h.1 c).1 9).trans (Cert.InSIdeal.Val.final9 m c),
      ((h.1 c).1 10).trans (Cert.InSIdeal.Val.final10 m c),
      ((h.1 c).1 11).trans (Cert.InSIdeal.Val.final11 m c),
      ((h.1 c).1 12).trans (Cert.InSIdeal.Val.final12 m c), h.2 c⟩)
    (θ_run_and (Cert.InSIdeal.Gen.run_main m g) (Cert.InSIdeal.Gen.unchanged m g))

/-- The reference's run, each result at the stage that computes it. -/
theorem insRef_run (m' : (ℓ : Loc Cert.InSRefIdeal.nD Cert.InSRefIdeal.τ Cert.InSRefIdeal.sig) → Buf (Elt Ideal) ℓ) (g' : Dev Cert.InSRefIdeal.nD → PrngReg) :
    θ_run (Cert.InSRefIdeal.defs (F := Ideal)) (onTc (τ := Cert.InSRefIdeal.τ) (Cert.InSRefIdeal.main (F := Ideal))) ⟨m', fun _ => 0, g'⟩ (fun r => ∀ c : Dev Cert.InSRefIdeal.nD,
      r.2.mem ((c.tc : Thread Cert.InSRefIdeal.nD Cert.InSRefIdeal.τ).loc Cert.InSRefIdeal.main_v19) = Cert.InSRefIdeal.Read.val_main_v19 (F := Ideal) (m' ((c.tc : Thread Cert.InSRefIdeal.nD Cert.InSRefIdeal.τ).loc Cert.InSRefIdeal.main_arg0)) (m' ((c.tc : Thread Cert.InSRefIdeal.nD Cert.InSRefIdeal.τ).loc Cert.InSRefIdeal.main_arg1))
      ∧ r.2.mem ((c.tc : Thread Cert.InSRefIdeal.nD Cert.InSRefIdeal.τ).loc Cert.InSRefIdeal.main_v20) = Cert.InSRefIdeal.Read.val_main_v20 (F := Ideal) (m' ((c.tc : Thread Cert.InSRefIdeal.nD Cert.InSRefIdeal.τ).loc Cert.InSRefIdeal.main_arg0)) (m' ((c.tc : Thread Cert.InSRefIdeal.nD Cert.InSRefIdeal.τ).loc Cert.InSRefIdeal.main_arg1))
      ∧ r.2.mem ((c.tc : Thread Cert.InSRefIdeal.nD Cert.InSRefIdeal.τ).loc Cert.InSRefIdeal.main_v21) = Cert.InSRefIdeal.Read.val_main_v21 (F := Ideal) (m' ((c.tc : Thread Cert.InSRefIdeal.nD Cert.InSRefIdeal.τ).loc Cert.InSRefIdeal.main_arg0)) (m' ((c.tc : Thread Cert.InSRefIdeal.nD Cert.InSRefIdeal.τ).loc Cert.InSRefIdeal.main_arg1))
      ∧ r.2.mem ((c.tc : Thread Cert.InSRefIdeal.nD Cert.InSRefIdeal.τ).loc Cert.InSRefIdeal.main_v22) = Cert.InSRefIdeal.Read.val_main_v22 (F := Ideal) (m' ((c.tc : Thread Cert.InSRefIdeal.nD Cert.InSRefIdeal.τ).loc Cert.InSRefIdeal.main_arg0)) (m' ((c.tc : Thread Cert.InSRefIdeal.nD Cert.InSRefIdeal.τ).loc Cert.InSRefIdeal.main_arg1))
      ∧ r.2.mem ((c.tc : Thread Cert.InSRefIdeal.nD Cert.InSRefIdeal.τ).loc Cert.InSRefIdeal.main_v23) = Cert.InSRefIdeal.Read.val_main_v23 (F := Ideal) (m' ((c.tc : Thread Cert.InSRefIdeal.nD Cert.InSRefIdeal.τ).loc Cert.InSRefIdeal.main_arg0)) (m' ((c.tc : Thread Cert.InSRefIdeal.nD Cert.InSRefIdeal.τ).loc Cert.InSRefIdeal.main_arg1))
      ∧ r.2.mem ((c.tc : Thread Cert.InSRefIdeal.nD Cert.InSRefIdeal.τ).loc Cert.InSRefIdeal.main_v24) = Cert.InSRefIdeal.Read.val_main_v24 (F := Ideal) (m' ((c.tc : Thread Cert.InSRefIdeal.nD Cert.InSRefIdeal.τ).loc Cert.InSRefIdeal.main_arg0)) (m' ((c.tc : Thread Cert.InSRefIdeal.nD Cert.InSRefIdeal.τ).loc Cert.InSRefIdeal.main_arg1))
      ∧ r.2.mem ((c.tc : Thread Cert.InSRefIdeal.nD Cert.InSRefIdeal.τ).loc Cert.InSRefIdeal.main_v25) = Cert.InSRefIdeal.Read.val_main_v25 (F := Ideal) (m' ((c.tc : Thread Cert.InSRefIdeal.nD Cert.InSRefIdeal.τ).loc Cert.InSRefIdeal.main_arg0)) (m' ((c.tc : Thread Cert.InSRefIdeal.nD Cert.InSRefIdeal.τ).loc Cert.InSRefIdeal.main_arg1))
      ∧ r.2.mem ((c.tc : Thread Cert.InSRefIdeal.nD Cert.InSRefIdeal.τ).loc Cert.InSRefIdeal.main_v26) = Cert.InSRefIdeal.Read.val_main_v26 (F := Ideal) (m' ((c.tc : Thread Cert.InSRefIdeal.nD Cert.InSRefIdeal.τ).loc Cert.InSRefIdeal.main_arg0)) (m' ((c.tc : Thread Cert.InSRefIdeal.nD Cert.InSRefIdeal.τ).loc Cert.InSRefIdeal.main_arg1))
      ∧ r.2.mem ((c.tc : Thread Cert.InSRefIdeal.nD Cert.InSRefIdeal.τ).loc Cert.InSRefIdeal.main_v27) = Cert.InSRefIdeal.Read.val_main_v27 (F := Ideal) (m' ((c.tc : Thread Cert.InSRefIdeal.nD Cert.InSRefIdeal.τ).loc Cert.InSRefIdeal.main_arg0)) (m' ((c.tc : Thread Cert.InSRefIdeal.nD Cert.InSRefIdeal.τ).loc Cert.InSRefIdeal.main_arg1))
      ∧ r.2.mem ((c.tc : Thread Cert.InSRefIdeal.nD Cert.InSRefIdeal.τ).loc Cert.InSRefIdeal.main_v28) = Cert.InSRefIdeal.Read.val_main_v28 (F := Ideal) (m' ((c.tc : Thread Cert.InSRefIdeal.nD Cert.InSRefIdeal.τ).loc Cert.InSRefIdeal.main_arg0)) (m' ((c.tc : Thread Cert.InSRefIdeal.nD Cert.InSRefIdeal.τ).loc Cert.InSRefIdeal.main_arg1))
      ∧ r.2.mem ((c.tc : Thread Cert.InSRefIdeal.nD Cert.InSRefIdeal.τ).loc Cert.InSRefIdeal.main_arg0) = m' ((c.tc : Thread Cert.InSRefIdeal.nD Cert.InSRefIdeal.τ).loc Cert.InSRefIdeal.main_arg0)
      ∧ r.2.mem ((c.tc : Thread Cert.InSRefIdeal.nD Cert.InSRefIdeal.τ).loc Cert.InSRefIdeal.main_arg1) = m' ((c.tc : Thread Cert.InSRefIdeal.nD Cert.InSRefIdeal.τ).loc Cert.InSRefIdeal.main_arg1)) :=
  (θ_run Cert.InSRefIdeal.defs _ _).mono (fun r h c => ⟨(h c).1.trans (Cert.InSRefIdeal.Read.val_main_v19_eq _ _),
      (h c).2.1.trans (Cert.InSRefIdeal.Read.val_main_v20_eq _ _),
      (h c).2.2.1.trans (Cert.InSRefIdeal.Read.val_main_v21_eq _ _),
      (h c).2.2.2.1.trans (Cert.InSRefIdeal.Read.val_main_v22_eq _ _),
      (h c).2.2.2.2.1.trans (Cert.InSRefIdeal.Read.val_main_v23_eq _ _),
      (h c).2.2.2.2.2.1.trans (Cert.InSRefIdeal.Read.val_main_v24_eq _ _),
      (h c).2.2.2.2.2.2.1.trans (Cert.InSRefIdeal.Read.val_main_v25_eq _ _),
      (h c).2.2.2.2.2.2.2.1.trans (Cert.InSRefIdeal.Read.val_main_v26_eq _ _),
      (h c).2.2.2.2.2.2.2.2.1.trans (Cert.InSRefIdeal.Read.val_main_v27_eq _ _),
      (h c).2.2.2.2.2.2.2.2.2.1.trans (Cert.InSRefIdeal.Read.val_main_v28_eq _ _), (h c).2.2.2.2.2.2.2.2.2.2⟩)
    (Cert.InSRefIdeal.Value.run m' g')

theorem ins_algebraic : Cert.algebraic_InSIdeal_InSRefIdeal := by
  intro m g m' g' _ hagree
  refine ⟨_, _, _, _, _, _, _, _, _, _, ins_run m g, (θ_run Cert.InSRefIdeal.defs _ _).mono (fun r h c => ?_) (insRef_run m' g')⟩
  have hc := h c
  obtain ⟨a0, a1⟩ := hagree c
  rw [a0, a1] at hc ⊢
  exact hc

/-- The reference's frame: it keeps no semaphore at all, so every counter reads zero. -/
theorem insRef_frame : Cert.quiescent_InSRefIdeal := fun m g _ =>
  (θ_run Cert.InSRefIdeal.defs _ _).mono (fun r h => ⟨fun c => (h c).2.2.2.2.2.2.2.2.2.2, sem_eq_zero_of_no_sems (by decide) r.2⟩)
    (insRef_run m g)

/-- The call's run, each result at the reference's term over the call's arguments, where every argument is finite. -/
theorem mix_run [Cert.Pre_finite_arguments.Facts] (m : (ℓ : Loc Cert.MixIdeal.nD Cert.MixIdeal.τ Cert.MixIdeal.sig) → Buf (Elt Ideal) ℓ) (g : Dev Cert.MixIdeal.nD → PrngReg)
    (hpre : Cert.Pre_MixIdeal_finite_arguments m) :
    θ_run (Cert.MixIdeal.defs (F := Ideal)) (onTc (τ := Cert.MixIdeal.τ) (Cert.MixIdeal.main (F := Ideal))) ⟨m, fun _ => 0, g⟩ (fun r => ∀ c : Dev Cert.MixIdeal.nD,
      r.2.mem ((c.tc : Thread Cert.MixIdeal.nD Cert.MixIdeal.τ).loc Cert.MixIdeal.main_v26_0) = Cert.MixRefIdeal.Read.val_main_v116 (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10))
      ∧ r.2.mem ((c.tc : Thread Cert.MixIdeal.nD Cert.MixIdeal.τ).loc Cert.MixIdeal.main_v26_1) = Cert.MixRefIdeal.Read.val_main_v118 (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10))
      ∧ r.2.mem ((c.tc : Thread Cert.MixIdeal.nD Cert.MixIdeal.τ).loc Cert.MixIdeal.main_v26_2) = Cert.MixRefIdeal.Read.val_main_v115 (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14))
      ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)) := by
  refine (θ_run Cert.MixIdeal.defs _ _).mono (fun r h c => ?_) (θ_run_and (Cert.MixIdeal.Gen.run_main m g) (Cert.MixIdeal.Gen.unchanged m g))
  obtain ⟨f0, f1, f2, f3, f4, f5, f6, f7, f8, f9, f10, f11, f12, f13, f14⟩ := Cert.Route.args_fin _ _ _ _ _ _ _ _ _ _ _ _ _ _ _ (hpre c)
  exact ⟨((h.1 c).1 14).trans (Cert.MixIdeal.Val.final14 m c), ((h.1 c).1 15).trans (Cert.MixIdeal.Val.final15 m c),
    ((h.1 c).1 16).trans (Cert.MixIdeal.Val.final16 m c f0 f1 f2 f3 f4 f5 f6 f7 f8 f9 f10 f11 f12 f13 f14), h.2 c⟩

/-- The reference's run, each result at the stage that computes it. -/
theorem mixRef_run (m' : (ℓ : Loc Cert.MixRefIdeal.nD Cert.MixRefIdeal.τ Cert.MixRefIdeal.sig) → Buf (Elt Ideal) ℓ) (g' : Dev Cert.MixRefIdeal.nD → PrngReg) :
    θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
      r.2.mem ((c.tc : Thread Cert.MixRefIdeal.nD Cert.MixRefIdeal.τ).loc Cert.MixRefIdeal.main_v116) = Cert.MixRefIdeal.Read.val_main_v116 (F := Ideal) (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg2)) (m' ((c.tc : Thread Cert.MixRefIdeal.nD Cert.MixRefIdeal.τ).loc Cert.MixRefIdeal.main_arg3)) (m' ((c.tc : Thread Cert.MixRefIdeal.nD Cert.MixRefIdeal.τ).loc Cert.MixRefIdeal.main_arg4)) (m' ((c.tc : Thread Cert.MixRefIdeal.nD Cert.MixRefIdeal.τ).loc Cert.MixRefIdeal.main_arg5)) (m' ((c.tc : Thread Cert.MixRefIdeal.nD Cert.MixRefIdeal.τ).loc Cert.MixRefIdeal.main_arg6)) (m' ((c.tc : Thread Cert.MixRefIdeal.nD Cert.MixRefIdeal.τ).loc Cert.MixRefIdeal.main_arg7)) (m' ((c.tc : Thread Cert.MixRefIdeal.nD Cert.MixRefIdeal.τ).loc Cert.MixRefIdeal.main_arg8)) (m' ((c.tc : Thread Cert.MixRefIdeal.nD Cert.MixRefIdeal.τ).loc Cert.MixRefIdeal.main_arg9)) (m' ((c.tc : Thread Cert.MixRefIdeal.nD Cert.MixRefIdeal.τ).loc Cert.MixRefIdeal.main_arg10))
      ∧ r.2.mem ((c.tc : Thread Cert.MixRefIdeal.nD Cert.MixRefIdeal.τ).loc Cert.MixRefIdeal.main_v118) = Cert.MixRefIdeal.Read.val_main_v118 (F := Ideal) (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg2)) (m' ((c.tc : Thread Cert.MixRefIdeal.nD Cert.MixRefIdeal.τ).loc Cert.MixRefIdeal.main_arg3)) (m' ((c.tc : Thread Cert.MixRefIdeal.nD Cert.MixRefIdeal.τ).loc Cert.MixRefIdeal.main_arg4)) (m' ((c.tc : Thread Cert.MixRefIdeal.nD Cert.MixRefIdeal.τ).loc Cert.MixRefIdeal.main_arg5)) (m' ((c.tc : Thread Cert.MixRefIdeal.nD Cert.MixRefIdeal.τ).loc Cert.MixRefIdeal.main_arg6)) (m' ((c.tc : Thread Cert.MixRefIdeal.nD Cert.MixRefIdeal.τ).loc Cert.MixRefIdeal.main_arg7)) (m' ((c.tc : Thread Cert.MixRefIdeal.nD Cert.MixRefIdeal.τ).loc Cert.MixRefIdeal.main_arg8)) (m' ((c.tc : Thread Cert.MixRefIdeal.nD Cert.MixRefIdeal.τ).loc Cert.MixRefIdeal.main_arg9)) (m' ((c.tc : Thread Cert.MixRefIdeal.nD Cert.MixRefIdeal.τ).loc Cert.MixRefIdeal.main_arg10))
      ∧ r.2.mem ((c.tc : Thread Cert.MixRefIdeal.nD Cert.MixRefIdeal.τ).loc Cert.MixRefIdeal.main_v115) = Cert.MixRefIdeal.Read.val_main_v115 (F := Ideal) (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg2)) (m' ((c.tc : Thread Cert.MixRefIdeal.nD Cert.MixRefIdeal.τ).loc Cert.MixRefIdeal.main_arg3)) (m' ((c.tc : Thread Cert.MixRefIdeal.nD Cert.MixRefIdeal.τ).loc Cert.MixRefIdeal.main_arg4)) (m' ((c.tc : Thread Cert.MixRefIdeal.nD Cert.MixRefIdeal.τ).loc Cert.MixRefIdeal.main_arg5)) (m' ((c.tc : Thread Cert.MixRefIdeal.nD Cert.MixRefIdeal.τ).loc Cert.MixRefIdeal.main_arg6)) (m' ((c.tc : Thread Cert.MixRefIdeal.nD Cert.MixRefIdeal.τ).loc Cert.MixRefIdeal.main_arg7)) (m' ((c.tc : Thread Cert.MixRefIdeal.nD Cert.MixRefIdeal.τ).loc Cert.MixRefIdeal.main_arg8)) (m' ((c.tc : Thread Cert.MixRefIdeal.nD Cert.MixRefIdeal.τ).loc Cert.MixRefIdeal.main_arg9)) (m' ((c.tc : Thread Cert.MixRefIdeal.nD Cert.MixRefIdeal.τ).loc Cert.MixRefIdeal.main_arg10)) (m' ((c.tc : Thread Cert.MixRefIdeal.nD Cert.MixRefIdeal.τ).loc Cert.MixRefIdeal.main_arg11)) (m' ((c.tc : Thread Cert.MixRefIdeal.nD Cert.MixRefIdeal.τ).loc Cert.MixRefIdeal.main_arg12)) (m' ((c.tc : Thread Cert.MixRefIdeal.nD Cert.MixRefIdeal.τ).loc Cert.MixRefIdeal.main_arg13)) (m' ((c.tc : Thread Cert.MixRefIdeal.nD Cert.MixRefIdeal.τ).loc Cert.MixRefIdeal.main_arg14))
      ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14)) :=
  (θ_run Cert.MixRefIdeal.defs _ _).mono (fun r h c => ⟨(h c).1.trans (Cert.MixRefIdeal.Read.val_main_v116_eq _),
      (h c).2.1.trans (Cert.MixRefIdeal.Read.val_main_v118_eq _),
      (h c).2.2.1.trans (Cert.MixRefIdeal.Read.val_main_v115_eq _), (h c).2.2.2⟩)
    (Cert.MixRefIdeal.Value.run m' g')

theorem mix_algebraic [Cert.Pre_finite_arguments.Facts] : Cert.algebraic_MixIdeal_MixRefIdeal_pre_finite_arguments := by
  intro m g m' g' hpre hagree
  refine ⟨_, _, _, mix_run m g hpre, (θ_run Cert.MixRefIdeal.defs _ _).mono (fun r h c => ?_) (mixRef_run m' g')⟩
  have hc := h c
  obtain ⟨a0, a1, a2, a3, a4, a5, a6, a7, a8, a9, a10, a11, a12, a13, a14⟩ := hagree c
  rw [a0, a1, a2, a3, a4, a5, a6, a7, a8, a9, a10, a11, a12, a13, a14] at hc ⊢
  exact hc

/-- The reference's frame: it keeps no semaphore at all, so every counter reads zero. -/
theorem mixRef_frame : Cert.quiescent_MixRefIdeal := fun m g _ =>
  (θ_run Cert.MixRefIdeal.defs _ _).mono (fun r h => ⟨fun c => (h c).2.2.2, sem_eq_zero_of_no_sems (by decide) r.2⟩)
    (mixRef_run m g)

/-- The shapes the precondition reads fit its operations. -/
theorem pre_facts : Cert.Pre_finite_arguments.Facts where
  bcast_S_S1x16384x1024 := by decide
  reducesTo_S1x16384x1024_S_d0_1_2 := by decide
  h_S_ := by decide
  bcast_S_S16x1024 := by decide
  reducesTo_S16x1024_S_d0_1 := by decide
  bcast_S_S17408x512 := by decide
  reducesTo_S17408x512_S_d0_1 := by decide
  bcast_S_S17408x1024 := by decide
  reducesTo_S17408x1024_S_d0_1 := by decide
  bcast_S_S1x512x1024 := by decide
  reducesTo_S1x512x1024_S_d0_1_2 := by decide
  bcast_S_S1x1024x1024 := by decide
  reducesTo_S1x1024x1024_S_d0_1_2 := by decide
  bcast_S_S1x1024 := by decide
  reducesTo_S1x1024_S_d0_1 := by decide
  bcast_S_S1x1024x4 := by decide
  reducesTo_S1x1024x4_S_d0_1_2 := by decide
  bcast_S_S1x4 := by decide
  reducesTo_S1x4_S_d0_1 := by decide
  bcast_S_S1x1024x16 := by decide
  reducesTo_S1x1024x16_S_d0_1_2 := by decide
  bcast_S_S1x16 := by decide
  reducesTo_S1x16_S_d0_1 := by decide

/-- The recurrence's run, each state at the reference's term over the call's arguments, where the precondition holds. -/
theorem rec_run [Cert.Pre_finite_recurrence.Facts] (m : (ℓ : Loc Cert.RecIdeal.nD Cert.RecIdeal.τ Cert.RecIdeal.sig) → Buf (Elt Ideal) ℓ) (g : Dev Cert.RecIdeal.nD → PrngReg)
    (hpre : Cert.Pre_RecIdeal_finite_recurrence m) :
    θ_run (Cert.RecIdeal.defs (F := Ideal)) (onTc (τ := Cert.RecIdeal.τ) (Cert.RecIdeal.main (F := Ideal))) ⟨m, fun _ => 0, g⟩ (fun r => ∀ c : Dev Cert.RecIdeal.nD,
      r.2.mem ((c.tc : Thread Cert.RecIdeal.nD Cert.RecIdeal.τ).loc Cert.RecIdeal.main_v110_1) = Cert.RecRefIdeal.Read.val_main_v207 (F := Ideal) (m ((c.tc : Thread Cert.RecIdeal.nD Cert.RecIdeal.τ).loc Cert.RecIdeal.main_arg0)) (m ((c.tc : Thread Cert.RecIdeal.nD Cert.RecIdeal.τ).loc Cert.RecIdeal.main_arg1)) (m ((c.tc : Thread Cert.RecIdeal.nD Cert.RecIdeal.τ).loc Cert.RecIdeal.main_arg2)) (m ((c.tc : Thread Cert.RecIdeal.nD Cert.RecIdeal.τ).loc Cert.RecIdeal.main_arg3)) (m ((c.tc : Thread Cert.RecIdeal.nD Cert.RecIdeal.τ).loc Cert.RecIdeal.main_arg4)) (m ((c.tc : Thread Cert.RecIdeal.nD Cert.RecIdeal.τ).loc Cert.RecIdeal.main_arg5)) (m ((c.tc : Thread Cert.RecIdeal.nD Cert.RecIdeal.τ).loc Cert.RecIdeal.main_arg6)) (m ((c.tc : Thread Cert.RecIdeal.nD Cert.RecIdeal.τ).loc Cert.RecIdeal.main_arg7)) (m ((c.tc : Thread Cert.RecIdeal.nD Cert.RecIdeal.τ).loc Cert.RecIdeal.main_arg8))
      ∧ r.2.mem ((c.tc : Thread Cert.RecIdeal.nD Cert.RecIdeal.τ).loc Cert.RecIdeal.main_v110_2) = Cert.RecRefIdeal.Read.val_main_v210 (F := Ideal) (m ((c.tc : Thread Cert.RecIdeal.nD Cert.RecIdeal.τ).loc Cert.RecIdeal.main_arg0)) (m ((c.tc : Thread Cert.RecIdeal.nD Cert.RecIdeal.τ).loc Cert.RecIdeal.main_arg1)) (m ((c.tc : Thread Cert.RecIdeal.nD Cert.RecIdeal.τ).loc Cert.RecIdeal.main_arg2)) (m ((c.tc : Thread Cert.RecIdeal.nD Cert.RecIdeal.τ).loc Cert.RecIdeal.main_arg3)) (m ((c.tc : Thread Cert.RecIdeal.nD Cert.RecIdeal.τ).loc Cert.RecIdeal.main_arg4)) (m ((c.tc : Thread Cert.RecIdeal.nD Cert.RecIdeal.τ).loc Cert.RecIdeal.main_arg5)) (m ((c.tc : Thread Cert.RecIdeal.nD Cert.RecIdeal.τ).loc Cert.RecIdeal.main_arg6)) (m ((c.tc : Thread Cert.RecIdeal.nD Cert.RecIdeal.τ).loc Cert.RecIdeal.main_arg7)) (m ((c.tc : Thread Cert.RecIdeal.nD Cert.RecIdeal.τ).loc Cert.RecIdeal.main_arg8))
      ∧ r.2.mem ((c.tc : Thread Cert.RecIdeal.nD Cert.RecIdeal.τ).loc Cert.RecIdeal.main_arg0) = m ((c.tc : Thread Cert.RecIdeal.nD Cert.RecIdeal.τ).loc Cert.RecIdeal.main_arg0)
      ∧ r.2.mem ((c.tc : Thread Cert.RecIdeal.nD Cert.RecIdeal.τ).loc Cert.RecIdeal.main_arg1) = m ((c.tc : Thread Cert.RecIdeal.nD Cert.RecIdeal.τ).loc Cert.RecIdeal.main_arg1)
      ∧ r.2.mem ((c.tc : Thread Cert.RecIdeal.nD Cert.RecIdeal.τ).loc Cert.RecIdeal.main_arg2) = m ((c.tc : Thread Cert.RecIdeal.nD Cert.RecIdeal.τ).loc Cert.RecIdeal.main_arg2)
      ∧ r.2.mem ((c.tc : Thread Cert.RecIdeal.nD Cert.RecIdeal.τ).loc Cert.RecIdeal.main_arg3) = m ((c.tc : Thread Cert.RecIdeal.nD Cert.RecIdeal.τ).loc Cert.RecIdeal.main_arg3)
      ∧ r.2.mem ((c.tc : Thread Cert.RecIdeal.nD Cert.RecIdeal.τ).loc Cert.RecIdeal.main_arg4) = m ((c.tc : Thread Cert.RecIdeal.nD Cert.RecIdeal.τ).loc Cert.RecIdeal.main_arg4)
      ∧ r.2.mem ((c.tc : Thread Cert.RecIdeal.nD Cert.RecIdeal.τ).loc Cert.RecIdeal.main_arg5) = m ((c.tc : Thread Cert.RecIdeal.nD Cert.RecIdeal.τ).loc Cert.RecIdeal.main_arg5)
      ∧ r.2.mem ((c.tc : Thread Cert.RecIdeal.nD Cert.RecIdeal.τ).loc Cert.RecIdeal.main_arg6) = m ((c.tc : Thread Cert.RecIdeal.nD Cert.RecIdeal.τ).loc Cert.RecIdeal.main_arg6)
      ∧ r.2.mem ((c.tc : Thread Cert.RecIdeal.nD Cert.RecIdeal.τ).loc Cert.RecIdeal.main_arg7) = m ((c.tc : Thread Cert.RecIdeal.nD Cert.RecIdeal.τ).loc Cert.RecIdeal.main_arg7)
      ∧ r.2.mem ((c.tc : Thread Cert.RecIdeal.nD Cert.RecIdeal.τ).loc Cert.RecIdeal.main_arg8) = m ((c.tc : Thread Cert.RecIdeal.nD Cert.RecIdeal.τ).loc Cert.RecIdeal.main_arg8)
      ∧ r.2.mem ((c.tc : Thread Cert.RecIdeal.nD Cert.RecIdeal.τ).loc Cert.RecIdeal.main_arg9) = m ((c.tc : Thread Cert.RecIdeal.nD Cert.RecIdeal.τ).loc Cert.RecIdeal.main_arg9)
      ∧ r.2.mem ((c.tc : Thread Cert.RecIdeal.nD Cert.RecIdeal.τ).loc Cert.RecIdeal.main_arg10) = m ((c.tc : Thread Cert.RecIdeal.nD Cert.RecIdeal.τ).loc Cert.RecIdeal.main_arg10)
      ∧ r.2.mem ((c.tc : Thread Cert.RecIdeal.nD Cert.RecIdeal.τ).loc Cert.RecIdeal.main_arg11) = m ((c.tc : Thread Cert.RecIdeal.nD Cert.RecIdeal.τ).loc Cert.RecIdeal.main_arg11)
      ∧ r.2.mem ((c.tc : Thread Cert.RecIdeal.nD Cert.RecIdeal.τ).loc Cert.RecIdeal.main_arg12) = m ((c.tc : Thread Cert.RecIdeal.nD Cert.RecIdeal.τ).loc Cert.RecIdeal.main_arg12)) := by
  refine (θ_run Cert.RecIdeal.defs _ _).mono (fun r h c => ?_) (θ_run_and (Cert.RecIdeal.Val.run_results m g) (Cert.RecIdeal.Gen.unchanged m g))
  exact ⟨(h.1 c).1.trans (Cert.RecIdeal.Val.final10 m g c (hpre c)), (h.1 c).2.trans (Cert.RecIdeal.Val.final11 m g c (hpre c)), h.2 c⟩

/-- The reference's run, each state at the stage that computes it. -/
theorem recRef_run (m' : (ℓ : Loc Cert.RecRefIdeal.nD Cert.RecRefIdeal.τ Cert.RecRefIdeal.sig) → Buf (Elt Ideal) ℓ) (g' : Dev Cert.RecRefIdeal.nD → PrngReg) :
    θ_run (Cert.RecRefIdeal.defs (F := Ideal)) (onTc (τ := Cert.RecRefIdeal.τ) (Cert.RecRefIdeal.main (F := Ideal))) ⟨m', fun _ => 0, g'⟩ (fun r => ∀ c : Dev Cert.RecRefIdeal.nD,
      r.2.mem ((c.tc : Thread Cert.RecRefIdeal.nD Cert.RecRefIdeal.τ).loc Cert.RecRefIdeal.main_v207) = Cert.RecRefIdeal.Read.val_main_v207 (F := Ideal) (m' ((c.tc : Thread Cert.RecRefIdeal.nD Cert.RecRefIdeal.τ).loc Cert.RecRefIdeal.main_arg0)) (m' ((c.tc : Thread Cert.RecRefIdeal.nD Cert.RecRefIdeal.τ).loc Cert.RecRefIdeal.main_arg1)) (m' ((c.tc : Thread Cert.RecRefIdeal.nD Cert.RecRefIdeal.τ).loc Cert.RecRefIdeal.main_arg2)) (m' ((c.tc : Thread Cert.RecRefIdeal.nD Cert.RecRefIdeal.τ).loc Cert.RecRefIdeal.main_arg3)) (m' ((c.tc : Thread Cert.RecRefIdeal.nD Cert.RecRefIdeal.τ).loc Cert.RecRefIdeal.main_arg4)) (m' ((c.tc : Thread Cert.RecRefIdeal.nD Cert.RecRefIdeal.τ).loc Cert.RecRefIdeal.main_arg5)) (m' ((c.tc : Thread Cert.RecRefIdeal.nD Cert.RecRefIdeal.τ).loc Cert.RecRefIdeal.main_arg6)) (m' ((c.tc : Thread Cert.RecRefIdeal.nD Cert.RecRefIdeal.τ).loc Cert.RecRefIdeal.main_arg7)) (m' ((c.tc : Thread Cert.RecRefIdeal.nD Cert.RecRefIdeal.τ).loc Cert.RecRefIdeal.main_arg8))
      ∧ r.2.mem ((c.tc : Thread Cert.RecRefIdeal.nD Cert.RecRefIdeal.τ).loc Cert.RecRefIdeal.main_v210) = Cert.RecRefIdeal.Read.val_main_v210 (F := Ideal) (m' ((c.tc : Thread Cert.RecRefIdeal.nD Cert.RecRefIdeal.τ).loc Cert.RecRefIdeal.main_arg0)) (m' ((c.tc : Thread Cert.RecRefIdeal.nD Cert.RecRefIdeal.τ).loc Cert.RecRefIdeal.main_arg1)) (m' ((c.tc : Thread Cert.RecRefIdeal.nD Cert.RecRefIdeal.τ).loc Cert.RecRefIdeal.main_arg2)) (m' ((c.tc : Thread Cert.RecRefIdeal.nD Cert.RecRefIdeal.τ).loc Cert.RecRefIdeal.main_arg3)) (m' ((c.tc : Thread Cert.RecRefIdeal.nD Cert.RecRefIdeal.τ).loc Cert.RecRefIdeal.main_arg4)) (m' ((c.tc : Thread Cert.RecRefIdeal.nD Cert.RecRefIdeal.τ).loc Cert.RecRefIdeal.main_arg5)) (m' ((c.tc : Thread Cert.RecRefIdeal.nD Cert.RecRefIdeal.τ).loc Cert.RecRefIdeal.main_arg6)) (m' ((c.tc : Thread Cert.RecRefIdeal.nD Cert.RecRefIdeal.τ).loc Cert.RecRefIdeal.main_arg7)) (m' ((c.tc : Thread Cert.RecRefIdeal.nD Cert.RecRefIdeal.τ).loc Cert.RecRefIdeal.main_arg8))
      ∧ r.2.mem ((c.tc : Thread Cert.RecRefIdeal.nD Cert.RecRefIdeal.τ).loc Cert.RecRefIdeal.main_arg0) = m' ((c.tc : Thread Cert.RecRefIdeal.nD Cert.RecRefIdeal.τ).loc Cert.RecRefIdeal.main_arg0)
      ∧ r.2.mem ((c.tc : Thread Cert.RecRefIdeal.nD Cert.RecRefIdeal.τ).loc Cert.RecRefIdeal.main_arg1) = m' ((c.tc : Thread Cert.RecRefIdeal.nD Cert.RecRefIdeal.τ).loc Cert.RecRefIdeal.main_arg1)
      ∧ r.2.mem ((c.tc : Thread Cert.RecRefIdeal.nD Cert.RecRefIdeal.τ).loc Cert.RecRefIdeal.main_arg2) = m' ((c.tc : Thread Cert.RecRefIdeal.nD Cert.RecRefIdeal.τ).loc Cert.RecRefIdeal.main_arg2)
      ∧ r.2.mem ((c.tc : Thread Cert.RecRefIdeal.nD Cert.RecRefIdeal.τ).loc Cert.RecRefIdeal.main_arg3) = m' ((c.tc : Thread Cert.RecRefIdeal.nD Cert.RecRefIdeal.τ).loc Cert.RecRefIdeal.main_arg3)
      ∧ r.2.mem ((c.tc : Thread Cert.RecRefIdeal.nD Cert.RecRefIdeal.τ).loc Cert.RecRefIdeal.main_arg4) = m' ((c.tc : Thread Cert.RecRefIdeal.nD Cert.RecRefIdeal.τ).loc Cert.RecRefIdeal.main_arg4)
      ∧ r.2.mem ((c.tc : Thread Cert.RecRefIdeal.nD Cert.RecRefIdeal.τ).loc Cert.RecRefIdeal.main_arg5) = m' ((c.tc : Thread Cert.RecRefIdeal.nD Cert.RecRefIdeal.τ).loc Cert.RecRefIdeal.main_arg5)
      ∧ r.2.mem ((c.tc : Thread Cert.RecRefIdeal.nD Cert.RecRefIdeal.τ).loc Cert.RecRefIdeal.main_arg6) = m' ((c.tc : Thread Cert.RecRefIdeal.nD Cert.RecRefIdeal.τ).loc Cert.RecRefIdeal.main_arg6)
      ∧ r.2.mem ((c.tc : Thread Cert.RecRefIdeal.nD Cert.RecRefIdeal.τ).loc Cert.RecRefIdeal.main_arg7) = m' ((c.tc : Thread Cert.RecRefIdeal.nD Cert.RecRefIdeal.τ).loc Cert.RecRefIdeal.main_arg7)
      ∧ r.2.mem ((c.tc : Thread Cert.RecRefIdeal.nD Cert.RecRefIdeal.τ).loc Cert.RecRefIdeal.main_arg8) = m' ((c.tc : Thread Cert.RecRefIdeal.nD Cert.RecRefIdeal.τ).loc Cert.RecRefIdeal.main_arg8)
      ∧ r.2.mem ((c.tc : Thread Cert.RecRefIdeal.nD Cert.RecRefIdeal.τ).loc Cert.RecRefIdeal.main_arg9) = m' ((c.tc : Thread Cert.RecRefIdeal.nD Cert.RecRefIdeal.τ).loc Cert.RecRefIdeal.main_arg9)
      ∧ r.2.mem ((c.tc : Thread Cert.RecRefIdeal.nD Cert.RecRefIdeal.τ).loc Cert.RecRefIdeal.main_arg10) = m' ((c.tc : Thread Cert.RecRefIdeal.nD Cert.RecRefIdeal.τ).loc Cert.RecRefIdeal.main_arg10)
      ∧ r.2.mem ((c.tc : Thread Cert.RecRefIdeal.nD Cert.RecRefIdeal.τ).loc Cert.RecRefIdeal.main_arg11) = m' ((c.tc : Thread Cert.RecRefIdeal.nD Cert.RecRefIdeal.τ).loc Cert.RecRefIdeal.main_arg11)
      ∧ r.2.mem ((c.tc : Thread Cert.RecRefIdeal.nD Cert.RecRefIdeal.τ).loc Cert.RecRefIdeal.main_arg12) = m' ((c.tc : Thread Cert.RecRefIdeal.nD Cert.RecRefIdeal.τ).loc Cert.RecRefIdeal.main_arg12)) :=
  (θ_run Cert.RecRefIdeal.defs _ _).mono (fun r h c => ⟨(h c).1.trans (Cert.RecRefIdeal.Read.val_main_v207_eq _),
      (h c).2.1.trans (Cert.RecRefIdeal.Read.val_main_v210_eq _), (h c).2.2⟩)
    (Cert.RecRefIdeal.Value.run m' g')

theorem rec_algebraic [Cert.Pre_finite_recurrence.Facts] : Cert.algebraic_RecIdeal_RecRefIdeal_pre_finite_recurrence := by
  intro m g m' g' hpre hagree
  refine ⟨_, _, rec_run m g hpre, (θ_run Cert.RecRefIdeal.defs _ _).mono (fun r h c => ?_) (recRef_run m' g')⟩
  have hc := h c
  obtain ⟨a0, a1, a2, a3, a4, a5, a6, a7, a8, a9, a10, a11, a12⟩ := hagree c
  rw [a0, a1, a2, a3, a4, a5, a6, a7, a8, a9, a10, a11, a12] at hc ⊢
  exact hc

/-- The reference's frame: it keeps no semaphore at all, so every counter reads zero. -/
theorem recRef_frame : Cert.quiescent_RecRefIdeal := fun m g _ =>
  (θ_run Cert.RecRefIdeal.defs _ _).mono (fun r h => ⟨fun c => (h c).2.2, sem_eq_zero_of_no_sems (by decide) r.2⟩)
    (recRef_run m g)

/-- The shapes the recurrence's precondition reads fit its operations. -/
theorem pre_rec_facts : Cert.Pre_finite_recurrence.Facts where
  bcast_S_S128x4x1024 := by decide
  reducesTo_S128x4x1024_S_d0_1_2 := by decide
  bcast_S_S1x1024x4420 := by decide
  reducesTo_S1x1024x4420_S_d0_1_2 := by decide
  h_S_ := by decide
  bcast_S_S1x128x32x64 := by decide
  reducesTo_S1x128x32x64_S_d0_1_2_3 := by decide
  bcast_S_S1x32x64 := by decide
  reducesTo_S1x32x64_S_d0_1_2 := by decide
  bcast_S_S1x32 := by decide
  reducesTo_S1x32_S_d0_1 := by decide
  bcast_S_S1x32x64x16 := by decide
  reducesTo_S1x32x64x16_S_d0_1_2_3 := by decide

theorem claim : Cert.Claim := ⟨Cert.Moe.Gen.facts, Cert.MoeIdeal.Gen.facts, Cert.MoeRefIdeal.Gen.facts,
  Cert.InP.Gen.facts, Cert.InPIdeal.Gen.facts, Cert.InPRefIdeal.Gen.facts,
  Cert.InS.Gen.facts, Cert.InSIdeal.Gen.facts, Cert.InSRefIdeal.Gen.facts,
  Cert.Mix.Gen.facts, Cert.MixIdeal.Gen.facts, Cert.MixRefIdeal.Gen.facts,
  Cert.Rec.Gen.facts, Cert.RecIdeal.Gen.facts, Cert.RecRefIdeal.Gen.facts, pre_facts, pre_rec_facts,
  fun m ρ _ => Cert.Moe.Gen.frame m ρ, fun m ρ _ => Cert.MoeIdeal.Gen.frame m ρ, moeRef_frame,
  fun m ρ _ => Cert.InP.Gen.frame m ρ, fun m ρ _ => Cert.InPIdeal.Gen.frame m ρ, inpRef_frame,
  fun m ρ _ => Cert.InS.Gen.frame m ρ, fun m ρ _ => Cert.InSIdeal.Gen.frame m ρ, insRef_frame,
  fun m ρ _ => Cert.Mix.Gen.frame m ρ, fun m ρ _ => Cert.MixIdeal.Gen.frame m ρ, fun m ρ _ => Cert.MixIdeal.Gen.frame m ρ,
  mixRef_frame, fun m ρ _ => mixRef_frame m ρ trivial,
  fun m ρ _ => Cert.Rec.Gen.frame m ρ, fun m ρ _ => Cert.RecIdeal.Gen.frame m ρ, fun m ρ _ => Cert.RecIdeal.Gen.frame m ρ,
  recRef_frame, fun m ρ _ => recRef_frame m ρ trivial,
  trivial, moe_algebraic, trivial, inp_algebraic, trivial, ins_algebraic,
  trivial, @mix_algebraic pre_facts, trivial, @rec_algebraic pre_rec_facts⟩

end Cert.Proof

end
